-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v129_0)) (v1 : (c : Dev Cert.Kernel3Ideal.nD) → Buf (Elt Ideal) ((c.tc : Thread Cert.Kernel3Ideal.nD Cert.Kernel3Ideal.τ).loc Cert.Kernel3Ideal.main_v129_1)) (v2 : (c : Dev Cert.Kernel3Ideal.nD) → Buf (Elt Ideal) ((c.tc : Thread Cert.Kernel3Ideal.nD Cert.Kernel3Ideal.τ).loc Cert.Kernel3Ideal.main_v129_2)) (v3 : (c : Dev Cert.Kernel3Ideal.nD) → Buf (Elt Ideal) ((c.tc : Thread Cert.Kernel3Ideal.nD Cert.Kernel3Ideal.τ).loc Cert.Kernel3Ideal.main_v129_3)) (v4 : (c : Dev Cert.Kernel3Ideal.nD) → Buf (Elt Ideal) ((c.tc : Thread Cert.Kernel3Ideal.nD Cert.Kernel3Ideal.τ).loc Cert.Kernel3Ideal.main_v129_4)) (v5 : (c : Dev Cert.Kernel3Ideal.nD) → Buf (Elt Ideal) ((c.tc : Thread Cert.Kernel3Ideal.nD Cert.Kernel3Ideal.τ).loc Cert.Kernel3Ideal.main_v129_5)) (v6 : (c : Dev Cert.Kernel3Ideal.nD) → Buf (Elt Ideal) ((c.tc : Thread Cert.Kernel3Ideal.nD Cert.Kernel3Ideal.τ).loc Cert.Kernel3Ideal.main_v129_6)) (v7 : (c : Dev Cert.Kernel3Ideal.nD) → Buf (Elt Ideal) ((c.tc : Thread Cert.Kernel3Ideal.nD Cert.Kernel3Ideal.τ).loc Cert.Kernel3Ideal.main_v129_7)) (v8 : (c : Dev Cert.Kernel3Ideal.nD) → Buf (Elt Ideal) ((c.tc : Thread Cert.Kernel3Ideal.nD Cert.Kernel3Ideal.τ).loc Cert.Kernel3Ideal.main_v129_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v129_0) = v0 c
          ∧ r.2.mem ((c.tc : Thread Cert.Kernel3Ideal.nD Cert.Kernel3Ideal.τ).loc Cert.Kernel3Ideal.main_v129_1) = v1 c
          ∧ r.2.mem ((c.tc : Thread Cert.Kernel3Ideal.nD Cert.Kernel3Ideal.τ).loc Cert.Kernel3Ideal.main_v129_2) = v2 c
          ∧ r.2.mem ((c.tc : Thread Cert.Kernel3Ideal.nD Cert.Kernel3Ideal.τ).loc Cert.Kernel3Ideal.main_v129_3) = v3 c
          ∧ r.2.mem ((c.tc : Thread Cert.Kernel3Ideal.nD Cert.Kernel3Ideal.τ).loc Cert.Kernel3Ideal.main_v129_4) = v4 c
          ∧ r.2.mem ((c.tc : Thread Cert.Kernel3Ideal.nD Cert.Kernel3Ideal.τ).loc Cert.Kernel3Ideal.main_v129_5) = v5 c
          ∧ r.2.mem ((c.tc : Thread Cert.Kernel3Ideal.nD Cert.Kernel3Ideal.τ).loc Cert.Kernel3Ideal.main_v129_6) = v6 c
          ∧ r.2.mem ((c.tc : Thread Cert.Kernel3Ideal.nD Cert.Kernel3Ideal.τ).loc Cert.Kernel3Ideal.main_v129_7) = v7 c
          ∧ r.2.mem ((c.tc : Thread Cert.Kernel3Ideal.nD Cert.Kernel3Ideal.τ).loc Cert.Kernel3Ideal.main_v129_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v175) = v0 c
          ∧ r.2.mem ((c.tc : Thread Cert.Reference3Ideal.nD Cert.Reference3Ideal.τ).loc Cert.Reference3Ideal.main_v176) = v1 c
          ∧ r.2.mem ((c.tc : Thread Cert.Reference3Ideal.nD Cert.Reference3Ideal.τ).loc Cert.Reference3Ideal.main_v177) = v2 c
          ∧ r.2.mem ((c.tc : Thread Cert.Reference3Ideal.nD Cert.Reference3Ideal.τ).loc Cert.Reference3Ideal.main_v107) = v3 c
          ∧ r.2.mem ((c.tc : Thread Cert.Reference3Ideal.nD Cert.Reference3Ideal.τ).loc Cert.Reference3Ideal.main_v147) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_v19) = v6 c
          ∧ r.2.mem ((c.tc : Thread Cert.Reference3Ideal.nD Cert.Reference3Ideal.τ).loc Cert.Reference3Ideal.main_v20) = v7 c
          ∧ r.2.mem ((c.tc : Thread Cert.Reference3Ideal.nD Cert.Reference3Ideal.τ).loc Cert.Reference3Ideal.main_v174) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v150) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_v127) = v3 c
          ∧ r.2.mem ((c.tc : Thread Cert.Reference4Ideal.nD Cert.Reference4Ideal.τ).loc Cert.Reference4Ideal.main_v151) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S1x16384x1024 : Shape := ⟨3, ![1, 16384, 1024]⟩
abbrev S1x16384x512 : Shape := ⟨3, ![1, 16384, 512]⟩
abbrev S_ : Shape := ⟨0, ![]⟩

class Facts : Prop where
  bcast_S_S1x16384x1024 : S_.BroadcastsInDim S1x16384x1024 (![] : Fin 0 → Fin S1x16384x1024.rank)

variable [Facts]

def fn {F : FTy → Type} [FloatOps F] (main_arg0 : FVec F S1x16384x1024 .bf16) (main_arg1 : FVec F S1x16384x1024 .bf16) (main_arg2 : FVec F S1x16384x512 .bf16) : IVec S1x16384x1024 1 × IVec S1x16384x1024 1 :=
  let main_v0 : FVec F S1x16384x1024 .bf16 := Host.absf main_arg0
  let main_cst : FVec F S_ .bf16 := constant S_ .bf16 0x7F80#16
  let main_v1 : FVec F S1x16384x1024 .bf16 := broadcastInDim S1x16384x1024 ![] bcast_S_S1x16384x1024 main_cst
  let main_v2 : IVec S1x16384x1024 1 := cmpf .olt main_v0 main_v1
  let main_v3 : FVec F S1x16384x1024 .bf16 := Host.absf main_arg1
  let main_cst_0 : FVec F S_ .bf16 := constant S_ .bf16 0x7F80#16
  let main_v4 : FVec F S1x16384x1024 .bf16 := broadcastInDim S1x16384x1024 ![] bcast_S_S1x16384x1024 main_cst_0
  let main_v5 : IVec S1x16384x1024 1 := cmpf .olt main_v3 main_v4
  (main_v2, main_v5)
-- ==== Pre_finite3.lean ====
abbrev S16384x1024 : Shape := ⟨2, ![16384, 1024]⟩
abbrev S1024 : Shape := ⟨1, ![1024]⟩
abbrev S1024x2472 : Shape := ⟨2, ![1024, 2472]⟩
abbrev S256 : Shape := ⟨1, ![256]⟩
abbrev S256x768 : Shape := ⟨2, ![256, 768]⟩
abbrev S64 : Shape := ⟨1, ![64]⟩
abbrev S32 : Shape := ⟨1, ![32]⟩
abbrev S128 : Shape := ⟨1, ![128]⟩
abbrev S128x512 : Shape := ⟨2, ![128, 512]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2472 : S_.BroadcastsInDim S1024x2472 (![] : Fin 0 → Fin S1024x2472.rank)
  bcast_S_S256 : S_.BroadcastsInDim S256 (![] : Fin 0 → Fin S256.rank)
  bcast_S_S256x768 : S_.BroadcastsInDim S256x768 (![] : Fin 0 → Fin S256x768.rank)
  bcast_S_S128 : S_.BroadcastsInDim S128 (![] : Fin 0 → Fin S128.rank)
  bcast_S_S128x512 : S_.BroadcastsInDim S128x512 (![] : Fin 0 → Fin S128x512.rank)

variable [Facts]

def fn_part1 {F : FTy → Type} [FloatOps F] (main_arg9 : FVec F S128x512 .f32) (main_v2 : IVec S16384x1024 1) (main_v5 : IVec S1024 1) (main_v8 : IVec S1024x2472 1) (main_v11 : IVec S256 1) (main_v14 : IVec S256x768 1) (main_v17 : IVec S128 1) : IVec S16384x1024 1 × IVec S1024 1 × IVec S1024x2472 1 × IVec S256 1 × IVec S256x768 1 × IVec S128 1 × IVec S128x512 1 :=
  let main_v18 : FVec F S128x512 .f32 := Host.absf main_arg9
  let main_cst_5 : FVec F S_ .f32 := constant S_ .f32 0x7F800000#32
  let main_v19 : FVec F S128x512 .f32 := broadcastInDim S128x512 ![] bcast_S_S128x512 main_cst_5
  let main_v20 : IVec S128x512 1 := cmpf .olt main_v18 main_v19
  (main_v2, main_v5, main_v8, main_v11, main_v14, main_v17, main_v20)

def fn {F : FTy → Type} [FloatOps F] (main_arg0 : FVec F S16384x1024 .f32) (main_arg1 : FVec F S1024 .f32) (main_arg2 : FVec F S1024x2472 .f32) (main_arg3 : FVec F S256 .f32) (main_arg4 : FVec F S256x768 .f32) (main_arg5 : FVec F S64 .f32) (main_arg6 : FVec F S32 .f32) (main_arg7 : FVec F S128 .f32) (main_arg8 : FVec F S32 .f32) (main_arg9 : FVec F S128x512 .f32) (main_arg10 : FVec F S64 .f32) (main_arg11 : FVec F S128x512 .f32) : IVec S16384x1024 1 × IVec S1024 1 × IVec S1024x2472 1 × IVec S256 1 × IVec S256x768 1 × IVec S128 1 × IVec S128x512 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2472 .f32 := Host.absf main_arg2
  let main_cst_1 : FVec F S_ .f32 := constant S_ .f32 0x7F800000#32
  let main_v7 : FVec F S1024x2472 .f32 := broadcastInDim S1024x2472 ![] bcast_S_S1024x2472 main_cst_1
  let main_v8 : IVec S1024x2472 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x768 .f32 := Host.absf main_arg4
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg9 main_v2 main_v5 main_v8 main_v11 main_v14 main_v17
-- ==== Kernel.lean ====
abbrev S1x16384x1024 : Shape := ⟨3, ![1, 16384, 1024]⟩
abbrev S1x16384x512 : Shape := ⟨3, ![1, 16384, 512]⟩
abbrev S1x256x256 : Shape := ⟨3, ![1, 256, 256]⟩
abbrev S1x16384x256 : Shape := ⟨3, ![1, 16384, 256]⟩
abbrev S1x16384x128 : Shape := ⟨3, ![1, 16384, 128]⟩
abbrev S1x256x128 : Shape := ⟨3, ![1, 256, 128]⟩
abbrev S2x256x128 : Shape := ⟨3, ![2, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 11
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .bf16⟩
  | .hbm, ⟨2, _⟩ => ⟨S1x16384x512, .bf16⟩
  | .hbm, ⟨3, _⟩ => ⟨S1x16384x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 64], ![false, false, false]⟩

@[reducible] def k0_t1_loop (i : grid0.Coords) : Scf.Loop 32 :=
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let c1_i32_11 : BitVec 32 := 1#32
  ⟨c0_i32_10, v17, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c256_i32_114 : BitVec 32 := 256#32
  let v228 : BitVec 32 := Scalar.muli arg10 c256_i32_114
  v228
def k0_off1 (i : grid0.Coords) (k0_t1 : Fin (k0_t1_loop i).trips) : Fin 3 → Nat :=
  let c0_115 : Index := 0#32
  let c0_i32_10 : BitVec 32 := 0#32
  let c1_i32_11 : BitVec 32 := 1#32
  let arg10 : BitVec 32 := Scf.iv c0_i32_10 c1_i32_11 k0_t1
  let c256_i32_114 : BitVec 32 := 256#32
  let v228 : BitVec 32 := Scalar.muli arg10 c256_i32_114
  let v229 : BitVec 32 := v228
  let v230 : Index := Scalar.indexCast v229
  let c0_116 : Index := 0#32
  ![0, v230.toNat, 0]
def k0_off2 (i : grid0.Coords) (k0_t1 : Fin (k0_t1_loop i).trips) : Fin 3 → Nat :=
  let c0_120 : Index := 0#32
  let c0_i32_10 : BitVec 32 := 0#32
  let c1_i32_11 : BitVec 32 := 1#32
  let arg10 : BitVec 32 := Scf.iv c0_i32_10 c1_i32_11 k0_t1
  let c256_i32_114 : BitVec 32 := 256#32
  let v228 : BitVec 32 := Scalar.muli arg10 c256_i32_114
  let v229 : BitVec 32 := v228
  let v235 : Index := Scalar.indexCast v229
  let c0_121 : Index := 0#32
  ![0, v235.toNat, 0]
def k0_off3 (i : grid0.Coords) (k0_t1 : Fin (k0_t1_loop i).trips) : Fin 3 → Nat :=
  let c0_148 : Index := 0#32
  let c0_i32_10 : BitVec 32 := 0#32
  let c1_i32_11 : BitVec 32 := 1#32
  let arg10 : BitVec 32 := Scf.iv c0_i32_10 c1_i32_11 k0_t1
  let c256_i32_114 : BitVec 32 := 256#32
  let v228 : BitVec 32 := Scalar.muli arg10 c256_i32_114
  let v229 : BitVec 32 := v228
  let v276 : Index := Scalar.indexCast v229
  let c128_149 : Index := 128#32
  ![0, v276.toNat, 128]
@[reducible] def k0_t2_loop (i : grid0.Coords) : Scf.Loop 32 :=
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let v14 : BitVec 32 := Scalar.addi c0_i32_10 v13
  let c1_i32_12 : BitVec 32 := 1#32
  ⟨v17, v14, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let c1_i32_12 : BitVec 32 := 1#32
  let arg10 : BitVec 32 := Scf.iv v17 c1_i32_12 k0_t2
  let c256_i32_114 : BitVec 32 := 256#32
  let v228 : BitVec 32 := Scalar.muli arg10 c256_i32_114
  v228
def k0_off4 (i : grid0.Coords) (k0_t2 : Fin (k0_t2_loop i).trips) : Fin 3 → Nat :=
  let c0_115 : Index := 0#32
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let c1_i32_12 : BitVec 32 := 1#32
  let arg10 : BitVec 32 := Scf.iv v17 c1_i32_12 k0_t2
  let c256_i32_114 : BitVec 32 := 256#32
  let v228 : BitVec 32 := Scalar.muli arg10 c256_i32_114
  let v229 : BitVec 32 := v228
  let v230 : Index := Scalar.indexCast v229
  let c0_116 : Index := 0#32
  ![0, v230.toNat, 0]
def k0_off5 (i : grid0.Coords) (k0_t2 : Fin (k0_t2_loop i).trips) : Fin 3 → Nat :=
  let c0_120 : Index := 0#32
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let c1_i32_12 : BitVec 32 := 1#32
  let arg10 : BitVec 32 := Scf.iv v17 c1_i32_12 k0_t2
  let c256_i32_114 : BitVec 32 := 256#32
  let v228 : BitVec 32 := Scalar.muli arg10 c256_i32_114
  let v229 : BitVec 32 := v228
  let v235 : Index := Scalar.indexCast v229
  let c0_121 : Index := 0#32
  ![0, v235.toNat, 0]
def k0_off6 (i : grid0.Coords) (k0_t2 : Fin (k0_t2_loop i).trips) : Fin 3 → Nat :=
  let c0_148 : Index := 0#32
  let c0_i32_10 : BitVec 32 := 0#32
  let arg2 : BitVec 32 := BitVec.ofNat 32 (i 2).val
  let v13 : BitVec 32 := Scalar.subi arg2 c0_i32_10
  let c1_i32 : BitVec 32 := 1#32
  let v15 : BitVec 32 := Scalar.divsi v13 c1_i32
  let v16 : BitVec 32 := Scalar.muli v15 c1_i32
  let v17 : BitVec 32 := Scalar.addi c0_i32_10 v16
  let c1_i32_12 : BitVec 32 := 1#32
  let arg10 : BitVec 32 := Scf.iv v17 c1_i32_12 k0_t2
  let c256_i32_114 : BitVec 32 := 256#32
  let v228 : BitVec 32 := Scalar.muli arg10 c256_i32_114
  let v229 : BitVec 32 := v228
  let v276 : Index := Scalar.indexCast v229
  let c128_149 : Index := 128#32
  ![0, v276.toNat, 128]
def k0_mult3 (i : grid0.Coords) : BitVec 32 :=
  let arg2 : BitVec 32 := BitVec.ofNat 32 (i 2).val
  let c256_i32 : BitVec 32 := 256#32
  let v18 : BitVec 32 := Scalar.muli arg2 c256_i32
  v18
def k0_off7 (i : grid0.Coords) : Fin 3 → Nat :=
  let c0_13 : Index := 0#32
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_14 : Index := 0#32
  ![0, v20.toNat, 0]
def k0_off8 (i : grid0.Coords) : Fin 3 → Nat :=
  let c0_18 : Index := 0#32
  let arg2 : BitVec 32 := BitVec.ofNat 32 (i 2).val
  let c256_i32 : BitVec 32 := 256#32
  let v18 : BitVec 32 := Scalar.muli arg2 c256_i32
  let v19 : BitVec 32 := v18
  let v25 : Index := Scalar.indexCast v19
  let c0_19 : Index := 0#32
  ![0, v25.toNat, 0]
def k0_off9 (i : grid0.Coords) : Fin 3 → Nat :=
  let c0_59 : Index := 0#32
  let arg2 : BitVec 32 := BitVec.ofNat 32 (i 2).val
  let c256_i32 : BitVec 32 := 256#32
  let v18 : BitVec 32 := Scalar.muli arg2 c256_i32
  let v19 : BitVec 32 := v18
  let v119 : Index := Scalar.indexCast v19
  let c128_60 : Index := 128#32
  ![0, v119.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1x16384x1024 : Shape := ⟨3, ![1, 16384, 1024]⟩
abbrev S1x16384x512 : Shape := ⟨3, ![1, 16384, 512]⟩
abbrev S1x16384x8x128 : Shape := ⟨4, ![1, 16384, 8, 128]⟩
abbrev S1x16384x8x64 : Shape := ⟨4, ![1, 16384, 8, 64]⟩
abbrev S16384 : Shape := ⟨1, ![16384]⟩
abbrev S_ : Shape := ⟨0, ![]⟩
abbrev S1x8x16384x16384 : Shape := ⟨4, ![1, 8, 16384, 16384]⟩
abbrev S1x16384 : Shape := ⟨2, ![1, 16384]⟩
abbrev S16384x1 : Shape := ⟨2, ![16384, 1]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩

abbrev nBuf : Space → Nat
  | .hbm => 58
  | .vmem => 0
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .bf16⟩
  | .hbm, ⟨2, _⟩ => ⟨S1x16384x512, .bf16⟩
  | .hbm, ⟨3, _⟩ => ⟨S1x16384x8x128, .bf16⟩
  | .hbm, ⟨4, _⟩ => ⟨S1x16384x8x128, .bf16⟩
  | .hbm, ⟨5, _⟩ => ⟨S1x16384x8x64, .bf16⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S1x8x16384x16384, .f32⟩
  | .hbm, ⟨26, _⟩ => ⟨S_, .f32⟩
  | .hbm, ⟨27, _⟩ => ⟨S1x8x16384x16384, .f32⟩
  | .hbm, ⟨28, _⟩ => ⟨S1x8x16384x16384, .f32⟩
  | .hbm, ⟨29, _⟩ => ⟨S1x16384, .i32⟩
  | .hbm, ⟨30, _⟩ => ⟨S16384x1, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S_, .f32⟩
  | .hbm, ⟨35, _⟩ => ⟨S_, .f32⟩
  | .hbm, ⟨36, _⟩ => ⟨S1x8x16384x16384, .i1⟩
  | .hbm, ⟨37, _⟩ => ⟨S1x8x16384x16384, .f32⟩
  | .hbm, ⟨38, _⟩ => ⟨S1x8x16384x16384, .f32⟩
  | .hbm, ⟨39, _⟩ => ⟨S_, .f32⟩
  | .hbm, ⟨40, _⟩ => ⟨S1x8x16384, .f32⟩
  | .hbm, ⟨41, _⟩ => ⟨S_, .f32⟩
  | .hbm, ⟨42, _⟩ => ⟨S1x8x16384, .f32⟩
  | .hbm, ⟨43, _⟩ => ⟨S1x8x16384, .f32⟩
  | .hbm, ⟨44, _⟩ => ⟨S1x8x16384x1, .f32⟩
  | .hbm, ⟨45, _⟩ => ⟨S1x8x16384x16384, .f32⟩
  | .hbm, ⟨46, _⟩ => ⟨S1x8x16384x16384, .f32⟩
  | .hbm, ⟨47, _⟩ => ⟨S1x8x16384x16384, .f32⟩
  | .hbm, ⟨48, _⟩ => ⟨S_, .f32⟩
  | .hbm, ⟨49, _⟩ => ⟨S1x8x16384, .f32⟩
  | .hbm, ⟨50, _⟩ => ⟨S1x8x16384x1, .f32⟩
  | .hbm, ⟨51, _⟩ => ⟨S1x8x16384x16384, .f32⟩
  | .hbm, ⟨52, _⟩ => ⟨S1x8x16384x16384, .f32⟩
  | .hbm, ⟨53, _⟩ => ⟨S1x8x16384x16384, .bf16⟩
  | .hbm, ⟨54, _⟩ => ⟨S1x8x64x16384, .f32⟩
  | .hbm, ⟨55, _⟩ => ⟨S1x16384x8x64, .f32⟩
  | .hbm, ⟨56, _⟩ => ⟨S1x16384x8x64, .bf16⟩
  | .hbm, ⟨57, _⟩ => ⟨S1x16384x512, .bf16⟩
  | _, _ => ⟨S1x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2472 : Shape := ⟨2, ![1024, 2472]⟩
abbrev S256 : Shape := ⟨1, ![256]⟩
abbrev S256x768 : Shape := ⟨2, ![256, 768]⟩
abbrev S64 : Shape := ⟨1, ![64]⟩
abbrev S32 : Shape := ⟨1, ![32]⟩
abbrev S128 : Shape := ⟨1, ![128]⟩
abbrev S128x512 : Shape := ⟨2, ![128, 512]⟩
abbrev S1024x256 : Shape := ⟨2, ![1024, 256]⟩
abbrev S1024x128 : Shape := ⟨2, ![1024, 128]⟩
abbrev S1024x32 : Shape := ⟨2, ![1024, 32]⟩
abbrev S1024x1024 : Shape := ⟨2, ![1024, 1024]⟩
abbrev S1024x512 : Shape := ⟨2, ![1024, 512]⟩
abbrev S1024x4 : Shape := ⟨2, ![1024, 4]⟩
abbrev S1024x16 : Shape := ⟨2, ![1024, 16]⟩
abbrev S_ : Shape := ⟨0, ![]⟩
abbrev S1024x56 : Shape := ⟨2, ![1024, 56]⟩
abbrev S1024x2560 : Shape := ⟨2, ![1024, 2560]⟩
abbrev S256x8x96 : Shape := ⟨3, ![256, 8, 96]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S16 : Shape := ⟨1, ![16]⟩
abbrev S128x8x64 : Shape := ⟨3, ![128, 8, 64]⟩
abbrev S128x8x128 : Shape := ⟨3, ![128, 8, 128]⟩
abbrev S128x1024 : Shape := ⟨2, ![128, 1024]⟩
abbrev S256x1 : Shape := ⟨2, ![256, 1]⟩
abbrev S1x256 : Shape := ⟨2, ![1, 256]⟩
abbrev S256x256 : Shape := ⟨2, ![256, 256]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S8x128 : Shape := ⟨2, ![8, 128]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S16384x128 : Shape := ⟨2, ![16384, 128]⟩
abbrev S16384x96 : Shape := ⟨2, ![16384, 96]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512x32 : Shape := ⟨2, ![512, 32]⟩
abbrev S512 : Shape := ⟨1, ![512]⟩
abbrev S512x1 : Shape := ⟨2, ![512, 1]⟩
abbrev S512x256 : Shape := ⟨2, ![512, 256]⟩
abbrev S128x256 : Shape := ⟨2, ![128, 256]⟩

abbrev nBuf : Space → Nat
  | .hbm => 255
  | .vmem => 40
  | .smem => 0
  | _ => 0

abbrev hbmTy0_0 (i : Nat) : BufTy := match i % 128 with
  | 0 => ⟨S16384x1024, .f32⟩
  | 1 => ⟨S1024, .f32⟩
  | 2 => ⟨S1024x2472, .f32⟩
  | 3 => ⟨S256, .f32⟩
  | 4 => ⟨S256x768, .f32⟩
  | 5 => ⟨S64, .f32⟩
  | 6 => ⟨S32, .f32⟩
  | 7 => ⟨S128, .f32⟩
  | 8 => ⟨S32, .f32⟩
  | 9 => ⟨S128x512, .f32⟩
  | 10 => ⟨S64, .f32⟩
  | 11 => ⟨S128x512, .f32⟩
  | 12 => ⟨S1024x256, .f32⟩
  | 13 => ⟨S1024x128, .f32⟩
  | 14 => ⟨S1024x32, .f32⟩
  | 15 => ⟨S1024x1024, .f32⟩
  | 16 => ⟨S1024x512, .f32⟩
  | 17 => ⟨S1024x512, .f32⟩
  | 18 => ⟨S1024x4, .f32⟩
  | 19 => ⟨S1024x4, .f32⟩
  | 20 => ⟨S1024x16, .f32⟩
  | 21 => ⟨S1024x16, .f32⟩
  | 22 => ⟨S1024x32, .f32⟩
  | 23 => ⟨S_, .f32⟩
  | 24 => ⟨S1024x56, .f32⟩
  | 25 => ⟨S1024x128, .f32⟩
  | 26 => ⟨S1024x2560, .f32⟩
  | 27 => ⟨S1024x2560, .bf16⟩
  | 28 => ⟨S256x8x96, .f32⟩
  | 29 => ⟨S256x8x32, .f32⟩
  | 30 => ⟨S256x8x16, .f32⟩
  | 31 => ⟨S256x8x16, .f32⟩
  | 32 => ⟨S256x8x32, .f32⟩
  | 33 => ⟨S256x8x128, .f32⟩
  | 34 => ⟨S256x1024, .f32⟩
  | 35 => ⟨S16, .f32⟩
  | 36 => ⟨S16, .f32⟩
  | 37 => ⟨S32, .f32⟩
  | 38 => ⟨S128, .f32⟩
  | 39 => ⟨S128x8x64, .f32⟩
  | 40 => ⟨S_, .f32⟩
  | 41 => ⟨S128x8x64, .f32⟩
  | 42 => ⟨S128x8x128, .f32⟩
  | 43 => ⟨S128x1024, .f32⟩
  | 44 => ⟨S_, .f32⟩
  | 45 => ⟨S64, .f32⟩
  | 46 => ⟨S128, .f32⟩
  | 47 => ⟨S16, .f32⟩
  | 48 => ⟨S16, .f32⟩
  | 49 => ⟨S32, .f32⟩
  | 50 => ⟨S_, .f32⟩
  | 51 => ⟨S64, .f32⟩
  | 52 => ⟨S128, .f32⟩
  | 53 => ⟨S256, .i32⟩
  | 54 => ⟨S256x1, .i32⟩
  | 55 => ⟨S_, .i32⟩
  | 56 => ⟨S_, .i32⟩
  | 57 => ⟨S256x1, .i32⟩
  | 58 => ⟨S256x1, .i32⟩
  | 59 => ⟨S256x1, .i32⟩
  | 60 => ⟨S_, .i32⟩
  | 61 => ⟨S256x1, .i32⟩
  | 62 => ⟨S256x1, .i1⟩
  | 63 => ⟨S256x1, .i32⟩
  | 64 => ⟨S256x1, .i32⟩
  | 65 => ⟨S_, .i32⟩
  | 66 => ⟨S256x1, .i32⟩
  | 67 => ⟨S256x1, .i1⟩
  | 68 => ⟨S256x1, .i1⟩
  | 69 => ⟨S_, .i32⟩
  | 70 => ⟨S256x1, .i32⟩
  | 71 => ⟨S256x1, .i32⟩
  | 72 => ⟨S256x1, .i32⟩
  | 73 => ⟨S1x256, .i32⟩
  | 74 => ⟨S_, .i32⟩
  | 75 => ⟨S_, .i32⟩
  | 76 => ⟨S1x256, .i32⟩
  | 77 => ⟨S1x256, .i32⟩
  | 78 => ⟨S1x256, .i32⟩
  | 79 => ⟨S_, .i32⟩
  | 80 => ⟨S1x256, .i32⟩
  | 81 => ⟨S1x256, .i1⟩
  | 82 => ⟨S1x256, .i32⟩
  | 83 => ⟨S1x256, .i32⟩
  | 84 => ⟨S_, .i32⟩
  | 85 => ⟨S1x256, .i32⟩
  | 86 => ⟨S1x256, .i1⟩
  | 87 => ⟨S1x256, .i1⟩
  | 88 => ⟨S_, .i32⟩
  | 89 => ⟨S1x256, .i32⟩
  | 90 => ⟨S1x256, .i32⟩
  | 91 => ⟨S1x256, .i32⟩
  | 92 => ⟨S256x256, .i32⟩
  | 93 => ⟨S256x256, .i32⟩
  | 94 => ⟨S256x256, .i1⟩
  | 95 => ⟨S256x1, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S256x1, .i32⟩
  | 103 => ⟨S256x1, .i32⟩
  | 104 => ⟨S_, .i32⟩
  | 105 => ⟨S256x1, .i32⟩
  | 106 => ⟨S256x1, .i1⟩
  | 107 => ⟨S_, .i32⟩
  | 108 => ⟨S256x1, .i32⟩
  | 109 => ⟨S256x1, .i1⟩
  | 110 => ⟨S_, .i32⟩
  | 111 => ⟨S_, .i1⟩
  | 112 => ⟨S256x1, .i1⟩
  | 113 => ⟨S256x1, .i1⟩
  | 114 => ⟨S256x1, .i1⟩
  | 115 => ⟨S256x1, .i32⟩
  | 116 => ⟨S256x1, .i32⟩
  | 117 => ⟨S256x1, .i32⟩
  | 118 => ⟨S1x256, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S1x256, .i32⟩
  | 126 => ⟨S1x256, .i32⟩
  | 127 => ⟨S_, .i32⟩
  | _ => ⟨S16384x1024, .f32⟩

abbrev hbmTy0_1 (i : Nat) : BufTy := match i % 128 with
  | 0 => ⟨S1x256, .i32⟩
  | 1 => ⟨S1x256, .i1⟩
  | 2 => ⟨S_, .i32⟩
  | 3 => ⟨S1x256, .i32⟩
  | 4 => ⟨S1x256, .i1⟩
  | 5 => ⟨S_, .i32⟩
  | 6 => ⟨S_, .i1⟩
  | 7 => ⟨S1x256, .i1⟩
  | 8 => ⟨S1x256, .i1⟩
  | 9 => ⟨S1x256, .i1⟩
  | 10 => ⟨S1x256, .i32⟩
  | 11 => ⟨S1x256, .i32⟩
  | 12 => ⟨S1x256, .i32⟩
  | 13 => ⟨S_, .i32⟩
  | 14 => ⟨S256x1, .i32⟩
  | 15 => ⟨S256x1, .i1⟩
  | 16 => ⟨S256x256, .i1⟩
  | 17 => ⟨S256x256, .i1⟩
  | 18 => ⟨S_, .i32⟩
  | 19 => ⟨S1x256, .i32⟩
  | 20 => ⟨S1x256, .i1⟩
  | 21 => ⟨S256x256, .i1⟩
  | 22 => ⟨S256x256, .i1⟩
  | 23 => ⟨S_, .i32⟩
  | 24 => ⟨S256x1, .i32⟩
  | 25 => ⟨S256x1, .i1⟩
  | 26 => ⟨S256x256, .i1⟩
  | 27 => ⟨S256x256, .i1⟩
  | 28 => ⟨S_, .i32⟩
  | 29 => ⟨S256x1, .i32⟩
  | 30 => ⟨S256x1, .i1⟩
  | 31 => ⟨S256x256, .i1⟩
  | 32 => ⟨S256x256, .i1⟩
  | 33 => ⟨S_, .i32⟩
  | 34 => ⟨S1x256, .i32⟩
  | 35 => ⟨S1x256, .i1⟩
  | 36 => ⟨S256x256, .i1⟩
  | 37 => ⟨S256x256, .i1⟩
  | 38 => ⟨S_, .f32⟩
  | 39 => ⟨S_, .f32⟩
  | 40 => ⟨S256x256, .f32⟩
  | 41 => ⟨S256x256, .f32⟩
  | 42 => ⟨S256x256, .f32⟩
  | 43 => ⟨S_, .f32⟩
  | 44 => ⟨S256x256, .f32⟩
  | 45 => ⟨S256x256, .f32⟩
  | 46 => ⟨S128, .i32⟩
  | 47 => ⟨S128x1, .i32⟩
  | 48 => ⟨S_, .i32⟩
  | 49 => ⟨S128x1, .i32⟩
  | 50 => ⟨S128x1, .i1⟩
  | 51 => ⟨S1x128, .i32⟩
  | 52 => ⟨S_, .i32⟩
  | 53 => ⟨S1x128, .i32⟩
  | 54 => ⟨S1x128, .i1⟩
  | 55 => ⟨S128x128, .i1⟩
  | 56 => ⟨S128x128, .i1⟩
  | 57 => ⟨S128x128, .i1⟩
  | 58 => ⟨S_, .f32⟩
  | 59 => ⟨S_, .f32⟩
  | 60 => ⟨S128x128, .f32⟩
  | 61 => ⟨S128x128, .f32⟩
  | 62 => ⟨S128x128, .f32⟩
  | 63 => ⟨S1x1024, .f32⟩
  | 64 => ⟨S1x256, .f32⟩
  | 65 => ⟨S256x1024, .bf16⟩
  | 66 => ⟨S1x128, .f32⟩
  | 67 => ⟨S8x128, .f32⟩
  | 68 => ⟨S1024, .f32⟩
  | 69 => ⟨S1x1024, .f32⟩
  | 70 => ⟨S1x128, .f32⟩
  | 71 => ⟨S1x128, .f32⟩
  | 72 => ⟨S128x1024, .bf16⟩
  | 73 => ⟨S1x128, .f32⟩
  | 74 => ⟨S8x128, .f32⟩
  | 75 => ⟨S1024, .f32⟩
  | 76 => ⟨S1x1024, .f32⟩
  | 77 => ⟨S128x512, .bf16⟩
  | 78 => ⟨S256x256, .bf16⟩
  | 79 => ⟨S128x128, .bf16⟩
  | 80 => ⟨S16384, .i32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S16384, .f32⟩
  | 90 => ⟨S16384x1, .f32⟩
  | 91 => ⟨S1x16, .f32⟩
  | 92 => ⟨S16384x16, .f32⟩
  | 93 => ⟨S16384x16, .f32⟩
  | 94 => ⟨S16384x16, .f32⟩
  | 95 => ⟨S16384x16, .f32⟩
  | 96 => ⟨S16384x16, .f32⟩
  | 97 => ⟨S16384x32, .f32⟩
  | 98 => ⟨S16384x16, .f32⟩
  | 99 => ⟨S16384x16, .f32⟩
  | 100 => ⟨S16384x16, .f32⟩
  | 101 => ⟨S16384x32, .f32⟩
  | 102 => ⟨S_, .f32⟩
  | 103 => ⟨S16384x64, .f32⟩
  | 104 => ⟨S_, .f32⟩
  | 105 => ⟨S16384x32, .f32⟩
  | 106 => ⟨S16384x128, .f32⟩
  | 107 => ⟨S_, .f32⟩
  | 108 => ⟨S16384x64, .f32⟩
  | 109 => ⟨S_, .f32⟩
  | 110 => ⟨S16384x32, .f32⟩
  | 111 => ⟨S16384x128, .f32⟩
  | 112 => ⟨S_, .f32⟩
  | 113 => ⟨S16384x96, .f32⟩
  | 114 => ⟨S16384x128, .f32⟩
  | 115 => ⟨S_, .f32⟩
  | 116 => ⟨S16384x96, .f32⟩
  | 117 => ⟨S16384x128, .f32⟩
  | 118 => ⟨S16384x1024, .bf16⟩
  | 119 => ⟨S16384x1024, .bf16⟩
  | 120 => ⟨S16384x512, .bf16⟩
  | 121 => ⟨S16384x128, .f32⟩
  | 122 => ⟨S16384x32, .f32⟩
  | 123 => ⟨S16384x1024, .f32⟩
  | 124 => ⟨S16384x512, .f32⟩
  | 125 => ⟨S16384x512, .f32⟩
  | 126 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1024, .f32⟩
  | .local _ .vmem, ⟨11, _⟩ => ⟨S1024x2560, .bf16⟩
  | .local _ .vmem, ⟨12, _⟩ => ⟨S1x256, .f32⟩
  | .local _ .vmem, ⟨13, _⟩ => ⟨S256x1024, .bf16⟩
  | .local _ .vmem, ⟨14, _⟩ => ⟨S1x1024, .f32⟩
  | .local _ .vmem, ⟨15, _⟩ => ⟨S1x128, .f32⟩
  | .local _ .vmem, ⟨16, _⟩ => ⟨S1x128, .f32⟩
  | .local _ .vmem, ⟨17, _⟩ => ⟨S128x1024, .bf16⟩
  | .local _ .vmem, ⟨18, _⟩ => ⟨S1x1024, .f32⟩
  | .local _ .vmem, ⟨19, _⟩ => ⟨S128x512, .bf16⟩
  | .local _ .vmem, ⟨20, _⟩ => ⟨S256x256, .bf16⟩
  | .local _ .vmem, ⟨21, _⟩ => ⟨S128x128, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | .local _ .vmem, ⟨28, _⟩ => ⟨S512x128, .f32⟩
  | .local _ .vmem, ⟨29, _⟩ => ⟨S512x128, .f32⟩
  | .local _ .vmem, ⟨30, _⟩ => ⟨S512x32, .f32⟩
  | .local _ .vmem, ⟨31, _⟩ => ⟨S512x32, .f32⟩
  | .local _ .vmem, ⟨32, _⟩ => ⟨S512x1024, .f32⟩
  | .local _ .vmem, ⟨33, _⟩ => ⟨S512x1024, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x128, .f32⟩
  | .local _ .vmem, ⟨39, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_c : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_0 : Ref sig .tc := ⟨.hbm, 69, rfl⟩
abbrev main_call0_v12 : Ref sig .tc := ⟨.hbm, 70, rfl⟩
abbrev main_call0_v13 : Ref sig .tc := ⟨.hbm, 71, rfl⟩
abbrev main_v39 : Ref sig .tc := ⟨.hbm, 72, rfl⟩
abbrev main_v40 : Ref sig .tc := ⟨.hbm, 73, rfl⟩
abbrev main_c_3 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_4 : Ref sig .tc := ⟨.hbm, 96, rfl⟩
abbrev main_call2_v0 : Ref sig .tc := ⟨.hbm, 97, rfl⟩
abbrev main_call2_c : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_c_1 : Ref sig .tc := ⟨.hbm, 104, rfl⟩
abbrev main_call2_v5 : Ref sig .tc := ⟨.hbm, 105, rfl⟩
abbrev main_call2_v6 : Ref sig .tc := ⟨.hbm, 106, rfl⟩
abbrev main_call2_c_2 : Ref sig .tc := ⟨.hbm, 107, rfl⟩
abbrev main_call2_v7 : Ref sig .tc := ⟨.hbm, 108, rfl⟩
abbrev main_call2_v8 : Ref sig .tc := ⟨.hbm, 109, rfl⟩
abbrev main_call2_c_3 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_v46 : Ref sig .tc := ⟨.hbm, 117, rfl⟩
abbrev main_v47 : Ref sig .tc := ⟨.hbm, 118, rfl⟩
abbrev main_c_5 : Ref sig .tc := ⟨.hbm, 119, rfl⟩
abbrev main_call3_v0 : Ref sig .tc := ⟨.hbm, 120, rfl⟩
abbrev main_call3_c : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_1 : Ref sig .tc := ⟨.hbm, 127, rfl⟩
abbrev main_call3_v5 : Ref sig .tc := ⟨.hbm, 128, rfl⟩
abbrev main_call3_v6 : Ref sig .tc := ⟨.hbm, 129, rfl⟩
abbrev main_call3_c_2 : Ref sig .tc := ⟨.hbm, 130, rfl⟩
abbrev main_call3_v7 : Ref sig .tc := ⟨.hbm, 131, rfl⟩
abbrev main_call3_v8 : Ref sig .tc := ⟨.hbm, 132, rfl⟩
abbrev main_call3_c_3 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_v48 : Ref sig .tc := ⟨.hbm, 140, rfl⟩
abbrev main_c_6 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_c_7 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_c_8 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_c_9 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_c_10 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_cst_11 : Ref sig .tc := ⟨.hbm, 166, rfl⟩
abbrev main_cst_12 : Ref sig .tc := ⟨.hbm, 167, rfl⟩
abbrev main_call4_v0 : Ref sig .tc := ⟨.hbm, 168, rfl⟩
abbrev main_call4_v1 : Ref sig .tc := ⟨.hbm, 169, rfl⟩
abbrev main_v69 : Ref sig .tc := ⟨.hbm, 170, rfl⟩
abbrev main_cst_13 : Ref sig .tc := ⟨.hbm, 171, rfl⟩
abbrev main_call5_v0 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_c_14 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_c_15 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_cst_16 : Ref sig .tc := ⟨.hbm, 186, rfl⟩
abbrev main_cst_17 : Ref sig .tc := ⟨.hbm, 187, rfl⟩
abbrev main_call6_v0 : Ref sig .tc := ⟨.hbm, 188, rfl⟩
abbrev main_call6_v1 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_cst_18 : Ref sig .tc := ⟨.hbm, 211, rfl⟩
abbrev main_v102 : Ref sig .tc := ⟨.hbm, 212, rfl⟩
abbrev main_v103 : Ref sig .tc := ⟨.hbm, 213, rfl⟩
abbrev main_cst_19 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_cst_20 : Ref sig .tc := ⟨.hbm, 230, rfl⟩
abbrev main_v119 : Ref sig .tc := ⟨.hbm, 231, rfl⟩
abbrev main_cst_21 : Ref sig .tc := ⟨.hbm, 232, rfl⟩
abbrev main_v120 : Ref sig .tc := ⟨.hbm, 233, rfl⟩
abbrev main_v121 : Ref sig .tc := ⟨.hbm, 234, rfl⟩
abbrev main_cst_22 : Ref sig .tc := ⟨.hbm, 235, rfl⟩
abbrev main_v122 : Ref sig .tc := ⟨.hbm, 236, rfl⟩
abbrev main_cst_23 : Ref sig .tc := ⟨.hbm, 237, rfl⟩
abbrev main_v123 : Ref sig .tc := ⟨.hbm, 238, rfl⟩
abbrev main_v124 : Ref sig .tc := ⟨.hbm, 239, rfl⟩
abbrev main_cst_24 : Ref sig .tc := ⟨.hbm, 240, rfl⟩
abbrev main_v125 : Ref sig .tc := ⟨.hbm, 241, rfl⟩
abbrev main_v126 : Ref sig .tc := ⟨.hbm, 242, rfl⟩
abbrev main_cst_25 : Ref sig .tc := ⟨.hbm, 243, rfl⟩
abbrev main_v127 : Ref sig .tc := ⟨.hbm, 244, rfl⟩
abbrev main_v128 : Ref sig .tc := ⟨.hbm, 245, rfl⟩
abbrev main_v129_0 : Ref sig .tc := ⟨.hbm, 246, rfl⟩
abbrev main_v129_1 : Ref sig .tc := ⟨.hbm, 247, rfl⟩
abbrev main_v129_2 : Ref sig .tc := ⟨.hbm, 248, rfl⟩
abbrev main_v129_3 : Ref sig .tc := ⟨.hbm, 249, rfl⟩
abbrev main_v129_4 : Ref sig .tc := ⟨.hbm, 250, rfl⟩
abbrev main_v129_5 : Ref sig .tc := ⟨.hbm, 251, rfl⟩
abbrev main_v129_6 : Ref sig .tc := ⟨.hbm, 252, rfl⟩
abbrev main_v129_7 : Ref sig .tc := ⟨.hbm, 253, rfl⟩
abbrev main_v129_8 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference3Ideal.lean ====
abbrev S16384x1024 : Shape := ⟨2, ![16384, 1024]⟩
abbrev S1024 : Shape := ⟨1, ![1024]⟩
abbrev S1024x2472 : Shape := ⟨2, ![1024, 2472]⟩
abbrev S256 : Shape := ⟨1, ![256]⟩
abbrev S256x768 : Shape := ⟨2, ![256, 768]⟩
abbrev S64 : Shape := ⟨1, ![64]⟩
abbrev S32 : Shape := ⟨1, ![32]⟩
abbrev S128 : Shape := ⟨1, ![128]⟩
abbrev S128x512 : Shape := ⟨2, ![128, 512]⟩
abbrev S16384 : Shape := ⟨1, ![16384]⟩
abbrev S_ : Shape := ⟨0, ![]⟩
abbrev S16384x1 : Shape := ⟨2, ![16384, 1]⟩
abbrev S1x1024 : Shape := ⟨2, ![1, 1024]⟩
abbrev S16384x2472 : Shape := ⟨2, ![16384, 2472]⟩
abbrev S16384x256 : Shape := ⟨2, ![16384, 256]⟩
abbrev S16384x128 : Shape := ⟨2, ![16384, 128]⟩
abbrev S16384x32 : Shape := ⟨2, ![16384, 32]⟩
abbrev S16384x512 : Shape := ⟨2, ![16384, 512]⟩
abbrev S16384x4 : Shape := ⟨2, ![16384, 4]⟩
abbrev S1x256 : Shape := ⟨2, ![1, 256]⟩
abbrev S16384x768 : Shape := ⟨2, ![16384, 768]⟩
abbrev S16384x8x96 : Shape := ⟨3, ![16384, 8, 96]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x32 : Shape := ⟨3, ![16384, 8, 32]⟩
abbrev S1x1x32 : Shape := ⟨3, ![1, 1, 32]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S16384x8x16 : Shape := ⟨3, ![16384, 8, 16]⟩
abbrev S1x128 : Shape := ⟨2, ![1, 128]⟩
abbrev S1x32 : Shape := ⟨2, ![1, 32]⟩
abbrev S16384x1x32 : Shape := ⟨3, ![16384, 1, 32]⟩
abbrev S16384x8x128 : Shape := ⟨3, ![16384, 8, 128]⟩
abbrev S16384x56 : Shape := ⟨2, ![16384, 56]⟩

abbrev nBuf : Space → Nat
  | .hbm => 217
  | .vmem => 0
  | .smem => 0
  | _ => 0

abbrev hbmTy0_0 (i : Nat) : BufTy := match i % 128 with
  | 0 => ⟨S16384x1024, .f32⟩
  | 1 => ⟨S1024, .f32⟩
  | 2 => ⟨S1024x2472, .f32⟩
  | 3 => ⟨S256, .f32⟩
  | 4 => ⟨S256x768, .f32⟩
  | 5 => ⟨S64, .f32⟩
  | 6 => ⟨S32, .f32⟩
  | 7 => ⟨S128, .f32⟩
  | 8 => ⟨S32, .f32⟩
  | 9 => ⟨S128x512, .f32⟩
  | 10 => ⟨S64, .f32⟩
  | 11 => ⟨S128x512, .f32⟩
  | 12 => ⟨S16384, .i32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x1024, .f32⟩
  | 25 => ⟨S16384x1024, .f32⟩
  | 26 => ⟨S1x1024, .f32⟩
  | 27 => ⟨S16384x1024, .f32⟩
  | 28 => ⟨S16384x1024, .f32⟩
  | 29 => ⟨S16384x2472, .f32⟩
  | 30 => ⟨S16384x256, .f32⟩
  | 31 => ⟨S16384x128, .f32⟩
  | 32 => ⟨S16384x32, .f32⟩
  | 33 => ⟨S16384x1024, .f32⟩
  | 34 => ⟨S16384x512, .f32⟩
  | 35 => ⟨S16384x512, .f32⟩
  | 36 => ⟨S16384x4, .f32⟩
  | 37 => ⟨S16384x4, .f32⟩
  | 38 => ⟨S16384x256, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x1, .f32⟩
  | 49 => ⟨S16384x256, .f32⟩
  | 50 => ⟨S16384x256, .f32⟩
  | 51 => ⟨S1x256, .f32⟩
  | 52 => ⟨S16384x256, .f32⟩
  | 53 => ⟨S16384x256, .f32⟩
  | 54 => ⟨S16384x768, .f32⟩
  | 55 => ⟨S16384x8x96, .f32⟩
  | 56 => ⟨S16384x8x64, .f32⟩
  | 57 => ⟨S16384x8x64, .f32⟩
  | 58 => ⟨S_, .f32⟩
  | 59 => ⟨S16384x8, .f32⟩
  | 60 => ⟨S16384x8x1, .f32⟩
  | 61 => ⟨S_, .f32⟩
  | 62 => ⟨S16384x8x1, .f32⟩
  | 63 => ⟨S16384x8x1, .f32⟩
  | 64 => ⟨S_, .f32⟩
  | 65 => ⟨S16384x8x1, .f32⟩
  | 66 => ⟨S16384x8x1, .f32⟩
  | 67 => ⟨S16384x8x1, .f32⟩
  | 68 => ⟨S16384x8x64, .f32⟩
  | 69 => ⟨S16384x8x64, .f32⟩
  | 70 => ⟨S1x1x64, .f32⟩
  | 71 => ⟨S16384x8x64, .f32⟩
  | 72 => ⟨S16384x8x64, .f32⟩
  | 73 => ⟨S16384x8x32, .f32⟩
  | 74 => ⟨S16384x8x32, .f32⟩
  | 75 => ⟨S_, .f32⟩
  | 76 => ⟨S16384x8, .f32⟩
  | 77 => ⟨S16384x8x1, .f32⟩
  | 78 => ⟨S_, .f32⟩
  | 79 => ⟨S16384x8x1, .f32⟩
  | 80 => ⟨S16384x8x1, .f32⟩
  | 81 => ⟨S_, .f32⟩
  | 82 => ⟨S16384x8x1, .f32⟩
  | 83 => ⟨S16384x8x1, .f32⟩
  | 84 => ⟨S16384x8x1, .f32⟩
  | 85 => ⟨S16384x8x32, .f32⟩
  | 86 => ⟨S16384x8x32, .f32⟩
  | 87 => ⟨S1x1x32, .f32⟩
  | 88 => ⟨S16384x8x32, .f32⟩
  | 89 => ⟨S16384x8x32, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S16384, .f32⟩
  | 99 => ⟨S16384x1, .f32⟩
  | 100 => ⟨S1x16, .f32⟩
  | 101 => ⟨S16384x16, .f32⟩
  | 102 => ⟨S16384x16, .f32⟩
  | 103 => ⟨S16384x16, .f32⟩
  | 104 => ⟨S16384x16, .f32⟩
  | 105 => ⟨S16384x1x16, .f32⟩
  | 106 => ⟨S16384x16, .f32⟩
  | 107 => ⟨S16384x1x16, .f32⟩
  | 108 => ⟨S16384x8x16, .f32⟩
  | 109 => ⟨S16384x8x16, .f32⟩
  | 110 => ⟨S16384x8x16, .f32⟩
  | 111 => ⟨S16384x8x16, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x16, .f32⟩
  | 120 => ⟨S16384x8x32, .f32⟩
  | 121 => ⟨S16384x128, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x128, .f32⟩
  | 5 => ⟨S16384x128, .f32⟩
  | 6 => ⟨S1x128, .f32⟩
  | 7 => ⟨S16384x128, .f32⟩
  | 8 => ⟨S16384x128, .f32⟩
  | 9 => ⟨S16384x32, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x32, .f32⟩
  | 21 => ⟨S16384x32, .f32⟩
  | 22 => ⟨S1x32, .f32⟩
  | 23 => ⟨S16384x32, .f32⟩
  | 24 => ⟨S16384x32, .f32⟩
  | 25 => ⟨S16384x1x32, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S16384, .f32⟩
  | 35 => ⟨S16384x1, .f32⟩
  | 36 => ⟨S1x16, .f32⟩
  | 37 => ⟨S16384x16, .f32⟩
  | 38 => ⟨S16384x16, .f32⟩
  | 39 => ⟨S16384x16, .f32⟩
  | 40 => ⟨S16384x16, .f32⟩
  | 41 => ⟨S16384x1x16, .f32⟩
  | 42 => ⟨S16384x16, .f32⟩
  | 43 => ⟨S16384x1x16, .f32⟩
  | 44 => ⟨S16384x1x16, .f32⟩
  | 45 => ⟨S16384x1x16, .f32⟩
  | 46 => ⟨S16384x1x16, .f32⟩
  | 47 => ⟨S16384x1x16, .f32⟩
  | 48 => ⟨S16384x1x16, .f32⟩
  | 49 => ⟨S16384x1x16, .f32⟩
  | 50 => ⟨S16384x1x16, .f32⟩
  | 51 => ⟨S16384x1x16, .f32⟩
  | 52 => ⟨S16384x1x32, .f32⟩
  | 53 => ⟨S16384x32, .f32⟩
  | 54 => ⟨S16384x512, .f32⟩
  | 55 => ⟨S16384x8x64, .f32⟩
  | 56 => ⟨S16384x8x64, .f32⟩
  | 57 => ⟨S_, .f32⟩
  | 58 => ⟨S16384x8, .f32⟩
  | 59 => ⟨S16384x8x1, .f32⟩
  | 60 => ⟨S_, .f32⟩
  | 61 => ⟨S16384x8x1, .f32⟩
  | 62 => ⟨S16384x8x1, .f32⟩
  | 63 => ⟨S_, .f32⟩
  | 64 => ⟨S16384x8x1, .f32⟩
  | 65 => ⟨S16384x8x1, .f32⟩
  | 66 => ⟨S16384x8x1, .f32⟩
  | 67 => ⟨S16384x8x64, .f32⟩
  | 68 => ⟨S16384x8x64, .f32⟩
  | 69 => ⟨S1x1x64, .f32⟩
  | 70 => ⟨S16384x8x64, .f32⟩
  | 71 => ⟨S16384x8x64, .f32⟩
  | 72 => ⟨S16384x1x32, .f32⟩
  | 73 => ⟨S16384x8x32, .f32⟩
  | 74 => ⟨S16384x512, .f32⟩
  | 75 => ⟨S_, .f32⟩
  | 76 => ⟨S16384x8x32, .f32⟩
  | 77 => ⟨S16384x8x128, .f32⟩
  | 78 => ⟨S16384x1024, .f32⟩
  | 79 => ⟨S16384x8x128, .f32⟩
  | 80 => ⟨S16384x1024, .f32⟩
  | 81 => ⟨S16384x16, .f32⟩
  | 82 => ⟨S16384x16, .f32⟩
  | 83 => ⟨S_, .f32⟩
  | 84 => ⟨S16384x56, .f32⟩
  | 85 => ⟨S16384x128, .f32⟩
  | 86 => ⟨S16384x1024, .bf16⟩
  | 87 => ⟨S16384x1024, .bf16⟩
  | 88 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_cst_15 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_16 : Ref sig .tc := ⟨.hbm, 138, rfl⟩
abbrev main_v109 : Ref sig .tc := ⟨.hbm, 139, rfl⟩
abbrev main_v110 : Ref sig .tc := ⟨.hbm, 140, rfl⟩
abbrev main_cst_17 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_19 : Ref sig .tc := ⟨.hbm, 156, rfl⟩
abbrev main_v124 : Ref sig .tc := ⟨.hbm, 157, rfl⟩
abbrev main_v125 : Ref sig .tc := ⟨.hbm, 158, rfl⟩
abbrev main_cst_20 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_21 : Ref sig .tc := ⟨.hbm, 185, rfl⟩
abbrev main_v151 : Ref sig .tc := ⟨.hbm, 186, rfl⟩
abbrev main_v152 : Ref sig .tc := ⟨.hbm, 187, rfl⟩
abbrev main_cst_22 : Ref sig .tc := ⟨.hbm, 188, rfl⟩
abbrev main_v153 : Ref sig .tc := ⟨.hbm, 189, rfl⟩
abbrev main_v154 : Ref sig .tc := ⟨.hbm, 190, rfl⟩
abbrev main_cst_23 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_24 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_25 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩

abbrev nD : Nat := 1
abbrev τ : Topo := Topo.v7x

variable {F : FTy → Type} [FloatOps F]
-- ==== Kernel4.lean ====
abbrev S512x1024 : Shape := ⟨2, ![512, 1024]⟩
abbrev S512x512 : Shape := ⟨2, ![512, 512]⟩
abbrev S512x128 : Shape := ⟨2, ![512, 128]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S_ : Shape := ⟨0, ![]⟩
abbrev S64 : Shape := ⟨1, ![64]⟩
abbrev S56 : Shape := ⟨1, ![56]⟩
abbrev S128 : Shape := ⟨1, ![128]⟩
abbrev S1x1024 : Shape := ⟨2, ![1, 1024]⟩
abbrev S1x128 : Shape := ⟨2, ![1, 128]⟩
abbrev S1x512 : Shape := ⟨2, ![1, 512]⟩
abbrev S32x1x4 : Shape := ⟨3, ![32, 1, 4]⟩
abbrev S16x1024 : Shape := ⟨2, ![16, 1024]⟩
abbrev S16x512 : Shape := ⟨2, ![16, 512]⟩
abbrev S16x128 : Shape := ⟨2, ![16, 128]⟩
abbrev S1x3x1024 : Shape := ⟨3, ![1, 3, 1024]⟩
abbrev S1x4x128x128 : Shape := ⟨4, ![1, 4, 128, 128]⟩
abbrev S1x4x128 : Shape := ⟨3, ![1, 4, 128]⟩
abbrev S1x1x4 : Shape := ⟨3, ![1, 1, 4]⟩
abbrev S24x1024 : Shape := ⟨2, ![24, 1024]⟩
abbrev S4x128x128 : Shape := ⟨3, ![4, 128, 128]⟩
abbrev S4x128 : Shape := ⟨2, ![4, 128]⟩
abbrev S1x4 : Shape := ⟨2, ![1, 4]⟩
abbrev S3x1024 : Shape := ⟨2, ![3, 1024]⟩
abbrev S16x16 : Shape := ⟨2, ![16, 16]⟩
abbrev S112x128 : Shape := ⟨2, ![112, 128]⟩
abbrev S128x128 : Shape := ⟨2, ![128, 128]⟩
abbrev S16x1 : Shape := ⟨2, ![16, 1]⟩
abbrev S1x16 : Shape := ⟨2, ![1, 16]⟩
abbrev S1x1 : Shape := ⟨2, ![1, 1]⟩
abbrev S16 : Shape := ⟨1, ![16]⟩
abbrev S1x128x128 : Shape := ⟨3, ![1, 128, 128]⟩

abbrev nBuf : Space → Nat
  | .hbm => 27
  | .vmem => 34
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S512x128, .f32⟩
  | .hbm, ⟨4, _⟩ => ⟨S32x3x1024, .f32⟩
  | .hbm, ⟨5, _⟩ => ⟨S32x4x128x128, .f32⟩
  | .hbm, ⟨6, _⟩ => ⟨S32x4x128, .f32⟩
  | .hbm, ⟨7, _⟩ => ⟨S32x4, .f32⟩
  | .hbm, ⟨8, _⟩ => ⟨S4x1024, .f32⟩
  | .hbm, ⟨9, _⟩ => ⟨S1024, .f32⟩
  | .hbm, ⟨10, _⟩ => ⟨S4, .f32⟩
  | .hbm, ⟨11, _⟩ => ⟨S4, .f32⟩
  | .hbm, ⟨12, _⟩ => ⟨S512, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S56, .f32⟩
  | .hbm, ⟨17, _⟩ => ⟨S128, .f32⟩
  | .hbm, ⟨18, _⟩ => ⟨S1x1024, .f32⟩
  | .hbm, ⟨19, _⟩ => ⟨S1x128, .f32⟩
  | .hbm, ⟨20, _⟩ => ⟨S1x512, .f32⟩
  | .hbm, ⟨21, _⟩ => ⟨S32x1x4, .f32⟩
  | .hbm, ⟨22, _⟩ => ⟨S512x512, .bf16⟩
  | .hbm, ⟨23, _⟩ => ⟨S32x3x1024, .f32⟩
  | .hbm, ⟨24, _⟩ => ⟨S32x4x128x128, .f32⟩
  | .hbm, ⟨25, _⟩ => ⟨S32x4x128, .f32⟩
  | .hbm, ⟨26, _⟩ => ⟨S32x1x4, .f32⟩
  | .local _ .vmem, ⟨0, _⟩ => ⟨S16x1024, .f32⟩
  | .local _ .vmem, ⟨1, _⟩ => ⟨S16x1024, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x128, .f32⟩
  | .local _ .vmem, ⟨7, _⟩ => ⟨S16x128, .f32⟩
  | .local _ .vmem, ⟨8, _⟩ => ⟨S1x3x1024, .f32⟩
  | .local _ .vmem, ⟨9, _⟩ => ⟨S1x3x1024, .f32⟩
  | .local _ .vmem, ⟨10, _⟩ => ⟨S1x4x128x128, .f32⟩
  | .local _ .vmem, ⟨11, _⟩ => ⟨S1x4x128x128, .f32⟩
  | .local _ .vmem, ⟨12, _⟩ => ⟨S1x4x128, .f32⟩
  | .local _ .vmem, ⟨13, _⟩ => ⟨S1x4x128, .f32⟩
  | .local _ .vmem, ⟨14, _⟩ => ⟨S1x1x4, .f32⟩
  | .local _ .vmem, ⟨15, _⟩ => ⟨S1x1x4, .f32⟩
  | .local _ .vmem, ⟨16, _⟩ => ⟨S4x1024, .f32⟩
  | .local _ .vmem, ⟨17, _⟩ => ⟨S1x1024, .f32⟩
  | .local _ .vmem, ⟨18, _⟩ => ⟨S1x128, .f32⟩
  | .local _ .vmem, ⟨19, _⟩ => ⟨S1x512, .f32⟩
  | .local _ .vmem, ⟨20, _⟩ => ⟨S16x512, .bf16⟩
  | .local _ .vmem, ⟨21, _⟩ => ⟨S16x512, .bf16⟩
  | .local _ .vmem, ⟨22, _⟩ => ⟨S1x3x1024, .f32⟩
  | .local _ .vmem, ⟨23, _⟩ => ⟨S1x3x1024, .f32⟩
  | .local _ .vmem, ⟨24, _⟩ => ⟨S1x4x128x128, .f32⟩
  | .local _ .vmem, ⟨25, _⟩ => ⟨S1x4x128x128, .f32⟩
  | .local _ .vmem, ⟨26, _⟩ => ⟨S1x4x128, .f32⟩
  | .local _ .vmem, ⟨27, _⟩ => ⟨S1x4x128, .f32⟩
  | .local _ .vmem, ⟨28, _⟩ => ⟨S1x1x4, .f32⟩
  | .local _ .vmem, ⟨29, _⟩ => ⟨S1x1x4, .f32⟩
  | .local _ .vmem, ⟨30, _⟩ => ⟨S24x1024, .f32⟩
  | .local _ .vmem, ⟨31, _⟩ => ⟨S4x128x128, .f32⟩
  | .local _ .vmem, ⟨32, _⟩ => ⟨S4x128, .f32⟩
  | .local _ .vmem, ⟨33, _⟩ => ⟨S1x4, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_164 : BitVec 32 := 0#32
  let v515 : BitVec 1 := Scalar.cmpi .eq arg1 c0_i32_164
  let v516 : BitVec 32 := Scalar.extui v515
  let c0_i32_165 : BitVec 32 := 0#32
  let v517 : BitVec 1 := Scalar.cmpi .ne v516 c0_i32_165
  v517

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference4Ideal.lean ====
abbrev S512x1024 : Shape := ⟨2, ![512, 1024]⟩
abbrev S512x512 : Shape := ⟨2, ![512, 512]⟩
abbrev S512x128 : Shape := ⟨2, ![512, 128]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S4x1024 : Shape := ⟨2, ![4, 1024]⟩
abbrev S1024 : Shape := ⟨1, ![1024]⟩
abbrev S4 : Shape := ⟨1, ![4]⟩
abbrev S512 : Shape := ⟨1, ![512]⟩
abbrev S32x16x1024 : Shape := ⟨3, ![32, 16, 1024]⟩
abbrev S32x19x1024 : Shape := ⟨3, ![32, 19, 1024]⟩
abbrev S1x1024 : Shape := ⟨2, ![1, 1024]⟩
abbrev S1x1x1024 : Shape := ⟨3, ![1, 1, 1024]⟩
abbrev S_ : Shape := ⟨0, ![]⟩
abbrev S32x16x2x4x128 : Shape := ⟨5, ![32, 16, 2, 4, 128]⟩
abbrev S32x16x1x4x128 : Shape := ⟨5, ![32, 16, 1, 4, 128]⟩
abbrev S32x16x4x128 : Shape := ⟨4, ![32, 16, 4, 128]⟩
abbrev S512x4 : Shape := ⟨2, ![512, 4]⟩
abbrev S32x16x4 : Shape := ⟨3, ![32, 16, 4]⟩
abbrev S1x1x4 : Shape := ⟨3, ![1, 1, 4]⟩
abbrev S32x16x1x4 : Shape := ⟨4, ![32, 16, 1, 4]⟩
abbrev S32x1x16x4 : Shape := ⟨4, ![32, 1, 16, 4]⟩
abbrev S32x16x16x4 : Shape := ⟨4, ![32, 16, 16, 4]⟩
abbrev S16x16 : Shape := ⟨2, ![16, 16]⟩
abbrev S1x16x16x1 : Shape := ⟨4, ![1, 16, 16, 1]⟩
abbrev S32x1x4 : Shape := ⟨3, ![32, 1, 4]⟩
abbrev S32x4x16x16 : Shape := ⟨4, ![32, 4, 16, 16]⟩
abbrev S32x4x128x16 : Shape := ⟨4, ![32, 4, 128, 16]⟩
abbrev S32x16x4x1 : Shape := ⟨4, ![32, 16, 4, 1]⟩
abbrev S32x4x16x128 : Shape := ⟨4, ![32, 4, 16, 128]⟩
abbrev S32x4x16 : Shape := ⟨3, ![32, 4, 16]⟩
abbrev S32x4x1x1 : Shape := ⟨4, ![32, 4, 1, 1]⟩
abbrev S32x4x1 : Shape := ⟨3, ![32, 4, 1]⟩
abbrev S4x128 : Shape := ⟨2, ![4, 128]⟩
abbrev S1x1x4x128 : Shape := ⟨4, ![1, 1, 4, 128]⟩

abbrev nBuf : Space → Nat
  | .hbm => 211
  | .vmem => 0
  | .smem => 0
  | _ => 0

abbrev hbmTy0_0 (i : Nat) : BufTy := match i % 128 with
  | 0 => ⟨S512x1024, .f32⟩
  | 1 => ⟨S512x512, .f32⟩
  | 2 => ⟨S512x512, .f32⟩
  | 3 => ⟨S512x128, .f32⟩
  | 4 => ⟨S32x3x1024, .f32⟩
  | 5 => ⟨S32x4x128x128, .f32⟩
  | 6 => ⟨S32x4x128, .f32⟩
  | 7 => ⟨S32x4, .f32⟩
  | 8 => ⟨S4x1024, .f32⟩
  | 9 => ⟨S1024, .f32⟩
  | 10 => ⟨S4, .f32⟩
  | 11 => ⟨S4, .f32⟩
  | 12 => ⟨S512, .f32⟩
  | 13 => ⟨S32x16x1024, .f32⟩
  | 14 => ⟨S32x19x1024, .f32⟩
  | 15 => ⟨S32x16x1024, .f32⟩
  | 16 => ⟨S1x1024, .f32⟩
  | 17 => ⟨S1024, .f32⟩
  | 18 => ⟨S1x1x1024, .f32⟩
  | 19 => ⟨S32x16x1024, .f32⟩
  | 20 => ⟨S32x16x1024, .f32⟩
  | 21 => ⟨S1x1x1024, .f32⟩
  | 22 => ⟨S32x16x1024, .f32⟩
  | 23 => ⟨S32x16x1024, .f32⟩
  | 24 => ⟨S32x16x1024, .f32⟩
  | 25 => ⟨S1x1024, .f32⟩
  | 26 => ⟨S1024, .f32⟩
  | 27 => ⟨S1x1x1024, .f32⟩
  | 28 => ⟨S32x16x1024, .f32⟩
  | 29 => ⟨S32x16x1024, .f32⟩
  | 30 => ⟨S32x16x1024, .f32⟩
  | 31 => ⟨S32x16x1024, .f32⟩
  | 32 => ⟨S1x1024, .f32⟩
  | 33 => ⟨S1024, .f32⟩
  | 34 => ⟨S1x1x1024, .f32⟩
  | 35 => ⟨S32x16x1024, .f32⟩
  | 36 => ⟨S32x16x1024, .f32⟩
  | 37 => ⟨S32x16x1024, .f32⟩
  | 38 => ⟨S32x16x1024, .f32⟩
  | 39 => ⟨S1x1024, .f32⟩
  | 40 => ⟨S1024, .f32⟩
  | 41 => ⟨S1x1x1024, .f32⟩
  | 42 => ⟨S32x16x1024, .f32⟩
  | 43 => ⟨S32x16x1024, .f32⟩
  | 44 => ⟨S32x16x1024, .f32⟩
  | 45 => ⟨S32x16x1024, .f32⟩
  | 46 => ⟨S32x16x1024, .f32⟩
  | 47 => ⟨S_, .f32⟩
  | 48 => ⟨S32x16x1024, .f32⟩
  | 49 => ⟨S32x16x1024, .f32⟩
  | 50 => ⟨S_, .f32⟩
  | 51 => ⟨S32x16x1024, .f32⟩
  | 52 => ⟨S32x16x1024, .f32⟩
  | 53 => ⟨S32x16x1024, .f32⟩
  | 54 => ⟨S32x3x1024, .f32⟩
  | 55 => ⟨S32x16x2x4x128, .f32⟩
  | 56 => ⟨S32x16x1x4x128, .f32⟩
  | 57 => ⟨S32x16x4x128, .f32⟩
  | 58 => ⟨S32x16x1x4x128, .f32⟩
  | 59 => ⟨S32x16x4x128, .f32⟩
  | 60 => ⟨S_, .f32⟩
  | 61 => ⟨S32x16x4x128, .f32⟩
  | 62 => ⟨S32x16x4x128, .f32⟩
  | 63 => ⟨S32x16x4x128, .f32⟩
  | 64 => ⟨S512x4, .f32⟩
  | 65 => ⟨S32x16x4, .f32⟩
  | 66 => ⟨S1x1x4, .f32⟩
  | 67 => ⟨S32x16x4, .f32⟩
  | 68 => ⟨S32x16x4, .f32⟩
  | 69 => ⟨S512x4, .f32⟩
  | 70 => ⟨S32x16x4, .f32⟩
  | 71 => ⟨S1x1x4, .f32⟩
  | 72 => ⟨S32x16x4, .f32⟩
  | 73 => ⟨S32x16x4, .f32⟩
  | 74 => ⟨S32x16x4, .f32⟩
  | 75 => ⟨S_, .f32⟩
  | 76 => ⟨S32x16x4, .f32⟩
  | 77 => ⟨S32x16x4, .f32⟩
  | 78 => ⟨S32x16x4, .f32⟩
  | 79 => ⟨S32x16x4, .f32⟩
  | 80 => ⟨S32x16x4, .i1⟩
  | 81 => ⟨S32x16x4, .f32⟩
  | 82 => ⟨S32x16x4, .f32⟩
  | 83 => ⟨S32x16x4, .f32⟩
  | 84 => ⟨S32x16x4, .f32⟩
  | 85 => ⟨S32x16x4, .f32⟩
  | 86 => ⟨S32x16x4, .f32⟩
  | 87 => ⟨S32x16x4, .f32⟩
  | 88 => ⟨S32x16x4, .f32⟩
  | 89 => ⟨S32x16x4, .f32⟩
  | 90 => ⟨S_, .f32⟩
  | 91 => ⟨S_, .f32⟩
  | 92 => ⟨S32x16x4, .f32⟩
  | 93 => ⟨S32x16x1x4, .f32⟩
  | 94 => ⟨S32x1x16x4, .f32⟩
  | 95 => ⟨S32x16x16x4, .f32⟩
  | 96 => ⟨S32x16x16x4, .f32⟩
  | 97 => ⟨S32x16x16x4, .f32⟩
  | 98 => ⟨S32x1x16x4, .f32⟩
  | 99 => ⟨S32x16x16x4, .f32⟩
  | 100 => ⟨S32x16x16x4, .f32⟩
  | 101 => ⟨S_, .i1⟩
  | 102 => ⟨S16x16, .i1⟩
  | 103 => ⟨S16x16, .i32⟩
  | 104 => ⟨S_, .i32⟩
  | 105 => ⟨S16x16, .i32⟩
  | 106 => ⟨S16x16, .i32⟩
  | 107 => ⟨S16x16, .i32⟩
  | 108 => ⟨S16x16, .i1⟩
  | 109 => ⟨S_, .i1⟩
  | 110 => ⟨S16x16, .i1⟩
  | 111 => ⟨S16x16, .i1⟩
  | 112 => ⟨S1x16x16x1, .i1⟩
  | 113 => ⟨S_, .f32⟩
  | 114 => ⟨S_, .f32⟩
  | 115 => ⟨S32x16x16x4, .i1⟩
  | 116 => ⟨S32x16x16x4, .f32⟩
  | 117 => ⟨S32x16x16x4, .f32⟩
  | 118 => ⟨S32x1x4, .f32⟩
  | 119 => ⟨S32x16x4, .f32⟩
  | 120 => ⟨S32x16x4, .f32⟩
  | 121 => ⟨S_, .f32⟩
  | 122 => ⟨S32x16x4, .f32⟩
  | 123 => ⟨S32x16x4, .f32⟩
  | 124 => ⟨S32x4x16x16, .f32⟩
  | 125 => ⟨S32x16x16x4, .f32⟩
  | 126 => ⟨S32x16x1x4, .f32⟩
  | 127 => ⟨S32x16x16x4, .f32⟩
  | _ => ⟨S512x1024, .f32⟩

abbrev hbmTy0_1 (i : Nat) : BufTy := match i % 128 with
  | 0 => ⟨S32x16x16x4, .f32⟩
  | 1 => ⟨S32x16x16x4, .f32⟩
  | 2 => ⟨S32x16x16x4, .f32⟩
  | 3 => ⟨S32x16x4, .f32⟩
  | 4 => ⟨S32x16x4, .f32⟩
  | 5 => ⟨S32x4x128x16, .f32⟩
  | 6 => ⟨S32x16x4x128, .f32⟩
  | 7 => ⟨S32x16x4x1, .f32⟩
  | 8 => ⟨S32x4x16x128, .f32⟩
  | 9 => ⟨S32x16x4x128, .f32⟩
  | 10 => ⟨S32x16x4x128, .f32⟩
  | 11 => ⟨S32x16x4x128, .f32⟩
  | 12 => ⟨S32x16x4x128, .f32⟩
  | 13 => ⟨S_, .f32⟩
  | 14 => ⟨S32x16x4, .f32⟩
  | 15 => ⟨S32x4x16, .f32⟩
  | 16 => ⟨S32x16x4, .f32⟩
  | 17 => ⟨S32x16x4, .f32⟩
  | 18 => ⟨S32x16x4, .f32⟩
  | 19 => ⟨S32x16x4, .f32⟩
  | 20 => ⟨S32x16x4, .f32⟩
  | 21 => ⟨S32x16x4, .f32⟩
  | 22 => ⟨S32x16x4, .f32⟩
  | 23 => ⟨S32x16x4x1, .f32⟩
  | 24 => ⟨S32x16x4x128, .f32⟩
  | 25 => ⟨S32x16x4x128, .f32⟩
  | 26 => ⟨S32x1x4, .f32⟩
  | 27 => ⟨S32x4, .f32⟩
  | 28 => ⟨S32x1x4, .f32⟩
  | 29 => ⟨S32x4, .f32⟩
  | 30 => ⟨S32x4, .f32⟩
  | 31 => ⟨S32x4, .f32⟩
  | 32 => ⟨S32x4, .f32⟩
  | 33 => ⟨S32x1x4, .f32⟩
  | 34 => ⟨S32x16x4, .f32⟩
  | 35 => ⟨S32x16x4, .f32⟩
  | 36 => ⟨S32x16x4, .f32⟩
  | 37 => ⟨S32x1x4, .f32⟩
  | 38 => ⟨S32x16x4, .f32⟩
  | 39 => ⟨S32x16x4, .f32⟩
  | 40 => ⟨S32x16x4, .f32⟩
  | 41 => ⟨S32x4x1x1, .f32⟩
  | 42 => ⟨S32x4x128x128, .f32⟩
  | 43 => ⟨S32x4x128x128, .f32⟩
  | 44 => ⟨S32x16x4x1, .f32⟩
  | 45 => ⟨S32x16x4x128, .f32⟩
  | 46 => ⟨S32x16x4x128, .f32⟩
  | 47 => ⟨S32x4x128x128, .f32⟩
  | 48 => ⟨S32x4x128x128, .f32⟩
  | 49 => ⟨S32x4x1, .f32⟩
  | 50 => ⟨S32x4x128, .f32⟩
  | 51 => ⟨S32x4x128, .f32⟩
  | 52 => ⟨S32x4x128, .f32⟩
  | 53 => ⟨S32x4x128, .f32⟩
  | 54 => ⟨S4x128, .f32⟩
  | 55 => ⟨S32x16x4x128, .f32⟩
  | 56 => ⟨S_, .f32⟩
  | 57 => ⟨S32x16x4, .f32⟩
  | 58 => ⟨S32x16x4x1, .f32⟩
  | 59 => ⟨S_, .f32⟩
  | 60 => ⟨S32x16x4x1, .f32⟩
  | 61 => ⟨S32x16x4x1, .f32⟩
  | 62 => ⟨S_, .f32⟩
  | 63 => ⟨S32x16x4x1, .f32⟩
  | 64 => ⟨S32x16x4x1, .f32⟩
  | 65 => ⟨S32x16x4x1, .f32⟩
  | 66 => ⟨S32x16x4x128, .f32⟩
  | 67 => ⟨S32x16x4x128, .f32⟩
  | 68 => ⟨S1x1x4x128, .f32⟩
  | 69 => ⟨S32x16x4x128, .f32⟩
  | 70 => ⟨S32x16x4x128, .f32⟩
  | 71 => ⟨S512x512, .f32⟩
  | 72 => ⟨S512x512, .f32⟩
  | 73 => ⟨S512x512, .f32⟩
  | 74 => ⟨S_, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S512x512, .f32⟩
  | 81 => ⟨S512x512, .bf16⟩
  | 82 => ⟨S32x1x4, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1 : Ref sig .tc := ⟨.hbm, 88, rfl⟩
abbrev main_v52 : Ref sig .tc := ⟨.hbm, 89, rfl⟩
abbrev main_call2_call0_cst : Ref sig .tc := ⟨.hbm, 90, rfl⟩
abbrev main_call2_call0_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c : Ref sig .tc := ⟨.hbm, 101, rfl⟩
abbrev main_v62 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_0 : Ref sig .tc := ⟨.hbm, 109, rfl⟩
abbrev main_call3_v5 : Ref sig .tc := ⟨.hbm, 110, rfl⟩
abbrev main_v63 : Ref sig .tc := ⟨.hbm, 111, rfl⟩
abbrev main_v64 : Ref sig .tc := ⟨.hbm, 112, rfl⟩
abbrev main_cst_0 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_1 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_2 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_3 : Ref sig .tc := ⟨.hbm, 184, rfl⟩
abbrev main_v130 : Ref sig .tc := ⟨.hbm, 185, rfl⟩
abbrev main_v131 : Ref sig .tc := ⟨.hbm, 186, rfl⟩
abbrev main_cst_4 : Ref sig .tc := ⟨.hbm, 187, rfl⟩
abbrev main_v132 : Ref sig .tc := ⟨.hbm, 188, rfl⟩
abbrev main_v133 : Ref sig .tc := ⟨.hbm, 189, rfl⟩
abbrev main_cst_5 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_6 : Ref sig .tc := ⟨.hbm, 202, rfl⟩
abbrev main_v145 : Ref sig .tc := ⟨.hbm, 203, rfl⟩
abbrev main_v146 : Ref sig .tc := ⟨.hbm, 204, rfl⟩
abbrev main_cst_7 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩

abbrev nD : Nat := 1
abbrev τ : Topo := Topo.v7x

variable {F : FTy → Type} [FloatOps F]
-- ==== Proof.RowMath.lean ====
/- One row of attention over the extended reals: the running form (a maximum, a sum of exponentials and a weighted
   sum, each rescaled when the maximum grows) against the plain form (one maximum over all keys, then the quotients). -/
module

public import Idealize.ShloMosaic.Lib.Pointwise
public import Idealize.ShloMosaic.PureOps.Ideal

@[expose] public section

noncomputable section

namespace Cert.Attn

open Idealize.ShloMosaic

/-- A finite, nonnegative factor distributes over a finite sum of extended reals. -/
theorem mul_sum_of_nonneg {ι : Type*} (a : EReal) (h0 : 0 ≤ a) (ht : a ≠ ⊤) (f : ι → EReal) (S : Finset ι) :
    a * ∑ i ∈ S, f i = ∑ i ∈ S, a * f i := by
  classical
  induction S using Finset.induction_on with
  | empty => simp
  | insert x S hx ih =>
    rw [Finset.sum_insert hx, Finset.sum_insert hx, EReal.left_distrib_of_nonneg_of_ne_top h0 ht, ih]

/-- The exponential is nowhere negative. -/
theorem exp_nonneg (x : EReal) : 0 ≤ Ideal.exp x := by
  induction x using EReal.rec with
  | bot => simp
  | top => simp
  | coe r => rw [Ideal.exp_coe]; exact_mod_cast (Real.exp_pos r).le

/-- The exponential of anything below `⊤` is finite. -/
theorem exp_ne_top {x : EReal} (hx : x ≠ ⊤) : Ideal.exp x ≠ ⊤ := by
  induction x using EReal.rec with
  | bot => simp
  | top => exact absurd rfl hx
  | coe r => rw [Ideal.exp_coe]; exact EReal.coe_ne_top _

/-- The exponential of a real is positive. -/
theorem exp_pos {x : EReal} (hb : x ≠ ⊥) : 0 < Ideal.exp x := by
  induction x using EReal.rec with
  | bot => exact absurd rfl hb
  | top => simp
  | coe r => rw [Ideal.exp_coe]; exact_mod_cast Real.exp_pos r

/-- A difference whose left side is below `⊤` and whose right side is not `⊥` is below `⊤`. -/
theorem sub_ne_top {x m : EReal} (hx : x ≠ ⊤) (h : x ≤ m) : x - m ≠ ⊤ := by
  induction x using EReal.rec with
  | bot => rw [EReal.bot_sub]; exact bot_ne_top
  | top => exact absurd rfl hx
  | coe r =>
    induction m using EReal.rec with
    | bot => exact absurd (le_bot_iff.mp h) (EReal.coe_ne_bot r)
    | top => rw [EReal.sub_top]; exact bot_ne_top
    | coe q => rw [← EReal.coe_sub]; exact EReal.coe_ne_top _

/-- Rescaling from one maximum to a greater one: `exp (m - m') * exp (x - m) = exp (x - m')`. -/
theorem exp_shift {x m m' : EReal} (hx : x ≤ m) (hm : m ≤ m') (ht : m' ≠ ⊤) :
    Ideal.exp (m - m') * Ideal.exp (x - m) = Ideal.exp (x - m') := by
  induction x using EReal.rec with
  | bot => rw [EReal.bot_sub, EReal.bot_sub, Ideal.exp_bot, mul_zero]
  | top =>
    have h1 : m = ⊤ := top_le_iff.mp hx
    subst h1
    exact absurd (top_le_iff.mp hm) ht
  | coe r =>
    induction m using EReal.rec with
    | bot => exact absurd (le_bot_iff.mp hx) (EReal.coe_ne_bot r)
    | top => exact absurd (top_le_iff.mp hm) ht
    | coe q =>
      induction m' using EReal.rec with
      | bot => exact absurd (le_bot_iff.mp hm) (EReal.coe_ne_bot q)
      | top => exact absurd rfl ht
      | coe p =>
        rw [← EReal.coe_sub, ← EReal.coe_sub, ← EReal.coe_sub, Ideal.exp_coe, Ideal.exp_coe, Ideal.exp_coe,
          ← EReal.coe_mul, ← Real.exp_add]
        congr 2
        ring

/-- The greatest of finitely many extended reals (`⊥` for none). -/
def top {n : ℕ} (s : Fin n → EReal) : EReal := Finset.univ.fold max ⊥ s

theorem le_top {n : ℕ} (s : Fin n → EReal) (t : Fin n) : s t ≤ top s :=
  Finset.le_fold_max (s t) |>.mpr (Or.inr ⟨t, Finset.mem_univ t, le_rfl⟩)

theorem top_le {n : ℕ} (s : Fin n → EReal) (b : EReal) (h : ∀ t, s t ≤ b) : top s ≤ b :=
  Finset.fold_max_le b |>.mpr ⟨bot_le, fun t _ => h t⟩

theorem top_lt {n : ℕ} (s : Fin n → EReal) (b : EReal) (hb : ⊥ < b) (h : ∀ t, s t < b) : top s < b :=
  Finset.fold_max_lt b |>.mpr ⟨hb, fun t _ => h t⟩

variable (s w : ℕ → Fin 256 → EReal)

/-- The running maximum after the first tiles of scores. -/
def rowM : ℕ → EReal
  | 0 => ⊥
  | k + 1 => max (rowM k) (top (s k))

/-- The running sum of exponentials after the first tiles, rescaled at each tile to the new maximum. -/
def rowL : ℕ → EReal
  | 0 => 0
  | k + 1 => Ideal.exp (rowM s k - rowM s (k + 1)) * rowL k + ∑ t, Ideal.exp (s k t - rowM s (k + 1))

/-- The running weighted sum after the first tiles, rescaled at each tile to the new maximum. -/
def rowA : ℕ → EReal
  | 0 => 0
  | k + 1 => Ideal.exp (rowM s k - rowM s (k + 1)) * rowA k + ∑ t, Ideal.exp (s k t - rowM s (k + 1)) * w k t

theorem rowM_le_succ (k : ℕ) : rowM s k ≤ rowM s (k + 1) := le_max_left _ _

theorem le_rowM (k : ℕ) : ∀ i < k, ∀ t, s i t ≤ rowM s k := by
  induction k with
  | zero => intro i hi; omega
  | succ k ih =>
    intro i hi t
    rcases Nat.lt_succ_iff_lt_or_eq.mp hi with h | h
    · exact (ih i h t).trans (rowM_le_succ s k)
    · subst h; exact (le_top (s i) t).trans (le_max_right _ _)

theorem rowM_le (k : ℕ) (b : EReal) (h : ∀ i < k, ∀ t, s i t ≤ b) : rowM s k ≤ b := by
  induction k with
  | zero => exact bot_le
  | succ k ih =>
    exact max_le (ih fun i hi => h i (by omega)) (top_le _ _ (h k (by omega)))

theorem rowM_ne_top (hs : ∀ i t, s i t ≠ ⊤) (k : ℕ) : rowM s k ≠ ⊤ := by
  induction k with
  | zero => exact bot_ne_top
  | succ k ih =>
    exact ne_of_lt (max_lt (lt_top_iff_ne_top.mpr ih) (top_lt _ _ bot_lt_top fun t => lt_top_iff_ne_top.mpr (hs k t)))

/-- The rescaling factor is nonnegative and finite. -/
theorem scale_ne_top (hs : ∀ i t, s i t ≠ ⊤) (k : ℕ) : Ideal.exp (rowM s k - rowM s (k + 1)) ≠ ⊤ :=
  exp_ne_top (sub_ne_top (rowM_ne_top s hs k) (rowM_le_succ s k))

/-- The running weighted sum is the sum over the tiles seen, every exponential taken at the latest maximum. -/
theorem rowA_eq (hs : ∀ i t, s i t ≠ ⊤) (k : ℕ) :
    rowA s w k = ∑ i ∈ Finset.range k, ∑ t, Ideal.exp (s i t - rowM s k) * w i t := by
  induction k with
  | zero => rfl
  | succ k ih =>
    rw [Finset.sum_range_succ, rowA, ih, mul_sum_of_nonneg _ (exp_nonneg _) (scale_ne_top s hs k)]
    congr 1
    refine Finset.sum_congr rfl fun i hi => ?_
    rw [mul_sum_of_nonneg _ (exp_nonneg _) (scale_ne_top s hs k)]
    refine Finset.sum_congr rfl fun t _ => ?_
    rw [← mul_assoc, exp_shift (le_rowM s k i (Finset.mem_range.mp hi) t) (rowM_le_succ s k) (rowM_ne_top s hs (k + 1))]

/-- The running sum of exponentials is the sum over the tiles seen, taken at the latest maximum. -/
theorem rowL_eq (hs : ∀ i t, s i t ≠ ⊤) (k : ℕ) :
    rowL s k = ∑ i ∈ Finset.range k, ∑ t, Ideal.exp (s i t - rowM s k) := by
  have h : ∀ k, rowL s k = rowA s (fun _ _ => 1) k := by
    intro k
    induction k with
    | zero => rfl
    | succ k ih => rw [rowL, rowA, ih]; simp only [mul_one]
  rw [h, rowA_eq s _ hs]
  simp only [mul_one]

/-- Tile `i` of a row of 16384 keys, 256 at a time (`⊥` past the end). -/
def tiles (S : Fin 16384 → EReal) (i : ℕ) (t : Fin 256) : EReal :=
  if h : i * 256 + t.val < 16384 then S ⟨i * 256 + t.val, h⟩ else ⊥

theorem tiles_apply (S : Fin 16384 → EReal) (i : ℕ) (t : Fin 256) (h : i * 256 + t.val < 16384) :
    tiles S i t = S ⟨i * 256 + t.val, h⟩ := dif_pos h

/-- A sum over the keys of a row is the sum over its first `n` tiles when nothing later counts. -/
theorem sum_keys (f : Fin 16384 → EReal) (g : ℕ → Fin 256 → EReal) (n : ℕ) (hn : n ≤ 64)
    (hg : ∀ i < n, ∀ (t : Fin 256) (h : i * 256 + t.val < 16384), g i t = f ⟨i * 256 + t.val, h⟩)
    (hf : ∀ k : Fin 16384, n * 256 ≤ k.val → f k = 0) :
    ∑ k, f k = ∑ i ∈ Finset.range n, ∑ t, g i t := by
  rw [Fin.sum_univ_tiles 64 256 rfl f]
  have h1 : ∑ i ∈ Finset.range n, ∑ t, g i t
      = ∑ i ∈ Finset.range 64, if i < n then ∑ t, g i t else 0 := by
    rw [← Finset.sum_filter]
    refine Finset.sum_congr ?_ fun _ _ => rfl
    ext i
    simp only [Finset.mem_range, Finset.mem_filter]
    omega
  rw [h1, Finset.sum_range]
  refine Finset.sum_congr rfl fun i _ => ?_
  split_ifs with hi
  · exact Finset.sum_congr rfl fun t _ => (hg i.val hi t (by omega)).symm
  · refine Finset.sum_eq_zero fun t _ => hf _ ?_
    show n * 256 ≤ i.val * 256 + t.val
    have : n * 256 ≤ i.val * 256 := Nat.mul_le_mul_right _ (by omega)
    omega

/-- THE EQUATION of one row: the running quotient after the first `n` tiles is the plain softmax average over all
keys, when no score is `⊤`, every score from tile `n` on is `⊥` and some score is real. -/
theorem row_eq (S W : Fin 16384 → EReal) (n : ℕ) (hn : n ≤ 64) (hS : ∀ k, S k ≠ ⊤)
    (hlate : ∀ k : Fin 16384, n * 256 ≤ k.val → S k = ⊥) (hvis : ∃ k, S k ≠ ⊥) :
    Ideal.div (rowA (tiles S) (tiles W) n) (rowL (tiles S) n)
      = ∑ k, W k * Ideal.div (Ideal.exp (S k - top S)) (∑ k', Ideal.exp (S k' - top S)) := by
  have hs : ∀ i t, tiles S i t ≠ ⊤ := by
    intro i t
    unfold tiles
    split_ifs
    · exact hS _
    · exact bot_ne_top
  have hM : rowM (tiles S) n = top S := by
    apply le_antisymm
    · refine rowM_le _ _ _ fun i _ t => ?_
      unfold tiles
      split_ifs
      · exact le_top _ _
      · exact bot_le
    · refine top_le _ _ fun k => ?_
      by_cases hk : n * 256 ≤ k.val
      · rw [hlate k hk]; exact bot_le
      · have h1 : k.val / 256 < n := by omega
        have h2 := le_rowM (tiles S) n (k.val / 256) h1 ⟨k.val % 256, by omega⟩
        rw [tiles_apply S _ _ (by show k.val / 256 * 256 + k.val % 256 < 16384; omega)] at h2
        convert h2 using 2
        apply Fin.ext
        show k.val = k.val / 256 * 256 + k.val % 256
        omega
  have hT : top S ≠ ⊤ := hM ▸ rowM_ne_top _ hs n
  obtain ⟨k₀, hk₀⟩ := hvis
  have hexpt : ∀ k, Ideal.exp (S k - top S) ≠ ⊤ := fun k => exp_ne_top (sub_ne_top (hS k) (le_top S k))
  have hL : rowL (tiles S) n = ∑ k', Ideal.exp (S k' - top S) := by
    rw [rowL_eq _ hs, hM]
    refine (sum_keys (fun k => Ideal.exp (S k - top S)) _ n hn ?_ ?_).symm
    · intro i _ t h
      show Ideal.exp (tiles S i t - top S) = _
      rw [tiles_apply S i t h]
    · intro k hk
      show Ideal.exp (S k - top S) = 0
      rw [hlate k hk, EReal.bot_sub, Ideal.exp_bot]
  have hA : rowA (tiles S) (tiles W) n = ∑ k, Ideal.exp (S k - top S) * W k := by
    rw [rowA_eq _ _ hs, hM]
    refine (sum_keys (fun k => Ideal.exp (S k - top S) * W k) _ n hn ?_ ?_).symm
    · intro i _ t h
      show Ideal.exp (tiles S i t - top S) * tiles W i t = _
      rw [tiles_apply S i t h, tiles_apply W i t h]
    · intro k hk
      show Ideal.exp (S k - top S) * W k = 0
      rw [hlate k hk, EReal.bot_sub, Ideal.exp_bot, zero_mul]
  rw [hL, hA]
  -- the sum of exponentials is a positive real
  have hpos : 0 < ∑ k', Ideal.exp (S k' - top S) := by
    have h1 : 0 < Ideal.exp (S k₀ - top S) := by
      apply exp_pos
      intro h
      have h3 := le_top S k₀
      revert h h3 hT hk₀
      generalize hx : S k₀ = x
      have hx' : x ≠ ⊤ := hx ▸ hS k₀
      generalize top S = M
      intro hT hk h hle
      induction x using EReal.rec with
      | bot => exact hk rfl
      | top => exact hx' rfl
      | coe r =>
        induction M using EReal.rec with
        | bot => exact absurd (le_bot_iff.mp hle) (EReal.coe_ne_bot r)
        | top => exact hT rfl
        | coe q => rw [← EReal.coe_sub] at h; exact EReal.coe_ne_bot _ h
    exact lt_of_lt_of_le h1 (Finset.single_le_sum (f := fun k' => Ideal.exp (S k' - top S))
      (fun k _ => exp_nonneg _) (Finset.mem_univ k₀))
  have hfin : ∑ k', Ideal.exp (S k' - top S) ≠ ⊤ := by
    have h1 : ∀ T : Finset (Fin 16384), ∑ k' ∈ T, Ideal.exp (S k' - top S) ≠ ⊤ := by
      classical
      intro T
      induction T using Finset.induction_on with
      | empty => simp
      | insert x T hx ih => rw [Finset.sum_insert hx]; exact EReal.add_ne_top (hexpt x) ih
    exact h1 _
  generalize hZ : ∑ k', Ideal.exp (S k' - top S) = Z at hpos hfin
  induction Z using EReal.rec with
  | bot => exact absurd hpos (by simp)
  | top => exact absurd rfl hfin
  | coe z =>
    have hz : 0 < z := by exact_mod_cast hpos
    rw [Ideal.div_coe hz.ne', mul_comm, mul_sum_of_nonneg _ (by exact_mod_cast (by positivity : (0 : ℝ) ≤ 1 / z)) (EReal.coe_ne_top _)]
    refine Finset.sum_congr rfl fun k _ => ?_
    rw [Ideal.div_coe hz.ne', mul_comm, mul_comm (Ideal.exp _) (W k), mul_assoc]

end Cert.Attn

end
-- ==== Proof.Tile.lean ====
/- What one tile of the attention kernel computes, element by element: the scores of one head's 256 queries against
   256 keys, and the new maximum, sum and weighted sum of a row from the old ones. -/
module

public import proofs.«01_k».proof.Proof.Gen.KernelIdeal.Skeleton
public import proofs.«01_k».proof.Proof.RowMath
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The scale of the scores, as the constant of both programs reads. -/
def scale : EReal := Ideal.ofBits .f32 0x3DD105EC#32

/-- The score of query `r` against key `t` of a tile: the scaled inner product over the head's 128 lanes. -/
def score (q k : Vec Ideal S1x256x128 .bf16) (r t : Fin 256) : EReal :=
  (∑ d : Fin 128, q (ix3 0 r d) * k (ix3 0 t d)) * scale

/-- The pattern of minus infinity denotes `⊥`. -/
theorem ofBits_neg_inf : Ideal.ofBits .f32 0xFF800000#32 = ⊥ := by simp [Ideal.ofBits, Ideal.ieee]

/-- The mask constant of the kernel is named `⊥`. -/
theorem named_mask : (Named.named κ "mask" 0xF149F2CA#32 : Ideal .f32) = ⊥ :=
  IdealRules.named_const.ideal_named_scalar (φ := .f32) κ "mask" 0xF149F2CA#32 ⊥ rfl

/-- The masked score: `⊥` where the key's chunk of 64 lies after the query's. -/
def masked (s : FVec Ideal S256x256 .f32) (r t : Fin 256) : EReal :=
  if t.val / 64 ≤ r.val / 64 then s (ix2 r t) else ⊥

/-! ### first head, loop tile -/

theorem pay3_at (q k : Vec Ideal S1x256x128 .bf16) (r t : Fin 256) : k0_pay3 q k (ix2 r t) = score q k r t := by
  unfold score scale
  pointwise [k0_pay3]

/-- The new maximum of row `r`. -/
theorem pay5_at (q k : Vec Ideal S1x256x128 .bf16) (m : Vec Ideal S1x256x128 .f32) (r : Fin 256) (l : Fin 128) :
    k0_pay5 q k m (ix2 r l) = max (m (ix3 0 r l)) (top (score q k r)) := by
  unfold top
  rw [← ofBits_neg_inf]
  pointwise [k0_pay5, k0_pay4, pay3_at]

/-- The rescaling factor of row `r`. -/
theorem pay6_at (q k : Vec Ideal S1x256x128 .bf16) (m : Vec Ideal S1x256x128 .f32) (r : Fin 256) (l : Fin 128) :
    k0_pay6 q k m (ix2 r l) = Ideal.exp (m (ix3 0 r l) - max (m (ix3 0 r l)) (top (score q k r))) := by
  pointwise [k0_pay6, k0_pay4, pay5_at]

/-- The exponential of row `r` at key `t`, the old maximum being the same in every lane. -/
theorem pay7_at (q k : Vec Ideal S1x256x128 .bf16) (m : Vec Ideal S1x256x128 .f32) (r t : Fin 256) (mr : EReal)
    (hm : ∀ l, m (ix3 0 r l) = mr) :
    k0_pay7 q k m (ix2 r t) = Ideal.exp (score q k r t - max mr (top (score q k r))) := by
  pointwise [k0_pay7, pay5_at, pay3_at, hm]
  first | done | simp only [ite_self, dite_eq_ite]

/-! ### second head, loop tile -/

theorem pay11_at (q k : Vec Ideal S1x256x128 .bf16) (r t : Fin 256) : k0_pay11 q k (ix2 r t) = score q k r t := by
  unfold score scale
  pointwise [k0_pay11]

/-- The new maximum of row `r`. -/
theorem pay13_at (q k : Vec Ideal S1x256x128 .bf16) (m : Vec Ideal S1x256x128 .f32) (r : Fin 256) (l : Fin 128) :
    k0_pay13 q k m (ix2 r l) = max (m (ix3 0 r l)) (top (score q k r)) := by
  unfold top
  rw [← ofBits_neg_inf]
  pointwise [k0_pay13, k0_pay12, pay11_at]

/-- The rescaling factor of row `r`. -/
theorem pay14_at (q k : Vec Ideal S1x256x128 .bf16) (m : Vec Ideal S1x256x128 .f32) (r : Fin 256) (l : Fin 128) :
    k0_pay14 q k m (ix2 r l) = Ideal.exp (m (ix3 0 r l) - max (m (ix3 0 r l)) (top (score q k r))) := by
  pointwise [k0_pay14, k0_pay12, pay13_at]

/-- The exponential of row `r` at key `t`, the old maximum being the same in every lane. -/
theorem pay15_at (q k : Vec Ideal S1x256x128 .bf16) (m : Vec Ideal S1x256x128 .f32) (r t : Fin 256) (mr : EReal)
    (hm : ∀ l, m (ix3 0 r l) = mr) :
    k0_pay15 q k m (ix2 r t) = Ideal.exp (score q k r t - max mr (top (score q k r))) := by
  pointwise [k0_pay15, pay13_at, pay11_at, hm]
  first | done | simp only [ite_self, dite_eq_ite]

/-- The new sum of row `r` (first head, loop tile). -/
theorem pay8_at (q k : Vec Ideal S1x256x128 .bf16) (m l : Vec Ideal S1x256x128 .f32) (r : Fin 256) (c : Fin 128) (mr : EReal)
    (hm : ∀ l, m (ix3 0 r l) = mr) :
    k0_pay8 q k m l (ix3 0 r c) = Ideal.exp (mr - max mr (top (score q k r))) * l (ix3 0 r c)
      + ∑ t, Ideal.exp (score q k r t - max mr (top (score q k r))) := by
  have h6 := pay6_at q k m r c
  have h7 := fun t => pay7_at q k m r t mr hm
  rw [hm] at h6
  pointwise [k0_pay8, h6, h7]

/-- The new sum of row `r` (second head, loop tile). -/
theorem pay37_at (q k : Vec Ideal S1x256x128 .bf16) (m l : Vec Ideal S1x256x128 .f32) (r : Fin 256) (c : Fin 128) (mr : EReal)
    (hm : ∀ l, m (ix3 0 r l) = mr) :
    k0_pay37 (k0_pay16 q k m l) (k0_pay17 q k m) (ix3 0 r c) = Ideal.exp (mr - max mr (top (score q k r))) * l (ix3 0 r c)
      + ∑ t, Ideal.exp (score q k r t - max mr (top (score q k r))) := by
  have h6 := pay14_at q k m r c
  have h7 := fun t => pay15_at q k m r t mr hm
  rw [hm] at h6
  pointwise [k0_pay37, k0_pay16, k0_pay17, h6, h7]

/-- The new weighted sum of row `r` (first head, loop tile). -/
theorem pay10_at (v : FVec Ideal S256x128 .bf16) (al : FVec Ideal S256x128 .f32) (p : FVec Ideal S256x256 .f32)
    (a : Vec Ideal S1x256x128 .f32) (r : Fin 256) (c : Fin 128) :
    k0_pay10 v al p a (ix3 0 r c) = al (ix2 r c) * a (ix3 0 r c) + ∑ t, p (ix2 r t) * v (ix2 t c) := by
  pointwise [k0_pay10]

/-- The new weighted sum of row `r` (second head, loop tile). -/
theorem pay39_at (v : FVec Ideal S256x128 .bf16) (al : FVec Ideal S256x128 .f32) (p : FVec Ideal S256x256 .f32)
    (a : Vec Ideal S1x256x128 .f32) (r : Fin 256) (c : Fin 128) :
    k0_pay39 v al p a (ix3 0 r c) = al (ix2 r c) * a (ix3 0 r c) + ∑ t, p (ix2 r t) * v (ix2 t c) := by
  pointwise [k0_pay39]

/-- The new weighted sum of row `r` (second head, diagonal tile). -/
theorem pay68_at (v : FVec Ideal S256x128 .bf16) (al : FVec Ideal S256x128 .f32) (p : FVec Ideal S256x256 .f32)
    (a : Vec Ideal S1x256x128 .f32) (r : Fin 256) (c : Fin 128) :
    k0_pay68 v al p a (ix3 0 r c) = al (ix2 r c) * a (ix3 0 r c) + ∑ t, p (ix2 r t) * v (ix2 t c) := by
  pointwise [k0_pay68]

theorem pay2_at (v : Vec Ideal S1x256x128 .bf16) (t : Fin 256) (c : Fin 128) : k0_pay2 v (ix2 t c) = v (ix3 0 t c) := by
  pointwise [k0_pay2]

theorem pay43_at (v : Vec Ideal S1x256x128 .bf16) (t : Fin 256) (c : Fin 128) : k0_pay43 v (ix2 t c) = v (ix3 0 t c) := by
  pointwise [k0_pay43]

theorem pay44_at (v : Vec Ideal S1x256x128 .bf16) (t : Fin 256) (c : Fin 128) : k0_pay44 v (ix2 t c) = v (ix3 0 t c) := by
  pointwise [k0_pay44]

theorem pay9_at (x : FVec Ideal S256x128 .f32) (r : Fin 256) (c : Fin 128) : k0_pay9 x (ix3 0 r c) = x (ix2 r c) := by
  pointwise [k0_pay9]

theorem pay38_at (x : FVec Ideal S256x128 .f32) (r : Fin 256) (c : Fin 128) : k0_pay38 x (ix3 0 r c) = x (ix2 r c) := by
  pointwise [k0_pay38]

theorem pay66_at (x : FVec Ideal S256x128 .f32) (r : Fin 256) (c : Fin 128) : k0_pay66 x (ix3 0 r c) = x (ix2 r c) := by
  pointwise [k0_pay66]

theorem pay67_at (x : FVec Ideal S256x128 .f32) (r : Fin 256) (c : Fin 128) : k0_pay67 x (ix3 0 r c) = x (ix2 r c) := by
  pointwise [k0_pay67]

/-! ### The diagonal tile -/

theorem pay45_at (q k : Vec Ideal S1x256x128 .bf16) (r t : Fin 256) :
    k0_pay45 (k0_pay44 q) k (ix2 r t) = score q k r t := by
  unfold score scale
  pointwise [k0_pay45, k0_pay44]

theorem pay58_at (q k : Vec Ideal S1x256x128 .bf16) (r t : Fin 256) :
    k0_pay58 q k (ix2 r t) = score q k r t := by
  unfold score scale
  pointwise [k0_pay58]

/-- The column index of a tile. -/
def cols : IVec S256x256 32 := iota .tc S256x256 32 [1] iota_S256x256_d1_w32

/-- A number below 256 divided by 64, rounding down, on 32-bit words. -/
def chunk (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem chunk_eq : ∀ r : Fin 256, chunk (BitVec.ofNat 32 r.val) = BitVec.ofNat 32 (r.val / 64) := by decide +kernel

theorem chunk_le (t r : Fin 256) (x y : EReal) :
    (Scalar.select (IntOp.cmpi .sle (BitVec.ofNat 32 (t.val / 64)) (BitVec.ofNat 32 (r.val / 64))) x y : EReal)
      = if t.val / 64 ≤ r.val / 64 then x else y := by
  have h : ∀ a b : Fin 4, IntOp.cmpi .sle (BitVec.ofNat 32 a.val) (BitVec.ofNat 32 b.val) = if a.val ≤ b.val then 1#1 else 0#1 := by
    decide +kernel
  have := h ⟨t.val / 64, by omega⟩ ⟨r.val / 64, by omega⟩
  rw [this]
  split <;> rfl

theorem pay46_at (r t : Fin 256) : k0_pay46 (ix2 r t) = BitVec.ofNat 32 (r.val / 64) := by
  rw [← chunk_eq]
  unfold chunk
  pointwise [k0_pay46]

theorem pay59_at (r t : Fin 256) : k0_pay59 (ix2 r t) = BitVec.ofNat 32 (r.val / 64) := by
  rw [← chunk_eq]
  unfold chunk
  pointwise [k0_pay59]

theorem pay49_at (s : FVec Ideal S256x256 .f32) (r t : Fin 256) :
    k0_pay49 s k0_pay46 cols 64#32 k0_pay47 k0_pay48 (ix2 r t) = masked s r t := by
  unfold masked
  rw [← chunk_le t r, ← chunk_eq t, ← named_mask]
  unfold chunk
  pointwise [k0_pay49, pay46_at, k0_pay47, k0_pay48, cols]

theorem pay60_at (s : FVec Ideal S256x256 .f32) (r t : Fin 256) :
    k0_pay60 s k0_pay59 cols 64#32 (ix2 r t) = masked s r t := by
  unfold masked
  rw [← chunk_le t r, ← chunk_eq t, ← named_mask]
  unfold chunk
  pointwise [k0_pay60, pay59_at, cols]

/-- The new maximum of row `r` (first head, diagonal tile). -/
theorem pay51_at (s : FVec Ideal S256x256 .f32) (m : Vec Ideal S1x256x128 .f32) (r : Fin 256) (l : Fin 128) :
    k0_pay51 s k0_pay46 cols 64#32 k0_pay47 k0_pay48 m (ix2 r l) = max (m (ix3 0 r l)) (top (masked s r)) := by
  unfold top
  rw [← ofBits_neg_inf]
  pointwise [k0_pay51, k0_pay50, pay49_at]

/-- The rescaling factor of row `r` (first head, diagonal tile). -/
theorem pay52_at (s : FVec Ideal S256x256 .f32) (m : Vec Ideal S1x256x128 .f32) (r : Fin 256) (l : Fin 128) :
    k0_pay52 s k0_pay46 cols 64#32 k0_pay47 k0_pay48 m (ix2 r l) = Ideal.exp (m (ix3 0 r l) - max (m (ix3 0 r l)) (top (masked s r))) := by
  pointwise [k0_pay52, k0_pay50, pay51_at]

/-- The exponential of row `r` at key `t` (first head, diagonal tile). -/
theorem pay53_at (s : FVec Ideal S256x256 .f32) (m : Vec Ideal S1x256x128 .f32) (r t : Fin 256) (mr : EReal)
    (hm : ∀ l, m (ix3 0 r l) = mr) :
    k0_pay53 s k0_pay46 cols 64#32 k0_pay47 k0_pay48 m (ix2 r t) = Ideal.exp (masked s r t - max mr (top (masked s r))) := by
  pointwise [k0_pay53, pay51_at, pay49_at, hm]
  first | done | simp only [ite_self, dite_eq_ite]

/-- The new sum of row `r` (first head, diagonal tile). -/
theorem pay54_at (s : FVec Ideal S256x256 .f32) (m l : Vec Ideal S1x256x128 .f32) (r : Fin 256) (c : Fin 128) (mr : EReal)
    (hm : ∀ l, m (ix3 0 r l) = mr) :
    k0_pay54 s k0_pay46 cols 64#32 k0_pay47 k0_pay48 m l (ix3 0 r c) = Ideal.exp (mr - max mr (top (masked s r))) * l (ix3 0 r c)
      + ∑ t, Ideal.exp (masked s r t - max mr (top (masked s r))) := by
  have h6 := pay52_at s m r c
  have h7 := fun t => pay53_at s m r t mr hm
  rw [hm] at h6
  pointwise [k0_pay54, h6, h7]

/-- The new maximum of row `r` (second head, diagonal tile). -/
theorem pay62_at (s : FVec Ideal S256x256 .f32) (m : Vec Ideal S1x256x128 .f32) (r : Fin 256) (l : Fin 128) :
    k0_pay62 s k0_pay59 cols 64#32 m (ix2 r l) = max (m (ix3 0 r l)) (top (masked s r)) := by
  unfold top
  rw [← ofBits_neg_inf]
  pointwise [k0_pay62, k0_pay61, pay60_at]

/-- The rescaling factor of row `r` (second head, diagonal tile). -/
theorem pay63_at (s : FVec Ideal S256x256 .f32) (m : Vec Ideal S1x256x128 .f32) (r : Fin 256) (l : Fin 128) :
    k0_pay63 s k0_pay59 cols 64#32 m (ix2 r l) = Ideal.exp (m (ix3 0 r l) - max (m (ix3 0 r l)) (top (masked s r))) := by
  pointwise [k0_pay63, k0_pay61, pay62_at]

/-- The exponential of row `r` at key `t` (second head, diagonal tile). -/
theorem pay64_at (s : FVec Ideal S256x256 .f32) (m : Vec Ideal S1x256x128 .f32) (r t : Fin 256) (mr : EReal)
    (hm : ∀ l, m (ix3 0 r l) = mr) :
    k0_pay64 s k0_pay59 cols 64#32 m (ix2 r t) = Ideal.exp (masked s r t - max mr (top (masked s r))) := by
  pointwise [k0_pay64, pay62_at, pay60_at, hm]
  first | done | simp only [ite_self, dite_eq_ite]

/-- The new sum of row `r` (second head, diagonal tile). -/
theorem pay65_at (s : FVec Ideal S256x256 .f32) (m l : Vec Ideal S1x256x128 .f32) (r : Fin 256) (c : Fin 128) (mr : EReal)
    (hm : ∀ l, m (ix3 0 r l) = mr) :
    k0_pay65 s k0_pay59 cols 64#32 m l (ix2 r c) = Ideal.exp (mr - max mr (top (masked s r))) * l (ix3 0 r c)
      + ∑ t, Ideal.exp (masked s r t - max mr (top (masked s r))) := by
  have h6 := pay63_at s m r c
  have h7 := fun t => pay64_at s m r t mr hm
  rw [hm] at h6
  pointwise [k0_pay65, h6, h7]

theorem pay55_at (s : FVec Ideal S256x256 .f32) (m : Vec Ideal S1x256x128 .f32) (r : Fin 256) (l : Fin 128) :
    k0_pay55 s k0_pay46 cols 64#32 k0_pay47 k0_pay48 m (ix3 0 r l) = max (m (ix3 0 r l)) (top (masked s r)) := by
  pointwise [k0_pay55, pay51_at]

/-- The rescaled weighted sum of row `r` (first head, diagonal tile). -/
theorem pay56_at (s : FVec Ideal S256x256 .f32) (m a : Vec Ideal S1x256x128 .f32) (r : Fin 256) (c : Fin 128) :
    k0_pay56 s k0_pay46 cols 64#32 k0_pay47 k0_pay48 m a (ix2 r c)
      = Ideal.exp (m (ix3 0 r c) - max (m (ix3 0 r c)) (top (masked s r))) * a (ix3 0 r c) := by
  pointwise [k0_pay56, pay52_at]

theorem pay57_at (v : FVec Ideal S256x128 .bf16) (p : FVec Ideal S256x256 .f32) (a : FVec Ideal S256x128 .f32)
    (r : Fin 256) (c : Fin 128) : k0_pay57 v p a (ix3 0 r c) = a (ix2 r c) + ∑ t, p (ix2 r t) * v (ix2 t c) := by
  pointwise [k0_pay57]

/-- The output of row `r`: lanes below 64 hold the first head's quotient, the others the second's. -/
theorem pay69_at (a₀ l₀ a₁ l₁ : Vec Ideal S1x256x128 .f32) (r : Fin 256) (c : Fin 128) :
    k0_pay69 (iota .tc S256x128 32 [1] iota_S256x128_d1_w32) a₀ l₀ a₁ l₁ (ix2 r c)
      = if c.val < 64 then Ideal.div (a₀ (ix3 0 r c)) (l₀ (ix3 0 r c)) else Ideal.div (a₁ (ix3 0 r c)) (l₁ (ix3 0 r c)) := by
  have h : ∀ c : Fin 128, IntOp.cmpi .slt (BitVec.ofNat 32 c.val) 64#32 = if c.val < 64 then 1#1 else 0#1 := by decide +kernel
  pointwise [k0_pay69]
  rw [h]
  split <;> rfl

theorem pay1_at (x : FVec Ideal S256x128 .bf16) (r : Fin 256) (c : Fin 128) : k0_pay1 x (ix3 0 r c) = x (ix2 r c) := by
  pointwise [k0_pay1]

/-! ### The initial contents -/

theorem pay34_at (j : Fin 2) (r : Fin 256) (c : Fin 128) : k0_pay34 (F := Ideal) (ix3 j r c) = ⊥ := by
  pointwise [k0_pay34, named_mask]

theorem pay35_at (j : Fin 2) (r : Fin 256) (c : Fin 128) : k0_pay35 (F := Ideal) (ix3 j r c) = 0 := by
  pointwise [k0_pay35]

theorem pay36_at (j : Fin 2) (r : Fin 256) (c : Fin 128) : k0_pay36 (F := Ideal) (ix3 j r c) = 0 := by
  pointwise [k0_pay36]

end Cert.Attn

end
-- ==== Proof.Loop.lean ====
/- What the loop over earlier key tiles leaves in the running maximum, sum and weighted sum. -/
module

public import proofs.«01_k».proof.Proof.Gen.KernelIdeal.Loops
public import proofs.«01_k».proof.Proof.Tile
public import Idealize.ShloMosaic.Lib.WritesUnit

@[expose] public section

set_option maxRecDepth 16384

noncomputable section

namespace Cert.Attn

open Cert.KernelIdeal Cert.KernelIdeal.Gen Idealize.ShloMosaic Idealize.ShloMosaic.TcCoe Idealize.SL.Sem

/-- A unit-stride read at an index: the contents at the offsets plus the index. -/
theorem readAt_at {κ : Kind} {sp : Space} {s : Shape} {e : EltTy} {Val : EltTy → Type} (v : View sig κ sp s e)
    (f : v.ty.Contents Val) {off size : Fin s.rank → ℕ} (inb : ∀ a, off a + size a ≤ s.size a)
    (z : (Rect.unit off size inb).shape.Idx) (y : s.Idx) (h : ∀ a, (y a).val = off a + (z a).val) :
    View.readAt Val v (Rect.unit off size inb).toLoadRect f z = v.read Val f y := by
  rw [View.readAt_apply]
  congr 1
  funext a
  apply Fin.ext
  rw [h a]
  show off a + 1 * (z a).val = _
  rw [one_mul]

/-- Lane `d` of the second operand's head `j`: each window holds two heads of 128 lanes. -/
def lane (j : Fin 2) (d : Fin 128) : Fin 256 := ⟨128 * j.val + d.val, by omega⟩

/-- The score of query row `r` of head `j` of a block of queries against a key. -/
def scoreAt (x0 : Vec Ideal S1x256x256 .bf16) (x1 : Vec Ideal S1x16384x256 .bf16) (j : Fin 2) (r : Fin 256)
    (key : Fin 16384) : EReal :=
  (∑ d : Fin 128, x0 (ix3 0 r (lane j d)) * x1 (ix3 0 key (lane j d))) * scale

/-- The masked row of scores: a key counts when its chunk of 64 is not after the query's. -/
def rowAt (x0 : Vec Ideal S1x256x256 .bf16) (x1 : Vec Ideal S1x16384x256 .bf16) (n : ℕ) (j : Fin 2) (r : Fin 256)
    (key : Fin 16384) : EReal :=
  if key.val / 64 ≤ (256 * n + r.val) / 64 then scoreAt x0 x1 j r key else ⊥

/-- The value column of lane `c`. -/
def colAt (x2 : Vec Ideal S1x16384x128 .bf16) (c : Fin 128) (key : Fin 16384) : EReal := x2 (ix3 0 key c)

/-- The three running arrays hold the maximum, sum and weighted sum of every row after `k` tiles. -/
structure Holds (m l a : Vec Ideal S2x256x128 .f32) (s : Fin 2 → Fin 256 → ℕ → Fin 256 → EReal)
    (w : Fin 128 → ℕ → Fin 256 → EReal) (k : ℕ) : Prop where
  max_eq : ∀ j r c, m (ix3 j r c) = rowM (s j r) k
  sum_eq : ∀ j r c, l (ix3 j r c) = rowL (s j r) k
  acc_eq : ∀ j r c, a (ix3 j r c) = rowA (s j r) (w c) k

section
variable (i : grid0.Coords)
  {arg3 : Memref sig .tc .vmem S1x256x256 .bf16} (harg3 : arg3.IsWhole)
  {arg4 : Memref sig .tc .vmem S1x16384x256 .bf16} (harg4 : arg4.IsWhole)
  {arg5 : Memref sig .tc .vmem S1x16384x128 .bf16} (harg5 : arg5.IsWhole)
  {arg6 : Memref sig .tc .vmem S1x256x128 .bf16} (harg6 : arg6.IsWhole)
  {arg7 : Memref sig .tc .vmem S2x256x128 .f32} (harg7 : arg7.IsWhole)
  {arg8 : Memref sig .tc .vmem S2x256x128 .f32} (harg8 : arg8.IsWhole)
  {arg9 : Memref sig .tc .vmem S2x256x128 .f32} (harg9 : arg9.IsWhole)
  (X3 : BufTy.Contents (Elt Ideal) arg3.view.ty) (X4 : BufTy.Contents (Elt Ideal) arg4.view.ty)
  (X5 : BufTy.Contents (Elt Ideal) arg5.view.ty)

/-- The first head's queries. -/
abbrev q0 : Vec Ideal S1x256x128 .bf16 :=
  View.readAt (Elt Ideal) arg3.view (Rect.unit (s := S1x256x256) ![0, 0, 0] S1x256x128.size inb_S1x256x256_S1x256x128_0_0_0).toLoadRect X3

/-- The second head's queries. -/
abbrev q1 : Vec Ideal S1x256x128 .bf16 :=
  View.readAt (Elt Ideal) arg3.view (Rect.unit (s := S1x256x256) ![0, 0, 128] S1x256x128.size inb_S1x256x256_S1x256x128_0_0_128).toLoadRect X3

/-- A tile of keys, the first head's or the second's by the offsets. -/
abbrev keys {off : Fin 3 → ℕ} (inb : ∀ a, off a + S1x256x128.size a ≤ S1x16384x256.size a) : Vec Ideal S1x256x128 .bf16 :=
  View.readAt (Elt Ideal) arg4.view (Rect.unit (s := S1x16384x256) off S1x256x128.size inb).toLoadRect X4

/-- A tile of values. -/
abbrev vals {off : Fin 3 → ℕ} (inb : ∀ a, off a + S1x256x128.size a ≤ S1x16384x128.size a) : Vec Ideal S1x256x128 .bf16 :=
  View.readAt (Elt Ideal) arg5.view (Rect.unit (s := S1x16384x128) off S1x256x128.size inb).toLoadRect X5

/-- The first head's part of a running array. -/
abbrev part0 (arg : Memref sig .tc .vmem S2x256x128 .f32) (f : BufTy.Contents (Elt Ideal) arg.view.ty) : Vec Ideal S1x256x128 .f32 :=
  View.readAt (Elt Ideal) arg.view (Rect.unit (s := S2x256x128) ![0, 0, 0] S1x256x128.size inb_S2x256x128_S1x256x128_0_0_0).toLoadRect f

/-- The second head's part of a running array. -/
abbrev part1 (arg : Memref sig .tc .vmem S2x256x128 .f32) (f : BufTy.Contents (Elt Ideal) arg.view.ty) : Vec Ideal S1x256x128 .f32 :=
  View.readAt (Elt Ideal) arg.view (Rect.unit (s := S2x256x128) ![1, 0, 0] S1x256x128.size inb_S2x256x128_S1x256x128_1_0_0).toLoadRect f

/-- A store of the first head's part. -/
abbrev put0 (w : Vec Ideal S1x256x128 .f32) : View.Piece (Elt Ideal) S2x256x128 .f32 :=
  ⟨Rect.unit (s := S2x256x128) ![0, 0, 0] S1x256x128.size inb_S2x256x128_S1x256x128_0_0_0, w⟩

/-- A store of the second head's part. -/
abbrev put1 (w : Vec Ideal S1x256x128 .f32) : View.Piece (Elt Ideal) S2x256x128 .f32 :=
  ⟨Rect.unit (s := S2x256x128) ![1, 0, 0] S1x256x128.size inb_S2x256x128_S1x256x128_1_0_0, w⟩

theorem part0_at (arg : Memref sig .tc .vmem S2x256x128 .f32) (f) (r : Fin 256) (c : Fin 128) :
    part0 arg f (ix3 0 r c) = arg.view.read (Elt Ideal) f (ix3 0 r c) :=
  readAt_at _ _ _ _ _ fun a => by fin_cases a <;> simp [ix3]

theorem part1_at (arg : Memref sig .tc .vmem S2x256x128 .f32) (f) (r : Fin 256) (c : Fin 128) :
    part1 arg f (ix3 0 r c) = arg.view.read (Elt Ideal) f (ix3 1 r c) :=
  readAt_at _ _ _ _ _ fun a => by fin_cases a <;> simp [ix3]

theorem q0_at (r : Fin 256) (d : Fin 128) : q0 (arg3 := arg3) X3 (ix3 0 r d) = arg3.view.read (Elt Ideal) X3 (ix3 0 r (lane 0 d)) :=
  readAt_at _ _ _ _ _ fun a => by fin_cases a <;> simp [ix3, lane]

theorem q1_at (r : Fin 256) (d : Fin 128) : q1 (arg3 := arg3) X3 (ix3 0 r d) = arg3.view.read (Elt Ideal) X3 (ix3 0 r (lane 1 d)) :=
  readAt_at _ _ _ _ _ fun a => by fin_cases a <;> simp [ix3, lane]

theorem keys_at {off : Fin 3 → ℕ} (inb : ∀ a, off a + S1x256x128.size a ≤ S1x16384x256.size a) (n : ℕ) (j : Fin 2)
    (hoff : off = ![0, 256 * n, 128 * j.val]) (t : Fin 256) (h : n * 256 + t.val < 16384) (d : Fin 128) :
    keys (arg4 := arg4) X4 inb (ix3 0 t d) = arg4.view.read (Elt Ideal) X4 (ix3 0 ⟨n * 256 + t.val, h⟩ (lane j d)) := by
  subst hoff
  exact readAt_at _ _ _ _ _ fun a => by fin_cases a <;> simp [ix3, lane, mul_comm]

theorem vals_at {off : Fin 3 → ℕ} (inb : ∀ a, off a + S1x256x128.size a ≤ S1x16384x128.size a) (n : ℕ)
    (hoff : off = ![0, 256 * n, 0]) (t : Fin 256) (h : n * 256 + t.val < 16384) (c : Fin 128) :
    vals (arg5 := arg5) X5 inb (ix3 0 t c) = arg5.view.read (Elt Ideal) X5 (ix3 0 ⟨n * 256 + t.val, h⟩ c) := by
  subst hoff
  exact readAt_at _ _ _ _ _ fun a => by fin_cases a <;> simp [ix3, mul_comm]

theorem put_at0 (arg : Memref sig .tc .vmem S2x256x128 .f32) (f) (L) (w0 w1 : Vec Ideal S1x256x128 .f32) (r : Fin 256) (c : Fin 128) :
    arg.view.read (Elt Ideal) (arg.view.writes (Elt Ideal) f (put1 w1 :: put0 w0 :: L)) (ix3 0 r c) = w0 (ix3 0 r c) := by
  rw [View.read_writes_cons_unit_of_not_mem _ _ _ _ _ _ rfl 0 (by simp [ix3])]
  exact View.read_writes_cons_unit_of_mem _ _ _ _ _ _ _ rfl fun a => by fin_cases a <;> simp [ix3]

theorem put_at1 (arg : Memref sig .tc .vmem S2x256x128 .f32) (f) (L) (w0 w1 : Vec Ideal S1x256x128 .f32) (r : Fin 256) (c : Fin 128) :
    arg.view.read (Elt Ideal) (arg.view.writes (Elt Ideal) f (put1 w1 :: put0 w0 :: L)) (ix3 1 r c) = w1 (ix3 0 r c) :=
  View.read_writes_cons_unit_of_mem _ _ _ _ _ _ _ rfl fun a => by fin_cases a <;> simp [ix3]

theorem put_other (arg : Memref sig .tc .vmem S2x256x128 .f32) (f) (L) (w0 : Vec Ideal S1x256x128 .f32) (r : Fin 256) (c : Fin 128) :
    arg.view.read (Elt Ideal) (arg.view.writes (Elt Ideal) f (put0 w0 :: L)) (ix3 1 r c)
      = arg.view.read (Elt Ideal) (arg.view.writes (Elt Ideal) f L) (ix3 1 r c) :=
  View.read_writes_cons_unit_of_not_mem _ _ _ _ _ _ rfl 0 (by simp [ix3])

variable (c : Dev nD) (k : Fin (k0_t1_loop i).trips) (f7 : BufTy.Contents (Elt Ideal) arg7.view.ty)
  (f8 : BufTy.Contents (Elt Ideal) arg8.view.ty) (f9 : BufTy.Contents (Elt Ideal) arg9.view.ty)

/-- What one trip stores into the running maximum. -/
theorem trip_max : (trip_k0_t1 (F := Ideal) Variants.none c none i arg3 harg3 arg4 harg4 arg5 harg5 arg6 harg6 arg7 harg7
      arg8 harg8 arg9 harg9 X3 X4 X5 k).1 f7 f8 f9
    = [put1 (k0_pay38 (k0_pay13 (q1 X3) (keys X4 (k0_off3_inb i k)) (part1 arg7 f7))),
       put0 (k0_pay9 (k0_pay5 (q0 X3) (keys X4 (k0_off2_inb i k)) (part0 arg7 f7)))] := by
  unfold trip_k0_t1
  rfl

/-- What one trip stores into the running sum. -/
theorem trip_sum : (trip_k0_t1 (F := Ideal) Variants.none c none i arg3 harg3 arg4 harg4 arg5 harg5 arg6 harg6 arg7 harg7
      arg8 harg8 arg9 harg9 X3 X4 X5 k).2.1 f7 f8 f9
    = [put1 (k0_pay37 (k0_pay16 (q1 X3) (keys X4 (k0_off3_inb i k)) (part1 arg7 f7) (part1 arg8 f8))
          (k0_pay17 (q1 X3) (keys X4 (k0_off3_inb i k)) (part1 arg7 f7))),
       put0 (k0_pay8 (q0 X3) (keys X4 (k0_off2_inb i k)) (part0 arg7 f7) (part0 arg8 f8))] := by
  unfold trip_k0_t1
  rfl

/-- What one trip stores into the running weighted sum. -/
theorem trip_acc : (trip_k0_t1 (F := Ideal) Variants.none c none i arg3 harg3 arg4 harg4 arg5 harg5 arg6 harg6 arg7 harg7
      arg8 harg8 arg9 harg9 X3 X4 X5 k).2.2.1 f7 f8 f9
    = [put1 (k0_pay39 (k0_pay2 (vals X5 (k0_off1_inb i k)))
          (k0_pay14 (q1 X3) (keys X4 (k0_off3_inb i k)) (part1 arg7 f7))
          (k0_pay15 (q1 X3) (keys X4 (k0_off3_inb i k)) (part1 arg7 f7)) (part1 arg9 f9)),
       put0 (k0_pay10 (k0_pay2 (vals X5 (k0_off1_inb i k)))
          (k0_pay6 (q0 X3) (keys X4 (k0_off2_inb i k)) (part0 arg7 f7))
          (k0_pay7 (q0 X3) (keys X4 (k0_off2_inb i k)) (part0 arg7 f7)) (part0 arg9 f9))] := by
  unfold trip_k0_t1
  rfl

theorem score_q0 (kt : Vec Ideal S1x256x128 .bf16) (n : ℕ) (r t : Fin 256) (h : n * 256 + t.val < 16384)
    (hk : ∀ d, kt (ix3 0 t d) = arg4.view.read (Elt Ideal) X4 (ix3 0 ⟨n * 256 + t.val, h⟩ (lane 0 d))) :
    score (q0 X3) kt r t
      = scoreAt (arg3.view.read (Elt Ideal) X3) (arg4.view.read (Elt Ideal) X4) 0 r ⟨n * 256 + t.val, h⟩ := by
  unfold score scoreAt
  simp only [q0_at, hk]

theorem score_q1 (kt : Vec Ideal S1x256x128 .bf16) (n : ℕ) (r t : Fin 256) (h : n * 256 + t.val < 16384)
    (hk : ∀ d, kt (ix3 0 t d) = arg4.view.read (Elt Ideal) X4 (ix3 0 ⟨n * 256 + t.val, h⟩ (lane 1 d))) :
    score (q1 X3) kt r t
      = scoreAt (arg3.view.read (Elt Ideal) X3) (arg4.view.read (Elt Ideal) X4) 1 r ⟨n * 256 + t.val, h⟩ := by
  unfold score scoreAt
  simp only [q1_at, hk]

/-- ONE TRIP: the arrays holding the first `k` tiles of every row hold the first `k + 1` afterwards, for rows whose
tile `k` is the scores of the queries against the keys of tile `k`. -/
theorem trip_holds (s : Fin 2 → Fin 256 → ℕ → Fin 256 → EReal) (w : Fin 128 → ℕ → Fin 256 → EReal)
    (hs0 : ∀ r t, s 0 r k t = score (q0 X3) (keys X4 (k0_off2_inb i k)) r t)
    (hs1 : ∀ r t, s 1 r k t = score (q1 X3) (keys X4 (k0_off3_inb i k)) r t)
    (hw : ∀ l t, w l k t = vals X5 (k0_off1_inb i k) (ix3 0 t l))
    (H : Holds (arg7.view.read (Elt Ideal) f7) (arg8.view.read (Elt Ideal) f8) (arg9.view.read (Elt Ideal) f9) s w k) :
    Holds
      (arg7.view.read (Elt Ideal) (arg7.view.writes (Elt Ideal) f7 ((trip_k0_t1 (F := Ideal) Variants.none c none i arg3 harg3 arg4 harg4
        arg5 harg5 arg6 harg6 arg7 harg7 arg8 harg8 arg9 harg9 X3 X4 X5 k).1 f7 f8 f9)))
      (arg8.view.read (Elt Ideal) (arg8.view.writes (Elt Ideal) f8 ((trip_k0_t1 (F := Ideal) Variants.none c none i arg3 harg3 arg4 harg4
        arg5 harg5 arg6 harg6 arg7 harg7 arg8 harg8 arg9 harg9 X3 X4 X5 k).2.1 f7 f8 f9)))
      (arg9.view.read (Elt Ideal) (arg9.view.writes (Elt Ideal) f9 ((trip_k0_t1 (F := Ideal) Variants.none c none i arg3 harg3 arg4 harg4
        arg5 harg5 arg6 harg6 arg7 harg7 arg8 harg8 arg9 harg9 X3 X4 X5 k).2.2.1 f7 f8 f9)))
      s w (k + 1) := by
  have e0 : ∀ r, score (q0 X3) (keys X4 (k0_off2_inb i k)) r = s 0 r k := fun r => funext fun t => (hs0 r t).symm
  have e1 : ∀ r, score (q1 X3) (keys X4 (k0_off3_inb i k)) r = s 1 r k := fun r => funext fun t => (hs1 r t).symm
  have m0 : ∀ r l, part0 arg7 f7 (ix3 0 r l) = rowM (s 0 r) k := fun r l => (part0_at _ _ _ _).trans (H.max_eq 0 r l)
  have m1 : ∀ r l, part1 arg7 f7 (ix3 0 r l) = rowM (s 1 r) k := fun r l => (part1_at _ _ _ _).trans (H.max_eq 1 r l)
  rw [trip_max, trip_sum, trip_acc]
  refine ⟨?_, ?_, ?_⟩ <;> rw [Fin.forall_fin_two] <;> refine ⟨fun r l => ?_, fun r l => ?_⟩
  · rw [put_at0, pay9_at, pay5_at, m0, e0, rowM]
  · rw [put_at1, pay38_at, pay13_at, m1, e1, rowM]
  · rw [put_at0, pay8_at _ _ _ _ _ _ _ (m0 r), part0_at, H.sum_eq, e0, rowL, rowM]
  · rw [put_at1, pay37_at _ _ _ _ _ _ _ (m1 r), part1_at, H.sum_eq, e1, rowL, rowM]
  · rw [put_at0, pay10_at, pay6_at, part0_at arg9, H.acc_eq, m0, e0, rowA, rowM]
    simp only [pay7_at _ _ _ _ _ _ (m0 r), e0, pay2_at, hw]
  · rw [put_at1, pay39_at, pay14_at, part1_at arg9, H.acc_eq, m1, e1, rowA, rowM]
    simp only [pay15_at _ _ _ _ _ _ (m1 r), e1, pay2_at, hw]

variable (G7 : BufTy.Contents (Elt Ideal) arg7.view.ty) (G8 : BufTy.Contents (Elt Ideal) arg8.view.ty)
  (G9 : BufTy.Contents (Elt Ideal) arg9.view.ty)

/-- The pieces of the first `n` trips. -/
abbrev pieces (n : ℕ) := pb_k0_t1 (F := Ideal) Variants.none c none i arg3 harg3 arg4 harg4 arg5 harg5 arg6 harg6 arg7 harg7
  arg8 harg8 arg9 harg9 X3 X4 X5 G7 G8 G9 n

/-- THE LOOP: from arrays holding no tile, `n` trips leave arrays holding the first `n` tiles of the masked rows. -/
theorem loop_holds
    (H : Holds (arg7.view.read (Elt Ideal) G7) (arg8.view.read (Elt Ideal) G8) (arg9.view.read (Elt Ideal) G9)
      (fun j r => tiles (rowAt (arg3.view.read (Elt Ideal) X3) (arg4.view.read (Elt Ideal) X4) (i 2).val j r))
      (fun l => tiles (colAt (arg5.view.read (Elt Ideal) X5) l)) 0)
    (n : ℕ) (hn : n ≤ (k0_t1_loop i).trips) (hi : (k0_t1_loop i).trips = (i 2).val) :
    Holds
      (arg7.view.read (Elt Ideal) (arg7.view.writes (Elt Ideal) G7 (pieces i harg3 harg4 harg5 harg6 harg7 harg8 harg9 X3 X4 X5 c G7 G8 G9 n).1))
      (arg8.view.read (Elt Ideal) (arg8.view.writes (Elt Ideal) G8 (pieces i harg3 harg4 harg5 harg6 harg7 harg8 harg9 X3 X4 X5 c G7 G8 G9 n).2.1))
      (arg9.view.read (Elt Ideal) (arg9.view.writes (Elt Ideal) G9 (pieces i harg3 harg4 harg5 harg6 harg7 harg8 harg9 X3 X4 X5 c G7 G8 G9 n).2.2))
      (fun j r => tiles (rowAt (arg3.view.read (Elt Ideal) X3) (arg4.view.read (Elt Ideal) X4) (i 2).val j r))
      (fun l => tiles (colAt (arg5.view.read (Elt Ideal) X5) l)) n := by
  induction n with
  | zero => exact H
  | succ n ih =>
    have hlt : n < (i 2).val := by omega
    have hb : (i 2).val < 64 := (i 2).isLt
    have hkey : ∀ t : Fin 256, n * 256 + t.val < 16384 := fun t => by omega
    have hvis : ∀ (r t : Fin 256), (n * 256 + t.val) / 64 ≤ (256 * (i 2).val + r.val) / 64 := fun r t => by omega
    have hstep := pb_k0_t1_succ (F := Ideal) Variants.none c none i arg3 harg3 arg4 harg4 arg5 harg5 arg6 harg6 arg7 harg7
      arg8 harg8 arg9 harg9 X3 X4 X5 G7 G8 G9 ⟨n, by omega⟩
    dsimp only at hstep
    rw [pieces, hstep, View.writes_append, View.writes_append, View.writes_append]
    refine trip_holds i harg3 harg4 harg5 harg6 harg7 harg8 harg9 X3 X4 X5 c ⟨n, by omega⟩ _ _ _ _ _ ?_ ?_ ?_ (ih (by omega))
    · intro r t
      dsimp only
      rw [tiles_apply _ _ _ (hkey t), rowAt, if_pos (hvis r t),
        score_q0 X3 X4 _ n r t (hkey t) fun d => keys_at X4 _ n 0 (k0_off2_eq i _) t (hkey t) d]
    · intro r t
      dsimp only
      rw [tiles_apply _ _ _ (hkey t), rowAt, if_pos (hvis r t),
        score_q1 X3 X4 _ n r t (hkey t) fun d => keys_at X4 _ n 1 (k0_off3_eq i _) t (hkey t) d]
    · intro l t
      dsimp only
      rw [tiles_apply _ _ _ (hkey t), colAt, vals_at X5 _ n (k0_off1_eq i _) t (hkey t) l]

/-- The first loop runs over the key tiles before the query's own. -/
theorem trips_first : (k0_t1_loop i).trips = (i 2).val := by
  have h : ∀ n : Fin 64, (Scf.Loop.mk 0#32 (Scalar.addi 0#32 (Scalar.muli (Scalar.divsi (Scalar.subi (BitVec.ofNat 32 n.val) 0#32) 1#32) 1#32)) 1#32).trips
      = n.val := by decide +kernel
  exact h (i 2)

/-- The second loop runs over nothing. -/
theorem trips_second : (k0_t2_loop i).trips = 0 := Nat.le_zero.mp (k0_t2_abs i).2.1

end

end Cert.Attn

end
-- ==== Proof.Block.lean ====
/- What one grid point of the attention kernel leaves in its output block: the quotient of the running arrays after the
   diagonal tile, for the first head in lanes below 64 and for the second head in the others. -/
module

public import proofs.«01_k».proof.Proof.Gen.KernelIdeal.Frame
public import proofs.«01_k».proof.Proof.Loop
public import Idealize.ShloMosaic.Lib.VecWindow

@[expose] public section

set_option maxRecDepth 16384

noncomputable section

namespace Cert.Attn

open Cert.KernelIdeal Cert.KernelIdeal.Gen Idealize.ShloMosaic Idealize.ShloMosaic.TcCoe Idealize.SL.Sem

section
variable (c : Dev nD) (i : grid0.Coords)
  {arg3 : Memref sig .tc .vmem S1x256x256 .bf16} (harg3 : arg3.IsWhole)
  {arg4 : Memref sig .tc .vmem S1x16384x256 .bf16} (harg4 : arg4.IsWhole)
  {arg5 : Memref sig .tc .vmem S1x16384x128 .bf16} (harg5 : arg5.IsWhole)
  {arg6 : Memref sig .tc .vmem S1x256x128 .bf16} (harg6 : arg6.IsWhole)
  {arg7 : Memref sig .tc .vmem S2x256x128 .f32} (harg7 : arg7.IsWhole)
  {arg8 : Memref sig .tc .vmem S2x256x128 .f32} (harg8 : arg8.IsWhole)
  {arg9 : Memref sig .tc .vmem S2x256x128 .f32} (harg9 : arg9.IsWhole)
  (x0 : Vec Ideal S1x256x256 .bf16) (x1 : Vec Ideal S1x16384x256 .bf16) (x2 : Vec Ideal S1x16384x128 .bf16)

/-- A store of a whole running array. -/
abbrev putAll (w : Vec Ideal S2x256x128 .f32) : View.Piece (Elt Ideal) S2x256x128 .f32 :=
  ⟨Rect.unit (s := S2x256x128) ![0, 0, 0] S2x256x128.size inb_S2x256x128_S2x256x128_0_0_0, w⟩

/-- A running array as the kernel first fills it. -/
abbrev start (arg : Memref sig .tc .vmem S2x256x128 .f32) (w : Vec Ideal S2x256x128 .f32) : BufTy.Contents (Elt Ideal) arg.view.ty :=
  arg.view.writes (Elt Ideal) arg.view.junk [putAll w]

/-- The pieces of the first loop. -/
abbrev trips1 := pieces i harg3 harg4 harg5 harg6 harg7 harg8 harg9 (harg3.unread x0) (harg4.unread x1) (harg5.unread x2) c
  (start arg7 (k0_pay34 (F := Ideal))) (start arg8 (k0_pay35 (F := Ideal))) (start arg9 (k0_pay36 (F := Ideal))) (k0_t1_loop i).trips

/-- The pieces of the second loop. -/
abbrev trips2 := pb_k0_t2 (F := Ideal) Variants.none c none i arg3 harg3 arg4 harg4 arg5 harg5 arg6 harg6 arg7 harg7
  arg8 harg8 arg9 harg9 (kernelRun0_A.sl.v17 i) (harg3.unread x0) (harg4.unread x1) (harg5.unread x2)
  (arg7.view.writes (Elt Ideal) arg7.view.junk ((trips1 c i harg3 harg4 harg5 harg6 harg7 harg8 harg9 x0 x1 x2).1 ++ [putAll (k0_pay34 (F := Ideal))]))
  (arg8.view.writes (Elt Ideal) arg8.view.junk ((trips1 c i harg3 harg4 harg5 harg6 harg7 harg8 harg9 x0 x1 x2).2.1 ++ [putAll (k0_pay35 (F := Ideal))]))
  (arg9.view.writes (Elt Ideal) arg9.view.junk ((trips1 c i harg3 harg4 harg5 harg6 harg7 harg8 harg9 x0 x1 x2).2.2 ++ [putAll (k0_pay36 (F := Ideal))]))
  (k0_t2_loop i).trips

theorem second_eq : trips2 c i harg3 harg4 harg5 harg6 harg7 harg8 harg9 x0 x1 x2 = ([], [], []) := by
  rw [trips2, trips_second]
  rfl

/-- The scores of the diagonal tile, first head. -/
abbrev diag0 : FVec Ideal S256x256 .f32 := k0_pay45 (k0_pay44 (q0 (harg3.unread x0))) (keys (harg4.unread x1) (k0_off8_inb i))

/-- The scores of the diagonal tile, second head. -/
abbrev diag1 : FVec Ideal S256x256 .f32 := k0_pay58 (q1 (harg3.unread x0)) (keys (harg4.unread x1) (k0_off9_inb i))

/-- The values of the diagonal tile. -/
abbrev diagV : FVec Ideal S256x128 .bf16 := k0_pay43 (vals (harg5.unread x2) (k0_off7_inb i))

section
variable (L7 L8 L9 : List (View.Piece (Elt Ideal) S2x256x128 .f32))

/-- The running maximum's stores after the first head's diagonal tile. -/
abbrev max1 : List (View.Piece (Elt Ideal) S2x256x128 .f32) :=
  put0 (k0_pay55 (diag0 i harg3 harg4 x0 x1) k0_pay46 cols 64#32 k0_pay47 k0_pay48 (part0 arg7 (arg7.view.writes (Elt Ideal) arg7.view.junk L7))) :: L7

/-- The running sum's stores after the first head's diagonal tile. -/
abbrev sum1 : List (View.Piece (Elt Ideal) S2x256x128 .f32) :=
  put0 (k0_pay54 (diag0 i harg3 harg4 x0 x1) k0_pay46 cols 64#32 k0_pay47 k0_pay48 (part0 arg7 (arg7.view.writes (Elt Ideal) arg7.view.junk L7))
    (part0 arg8 (arg8.view.writes (Elt Ideal) arg8.view.junk L8))) :: L8

/-- The running weighted sum's stores after the first head's diagonal tile. -/
abbrev acc1 : List (View.Piece (Elt Ideal) S2x256x128 .f32) :=
  put0 (k0_pay57 (diagV i harg5 x2)
    (k0_pay53 (diag0 i harg3 harg4 x0 x1) k0_pay46 cols 64#32 k0_pay47 k0_pay48 (part0 arg7 (arg7.view.writes (Elt Ideal) arg7.view.junk L7)))
    (k0_pay56 (diag0 i harg3 harg4 x0 x1) k0_pay46 cols 64#32 k0_pay47 k0_pay48 (part0 arg7 (arg7.view.writes (Elt Ideal) arg7.view.junk L7))
      (part0 arg9 (arg9.view.writes (Elt Ideal) arg9.view.junk L9)))) :: L9

/-- The second head's running maximum before its diagonal tile. -/
abbrev oldMax : Vec Ideal S1x256x128 .f32 :=
  part1 arg7 (arg7.view.writes (Elt Ideal) arg7.view.junk (max1 i harg3 harg4 (arg7 := arg7) x0 x1 L7))

/-- The running sum's stores after both diagonal tiles. -/
abbrev sum2 : List (View.Piece (Elt Ideal) S2x256x128 .f32) :=
  put1 (k0_pay66 (k0_pay65 (diag1 i harg3 harg4 x0 x1) k0_pay59 cols 64#32 (oldMax i harg3 harg4 (arg7 := arg7) x0 x1 L7)
    (part1 arg8 (arg8.view.writes (Elt Ideal) arg8.view.junk (sum1 i harg3 harg4 (arg7 := arg7) (arg8 := arg8) x0 x1 L7 L8)))))
  :: sum1 i harg3 harg4 (arg7 := arg7) (arg8 := arg8) x0 x1 L7 L8

/-- The running weighted sum's stores after both diagonal tiles. -/
abbrev acc2 : List (View.Piece (Elt Ideal) S2x256x128 .f32) :=
  put1 (k0_pay68 (diagV i harg5 x2)
    (k0_pay63 (diag1 i harg3 harg4 x0 x1) k0_pay59 cols 64#32 (oldMax i harg3 harg4 (arg7 := arg7) x0 x1 L7))
    (k0_pay64 (diag1 i harg3 harg4 x0 x1) k0_pay59 cols 64#32 (oldMax i harg3 harg4 (arg7 := arg7) x0 x1 L7))
    (part1 arg9 (arg9.view.writes (Elt Ideal) arg9.view.junk (acc1 i harg3 harg4 harg5 (arg7 := arg7) (arg9 := arg9) x0 x1 x2 L7 L9))))
  :: acc1 i harg3 harg4 harg5 (arg7 := arg7) (arg9 := arg9) x0 x1 x2 L7 L9

/-- The output block from the stores. -/
abbrev outBlock : Vec Ideal S1x256x128 .bf16 :=
  k0_pay1 (k0_pay69 (iota .tc S256x128 32 [1] iota_S256x128_d1_w32)
    (part0 arg9 (arg9.view.writes (Elt Ideal) arg9.view.junk (acc2 i harg3 harg4 harg5 (arg7 := arg7) (arg9 := arg9) x0 x1 x2 L7 L9)))
    (part0 arg8 (arg8.view.writes (Elt Ideal) arg8.view.junk (sum2 i harg3 harg4 (arg7 := arg7) (arg8 := arg8) x0 x1 L7 L8)))
    (part1 arg9 (arg9.view.writes (Elt Ideal) arg9.view.junk (acc2 i harg3 harg4 harg5 (arg7 := arg7) (arg9 := arg9) x0 x1 x2 L7 L9)))
    (part1 arg8 (arg8.view.writes (Elt Ideal) arg8.view.junk (sum2 i harg3 harg4 (arg7 := arg7) (arg8 := arg8) x0 x1 L7 L8))))

/-- The rows after the diagonal tiles, from arrays holding the earlier tiles. -/
theorem outBlock_at
    (H : Holds (arg7.view.read (Elt Ideal) (arg7.view.writes (Elt Ideal) arg7.view.junk L7))
      (arg8.view.read (Elt Ideal) (arg8.view.writes (Elt Ideal) arg8.view.junk L8))
      (arg9.view.read (Elt Ideal) (arg9.view.writes (Elt Ideal) arg9.view.junk L9))
      (fun j r => tiles (rowAt x0 x1 (i 2).val j r)) (fun l => tiles (colAt x2 l)) (i 2).val)
    (j : Fin 2) (r : Fin 256) (l : Fin 128) (hj : j = if l.val < 64 then 0 else 1) :
    outBlock i harg3 harg4 harg5 (arg7 := arg7) (arg8 := arg8) (arg9 := arg9) x0 x1 x2 L7 L8 L9 (ix3 0 r l)
      = Ideal.div (rowA (tiles (rowAt x0 x1 (i 2).val j r)) (tiles (colAt x2 l)) ((i 2).val + 1))
          (rowL (tiles (rowAt x0 x1 (i 2).val j r)) ((i 2).val + 1)) := by
  have hb : (i 2).val < 64 := (i 2).isLt
  have hkey : ∀ t : Fin 256, (i 2).val * 256 + t.val < 16384 := fun t => by omega
  have hvis : ∀ (r t : Fin 256), ((i 2).val * 256 + t.val) / 64 ≤ (256 * (i 2).val + r.val) / 64 ↔ t.val / 64 ≤ r.val / 64 :=
    fun r t => by omega
  have e0 : ∀ r, masked (diag0 i harg3 harg4 x0 x1) r = tiles (rowAt x0 x1 (i 2).val 0 r) (i 2).val := fun r => funext fun t => by
    rw [tiles_apply _ _ _ (hkey t), rowAt, masked, diag0, pay45_at,
      score_q0 _ (harg4.unread x1) _ (i 2).val r t (hkey t) fun d => keys_at _ _ (i 2).val 0 (k0_off8_eq i) t (hkey t) d,
      harg3.read_unread, harg4.read_unread]
    simp only [hvis]
  have e1 : ∀ r, masked (diag1 i harg3 harg4 x0 x1) r = tiles (rowAt x0 x1 (i 2).val 1 r) (i 2).val := fun r => funext fun t => by
    rw [tiles_apply _ _ _ (hkey t), rowAt, masked, diag1, pay58_at,
      score_q1 _ (harg4.unread x1) _ (i 2).val r t (hkey t) fun d => keys_at _ _ (i 2).val 1 (k0_off9_eq i) t (hkey t) d,
      harg3.read_unread, harg4.read_unread]
    simp only [hvis]
  have ev : ∀ t l, diagV i harg5 x2 (ix2 t l) = tiles (colAt x2 l) (i 2).val t := fun t l => by
    rw [tiles_apply _ _ _ (hkey t), colAt, diagV, pay43_at, vals_at _ _ (i 2).val (k0_off7_eq i) t (hkey t) l, harg5.read_unread]
  have m0 : ∀ r l, part0 arg7 (arg7.view.writes (Elt Ideal) arg7.view.junk L7) (ix3 0 r l)
      = rowM (tiles (rowAt x0 x1 (i 2).val 0 r)) (i 2).val := fun r l => (part0_at _ _ _ _).trans (H.max_eq 0 r l)
  have m1 : ∀ r l, oldMax i harg3 harg4 (arg7 := arg7) x0 x1 L7 (ix3 0 r l)
      = rowM (tiles (rowAt x0 x1 (i 2).val 1 r)) (i 2).val := fun r l =>
    (part1_at _ _ _ _).trans ((put_other _ _ _ _ _ _).trans (H.max_eq 1 r l))
  rw [outBlock, pay1_at, pay69_at]
  by_cases h : l.val < 64
  · rw [if_pos h] at hj ⊢
    subst hj
    congr 1
    · rw [part0_at, acc2, acc1, put_at0, pay57_at, pay56_at, part0_at arg9, H.acc_eq, m0, e0, rowA, rowM]
      simp only [pay53_at _ _ _ _ _ (m0 r), e0, ev]
    · rw [part0_at, sum2, sum1, put_at0, pay54_at _ _ _ _ _ _ (m0 r), part0_at arg8, H.sum_eq, e0, rowL, rowM]
  · rw [if_neg h] at hj ⊢
    subst hj
    congr 1
    · rw [part1_at, acc2, acc1, put_at1, pay68_at, pay63_at, part1_at arg9, put_other, H.acc_eq, m1, e1, rowA, rowM]
      simp only [pay64_at _ _ _ _ _ (m1 r), e1, ev]
    · rw [part1_at, sum2, sum1, put_at1, pay66_at, pay65_at _ _ _ _ _ _ (m1 r), part1_at arg8, put_other, H.sum_eq, e1, rowL, rowM]

end

/-- The stores into one running array before the diagonal tile, the second loop's in front. -/
theorem run_eq : (kernelRun0_A (F := Ideal) c i arg3 harg3 arg4 harg4 arg5 harg5 arg6 harg6 arg7 harg7 arg8 harg8 arg9 harg9 x0 x1 x2).1
    = [⟨Rect.unit (s := S1x256x128) ![0, 0, 0] S1x256x128.size inb_S1x256x128_S1x256x128_0_0_0,
        outBlock i harg3 harg4 harg5 (arg7 := arg7) (arg8 := arg8) (arg9 := arg9) x0 x1 x2
          ((trips2 c i harg3 harg4 harg5 harg6 harg7 harg8 harg9 x0 x1 x2).1
            ++ ((trips1 c i harg3 harg4 harg5 harg6 harg7 harg8 harg9 x0 x1 x2).1 ++ [putAll (k0_pay34 (F := Ideal))]))
          ((trips2 c i harg3 harg4 harg5 harg6 harg7 harg8 harg9 x0 x1 x2).2.1
            ++ ((trips1 c i harg3 harg4 harg5 harg6 harg7 harg8 harg9 x0 x1 x2).2.1 ++ [putAll (k0_pay35 (F := Ideal))]))
          ((trips2 c i harg3 harg4 harg5 harg6 harg7 harg8 harg9 x0 x1 x2).2.2
            ++ ((trips1 c i harg3 harg4 harg5 harg6 harg7 harg8 harg9 x0 x1 x2).2.2 ++ [putAll (k0_pay36 (F := Ideal))]))⟩] := by
  unfold kernelRun0_A
  rfl

theorem start_at (arg : Memref sig .tc .vmem S2x256x128 .f32) (w : Vec Ideal S2x256x128 .f32) :
    arg.view.read (Elt Ideal) (start arg w) = w :=
  View.read_writes_full _ _ _ _ _

/-- THE OUTPUT BLOCK of a grid point: each row the quotient of its weighted sum and its sum over the tiles up to the
query's own. -/
theorem out_at (j : Fin 2) (r : Fin 256) (l : Fin 128) (hj : j = if l.val < 64 then 0 else 1) :
    out0_A_3 (F := Ideal) c i arg3 harg3 arg4 harg4 arg5 harg5 arg6 harg6 arg7 harg7 arg8 harg8 arg9 harg9 x0 x1 x2 (ix3 0 r l)
      = Ideal.div (rowA (tiles (rowAt x0 x1 (i 2).val j r)) (tiles (colAt x2 l)) ((i 2).val + 1))
          (rowL (tiles (rowAt x0 x1 (i 2).val j r)) ((i 2).val + 1)) := by
  have H0 := loop_holds i harg3 harg4 harg5 harg6 harg7 harg8 harg9 (harg3.unread x0) (harg4.unread x1) (harg5.unread x2) c
    (start arg7 (k0_pay34 (F := Ideal))) (start arg8 (k0_pay35 (F := Ideal))) (start arg9 (k0_pay36 (F := Ideal)))
    ⟨fun j r l => by rw [start_at, pay34_at]; rfl, fun j r l => by rw [start_at, pay35_at]; rfl,
      fun j r l => by rw [start_at, pay36_at]; rfl⟩ (k0_t1_loop i).trips le_rfl (trips_first i)
  rw [harg3.read_unread, harg4.read_unread, harg5.read_unread] at H0
  rw [out0_A_3, run_eq, View.read_writes_full, second_eq]
  refine outBlock_at i harg3 harg4 harg5 x0 x1 x2 _ _ _ ?_ j r l hj
  rw [List.nil_append, List.nil_append, List.nil_append, View.writes_append, View.writes_append, View.writes_append]
  rw [trips_first i] at H0
  rw [trips1, trips_first i]
  exact H0

end

end Cert.Attn

end
-- ==== Proof.Reference.lean ====
/- What the reference computes, element by element: masked scaled scores, their softmax over all the keys, and the
   values weighted by it. -/
module

public import proofs.«01_k».proof.Proof.Gen.ReferenceIdeal.Run
public import proofs.«01_k».proof.Proof.RowMath
public import proofs.«01_k».proof.Proof.Tile
public import Idealize.ShloMosaic.Lib.Pointwise

@[expose] public section

set_option maxRecDepth 16384

noncomputable section

namespace Cert.AttnRef

open Cert.ReferenceIdeal Cert.ReferenceIdeal.Gen Idealize.ShloMosaic Idealize.ShloMosaic.TcCoe Idealize.SL.Sem
open Cert.Attn (top scale ofBits_neg_inf)

/-- The chunk of 64 positions that each position lies in, as the reference computes it. -/
def chunks : IVec S16384 32 :=
  select
    (andi
      (cmpi .ne (signi (iotaInDim S16384 32 0))
        (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- The visible pairs: the key's chunk is at most the query's. -/
def visible : IVec S16384x16384 1 :=
  cmpi .sle
    (broadcastInDim S16384x16384 ![0, 1] bcast_S1x16384_S16384x16384_0_1 (broadcastInDim S1x16384 ![1] bcast_S16384_S1x16384_1 chunks))
    (broadcastInDim S16384x16384 ![0, 1] bcast_S16384x1_S16384x16384_0_1 (broadcastInDim S16384x1 ![0] bcast_S16384_S16384x1_0 chunks))

/-- The masked, scaled scores of every head. -/
def scores (q k : FVec Ideal S1x16384x1024 .bf16) : FVec Ideal S1x8x16384x16384 .f32 :=
  select (broadcastInDim S1x8x16384x16384 ![2, 3] bcast_S16384x16384_S1x8x16384x16384_2_3 visible)
    (mulf
      (Host.dotGeneral dot_S1x16384x8x128_S1x16384x8x128_S1x8x16384x16384_3_3_1_1_02_02 none
        (shapeCast _ q shapeCasts_S1x16384x1024_S1x16384x8x128) (shapeCast _ k shapeCasts_S1x16384x1024_S1x16384x8x128))
      (broadcastInDim S1x8x16384x16384 ![] bcast_S_S1x8x16384x16384 (constant S_ .f32 0x3DD105EC#32)))
    (broadcastInDim S1x8x16384x16384 ![] bcast_S_S1x8x16384x16384 (id (constant S_ .f32 0xFF800000#32)))

/-- The greatest score of each row. -/
def greatest (s : FVec Ideal S1x8x16384x16384 .f32) : FVec Ideal S1x8x16384 .f32 :=
  maximumf (broadcastInDim S1x8x16384 ![] bcast_S_S1x8x16384 (constant S_ .f32 0xFF800000#32))
    (Host.reduce FloatOps.maximumf s (constant S_ .f32 0xFF800000#32) reducesTo_S1x8x16384x16384_S1x8x16384_d3 h_S_)

/-- A number per row, spread over the row. -/
def spread (g : FVec Ideal S1x8x16384 .f32) : FVec Ideal S1x8x16384x16384 .f32 :=
  broadcastInDim S1x8x16384x16384 ![0, 1, 2, 3] bcast_S1x8x16384x1_S1x8x16384x16384_0_1_2_3
    (broadcastInDim S1x8x16384x1 ![0, 1, 2] bcast_S1x8x16384_S1x8x16384x1_0_1_2 g)

/-- The exponentials of the scores below the row's greatest. -/
def exps (s : FVec Ideal S1x8x16384x16384 .f32) : FVec Ideal S1x8x16384x16384 .f32 :=
  Host.exp (subf s (spread (greatest s)))

/-- The softmax of each row of scores. -/
def softmax (s : FVec Ideal S1x8x16384x16384 .f32) : FVec Ideal S1x8x16384x16384 .f32 :=
  Host.divf (exps s)
    (spread (Host.reduceAdd (exps s) (constant S_ .f32 0x00000000#32) reducesTo_S1x8x16384x16384_S1x8x16384_d3 h_S_))

/-- The values weighted by the rows of `p`, heads side by side. -/
def weigh (p : FVec Ideal S1x8x16384x16384 .f32) (v : FVec Ideal S1x16384x512 .bf16) : FVec Ideal S1x16384x512 .bf16 :=
  shapeCast _ (truncf .bf16 (transpose S1x16384x8x64 [0, 3, 1, 2]
    (Host.dotGeneral dot_S1x16384x8x64_S1x8x16384x16384_S1x8x64x16384_1_3_3_2_02_01 none
      (shapeCast _ v shapeCasts_S1x16384x512_S1x16384x8x64) (truncf .bf16 p bitsLt_bf16_f32))
    transposes_S1x8x64x16384_S1x16384x8x64_0_3_1_2) bitsLt_bf16_f32) shapeCasts_S1x16384x8x64_S1x16384x512

/-- The reference's result, in these words. -/
theorem result_eq (m : (ℓ : Loc nD τ sig) → Buf (Elt Ideal) ℓ) (c : Dev nD) :
    Value.res_main_v29 m c
      = weigh (softmax (scores (m ((c.tc : Thread nD τ).loc main_arg0)) (m ((c.tc : Thread nD τ).loc main_arg1))))
          (m ((c.tc : Thread nD τ).loc main_arg2)) := rfl

/-- The masked score of query `r` against key `t` in head `h`. -/
def rowOf (q k : FVec Ideal S1x16384x1024 .bf16) (h : Fin 8) (r : Fin 16384) (t : Fin 16384) : EReal :=
  if t.val / 64 ≤ r.val / 64 then
    (∑ d : Fin 128, q (ix3 0 r ⟨128 * h.val + d.val, by omega⟩) * k (ix3 0 t ⟨128 * h.val + d.val, by omega⟩)) * scale
  else ⊥

/-- The chunk of a position in the reference's words. -/
def chunk (x : BitVec 32) : BitVec 32 :=
  Scalar.select
    (IntOp.andi
      (IntOp.cmpi .ne (if x = 0 then (0 : BitVec 32) else if x.msb = true then -1 else 1)
        (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32)
    (IntOp.divsi .host x 64#32)

theorem chunk_eq : ∀ r : Fin 16384, chunk (BitVec.ofNat 32 r.val) = BitVec.ofNat 32 (r.val / 64) := by decide +kernel

theorem chunks_at (r : Fin 16384) : chunks (ix1 r) = BitVec.ofNat 32 (r.val / 64) := by
  rw [← chunk_eq]
  unfold chunk
  pointwise [chunks]
  rfl

theorem chunk_le (t r : Fin 16384) (x y : EReal) :
    (Scalar.select (IntOp.cmpi .sle (BitVec.ofNat 32 (t.val / 64)) (BitVec.ofNat 32 (r.val / 64))) x y : EReal)
      = if t.val / 64 ≤ r.val / 64 then x else y := by
  have h : ∀ a b : Fin 256, IntOp.cmpi .sle (BitVec.ofNat 32 a.val) (BitVec.ofNat 32 b.val) = if a.val ≤ b.val then 1#1 else 0#1 := by
    decide +kernel
  have := h ⟨t.val / 64, by omega⟩ ⟨r.val / 64, by omega⟩
  rw [this]
  split <;> rfl

theorem visible_at (r t : Fin 16384) (x y : EReal) :
    Scalar.select (visible (ix2 r t)) x y = if t.val / 64 ≤ r.val / 64 then x else y := by
  rw [← chunk_le]
  pointwise [visible, chunks_at]

theorem scores_at (q k : FVec Ideal S1x16384x1024 .bf16) (h : Fin 8) (r t : Fin 16384) :
    scores q k (ix4 0 h r t) = rowOf q k h r t := by
  unfold rowOf scale
  rw [← visible_at, ← ofBits_neg_inf]
  simp only [Nat.mul_comm 128]
  pointwise [scores]
  rfl

/-- The greatest of each row, at any extents. -/
theorem greatest_of {a b n k : ℕ} (s : FVec Ideal (⟨4, ![a, b, n, k]⟩ : Shape) .f32)
    (hb : S_.BroadcastsInDim (⟨3, ![a, b, n]⟩ : Shape) ![])
    (h : (⟨4, ![a, b, n, k]⟩ : Shape).ReducesTo [3] ⟨3, ![a, b, n]⟩) (hu : 0 < S_.numel) (x : Fin a) (y : Fin b) (r : Fin n) :
    maximumf (broadcastInDim (⟨3, ![a, b, n]⟩ : Shape) ![] hb (constant S_ .f32 0xFF800000#32))
        (Host.reduce FloatOps.maximumf s (constant S_ .f32 0xFF800000#32) h hu) (ix3 x y r)
      = top fun t : Fin k => s (ix4 x y r t) := by
  unfold top
  rw [← ofBits_neg_inf]
  pointwise
  rw [ofBits_neg_inf, bot_sup_eq]

theorem greatest_at (s : FVec Ideal S1x8x16384x16384 .f32) (h : Fin 8) (r : Fin 16384) :
    greatest s (ix3 0 h r) = top fun t => s (ix4 0 h r t) := by
  unfold greatest
  exact greatest_of s bcast_S_S1x8x16384 reducesTo_S1x8x16384x16384_S1x8x16384_d3 h_S_ 0 h r

theorem exps_at (s : FVec Ideal S1x8x16384x16384 .f32) (h : Fin 8) (r t : Fin 16384) :
    exps s (ix4 0 h r t) = Ideal.exp (s (ix4 0 h r t) - top fun t => s (ix4 0 h r t)) := by
  pointwise [exps, spread, greatest_at]

theorem softmax_at (s : FVec Ideal S1x8x16384x16384 .f32) (h : Fin 8) (r t : Fin 16384) :
    softmax s (ix4 0 h r t)
      = Ideal.div (Ideal.exp (s (ix4 0 h r t) - top fun t => s (ix4 0 h r t)))
          (∑ t', Ideal.exp (s (ix4 0 h r t') - top fun t => s (ix4 0 h r t))) := by
  pointwise [softmax, spread, exps_at]

theorem weigh_at (p : FVec Ideal S1x8x16384x16384 .f32) (v : FVec Ideal S1x16384x512 .bf16) (r : Fin 16384) (h : Fin 8)
    (l : Fin 64) :
    weigh p v (ix3 0 r ⟨64 * h.val + l.val, by omega⟩)
      = ∑ t : Fin 16384, v (ix3 0 t ⟨64 * h.val + l.val, by omega⟩) * p (ix4 0 h r t) := by
  simp only [Nat.mul_comm 64]
  pointwise [weigh]

end Cert.AttnRef
-- ==== Proof.Final.lean ====
/- What the output array of the attention kernel holds after the whole grid. -/
module

public import proofs.«01_k».proof.Proof.Gen.KernelIdeal.Value
public import proofs.«01_k».proof.Proof.Block
public import proofs.«01_k».proof.Proof.Reference
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem
open Cert.AttnRef (rowOf)

/-- Column `j` of the values, over the keys. -/
def colOf (v : FVec Ideal S1x16384x512 .bf16) (j : Fin 512) (t : Fin 16384) : EReal := v (ix3 0 t j)

/-- One element of the kernel's result: row `r`, column `j`. -/
def elem (q k : FVec Ideal S1x16384x1024 .bf16) (v : FVec Ideal S1x16384x512 .bf16) (r : Fin 16384) (j : Fin 512) : EReal :=
  Ideal.div
    (rowA (tiles (rowOf q k ⟨j.val / 64, by omega⟩ r)) (tiles (colOf v j)) (r.val / 256 + 1))
    (rowL (tiles (rowOf q k ⟨j.val / 64, by omega⟩ r)) (r.val / 256 + 1))

/-- The kernel's result as an array. -/
def whole (q k : FVec Ideal S1x16384x1024 .bf16) (v : FVec Ideal S1x16384x512 .bf16) : FVec Ideal S1x16384x512 .bf16 :=
  fun x => elem q k v (x 1) (x 2)

/-- Which block each window reads or writes at a grid point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

section
variable (m : (ℓ : Loc nD τ sig) → Buf (Elt Ideal) ℓ) (c : Dev nD) (t : Fin cfg0.N)

/-- The grid point's group of 256 queries and pair of heads. -/
def qi : Fin 64 := grid0.coords t 2
def pr : Fin 4 := grid0.coords t 1

theorem q_at (r d : Fin 256) :
    iblk m c 0 t (ix3 0 r d) = m ((c.tc : Thread nD τ).loc main_arg0)
      (ix3 0 ⟨256 * (qi t).val + r.val, by have := (qi t).isLt; omega⟩ ⟨256 * (pr t).val + d.val, by have := (pr t).isLt; omega⟩) := by
  unfold qi pr
  blk_ext [iblk, V, idx t]

theorem k_at (r : Fin 16384) (d : Fin 256) :
    iblk m c 1 t (ix3 0 r d) = m ((c.tc : Thread nD τ).loc main_arg1)
      (ix3 0 r ⟨256 * (pr t).val + d.val, by have := (pr t).isLt; omega⟩) := by
  unfold pr
  blk_ext [iblk, V, idx t]

theorem v_at (r : Fin 16384) (l : Fin 128) :
    iblk m c 2 t (ix3 0 r l) = m ((c.tc : Thread nD τ).loc main_arg2)
      (ix3 0 r ⟨128 * (pr t).val + l.val, by have := (pr t).isLt; omega⟩) := by
  unfold pr
  blk_ext [iblk, V, idx t]

theorem whole_at (q k : FVec Ideal S1x16384x1024 .bf16) (v : FVec Ideal S1x16384x512 .bf16) (r : Fin 256) (l : Fin 128) :
    whole q k v ((win0_3.blk t).view.emb (ix3 0 r l))
      = elem q k v ⟨256 * (qi t).val + r.val, by have := (qi t).isLt; omega⟩ ⟨128 * (pr t).val + l.val, by have := (pr t).isLt; omega⟩ := by
  have e : (win0_3.blk t).view.emb (ix3 0 r l)
      = ix3 0 ⟨256 * (qi t).val + r.val, by have := (qi t).isLt; omega⟩ ⟨128 * (pr t).val + l.val, by have := (pr t).isLt; omega⟩ := by
    unfold qi pr
    blk_ext [idx t]
  rw [e]
  rfl

/-- The scores of a row of the block are those of its row of the arrays. -/
theorem row_at (j : Fin 2) (r : Fin 256) :
    rowAt (iblk m c 0 t) (iblk m c 1 t) (qi t).val j r
      = rowOf (m ((c.tc : Thread nD τ).loc main_arg0)) (m ((c.tc : Thread nD τ).loc main_arg1))
          ⟨2 * (pr t).val + j.val, by have := (pr t).isLt; omega⟩
          ⟨256 * (qi t).val + r.val, by have := (qi t).isLt; omega⟩ := by
  funext key
  unfold rowAt scoreAt rowOf lane
  congr 2
  refine Finset.sum_congr rfl fun d _ => ?_
  rw [q_at, k_at]
  have e : 256 * (pr t).val + (128 * j.val + d.val) = 128 * (2 * (pr t).val + j.val) + d.val := by omega
  simp only [e]

/-- The columns of the block of values are those of the array. -/
theorem col_at (l : Fin 128) :
    colAt (iblk m c 2 t) l
      = colOf (m ((c.tc : Thread nD τ).loc main_arg2)) ⟨128 * (pr t).val + l.val, by have := (pr t).isLt; omega⟩ := by
  funext key
  exact v_at m c t key l

/-- What a grid point writes is its block of the whole result. -/
theorem point_at (r : Fin 256) (l : Fin 128) :
    outsAt0 m c t (ix3 0 r l)
      = elem (m ((c.tc : Thread nD τ).loc main_arg0)) (m ((c.tc : Thread nD τ).loc main_arg1)) (m ((c.tc : Thread nD τ).loc main_arg2))
          ⟨256 * (qi t).val + r.val, by have := (qi t).isLt; omega⟩ ⟨128 * (pr t).val + l.val, by have := (pr t).isLt; omega⟩ := by
  have h := out_at c (grid0.coords t) (hs0_0 t) (hs0_1 t) (hs0_2 t) (hs0_3 t)
    (arg7 := scM0_0) (Memref.isWhole_whole _) (arg8 := scM0_1) (Memref.isWhole_whole _) (arg9 := scM0_2) (Memref.isWhole_whole _)
    (iblk m c 0 t) (iblk m c 1 t) (iblk m c 2 t) (if l.val < 64 then 0 else 1) r l rfl
  refine Eq.trans h ?_
  have hh : (⟨(128 * (pr t).val + l.val) / 64, by have := (pr t).isLt; omega⟩ : Fin 8)
      = ⟨2 * (pr t).val + (if l.val < 64 then 0 else 1 : Fin 2).val, by have := (pr t).isLt; omega⟩ := by
    apply Fin.ext
    dsimp only
    split_ifs <;> simp <;> omega
  have hn : (256 * (qi t).val + r.val) / 256 = (qi t).val := by omega
  have hr := row_at m c t (if l.val < 64 then 0 else 1) r
  have hc := col_at m c t l
  unfold elem
  rw [hh, hn, ← hr, ← hc]
  rfl

/-- Two blocks agree when they agree at every row and lane. -/
theorem block_ext {f g : S1x256x128.Idx → EReal} (h : ∀ (r : Fin 256) (l : Fin 128), f (ix3 0 r l) = g (ix3 0 r l))
    (y : S1x256x128.Idx) : f y = g y := by
  idx_vars y
  rw [Subsingleton.elim y0 0]
  exact h y1 y2

theorem point (y : S1x256x128.Idx) :
    outsAt0 m c t y
      = whole (m ((c.tc : Thread nD τ).loc main_arg0)) (m ((c.tc : Thread nD τ).loc main_arg1)) (m ((c.tc : Thread nD τ).loc main_arg2))
          ((win0_3.blk t).view.emb y) := by
  refine block_ext (f := outsAt0 m c t) (g := fun y => whole _ _ _ ((win0_3.blk t).view.emb y)) (fun r l => ?_) y
  exact (point_at m c t r l).trans (whole_at t _ _ _ r l).symm

end

theorem final (m : (ℓ : Loc nD τ sig) → Buf (Elt Ideal) ℓ) (c : Dev nD) :
    (dats m 0 c).arrAt 3 (cfgs 0).N
      = whole (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point m c t y

end Cert.Attn
-- ==== Proof.Equation.lean ====
/- The kernel's result and the reference's are equal where the queries and keys are real numbers. -/
module

public import proofs.«01_k».proof.Proof.Final

@[expose] public section

set_option maxRecDepth 16384

noncomputable section

namespace Cert.Attn

open Cert.KernelIdeal Cert.KernelIdeal.Gen Idealize.ShloMosaic Idealize.ShloMosaic.TcCoe Idealize.SL.Sem
open Cert.AttnRef (rowOf softmax scores weigh weigh_at softmax_at scores_at)

/-- An extended real that is neither infinity is a real number. -/
theorem is_real {x : EReal} (h : x ≠ ⊤ ∧ x ≠ ⊥) : ∃ a : ℝ, x = a := ⟨x.toReal, (EReal.coe_toReal h.1 h.2).symm⟩

theorem scale_real : ∃ a : ℝ, scale = a := by
  unfold scale
  simp [Ideal.ofBits, Ideal.ieee]
  exact ⟨_, (EReal.coe_mul _ _).symm⟩

/-- What the precondition says of one element: below infinity in absolute value, so neither infinity. -/
theorem real_of_lt (x : EReal) (h : FloatOps.cmpf (F := Ideal) (φ := .bf16) .olt (FloatOps.absf (F := Ideal) (φ := .bf16) x) (Ideal.ofBits .bf16 0x7F80#16) = 1#1) :
    x ≠ ⊤ ∧ x ≠ ⊥ := by
  have e : Ideal.ofBits .bf16 0x7F80#16 = ⊤ := by simp [Ideal.ofBits, Ideal.ieee]
  rw [e] at h
  have hc : Ideal.cmp .olt (max x (-x)) ⊤ = 1#1 := h
  constructor <;> rintro rfl <;> simp [Ideal.cmp] at hc

/-- The inner product of two rows of real numbers is a real number. -/
theorem dot_real {n : ℕ} (a b : Fin n → EReal) (ha : ∀ d, a d ≠ ⊤ ∧ a d ≠ ⊥) (hb : ∀ d, b d ≠ ⊤ ∧ b d ≠ ⊥) :
    ∃ s : ℝ, ∑ d, a d * b d = s := by
  choose a' ha' using fun d => is_real (ha d)
  choose b' hb' using fun d => is_real (hb d)
  refine ⟨∑ d, a' d * b' d, ?_⟩
  simp only [ha', hb', ← EReal.coe_mul]
  exact (map_sum (⟨⟨fun x : ℝ => (x : EReal), EReal.coe_zero⟩, EReal.coe_add⟩ : ℝ →+ EReal) _ _).symm

section
variable (q k : FVec Ideal S1x16384x1024 .bf16) (v : FVec Ideal S1x16384x512 .bf16)
  (hq : ∀ x, q x ≠ ⊤ ∧ q x ≠ ⊥) (hk : ∀ x, k x ≠ ⊤ ∧ k x ≠ ⊥) (h : Fin 8) (r : Fin 16384)
include hq hk

/-- A visible score is a real number. -/
theorem score_real (t : Fin 16384) (ht : t.val / 64 ≤ r.val / 64) : ∃ a : ℝ, rowOf q k h r t = a := by
  obtain ⟨s, hs⟩ := dot_real (fun d : Fin 128 => q (ix3 0 r ⟨128 * h.val + d.val, by omega⟩))
    (fun d : Fin 128 => k (ix3 0 t ⟨128 * h.val + d.val, by omega⟩)) (fun d => hq _) (fun d => hk _)
  obtain ⟨a, ha⟩ := scale_real
  refine ⟨s * a, ?_⟩
  unfold rowOf
  rw [if_pos ht, hs, ha, EReal.coe_mul]

theorem row_ne_top (t : Fin 16384) : rowOf q k h r t ≠ ⊤ := by
  by_cases ht : t.val / 64 ≤ r.val / 64
  · obtain ⟨a, ha⟩ := score_real q k hq hk h r t ht
    rw [ha]
    exact EReal.coe_ne_top a
  · unfold rowOf
    rw [if_neg ht]
    exact bot_ne_top

/-- The tiles up to the query's own hold the whole row: the running quotient is the softmax's weighted sum. -/
theorem elem_eq (j : Fin 512) :
    elem q k v r j
      = ∑ t, colOf v j t * Ideal.div (Ideal.exp (rowOf q k ⟨j.val / 64, by omega⟩ r t - top (rowOf q k ⟨j.val / 64, by omega⟩ r)))
          (∑ t', Ideal.exp (rowOf q k ⟨j.val / 64, by omega⟩ r t' - top (rowOf q k ⟨j.val / 64, by omega⟩ r))) := by
  refine row_eq _ _ _ (by omega) (row_ne_top q k hq hk _ r) (fun t ht => ?_) ⟨r, ?_⟩
  · unfold rowOf
    rw [if_neg (by omega)]
  · obtain ⟨a, ha⟩ := score_real q k hq hk ⟨j.val / 64, by omega⟩ r r le_rfl
    rw [ha]
    exact EReal.coe_ne_bot a

/-- THE EQUATION: the kernel's array is the reference's. -/
theorem whole_eq : whole q k v = weigh (softmax (scores q k)) v := by
  funext x
  idx_vars x
  rw [Subsingleton.elim x0 0]
  refine (elem_eq q k v hq hk x1 x2).trans ?_
  have e : x2 = ⟨64 * (⟨x2.val / 64, by omega⟩ : Fin 8).val + (⟨x2.val % 64, by omega⟩ : Fin 64).val, by dsimp only; omega⟩ :=
    Fin.ext (by dsimp only; omega)
  have w := weigh_at (softmax (scores q k)) v x1 ⟨x2.val / 64, by omega⟩ ⟨x2.val % 64, by omega⟩
  rw [← e] at w
  rw [w]
  refine Finset.sum_congr rfl fun t _ => ?_
  rw [softmax_at]
  simp only [scores_at]
  rfl

end

end Cert.Attn
-- ==== Proof.FfnRow.lean ====
/- One row of the output projection, its normalisation and the feed-forward part, as mathematics. -/
module

public import proofs.«01_k».proof.Proof.Gen.Kernel2Ideal.Skeleton
public import Idealize.ShloMosaic.Lib.Pointwise

@[expose] public section

set_option maxRecDepth 16384

noncomputable section

namespace Cert.Ffn

open Idealize.ShloMosaic

/-- The two inputs of the output projection side by side. -/
def beside (a b : Fin 512 → EReal) (k : Fin 1024) : EReal :=
  if h : k.val < 512 then a ⟨k.val, h⟩ else b ⟨k.val - 512, by omega⟩

/-- The row after the output projection is added. -/
def mixed (x : Fin 1024 → EReal) (y : Fin 1024 → EReal) (w : Fin 1024 → Fin 1024 → EReal) (j : Fin 1024) : EReal :=
  x j + ∑ k, y k * w k j

/-- The row divided by the root of its mean square, times the gains. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- One hidden unit: the positive part of its inner product, squared. -/
def unit (x : Fin 1024 → EReal) (w : Fin 1024 → EReal) : EReal :=
  max (∑ k, x k * w k) (Ideal.ofBits .f32 0x00000000#32) * max (∑ k, x k * w k) (Ideal.ofBits .f32 0x00000000#32)

/-- The result row: the row plus the feed-forward part of the normed row. -/
def fed (x g : Fin 1024 → EReal) (up : Fin 1024 → Fin 4096 → EReal) (down : Fin 4096 → Fin 1024 → EReal) (j : Fin 1024) : EReal :=
  x j + ∑ f, unit (normed x g) (fun k => up k f) * down f j

/-- A sum over 4096 hidden units, in four runs of 1024. -/
theorem sum_four (u : Fin 4096 → EReal) :
    ∑ f, u f = (∑ f : Fin 1024, u ⟨f.val, by omega⟩) + (∑ f : Fin 1024, u ⟨1024 + f.val, by omega⟩)
      + (∑ f : Fin 1024, u ⟨2048 + f.val, by omega⟩) + (∑ f : Fin 1024, u ⟨3072 + f.val, by omega⟩) := by
  have h3 := Fin.sum_univ_add (a := 3072) (b := 1024) (fun i => u (Fin.cast (by norm_num) i))
  have h2 := Fin.sum_univ_add (a := 2048) (b := 1024) (fun i => u ⟨i.val, by omega⟩)
  have h1 := Fin.sum_univ_add (a := 1024) (b := 1024) (fun i => u ⟨i.val, by omega⟩)
  exact h3.trans (congrArg (· + _) (h2.trans (congrArg (· + _) h1)))

end Cert.Ffn
-- ==== Proof.FfnBlock.lean ====
/- What one grid point of the output and feed-forward kernel stores, row by row. -/
module

public import proofs.«01_k».proof.Proof.Gen.Kernel2Ideal.Frame
public import proofs.«01_k».proof.Proof.FfnRow
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

variable (a b : Vec Ideal S512x512 .bf16) (x : Vec Ideal S512x1024 .f32) (w : Vec Ideal S1024x1024 .bf16) (g : Vec Ideal S1x1024 .f32)

/-- The rows the projection reads, and the row it gives. -/
def mixRow (r : Fin 512) : Fin 1024 → EReal :=
  mixed (fun j => x (ix2 r j)) (beside (fun k => a (ix2 r k)) (fun k => b (ix2 r k))) (fun k j => w (ix2 k j))

theorem pay2_at (r : Fin 512) (j : Fin 1024) : k0_pay2 a b x w (ix2 r j) = mixRow a b x w r j := by
  unfold mixRow mixed beside
  pointwise [k0_pay2]

theorem pay3_at (r : Fin 512) (j : Fin 1024) :
    k0_pay3 a b x w g (ix2 r j) = normed (mixRow a b x w r) (fun k => g (ix2 0 k)) j := by
  unfold normed
  pointwise [k0_pay3, pay2_at]

theorem pay4_at (u d : Vec Ideal S1024x1024 .bf16) (r : Fin 512) (j : Fin 1024) :
    k0_pay4 a b x w g u d (ix2 r j) = mixRow a b x w r j
      + ∑ f : Fin 1024, unit (normed (mixRow a b x w r) (fun k => g (ix2 0 k))) (fun k => u (ix2 k f)) * d (ix2 f j) := by
  unfold unit
  pointwise [k0_pay4, pay3_at, pay2_at]

theorem pay1_at (z : FVec Ideal S512x1024 .bf16) (y : FVec Ideal S512x1024 .f32) (u1 d1 u2 d2 u3 d3 : Vec Ideal S1024x1024 .bf16)
    (r : Fin 512) (j : Fin 1024) :
    k0_pay1 z y u1 d1 u2 d2 u3 d3 (ix2 r j) = y (ix2 r j)
      + (∑ f : Fin 1024, unit (fun k => z (ix2 r k)) (fun k => u1 (ix2 k f)) * d1 (ix2 f j))
      + (∑ f : Fin 1024, unit (fun k => z (ix2 r k)) (fun k => u2 (ix2 k f)) * d2 (ix2 f j))
      + (∑ f : Fin 1024, unit (fun k => z (ix2 r k)) (fun k => u3 (ix2 k f)) * d3 (ix2 f j)) := by
  unfold unit
  pointwise [k0_pay1]

/-- A unit-stride part of a block at an index: the block at the offsets plus the index. -/
theorem ld_at {s : Shape} {e : EltTy} (x : s.Idx → Elt Ideal e) {off size : Fin s.rank → ℕ} (inb : ∀ a, off a + size a ≤ s.size a)
    (z : (Rect.unit off size inb).shape.Idx) (y : s.Idx) (h : ∀ a, (y a).val = off a + (z a).val) :
    View.ld x (Rect.unit off size inb) z = x y := by
  unfold View.ld
  congr 1
  funext a
  apply Fin.ext
  rw [h a]
  show off a + 1 * (z a).val = _
  rw [one_mul]

theorem ld_4 (u : Vec Ideal S1024x4096 .bf16) (k f : Fin 1024) :
    View.ld u r0_4 (ix2 k f) = u (ix2 k ⟨f.val, by omega⟩) := by
  exact ld_at _ _ _ _ fun a => by fin_cases a <;> simp [ix2]

theorem ld_5 (d : Vec Ideal S4096x1024 .bf16) (f j : Fin 1024) :
    View.ld d r0_5 (ix2 f j) = d (ix2 ⟨f.val, by omega⟩ j) := by
  exact ld_at _ _ _ _ fun a => by fin_cases a <;> simp [ix2]

theorem ld_6 (u : Vec Ideal S1024x4096 .bf16) (k f : Fin 1024) :
    View.ld u r0_6 (ix2 k f) = u (ix2 k ⟨1024 + f.val, by omega⟩) := by
  exact ld_at _ _ _ _ fun a => by fin_cases a <;> simp [ix2]

theorem ld_7 (d : Vec Ideal S4096x1024 .bf16) (f j : Fin 1024) :
    View.ld d r0_7 (ix2 f j) = d (ix2 ⟨1024 + f.val, by omega⟩ j) := by
  exact ld_at _ _ _ _ fun a => by fin_cases a <;> simp [ix2]

theorem ld_8 (u : Vec Ideal S1024x4096 .bf16) (k f : Fin 1024) :
    View.ld u r0_8 (ix2 k f) = u (ix2 k ⟨2048 + f.val, by omega⟩) := by
  exact ld_at _ _ _ _ fun a => by fin_cases a <;> simp [ix2]

theorem ld_9 (d : Vec Ideal S4096x1024 .bf16) (f j : Fin 1024) :
    View.ld d r0_9 (ix2 f j) = d (ix2 ⟨2048 + f.val, by omega⟩ j) := by
  exact ld_at _ _ _ _ fun a => by fin_cases a <;> simp [ix2]

theorem ld_10 (u : Vec Ideal S1024x4096 .bf16) (k f : Fin 1024) :
    View.ld u r0_10 (ix2 k f) = u (ix2 k ⟨3072 + f.val, by omega⟩) := by
  exact ld_at _ _ _ _ fun a => by fin_cases a <;> simp [ix2]

theorem ld_11 (d : Vec Ideal S4096x1024 .bf16) (f j : Fin 1024) :
    View.ld d r0_11 (ix2 f j) = d (ix2 ⟨3072 + f.val, by omega⟩ j) := by
  exact ld_at _ _ _ _ fun a => by fin_cases a <;> simp [ix2]

theorem pay5_at (u : Vec Ideal S1024x1024 .bf16) (k f : Fin 1024) : k0_pay5 u (ix2 k f) = u (ix2 k f) := by
  pointwise [k0_pay5]

/-- The four runs of hidden units together, for blocks that are the runs of whole weights. -/
theorem runs_at (u : Vec Ideal S1024x4096 .bf16) (d : Vec Ideal S4096x1024 .bf16) (u0 d0 u1 d1 u2 d2 u3 d3 : Vec Ideal S1024x1024 .bf16)
    (hu0 : ∀ k f : Fin 1024, u0 (ix2 k f) = u (ix2 k ⟨f.val, by omega⟩))
    (hd0 : ∀ f j : Fin 1024, d0 (ix2 f j) = d (ix2 ⟨f.val, by omega⟩ j))
    (hu1 : ∀ k f : Fin 1024, u1 (ix2 k f) = u (ix2 k ⟨1024 + f.val, by omega⟩))
    (hd1 : ∀ f j : Fin 1024, d1 (ix2 f j) = d (ix2 ⟨1024 + f.val, by omega⟩ j))
    (hu2 : ∀ k f : Fin 1024, u2 (ix2 k f) = u (ix2 k ⟨2048 + f.val, by omega⟩))
    (hd2 : ∀ f j : Fin 1024, d2 (ix2 f j) = d (ix2 ⟨2048 + f.val, by omega⟩ j))
    (hu3 : ∀ k f : Fin 1024, u3 (ix2 k f) = u (ix2 k ⟨3072 + f.val, by omega⟩))
    (hd3 : ∀ f j : Fin 1024, d3 (ix2 f j) = d (ix2 ⟨3072 + f.val, by omega⟩ j))
    (r : Fin 512) (j : Fin 1024) :
    k0_pay1 (k0_pay3 a b x w g) (k0_pay4 a b x w g u0 d0) (k0_pay5 u1) d1 u2 d2 u3 d3 (ix2 r j)
      = fed (mixRow a b x w r) (fun k => g (ix2 0 k)) (fun k f => u (ix2 k f)) (fun f j => d (ix2 f j)) j := by
  unfold fed
  rw [sum_four, pay1_at, pay4_at]
  simp only [pay3_at, pay5_at, hu0, hd0, hu1, hd1, hu2, hd2, hu3, hd3, add_assoc]

/-- THE OUTPUT BLOCK of a grid point: the feed-forward result of each of its 512 rows. -/
theorem out_at (u : Vec Ideal S1024x4096 .bf16) (d : Vec Ideal S4096x1024 .bf16) (r : Fin 512) (j : Fin 1024) :
    out0_7 (F := Ideal) x a b w g u d (ix2 r j)
      = fed (mixRow a b x w r) (fun k => g (ix2 0 k)) (fun k f => u (ix2 k f)) (fun f j => d (ix2 f j)) j := by
  unfold out0_7
  frame_out
  exact runs_at a b x w g u d _ _ _ _ _ _ _ _ (ld_4 u) (ld_5 d) (ld_6 u) (ld_7 d) (ld_8 u) (ld_9 d) (ld_10 u) (ld_11 d) r j

end Cert.Ffn
-- ==== Proof.FfnReference.lean ====
/- What the reference of the output and feed-forward part computes, row by row. -/
module

public import proofs.«01_k».proof.Proof.Gen.Reference2Ideal.Run
public import proofs.«01_k».proof.Proof.FfnRow

@[expose] public section

set_option maxRecDepth 16384

noncomputable section

namespace Cert.FfnRef

open Cert.Reference2Ideal Cert.Reference2Ideal.Gen Idealize.ShloMosaic Idealize.ShloMosaic.TcCoe Idealize.SL.Sem
open Cert.Ffn

variable (x : FVec Ideal S16384x1024 .f32) (a b : FVec Ideal S16384x512 .bf16) (w : FVec Ideal S1024x1024 .f32)
  (g : FVec Ideal S1024 .f32) (u : FVec Ideal S1024x4096 .f32) (d : FVec Ideal S4096x1024 .f32)

/-- The rows after the output projection. -/
def mix : FVec Ideal S16384x1024 .f32 :=
  addf x (Host.dotGeneral dot_S16384x1024_S1024x1024_S16384x1024_1_0_0_1_n_n none
    (extf .f32 (concatenate S16384x1024 1 [⟨S16384x512, a⟩, ⟨S16384x512, b⟩] concatenates_S16384x512_S16384x512_S16384x1024_d1)
      bitsLt_bf16_f32) w)

/-- The root mean square normalisation of the rows. -/
def norm (y : FVec Ideal S16384x1024 .f32) (g : FVec Ideal S1024 .f32) : FVec Ideal S16384x1024 .f32 :=
  mulf (mulf y (broadcastInDim S16384x1024 ![0, 1] bcast_S16384x1_S16384x1024_0_1
      (Host.rsqrt (addf (Host.divf (broadcastInDim S16384x1 ![0] bcast_S16384_S16384x1_0
          (Host.reduceAdd (mulf y y) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The positive part of the hidden units. -/
def hidden (y : FVec Ideal S16384x1024 .f32) (u : FVec Ideal S1024x4096 .f32) : FVec Ideal S16384x4096 .f32 :=
  maximumf (Host.dotGeneral dot_S16384x1024_S1024x4096_S16384x4096_1_0_0_1_n_n none y u)
    (broadcastInDim S16384x4096 ![] bcast_S_S16384x4096 (constant S_ .f32 0x00000000#32))

/-- The whole part. -/
def ffn (y : FVec Ideal S16384x1024 .f32) : FVec Ideal S16384x1024 .f32 :=
  addf y (Host.dotGeneral dot_S16384x4096_S4096x1024_S16384x1024_1_0_0_1_n_n none
    (mulf (hidden (norm y g) u) (hidden (norm y g) u)) d)

theorem result_eq (m : (ℓ : Loc nD τ sig) → Buf (Elt Ideal) ℓ) (c : Dev nD) :
    Value.res_main_v21 m c
      = ffn (m ((c.tc : Thread nD τ).loc main_arg4)) (m ((c.tc : Thread nD τ).loc main_arg5)) (m ((c.tc : Thread nD τ).loc main_arg6))
          (mix (m ((c.tc : Thread nD τ).loc main_arg0)) (m ((c.tc : Thread nD τ).loc main_arg1)) (m ((c.tc : Thread nD τ).loc main_arg2))
            (m ((c.tc : Thread nD τ).loc main_arg3))) := rfl

theorem mix_at (r : Fin 16384) (j : Fin 1024) :
    mix x a b w (ix2 r j)
      = mixed (fun j => x (ix2 r j)) (beside (fun k => a (ix2 r k)) (fun k => b (ix2 r k))) (fun k j => w (ix2 k j)) j := by
  unfold mixed beside
  pointwise [mix]

theorem norm_at (y : FVec Ideal S16384x1024 .f32) (r : Fin 16384) (j : Fin 1024) :
    norm y g (ix2 r j) = normed (fun k => y (ix2 r k)) (fun k => g (ix1 k)) j := by
  unfold normed
  pointwise [norm]

theorem hidden_at (y : FVec Ideal S16384x1024 .f32) (r : Fin 16384) (f : Fin 4096) :
    hidden y u (ix2 r f) = max (∑ k, y (ix2 r k) * u (ix2 k f)) (Ideal.ofBits .f32 0x00000000#32) := by
  pointwise [hidden]

theorem ffn_at (y : FVec Ideal S16384x1024 .f32) (r : Fin 16384) (j : Fin 1024) :
    ffn g u d y (ix2 r j)
      = fed (fun k => y (ix2 r k)) (fun k => g (ix1 k)) (fun k f => u (ix2 k f)) (fun f j => d (ix2 f j)) j := by
  unfold fed unit
  pointwise [ffn, hidden_at, norm_at]

end Cert.FfnRef
-- ==== Proof.FfnFinal.lean ====
/- What the output array of the output and feed-forward kernel holds after the whole grid: the reference's array. -/
module

public import proofs.«01_k».proof.Proof.Gen.Kernel2Ideal.Value
public import proofs.«01_k».proof.Proof.FfnBlock
public import proofs.«01_k».proof.Proof.FfnReference

@[expose] public section

set_option maxRecDepth 16384

noncomputable section

namespace Cert.Ffn

open Cert.Kernel2Ideal Cert.Kernel2Ideal.Gen Idealize.ShloMosaic Idealize.ShloMosaic.TcCoe Idealize.SL.Sem
open Cert.FfnRef (mix ffn mix_at ffn_at)

theorem idx : ∀ t : Fin cfg0.N,
    win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![(grid0.coords t 0).val, 0] :=
  (by decide +kernel : ∀ t : Fin grid0.N, _)

variable (m : (ℓ : Loc nD τ sig) → Buf (Elt Ideal) ℓ) (c : Dev nD) (t : Fin cfg0.N)

/-- Row `r` of grid point `t`'s block, in the whole array. -/
def at_ (r : Fin 512) : Fin 16384 := ⟨512 * (grid0.coords t 0).val + r.val, by have : (grid0.coords t 0).val < 32 := (grid0.coords t 0).isLt; omega⟩

theorem V_w : V m c main_v0 = m ((c.tc : Thread nD τ).loc main_arg3) := by
  unfold V
  after_results
  rfl

theorem V_g : V m c main_v1 = shapeCast S1x1024 (m ((c.tc : Thread nD τ).loc main_arg4)) shapeCasts_S1024_S1x1024 := by
  unfold V
  after_results
  rfl

theorem V_u : V m c main_v2 = m ((c.tc : Thread nD τ).loc main_arg5) := by
  unfold V
  after_results
  rfl

theorem V_d : V m c main_v3 = m ((c.tc : Thread nD τ).loc main_arg6) := by
  unfold V
  after_results
  rfl

theorem x_at (r : Fin 512) (j : Fin 1024) : iblk m c 0 t (ix2 r j) = m ((c.tc : Thread nD τ).loc main_arg0) (ix2 (at_ t r) j) := by
  unfold at_
  rw [← V_main_arg0 m c]
  blk_ext [iblk, idx t]

theorem a_at (r : Fin 512) (j : Fin 512) : iblk m c 1 t (ix2 r j) = m ((c.tc : Thread nD τ).loc main_arg1) (ix2 (at_ t r) j) := by
  unfold at_
  rw [← V_main_arg1 m c]
  blk_ext [iblk, idx t]

theorem b_at (r : Fin 512) (j : Fin 512) : iblk m c 2 t (ix2 r j) = m ((c.tc : Thread nD τ).loc main_arg2) (ix2 (at_ t r) j) := by
  unfold at_
  rw [← V_main_arg2 m c]
  blk_ext [iblk, idx t]

theorem w_at (k j : Fin 1024) : iblk m c 3 t (ix2 k j) = m ((c.tc : Thread nD τ).loc main_arg3) (ix2 k j) := by
  rw [← V_w m c]
  blk_ext [iblk, idx t]

theorem g_at (k : Fin 1024) : iblk m c 4 t (ix2 0 k) = m ((c.tc : Thread nD τ).loc main_arg4) (ix1 k) := by
  trans V m c main_v1 (ix2 0 k)
  · blk_ext [iblk, idx t]
  · rw [V_g]
    pointwise

theorem u_at (k : Fin 1024) (f : Fin 4096) : iblk m c 5 t (ix2 k f) = m ((c.tc : Thread nD τ).loc main_arg5) (ix2 k f) := by
  rw [← V_u m c]
  blk_ext [iblk, idx t]

theorem d_at (f : Fin 4096) (j : Fin 1024) : iblk m c 6 t (ix2 f j) = m ((c.tc : Thread nD τ).loc main_arg6) (ix2 f j) := by
  rw [← V_d m c]
  blk_ext [iblk, idx t]

/-- The row after the output projection, of a row of the block, is that of its row of the whole arrays. -/
theorem mixRow_at (r : Fin 512) :
    mixRow (iblk m c 1 t) (iblk m c 2 t) (iblk m c 0 t) (iblk m c 3 t) r
      = mixed (fun j => m ((c.tc : Thread nD τ).loc main_arg0) (ix2 (at_ t r) j))
          (beside (fun k => m ((c.tc : Thread nD τ).loc main_arg1) (ix2 (at_ t r) k)) (fun k => m ((c.tc : Thread nD τ).loc main_arg2) (ix2 (at_ t r) k)))
          (fun k j => m ((c.tc : Thread nD τ).loc main_arg3) (ix2 k j)) := by
  unfold mixRow
  simp only [x_at, a_at, b_at, w_at]

/-- The result array, from the arguments. -/
def whole : FVec Ideal S16384x1024 .f32 :=
  ffn (m ((c.tc : Thread nD τ).loc main_arg4)) (m ((c.tc : Thread nD τ).loc main_arg5)) (m ((c.tc : Thread nD τ).loc main_arg6))
    (mix (m ((c.tc : Thread nD τ).loc main_arg0)) (m ((c.tc : Thread nD τ).loc main_arg1)) (m ((c.tc : Thread nD τ).loc main_arg2))
      (m ((c.tc : Thread nD τ).loc main_arg3)))

theorem whole_at (r : Fin 16384) (j : Fin 1024) :
    whole m c (ix2 r j)
      = fed (mixed (fun j => m ((c.tc : Thread nD τ).loc main_arg0) (ix2 r j))
          (beside (fun k => m ((c.tc : Thread nD τ).loc main_arg1) (ix2 r k)) (fun k => m ((c.tc : Thread nD τ).loc main_arg2) (ix2 r k)))
          (fun k j => m ((c.tc : Thread nD τ).loc main_arg3) (ix2 k j)))
        (fun k => m ((c.tc : Thread nD τ).loc main_arg4) (ix1 k)) (fun k f => m ((c.tc : Thread nD τ).loc main_arg5) (ix2 k f))
        (fun f j => m ((c.tc : Thread nD τ).loc main_arg6) (ix2 f j)) j := by
  unfold whole
  rw [ffn_at]
  congr 1
  funext k
  exact mix_at _ _ _ _ r k

/-- What a grid point writes, element by element, is its row of the whole result. -/
theorem point_at (r : Fin 512) (j : Fin 1024) :
    out0_7 (F := Ideal) (iblk m c 0 t) (iblk m c 1 t) (iblk m c 2 t) (iblk m c 3 t) (iblk m c 4 t) (iblk m c 5 t) (iblk m c 6 t) (ix2 r j)
      = whole m c (ix2 (at_ t r) j) := by
  rw [out_at, whole_at, mixRow_at]
  simp only [g_at, u_at, d_at]

theorem emb_at (r : Fin 512) (j : Fin 1024) : (win0_7.blk t).view.emb (ix2 r j) = ix2 (at_ t r) j := by
  unfold at_
  blk_ext [idx t]

/-- Two blocks agree when they agree at every row and column. -/
theorem block_ext {f g : S512x1024.Idx → EReal} (h : ∀ (r : Fin 512) (j : Fin 1024), f (ix2 r j) = g (ix2 r j))
    (y : S512x1024.Idx) : f y = g y := by
  idx_vars y
  exact h y0 y1

theorem point (y : S512x1024.Idx) :
    out0_7 (F := Ideal) (iblk m c 0 t) (iblk m c 1 t) (iblk m c 2 t) (iblk m c 3 t) (iblk m c 4 t) (iblk m c 5 t) (iblk m c 6 t) y
      = whole m c ((win0_7.blk t).view.emb y) := by
  refine block_ext (f := out0_7 (F := Ideal) _ _ _ _ _ _ _) (g := fun y => whole m c ((win0_7.blk t).view.emb y)) (fun r j => ?_) y
  exact (point_at m c t r j).trans (congrArg (whole m c) (emb_at t r j).symm)

/-- THE OUTPUT ARRAY after the whole grid. -/
theorem final : (dats m 0 c).arrAt 7 (cfgs 0).N = whole m c := by
  refine (dats m 0 c).arrAt_eq_of_covers 7 _ (by decide +kernel) fun t _ y => ?_
  blk_simp
  rw [after0_7]
  exact point m c t y

end Cert.Ffn
-- ==== Proof.ProjRow.lean ====
/- One row of the projection, as mathematics: its latents, queries, keys, values and gates. -/
module

public import proofs.«01_k».proof.Proof.Gen.Kernel3Ideal.Skeleton
public import Idealize.ShloMosaic.Lib.Pointwise

@[expose] public section

set_option maxRecDepth 16384

noncomputable section

namespace Cert.Proj

open Cert.Kernel3Ideal Idealize.ShloMosaic

/-- A row over the root of its mean square (`c` the number of its entries), times the gains. -/
def rms {n : ℕ} (c : EReal) (x g : Fin n → EReal) (j : Fin n) : EReal :=
  x j * Ideal.rsqrt (Ideal.div (∑ k, x k * x k) c + Ideal.ofBits .f32 0x358637BD#32) * g j

/-- A rotary turn of 32 lanes: each lane of the first half with its partner 16 lanes on. -/
def turn (y : Fin 32 → EReal) (co si : Fin 16 → EReal) (l : Fin 32) : EReal :=
  if h : l.val < 16 then y l * co ⟨l.val, h⟩ - y ⟨16 + l.val, by omega⟩ * si ⟨l.val, h⟩
  else y ⟨16 + (l.val - 16), by omega⟩ * co ⟨l.val - 16, by omega⟩ + y ⟨l.val - 16, by omega⟩ * si ⟨l.val - 16, by omega⟩

/-- What one row of the projection is computed from: the row, the weights, the gains, and the row's rotary angles. -/
structure Given where
  x : Fin 1024 → EReal
  gMix : Fin 1024 → EReal
  w : Fin 1024 → Fin 2472 → EReal
  gLat : Fin 256 → EReal
  uq : Fin 256 → Fin 768 → EReal
  gNope : Fin 64 → EReal
  gRope : Fin 32 → EReal
  gKv : Fin 128 → EReal
  gKRope : Fin 32 → EReal
  uk : Fin 128 → Fin 512 → EReal
  gKNope : Fin 64 → EReal
  uv : Fin 128 → Fin 512 → EReal
  co : Fin 16 → EReal
  si : Fin 16 → EReal

namespace Given

variable (d : Given)

/-- The normed row. -/
def hid (k : Fin 1024) : EReal := rms (Ideal.ofBits .f32 0x44800000#32) d.x d.gMix k

/-- The columns of the joint projection. -/
def z (j : Fin 2472) : EReal := ∑ k, d.hid k * d.w k j

/-- The query latent. -/
def cq (a : Fin 256) : EReal := rms (Ideal.ofBits .f32 0x43800000#32) (fun a : Fin 256 => d.z ⟨a.val, by omega⟩) d.gLat a

/-- The latent of keys and values. -/
def ckv (a : Fin 128) : EReal := rms (Ideal.ofBits .f32 0x43000000#32) (fun a : Fin 128 => d.z ⟨256 + a.val, by omega⟩) d.gKv a

/-- A query head before its normalisation. -/
def q0 (h : Fin 8) (l : Fin 96) : EReal := ∑ a, d.cq a * d.uq a ⟨h.val * 96 + l.val, by omega⟩

/-- The part of a query head that carries no position. -/
def qn (h : Fin 8) (l : Fin 64) : EReal := rms (Ideal.ofBits .f32 0x42800000#32) (fun l : Fin 64 => d.q0 h ⟨l.val, by omega⟩) d.gNope l

/-- The part of a query head that is turned by the position, before the turn. -/
def qr (h : Fin 8) (l : Fin 32) : EReal := rms (Ideal.ofBits .f32 0x42000000#32) (fun l : Fin 32 => d.q0 h ⟨64 + l.val, by omega⟩) d.gRope l

/-- A query head in 128 lanes. -/
def q (h : Fin 8) (l : Fin 128) : EReal :=
  if h1 : l.val < 64 then d.qn h ⟨l.val, h1⟩
  else if h2 : l.val - 64 < 32 then turn (d.qr h) d.co d.si ⟨l.val - 64, by omega⟩ else 0

/-- The shared key lanes, normed, before the turn. -/
def kr0 (l : Fin 32) : EReal := rms (Ideal.ofBits .f32 0x42000000#32) (fun l : Fin 32 => d.z ⟨384 + l.val, by omega⟩) d.gKRope l

/-- The shared key lanes, turned by the position. -/
def kr (l : Fin 32) : EReal := turn d.kr0 d.co d.si l

/-- A key head before its normalisation. -/
def k0 (h : Fin 8) (l : Fin 64) : EReal := ∑ a, d.ckv a * d.uk a ⟨h.val * 64 + l.val, by omega⟩

/-- The part of a key head that carries no position. -/
def kn (h : Fin 8) (l : Fin 64) : EReal := rms (Ideal.ofBits .f32 0x42800000#32) (d.k0 h) d.gKNope l

/-- A key head in 128 lanes. -/
def k (h : Fin 8) (l : Fin 128) : EReal :=
  if h1 : l.val < 64 then d.kn h ⟨l.val, h1⟩ else if h2 : l.val - 64 < 32 then d.kr ⟨l.val - 64, by omega⟩ else 0

/-- The values. -/
def v (j : Fin 512) : EReal := ∑ a, d.ckv a * d.uv a j

/-- The shared key lanes before and after the swap of their halves, then the two gates of the four recurrent heads, then zeros. -/
def misc (j : Fin 128) : EReal :=
  if h1 : j.val < 32 then d.z ⟨384 + j.val, by omega⟩
  else if h2 : j.val - 32 < 16 then d.z ⟨384 + (16 + (j.val - 32)), by omega⟩
  else if h3 : j.val - 32 - 16 < 16 then d.z ⟨384 + (j.val - 32 - 16), by omega⟩
  else if h4 : j.val - 32 - 16 - 16 < 4 then d.z ⟨2464 + (j.val - 32 - 16 - 16), by omega⟩
  else if h5 : j.val - 32 - 16 - 16 - 4 < 4 then d.z ⟨2468 + (j.val - 32 - 16 - 16 - 4), by omega⟩ else 0

end Given

/-- The rotary angle of position `n` and frequency `j`. -/
def angle (n : Fin 16384) (j : Fin 16) : EReal :=
  FloatOps.sitofp (F := Ideal) .f32 (BitVec.ofNat 32 n.val)
    * Ideal.pow (Ideal.ofBits .f32 0x461C4000#32)
      (Ideal.div (-FloatOps.sitofp (F := Ideal) .f32 (BitVec.ofNat 32 j.val)) (Ideal.ofBits .f32 0x41800000#32))

/-- What row `n` is computed from, taken from the argument arrays. -/
def given (a0 : FVec Ideal S16384x1024 .f32) (a1 : FVec Ideal S1024 .f32) (a2 : FVec Ideal S1024x2472 .f32) (a3 : FVec Ideal S256 .f32)
    (a4 : FVec Ideal S256x768 .f32) (a5 : FVec Ideal S64 .f32) (a6 : FVec Ideal S32 .f32) (a7 : FVec Ideal S128 .f32)
    (a8 : FVec Ideal S32 .f32) (a9 : FVec Ideal S128x512 .f32) (a10 : FVec Ideal S64 .f32) (a11 : FVec Ideal S128x512 .f32)
    (n : Fin 16384) : Given where
  x k := a0 (ix2 n k)
  gMix k := a1 (ix1 k)
  w k j := a2 (ix2 k j)
  gLat j := a3 (ix1 j)
  uq a j := a4 (ix2 a j)
  gNope l := a5 (ix1 l)
  gRope l := a6 (ix1 l)
  gKv a := a7 (ix1 a)
  gKRope l := a8 (ix1 l)
  uk a j := a9 (ix2 a j)
  gKNope l := a10 (ix1 l)
  uv a j := a11 (ix2 a j)
  co j := Ideal.cos (angle n j)
  si j := Ideal.sin (angle n j)

end Cert.Proj
-- ==== Proof.ProjPack.lean ====
/- The weights, gains and tables of the projection in the order the kernel keeps them. -/
module

public import proofs.«01_k».proof.Proof.ProjRow

@[expose] public section

noncomputable section

namespace Cert.Proj

open Idealize.ShloMosaic

/-- The segment means as the kernel takes them: the squares, then what is left of the squares after a rounding. -/
def segm {n : ℕ} (raw : Fin n → EReal) (M : Fin n → Fin n → EReal) (c : Fin n) : EReal :=
  (∑ k, raw k * raw k * M k c) + ∑ k, (raw k * raw k - raw k * raw k) * M k c

/-- A row over the root of its segment means, times the gains. -/
def segn {n : ℕ} (raw : Fin n → EReal) (M : Fin n → Fin n → EReal) (g : Fin n → EReal) (c : Fin n) : EReal :=
  raw c * Ideal.rsqrt (segm raw M c + Ideal.ofBits .f32 0x358637BD#32) * g c

/-- A row times the tables: each lane with the lane 32 on, round the 128 lanes. -/
def tabled (y : Fin 128 → EReal) (co si : Fin 128 → EReal) (l : Fin 128) : EReal :=
  y l * co l + y ⟨(l.val + 128 - 96) % 128, by omega⟩ * si l

namespace Given

variable (d : Given)

/-- The columns of the joint projection: query latent, latent, the three recurrent parts, then the shared
key lanes before and after the swap of their halves, the gates, and zeros. -/
def packW (k : Fin 1024) (j : Fin 2560) : EReal :=
  if h1 : j.val < 256 then d.w k ⟨j.val, by omega⟩
  else if h2 : j.val - 256 < 128 then d.w k ⟨256 + (j.val - 256), by omega⟩
  else if h3 : j.val - 256 - 128 < 1024 then d.w k ⟨416 + (j.val - 256 - 128), by omega⟩
  else if h4 : j.val - 256 - 128 - 1024 < 512 then d.w k ⟨1440 + (j.val - 256 - 128 - 1024), by omega⟩
  else if h5 : j.val - 256 - 128 - 1024 - 512 < 512 then d.w k ⟨1952 + (j.val - 256 - 128 - 1024 - 512), by omega⟩
  else if h6 : j.val - 256 - 128 - 1024 - 512 - 512 < 32 then d.w k ⟨384 + (j.val - 256 - 128 - 1024 - 512 - 512), by omega⟩
  else if h7 : j.val - 256 - 128 - 1024 - 512 - 512 - 32 < 32 then
    if h8 : j.val - 256 - 128 - 1024 - 512 - 512 - 32 < 16 then d.w k ⟨384 + (16 + (j.val - 256 - 128 - 1024 - 512 - 512 - 32)), by omega⟩
    else d.w k ⟨384 + (j.val - 256 - 128 - 1024 - 512 - 512 - 32 - 16), by omega⟩
  else if h9 : j.val - 256 - 128 - 1024 - 512 - 512 - 32 - 32 < 4 then d.w k ⟨2464 + (j.val - 256 - 128 - 1024 - 512 - 512 - 32 - 32), by omega⟩
  else if h10 : j.val - 256 - 128 - 1024 - 512 - 512 - 32 - 32 - 4 < 4 then
    d.w k ⟨2468 + (j.val - 256 - 128 - 1024 - 512 - 512 - 32 - 32 - 4), by omega⟩
  else 0

/-- The query columns, 128 to a head: its 96 lanes, then its last 32 lanes with their halves swapped. -/
def packUq (a : Fin 256) (j : Fin 1024) : EReal :=
  if h1 : j.val % 128 < 96 then d.uq a ⟨j.val / 128 * 96 + j.val % 128, by omega⟩
  else if h2 : j.val % 128 - 96 < 16 then d.uq a ⟨j.val / 128 * 96 + (64 + (16 + (j.val % 128 - 96))), by omega⟩
  else d.uq a ⟨j.val / 128 * 96 + (64 + (j.val % 128 - 96 - 16)), by omega⟩

/-- The query gains in the same order. -/
def packGq (j : Fin 1024) : EReal :=
  if h1 : j.val % 128 < 64 then d.gNope ⟨j.val % 128, h1⟩
  else if h2 : j.val % 128 - 64 < 32 then d.gRope ⟨j.val % 128 - 64, h2⟩
  else if h3 : j.val % 128 - 64 - 32 < 16 then d.gRope ⟨16 + (j.val % 128 - 64 - 32), by omega⟩
  else d.gRope ⟨j.val % 128 - 64 - 32 - 16, by omega⟩

/-- The gains of the shared key lanes, before and after the swap of their halves, then zeros. -/
def packGm (j : Fin 128) : EReal :=
  if h1 : j.val < 32 then d.gKRope ⟨j.val, h1⟩
  else if h2 : j.val - 32 < 32 then
    if h3 : j.val - 32 < 16 then d.gKRope ⟨16 + (j.val - 32), by omega⟩ else d.gKRope ⟨j.val - 32 - 16, by omega⟩
  else 0

/-- The key columns, 128 to a head: its 64 lanes, then zeros. -/
def packUk (a : Fin 128) (j : Fin 1024) : EReal :=
  if h1 : j.val % 128 < 64 then d.uk a ⟨j.val / 128 * 64 + j.val % 128, by omega⟩ else 0

/-- The key gains in the same order. -/
def packGk (j : Fin 1024) : EReal :=
  if h1 : j.val % 128 < 64 then d.gKNope ⟨j.val % 128, h1⟩ else 0

/-- The factors of a query head's own lanes. -/
def cosQ (l : Fin 128) : EReal :=
  if h1 : l.val < 64 then 1
  else if h2 : l.val - 64 < 32 then
    if h3 : l.val - 64 < 16 then d.co ⟨l.val - 64, h3⟩ else d.co ⟨l.val - 64 - 16, by omega⟩
  else 0

/-- The factors of the lanes 32 on. -/
def sinQ (l : Fin 128) : EReal :=
  if h1 : l.val < 64 then 0
  else if h2 : l.val - 64 < 32 then
    if h3 : l.val - 64 < 16 then -d.si ⟨l.val - 64, h3⟩ else d.si ⟨l.val - 64 - 16, by omega⟩
  else 0

/-- The factors of the shared key lanes. -/
def cosK (l : Fin 128) : EReal :=
  if h1 : l.val < 32 then if h2 : l.val < 16 then d.co ⟨l.val, h2⟩ else d.co ⟨l.val - 16, by omega⟩ else 0

/-- The factors of the shared key lanes 32 on. -/
def sinK (l : Fin 128) : EReal :=
  if h1 : l.val < 32 then if h2 : l.val < 16 then -d.si ⟨l.val, h2⟩ else d.si ⟨l.val - 16, by omega⟩ else 0

end Given

/-- The matrix of segment means: 1/64 between two of the first 64 lanes of one head, 1/32 from lanes
64 to 95 to the lanes from 64 on of the same head, and zero elsewhere. -/
def segW (k j : ℕ) : EReal :=
  if k / 128 = j / 128 ∧ k % 128 < 64 ∧ j % 128 < 64 then Ideal.ofBits .f32 0x3C800000#32
  else if k / 128 = j / 128 ∧ 64 ≤ k % 128 ∧ k % 128 < 96 ∧ 64 ≤ j % 128 then Ideal.ofBits .f32 0x3D000000#32
  else 0

/-- The matrix of the shared key lanes' mean: 1/32 from the first 32 lanes to the first 64. -/
def segK (k j : ℕ) : EReal := if k < 32 ∧ j < 64 then Ideal.ofBits .f32 0x3D000000#32 else 0

end Cert.Proj
-- ==== Proof.ProjWords.lean ====
/- The words with which the host compares the places of the segment matrices. -/
module

public import Idealize.ShloMosaic.Lib.Claim
public import Idealize.ShloMosaic.Lib.Pointwise

@[expose] public section

set_option maxRecDepth 16384

noncomputable section

namespace Cert.Proj

open Idealize.ShloMosaic Idealize.ShloMosaic.TcCoe Idealize.SL.Sem

/-- The word of the quotient by 128, with the correction of a floor division. -/
def quotW (k : ℕ) : BitVec 32 :=
  Scalar.select (IntOp.andi (IntOp.cmpi CmpIPredicate.ne
      (if BitVec.ofNat 32 k = 0 then (0 : BitVec 32) else if (BitVec.ofNat 32 k).msb = true then -1 else 1)
      (if (128#32 : BitVec 32) = 0 then (0 : BitVec 32) else if BitVec.msb (128#32) = true then -1 else 1))
      (IntOp.cmpi CmpIPredicate.ne (IntOp.remsi ArithUnit.host (BitVec.ofNat 32 k) 128#32) 0#32))
      (IntOp.subi (IntOp.divsi ArithUnit.host (BitVec.ofNat 32 k) 128#32) 1#32)
      (IntOp.divsi ArithUnit.host (BitVec.ofNat 32 k) 128#32)

/-- The quotient word is the quotient. -/
theorem quot_word : ∀ k : Fin 256, quotW k = BitVec.ofNat 32 ((k : ℕ) / 128) := by
  decide +kernel

/-- The divisor word after the guard against zero. -/
theorem guard_word : Scalar.select (IntOp.cmpi CmpIPredicate.eq (128#32) 0#32) (1#32) (128#32) = 128#32 := by
  decide

/-- The remainder word of a division by 128 is the remainder. -/
theorem rem_word : ∀ k : Fin 256, Scalar.select (IntOp.andi (IntOp.cmpi CmpIPredicate.ne
      (IntOp.cmpi CmpIPredicate.slt (IntOp.remsi ArithUnit.host (BitVec.ofNat 32 (k : ℕ)) 128#32) 0#32)
      (IntOp.cmpi CmpIPredicate.slt (128#32) 0#32))
      (IntOp.cmpi CmpIPredicate.ne (IntOp.remsi ArithUnit.host (BitVec.ofNat 32 (k : ℕ)) 128#32) 0#32))
      (IntOp.addi (IntOp.remsi ArithUnit.host (BitVec.ofNat 32 (k : ℕ)) 128#32) 128#32)
      (IntOp.remsi ArithUnit.host (BitVec.ofNat 32 (k : ℕ)) 128#32) = BitVec.ofNat 32 ((k : ℕ) % 128) := by
  decide +kernel

/-- The head of a column, compared as words. -/
theorem head_word : ∀ a b : Fin 2, IntOp.cmpi CmpIPredicate.eq (BitVec.ofNat 32 (a : ℕ)) (BitVec.ofNat 32 (b : ℕ)) =
    BitVec.ofBool (decide ((a : ℕ) = b)) := by
  decide +kernel

/-- A lane below 64, compared as words. -/
theorem lt64_word : ∀ a : Fin 128, IntOp.cmpi CmpIPredicate.slt (BitVec.ofNat 32 (a : ℕ)) 64#32 =
    BitVec.ofBool (decide ((a : ℕ) < 64)) := by
  decide +kernel

/-- A lane below 96, compared as words. -/
theorem lt96_word : ∀ a : Fin 128, IntOp.cmpi CmpIPredicate.slt (BitVec.ofNat 32 (a : ℕ)) 96#32 =
    BitVec.ofBool (decide ((a : ℕ) < 96)) := by
  decide +kernel

/-- A lane below 32, compared as words. -/
theorem lt32_word : ∀ a : Fin 128, IntOp.cmpi CmpIPredicate.slt (BitVec.ofNat 32 (a : ℕ)) 32#32 =
    BitVec.ofBool (decide ((a : ℕ) < 32)) := by
  decide +kernel

/-- A lane from 64 on, compared as words. -/
theorem ge64_word : ∀ a : Fin 128, IntOp.cmpi CmpIPredicate.sge (BitVec.ofNat 32 (a : ℕ)) 64#32 =
    BitVec.ofBool (decide (64 ≤ (a : ℕ))) := by
  decide +kernel

/-- The conjunction of two bits. -/
theorem and_word (a b : Bool) : IntOp.andi (BitVec.ofBool a) (BitVec.ofBool b) = BitVec.ofBool (a && b) := by
  revert a b; decide

/-- The choice by a bit. -/
theorem sel_word (a : Bool) (x y : EReal) : Scalar.select (BitVec.ofBool a) x y = if a = true then x else y := by
  cases a <;> simp [Scalar.select]

end Cert.Proj
-- ==== Proof.ProjHost.lean ====
/- The host arrays of the projection kernel, element by element. -/
module

public import proofs.«01_k».proof.Proof.Gen.Kernel3Ideal.Value
public import proofs.«01_k».proof.Proof.ProjPack
public import proofs.«01_k».proof.Proof.ProjWords
public import Idealize.ShloMosaic.Lib.Claim
public import Idealize.ShloMosaic.Lib.Pointwise

@[expose] public section

set_option maxRecDepth 16384

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- What row `n` is computed from, in the arguments of the kernel's program. -/
def rowG (n : Fin 16384) : Given :=
  given (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11)) n

/-- A row. -/
theorem V_x (n : Fin 16384) (k : Fin 1024) : V m c main_arg0 (ix2 n k) = (rowG m c n).x k := by
  unfold rowG given
  rw [V_main_arg0]

/-- The gains of the first norm. -/
theorem V_gmix (n : Fin 16384) (k : Fin 1024) : V m c main_v82 (ix2 0 k) = (rowG m c n).gMix k := by
  unfold rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The joint projection. -/
theorem V_w (n : Fin 16384) (k : Fin 1024) (j : Fin 2560) : V m c main_v14 (ix2 k j) = (rowG m c n).packW k j := by
  unfold Given.packW rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  dsimp only [Matrix.cons_val]
  repeat (first
    | (simp only [↓ StableHlo.readResult, ↓ StableHlo.readPieces])
    | rw [StableHlo.nary_result])
  dsimp only [Matrix.cons_val]
  repeat (first
    | (simp only [↓ StableHlo.readResult, ↓ StableHlo.readPieces])
    | rw [StableHlo.nary_result])
  pointwise

/-- The gains of the query latent. -/
theorem V_glat (n : Fin 16384) (k : Fin 256) : V m c main_v83 (ix2 0 k) = (rowG m c n).gLat k := by
  unfold rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The query columns. -/
theorem V_uq (n : Fin 16384) (k : Fin 256) (j : Fin 1024) : V m c main_v84 (ix2 k j) = (rowG m c n).packUq k j := by
  unfold Given.packUq rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The query gains. -/
theorem V_gq (n : Fin 16384) (k : Fin 1024) : V m c main_v88 (ix2 0 k) = (rowG m c n).packGq k := by
  unfold Given.packGq rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  dsimp only [Matrix.cons_val]
  repeat (first
    | (simp only [↓ StableHlo.readResult, ↓ StableHlo.readPieces])
    | rw [StableHlo.nary_result])
  pointwise

/-- The gains of the latent. -/
theorem V_gkv (n : Fin 16384) (k : Fin 128) : V m c main_v89 (ix2 0 k) = (rowG m c n).gKv k := by
  unfold rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The gains of the shared key lanes. -/
theorem V_gkm (n : Fin 16384) (k : Fin 128) : V m c main_v90 (ix2 0 k) = (rowG m c n).packGm k := by
  unfold Given.packGm rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise
  repeat (first
    | (simp only [↓ StableHlo.readResult, ↓ StableHlo.readPieces])
    | rw [StableHlo.nary_result])
  pointwise

/-- The key columns. -/
theorem V_uk (n : Fin 16384) (k : Fin 128) (j : Fin 1024) : V m c main_v91 (ix2 k j) = (rowG m c n).packUk k j := by
  unfold Given.packUk rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The key gains. -/
theorem V_gkn (n : Fin 16384) (k : Fin 1024) : V m c main_v95 (ix2 0 k) = (rowG m c n).packGk k := by
  unfold Given.packGk rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The value columns. -/
theorem V_uv (n : Fin 16384) (k : Fin 128) (j : Fin 512) : V m c main_v96 (ix2 k j) = (rowG m c n).uv k j := by
  unfold rowG given
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The first table of the queries. -/
theorem V_cq (k : Fin 16384) (j : Fin 128) : V m c main_v121 (ix2 k j) = (rowG m c k).cosQ j := by
  unfold Given.cosQ rowG given angle
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  dsimp only [Matrix.cons_val]
  repeat (first
    | (simp only [↓ StableHlo.readResult, ↓ StableHlo.readPieces])
    | rw [StableHlo.nary_result])
  pointwise

/-- The second table of the queries. -/
theorem V_sq (k : Fin 16384) (j : Fin 128) : V m c main_v124 (ix2 k j) = (rowG m c k).sinQ j := by
  unfold Given.sinQ rowG given angle
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  dsimp only [Matrix.cons_val]
  repeat (first
    | (simp only [↓ StableHlo.readResult, ↓ StableHlo.readPieces])
    | rw [StableHlo.nary_result])
  pointwise

/-- The first table of the shared key lanes. -/
theorem V_ck (k : Fin 16384) (j : Fin 128) : V m c main_v126 (ix2 k j) = (rowG m c k).cosK j := by
  unfold Given.cosK rowG given angle
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The second table of the shared key lanes. -/
theorem V_sk (k : Fin 16384) (j : Fin 128) : V m c main_v128 (ix2 k j) = (rowG m c k).sinK j := by
  unfold Given.sinK rowG given angle
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise

/-- The matrix of segment means for pairs of heads. -/
theorem V_mseg (k j : Fin 256) : V m c main_v97 (ix2 k j) = segW k j := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results

  pointwise
  simp only [id_eq, constantI]
  simp only [guard_word, rem_word]
  change Scalar.select (IntOp.andi (IntOp.andi (IntOp.cmpi CmpIPredicate.eq (quotW k) (quotW j))
      (IntOp.cmpi CmpIPredicate.slt (BitVec.ofNat 32 ((k : ℕ) % 128)) 64#32))
      (IntOp.cmpi CmpIPredicate.slt (BitVec.ofNat 32 ((j : ℕ) % 128)) 64#32))
      (Ideal.ofBits FTy.f32 1015021568#32)
      (Scalar.select (IntOp.andi (IntOp.andi (IntOp.andi (IntOp.cmpi CmpIPredicate.eq (quotW k) (quotW j))
        (IntOp.cmpi CmpIPredicate.sge (BitVec.ofNat 32 ((k : ℕ) % 128)) 64#32))
        (IntOp.cmpi CmpIPredicate.slt (BitVec.ofNat 32 ((k : ℕ) % 128)) 96#32))
        (IntOp.cmpi CmpIPredicate.sge (BitVec.ofNat 32 ((j : ℕ) % 128)) 64#32))
        (Ideal.ofBits FTy.f32 1023410176#32) 0) = _
  have hk := k.isLt
  have hj := j.isLt
  rw [quot_word k, quot_word j, head_word ⟨k / 128, by omega⟩ ⟨j / 128, by omega⟩, lt64_word ⟨k % 128, by omega⟩,
    lt64_word ⟨j % 128, by omega⟩, ge64_word ⟨k % 128, by omega⟩, ge64_word ⟨j % 128, by omega⟩,
    lt96_word ⟨k % 128, by omega⟩]
  simp only [and_word, sel_word, segW, Bool.and_eq_true, decide_eq_true_eq, and_assoc]

/-- The matrix of the rotary key's mean: 1/32 from the first 32 lanes to the first 64. -/
theorem V_mmisc (k j : Fin 128) : V m c main_v98 (ix2 k j) =
    segK k j := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  simp only [StableHlo.TRef.binary, StableHlo.TRef.nullary, StableHlo.TRef.unary, StableHlo.TRef.ternary, StableHlo.TRef.toBuf,
    StableHlo.TRef.ofBuf, cast_eq]
  after_results
  pointwise
  rw [lt32_word k, lt64_word j]
  simp only [and_word, sel_word, Bool.and_eq_true, decide_eq_true_eq, segK]

end Cert.Proj
-- ==== Proof.ProjPay.lean ====
/- What the steps of the projection kernel give, row by row. -/
module

public import proofs.«01_k».proof.Proof.Gen.Kernel3Ideal.Frame
public import proofs.«01_k».proof.Proof.ProjPack
public import Idealize.ShloMosaic.Lib.Pipeline.ValueKit

@[expose] public section

set_option maxRecDepth 16384

noncomputable section

namespace Cert.Proj

open Cert.Kernel3Ideal Cert.Kernel3Ideal.Gen Idealize.ShloMosaic Idealize.ShloMosaic.TcCoe Idealize.SL.Sem

/-- The value of one line of the body, element by element. -/
theorem pay2_at (x : Vec Ideal S512x1024 .f32) (g : Vec Ideal S1x1024 .f32) (r : Fin 512) (j : Fin 1024) :
    k0_pay2 x g (ix2 r j) = rms (Ideal.ofBits .f32 0x44800000#32) (fun k => x (ix2 r k)) (fun k => g (ix2 0 k)) j := by
  unfold rms
  pointwise [k0_pay2]

/-- The value of one line of the body, element by element. -/
theorem pay3_at (x : Vec Ideal S512x1024 .f32) (g : Vec Ideal S1x1024 .f32) (w : Vec Ideal S1024x1024 .bf16) (r : Fin 512) (j : Fin 1024) :
    k0_pay3 x g w (ix2 r j) = ∑ k, k0_pay2 x g (ix2 r k) * w (ix2 k j) := by
  pointwise [k0_pay3]

/-- The value of one line of the body, element by element. -/
theorem pay4_at (x : Vec Ideal S512x1024 .f32) (g : Vec Ideal S1x1024 .f32) (w : Vec Ideal S1024x512 .bf16) (r : Fin 512) (j : Fin 512) :
    k0_pay4 x g w (ix2 r j) = ∑ k, k0_pay2 x g (ix2 r k) * w (ix2 k j) := by
  pointwise [k0_pay4]

/-- The value of one line of the body, element by element. -/
theorem pay5_at (x : Vec Ideal S512x1024 .f32) (g : Vec Ideal S1x1024 .f32) (w : Vec Ideal S1024x512 .bf16) (r : Fin 512) (j : Fin 512) :
    k0_pay5 x g w (ix2 r j) = ∑ k, k0_pay2 x g (ix2 r k) * w (ix2 k j) := by
  pointwise [k0_pay5]

/-- The value of one line of the body, element by element. -/
theorem pay6_at (x : Vec Ideal S512x1024 .f32) (g : Vec Ideal S1x1024 .f32) (w : Vec Ideal S1024x128 .bf16) (r : Fin 512) (j : Fin 128) :
    k0_pay6 x g w (ix2 r j) = ∑ k, k0_pay2 x g (ix2 r k) * w (ix2 k j) := by
  pointwise [k0_pay6]

/-- The value of one line of the body, element by element. -/
theorem pay7_at (y : FVec Ideal S512x1024 .bf16) (w : Vec Ideal S1024x256 .bf16) (g : Vec Ideal S1x256 .f32) (r : Fin 512) (a : Fin 256) :
    k0_pay7 y w g (ix2 r a) = rms (Ideal.ofBits .f32 0x43800000#32) (fun a : Fin 256 => ∑ k, y (ix2 r k) * w (ix2 k a)) (fun k => g (ix2 0 k)) a := by
  unfold rms
  pointwise [k0_pay7]

/-- The value of one line of the body, element by element. -/
theorem pay31_at (y : FVec Ideal S512x1024 .bf16) (w : Vec Ideal S1024x128 .bf16) (g : Vec Ideal S1x128 .f32) (r : Fin 512) (a : Fin 128) :
    k0_pay31 y w g (ix2 r a) = rms (Ideal.ofBits .f32 0x43000000#32) (fun a : Fin 128 => ∑ k, y (ix2 r k) * w (ix2 k a)) (fun k => g (ix2 0 k)) a := by
  unfold rms
  pointwise [k0_pay31]

/-- The value of one line of the body, element by element. -/
theorem pay32_at (y : FVec Ideal S512x1024 .bf16) (w : Vec Ideal S1024x128 .bf16) (g : Vec Ideal S1x128 .f32) (r : Fin 512) (a : Fin 128) :
    k0_pay32 y w g (ix2 r a) = k0_pay31 y w g (ix2 r a) := by
  pointwise [k0_pay32]

/-- The value of one line of the body, element by element. -/
theorem pay33_at (y : FVec Ideal S512x1024 .bf16) (w : Vec Ideal S1024x128 .bf16) (g : Vec Ideal S1x128 .f32) (u : Vec Ideal S128x512 .bf16) (r : Fin 512) (j : Fin 512) :
    k0_pay33 y w g u (ix2 r j) = ∑ a, k0_pay31 y w g (ix2 r a) * u (ix2 a j) := by
  pointwise [k0_pay33, pay32_at]

/-- The value of one line of the body, element by element. -/
theorem pay8_at (t : Vec Ideal S512x128 .f32) (r : Fin 512) (l : Fin 128) : k0_pay8 t (ix2 r l) = t (ix2 r l) := by
  pointwise [k0_pay8]

/-- The value of one line of the body, element by element. -/
theorem pay9_at (t : Vec Ideal S512x128 .f32) (r : Fin 512) (l : Fin 128) : k0_pay9 t (ix2 r l) = t (ix2 r l) := by
  pointwise [k0_pay9]

/-- The value of one line of the body, element by element. -/
theorem pay10_at (y : FVec Ideal S512x1024 .bf16) (w : Vec Ideal S1024x256 .bf16) (g : Vec Ideal S1x256 .f32) (u : Vec Ideal S256x256 .bf16) (r : Fin 512) (k : Fin 256) :
    k0_pay10 y w g u (ix2 r k) = ∑ a, k0_pay7 y w g (ix2 r a) * u (ix2 a k) := by
  pointwise [k0_pay10]

/-- The value of one line of the body, element by element. -/
theorem pay11_at (y : FVec Ideal S512x1024 .bf16) (w : Vec Ideal S1024x256 .bf16) (g : Vec Ideal S1x256 .f32) (u M : Vec Ideal S256x256 .bf16) (r : Fin 512) (k : Fin 256) :
    k0_pay11 y w g u M (ix2 r k) = segm (fun k => ∑ a, k0_pay7 y w g (ix2 r a) * u (ix2 a k)) (fun k j => M (ix2 k j)) k := by
  unfold segm
  pointwise [k0_pay11, pay10_at]

/-- The value of one line of the body, element by element. -/
theorem pay12_at (r : Fin 512) (k : Fin 256) : k0_pay12 (F := Ideal) (ix2 r k) = Ideal.ofBits .f32 0x358637BD#32 := by
  pointwise [k0_pay12]

/-- The value of one line of the body, element by element. -/
theorem pay13_at (raw v e : FVec Ideal S512x256 .f32) (g : Vec Ideal S1x256 .f32) (r : Fin 512) (k : Fin 256) :
    k0_pay13 raw v e g (ix2 r k) = raw (ix2 r k) * Ideal.rsqrt (v (ix2 r k) + e (ix2 r k)) * g (ix2 0 k) := by
  pointwise [k0_pay13]

/-- The value of one line of the body, element by element. -/
theorem pay14_at (co si : FVec Ideal S512x128 .f32) (raw v e : FVec Ideal S512x256 .f32) (g : Vec Ideal S1x256 .f32) (r : Fin 512) (l : Fin 128) :
    k0_pay14 co si raw v e g (ix2 r l) = tabled (fun l : Fin 128 => k0_pay13 raw v e g (ix2 r ⟨l.val, by omega⟩)) (fun l => co (ix2 r l)) (fun l => si (ix2 r l)) l := by
  unfold tabled
  pointwise [k0_pay14]

/-- The value of one line of the body, element by element. -/
theorem pay15_at (co si : FVec Ideal S512x128 .f32) (raw v e : FVec Ideal S512x256 .f32) (g : Vec Ideal S1x256 .f32) (r : Fin 512) (l : Fin 128) :
    k0_pay15 co si raw v e g (ix2 r l) = tabled (fun l : Fin 128 => k0_pay13 raw v e g (ix2 r ⟨128 + l.val, by omega⟩)) (fun l => co (ix2 r l)) (fun l => si (ix2 r l)) l := by
  unfold tabled
  pointwise [k0_pay15]

/-- The value of one line of the body, element by element. -/
theorem pay16_at (q : FVec Ideal S512x256 .bf16) (u M : Vec Ideal S256x256 .bf16) (r : Fin 512) (k : Fin 256) :
    k0_pay16 q u M (ix2 r k) = (∑ a, q (ix2 r a) * u (ix2 a k))
      * Ideal.rsqrt (segm (fun k => ∑ a, q (ix2 r a) * u (ix2 a k)) (fun k j => M (ix2 k j)) k + Ideal.ofBits .f32 0x358637BD#32) := by
  unfold segm
  pointwise [k0_pay16]

/-- The value of one line of the body, element by element. -/
theorem pay17_at (g : Vec Ideal S1x256 .f32) (k : Fin 256) : k0_pay17 g (ix2 0 k) = g (ix2 0 k) := by
  pointwise [k0_pay17]

/-- The value of one line of the body, element by element. -/
theorem pay18_at (y : FVec Ideal S512x256 .f32) (g : FVec Ideal S1x256 .f32) (r : Fin 512) (k : Fin 256) :
    k0_pay18 y g (ix2 r k) = y (ix2 r k) * g (ix2 0 k) := by
  pointwise [k0_pay18]

/-- The value of one line of the body, element by element. -/
theorem pay19_at (co si : FVec Ideal S512x128 .f32) (y : FVec Ideal S512x256 .f32) (g : FVec Ideal S1x256 .f32) (r : Fin 512) (l : Fin 128) :
    k0_pay19 co si y g (ix2 r l) = tabled (fun l : Fin 128 => k0_pay18 y g (ix2 r ⟨l.val, by omega⟩)) (fun l => co (ix2 r l)) (fun l => si (ix2 r l)) l := by
  unfold tabled
  pointwise [k0_pay19]

/-- The value of one line of the body, element by element. -/
theorem pay20_at (co si : FVec Ideal S512x128 .f32) (y : FVec Ideal S512x256 .f32) (g : FVec Ideal S1x256 .f32) (r : Fin 512) (l : Fin 128) :
    k0_pay20 co si y g (ix2 r l) = tabled (fun l : Fin 128 => k0_pay18 y g (ix2 r ⟨128 + l.val, by omega⟩)) (fun l => co (ix2 r l)) (fun l => si (ix2 r l)) l := by
  unfold tabled
  pointwise [k0_pay20]

/-- The value of one line of the body, element by element. -/
theorem pay21_at (q : FVec Ideal S512x256 .bf16) (u M : Vec Ideal S256x256 .bf16) (g : Vec Ideal S1x256 .f32) (r : Fin 512) (k : Fin 256) :
    k0_pay21 q u M g (ix2 r k) = segn (fun k => ∑ a, q (ix2 r a) * u (ix2 a k)) (fun k j => M (ix2 k j)) (fun k => g (ix2 0 k)) k := by
  unfold segn segm
  pointwise [k0_pay21]

/-- The value of one line of the body, element by element. -/
theorem pay25_at (q : FVec Ideal S512x256 .bf16) (co si : FVec Ideal S512x128 .f32) (u M : Vec Ideal S256x256 .bf16) (g : Vec Ideal S1x256 .f32) (r : Fin 512) (l : Fin 128) :
    k0_pay25 (k0_pay23 q co u M g) (k0_pay24 q si u M g) (ix2 r l)
      = tabled (fun l : Fin 128 => k0_pay21 q u M g (ix2 r ⟨l.val, by omega⟩)) (fun l => co (ix2 r l)) (fun l => si (ix2 r l)) l := by
  unfold tabled
  pointwise [k0_pay25, k0_pay23, k0_pay24, k0_pay22]

/-- The value of one line of the body, element by element. -/
theorem pay26_at (co si : FVec Ideal S512x128 .f32) (y : FVec Ideal S512x256 .f32) (r : Fin 512) (l : Fin 128) :
    k0_pay26 co si y (ix2 r l) = tabled (fun l : Fin 128 => y (ix2 r ⟨128 + l.val, by omega⟩)) (fun l => co (ix2 r l)) (fun l => si (ix2 r l)) l := by
  unfold tabled
  pointwise [k0_pay26]

/-- The value of one line of the body, element by element. -/
theorem pay27_at (q : FVec Ideal S512x256 .bf16) (u M : Vec Ideal S256x256 .bf16) (g : Vec Ideal S1x256 .f32) (r : Fin 512) (k : Fin 256) :
    k0_pay27 q u M g (ix2 r k) = segn (fun k => ∑ a, q (ix2 r a) * u (ix2 a k)) (fun k j => M (ix2 k j)) (fun k => g (ix2 0 k)) k := by
  unfold segn segm
  pointwise [k0_pay27]

/-- The value of one line of the body, element by element. -/
theorem pay28_at (q : FVec Ideal S512x256 .bf16) (co si : FVec Ideal S512x128 .f32) (u M : Vec Ideal S256x256 .bf16) (g : Vec Ideal S1x256 .f32) (r : Fin 512) (l : Fin 128) :
    k0_pay28 q co si u M g (ix2 r l)
      = tabled (fun l : Fin 128 => k0_pay27 q u M g (ix2 r ⟨l.val, by omega⟩)) (fun l => co (ix2 r l)) (fun l => si (ix2 r l)) l := by
  unfold tabled
  pointwise [k0_pay28]

/-- The value of one line of the body, element by element. -/
theorem pay30_at (q : FVec Ideal S512x256 .bf16) (co si : FVec Ideal S512x128 .f32) (u M : Vec Ideal S256x256 .bf16) (g : Vec Ideal S1x256 .f32) (r : Fin 512) (l : Fin 128) :
    k0_pay30 co si (k0_pay29 q u M g) (ix2 r l)
      = tabled (fun l : Fin 128 => k0_pay27 q u M g (ix2 r ⟨128 + l.val, by omega⟩)) (fun l => co (ix2 r l)) (fun l => si (ix2 r l)) l := by
  unfold tabled
  pointwise [k0_pay30, k0_pay29]

/-- The value of one line of the body, element by element. -/
theorem pay38_at (z : FVec Ideal S512x128 .f32) (M : Vec Ideal S128x128 .bf16) (g : Vec Ideal S1x128 .f32) (co si : Vec Ideal S512x128 .f32) (r : Fin 512) (l : Fin 128) :
    k0_pay38 z (k0_pay35 z) (k0_pay36 z) (k0_pay37 M) g co si (ix2 r l)
      = tabled (segn (fun k => z (ix2 r k)) (fun k j => M (ix2 k j)) (fun k => g (ix2 0 k))) (fun l => co (ix2 r l)) (fun l => si (ix2 r l)) l := by
  unfold tabled segn segm
  pointwise [k0_pay38, k0_pay35, k0_pay36, k0_pay37, k0_pay34]

/-- The value of one line of the body, element by element. -/
theorem pay39_at (z : FVec Ideal S512x128 .f32) (a b : FVec Ideal S512x128 .bf16) (M : FVec Ideal S128x128 .bf16) (g : Vec Ideal S1x128 .f32) (co si : Vec Ideal S512x128 .f32) (r : Fin 512) (l : Fin 32) :
    k0_pay39 z a b M g co si (ix2 r l) = k0_pay38 z a b M g co si (ix2 r ⟨l.val, by omega⟩) := by
  pointwise [k0_pay39]

/-- The value of one line of the body, element by element. -/
theorem pay40_at (z : FVec Ideal S512x128 .f32) (a b : FVec Ideal S512x128 .bf16) (M : FVec Ideal S128x128 .bf16) (g : Vec Ideal S1x128 .f32) (co si : Vec Ideal S512x128 .f32) (r : Fin 512) (k : Fin 256) :
    k0_pay40 z a b M g co si (ix2 r k) = if h : k.val < 128 then k0_pay38 z a b M g co si (ix2 r ⟨(k.val + 128 - 64) % 128, by omega⟩)
      else k0_pay38 z a b M g co si (ix2 r ⟨(k.val - 128 + 128 - 64) % 128, by omega⟩) := by
  pointwise [k0_pay40]

/-- A pair of key heads before the shared lanes are added. -/
def keyPair (q : FVec Ideal S512x128 .bf16) (u : Vec Ideal S128x256 .bf16) (M : Vec Ideal S256x256 .bf16) (g : Vec Ideal S1x256 .f32) (r : Fin 512) : Fin 256 → EReal :=
  segn (fun k => ∑ a, q (ix2 r a) * u (ix2 a k)) (fun k j => M (ix2 k j)) (fun k => g (ix2 0 k))

/-- The value of one line of the body, element by element. -/
theorem pay43_at (q : FVec Ideal S512x128 .bf16) (t : FVec Ideal S512x256 .f32) (u : Vec Ideal S128x256 .bf16) (M : Vec Ideal S256x256 .bf16) (g : Vec Ideal S1x256 .f32) (r : Fin 512) (k : Fin 256) :
    k0_pay43 t (k0_pay41 q u) (k0_pay42 q u M) g (ix2 r k) = keyPair q u M g r k + t (ix2 r k) := by
  unfold keyPair segn segm
  pointwise [k0_pay43, k0_pay41, k0_pay42]

/-- The value of one line of the body, element by element. -/
theorem pay44_at (q : FVec Ideal S512x128 .bf16) (t : FVec Ideal S512x256 .f32) (u : Vec Ideal S128x256 .bf16) (M : Vec Ideal S256x256 .bf16) (g : Vec Ideal S1x256 .f32) (r : Fin 512) (k : Fin 256) :
    k0_pay44 q t u M g (ix2 r k) = keyPair q u M g r k + t (ix2 r k) := by
  unfold keyPair segn segm
  pointwise [k0_pay44]

/-- The value of one line of the body, element by element. -/
theorem pay49_at (q : FVec Ideal S512x128 .bf16) (t : FVec Ideal S512x256 .f32) (u : Vec Ideal S128x256 .bf16) (M : Vec Ideal S256x256 .bf16) (g : Vec Ideal S1x256 .f32) (r : Fin 512) (k : Fin 256) :
    k0_pay49 t (k0_pay45 q u) (k0_pay46 q u) (k0_pay47 q u) (k0_pay48 q u) M g (ix2 r k) = keyPair q u M g r k + t (ix2 r k) := by
  unfold keyPair segn segm
  pointwise [k0_pay49, k0_pay45, k0_pay46, k0_pay47, k0_pay48]

/-- The value of one line of the body, element by element. -/
theorem pay50_at (q : FVec Ideal S512x128 .bf16) (t : FVec Ideal S512x256 .f32) (u : Vec Ideal S128x256 .bf16) (M : Vec Ideal S256x256 .bf16) (g : Vec Ideal S1x256 .f32) (r : Fin 512) (k : Fin 256) :
    k0_pay1 (k0_pay50 q t u M g) (ix2 r k) = keyPair q u M g r k + t (ix2 r k) := by
  unfold keyPair segn segm
  pointwise [k0_pay1, k0_pay50]

end Cert.Proj
-- ==== Proof.ProjHead.lean ====
/- The heads as the kernel computes them, over its own order of lanes, are the heads of the layer. -/
module

public import proofs.«01_k».proof.Proof.ProjPack

@[expose] public section

noncomputable section

namespace Cert.Proj

open Idealize.ShloMosaic

/-- A value that is a real number. -/
def IsReal (x : EReal) : Prop := ∃ a : ℝ, x = a

/-- Zero is a real number. -/
theorem IsReal.zero : IsReal 0 := ⟨0, by simp⟩

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of real numbers, as an extended real. -/
theorem coe_sum {n : ℕ} (a : Fin n → ℝ) : ((∑ k, a k : ℝ) : EReal) = ∑ k, (a k : EReal) :=
  map_sum (⟨⟨fun x : ℝ => (x : EReal), EReal.coe_zero⟩, EReal.coe_add⟩ : ℝ →+ EReal) _ _

/-- A sum of real numbers is one. -/
theorem IsReal.sum {n : ℕ} {f : Fin n → EReal} (h : ∀ k, IsReal (f k)) : IsReal (∑ k, f k) := by
  choose a ha using h
  exact ⟨∑ k, a k, by rw [coe_sum]; exact Finset.sum_congr rfl fun k _ => ha k⟩

/-- The rounding constant under the root is a positive real number. -/
theorem eps_real : ∃ e : ℝ, 0 < e ∧ Ideal.ofBits .f32 0x358637BD#32 = (e : EReal) := by
  refine ⟨8796093 * (2 ^ 43)⁻¹, by positivity, ?_⟩
  simp [Ideal.ofBits, Ideal.ieee]

/-- A normalised row of real numbers is real. -/
theorem rms_real {n : ℕ} (c : EReal) (hc : ∃ y : ℝ, 0 < y ∧ c = y) (x g : Fin n → EReal) (hx : ∀ k, IsReal (x k))
    (hg : ∀ k, IsReal (g k)) (j : Fin n) : IsReal (rms c x g j) := by
  obtain ⟨y, hy, rfl⟩ := hc
  obtain ⟨e, he, ee⟩ := eps_real
  choose a ha using hx
  unfold rms
  refine IsReal.mul (IsReal.mul ⟨a j, ha j⟩ ?_) (hg j)
  rw [ee, Ideal.div_coe hy.ne']
  have hs : ∑ k, x k * x k = ((∑ k, a k * a k : ℝ) : EReal) := by
    rw [coe_sum]
    exact Finset.sum_congr rfl fun k _ => by rw [ha k, EReal.coe_mul]
  rw [hs, ← EReal.coe_mul, ← EReal.coe_add, Ideal.rsqrt_coe]
  have h0 : 0 ≤ ∑ k, a k * a k := Finset.sum_nonneg fun k _ => mul_self_nonneg _
  have hp : 0 < (∑ k, a k * a k) * (1 / y) + e := by positivity
  rw [if_neg (not_lt.mpr hp.le), if_neg hp.ne']
  exact ⟨_, rfl⟩

/-- The segment means of a real row, where the matrix picks one run of entries with one weight: what is left
of the squares is zero, and the mean is the sum of the run's squares times the weight. -/
theorem segm_pick {n k : ℕ} (raw : Fin n → EReal) (hr : ∀ i, IsReal (raw i)) (M : Fin n → Fin n → EReal) (c : Fin n)
    (e : Fin k → Fin n) (he : Function.Injective e) (w : ℝ) (h1 : ∀ i, M (e i) c = w) (h0 : ∀ i, i ∉ Set.range e → M i c = 0) :
    segm raw M c = (∑ i, raw (e i) * raw (e i)) * (w : EReal) := by
  choose a ha using hr
  have hz : ∀ i, (raw i * raw i - raw i * raw i) * M i c = 0 := fun i => by
    rw [ha i, ← EReal.coe_mul, ← EReal.coe_sub, sub_self, EReal.coe_zero, zero_mul]
  unfold segm
  rw [Finset.sum_congr rfl fun i _ => hz i, Finset.sum_const_zero, add_zero]
  have hs : ∑ i, raw (e i) * raw (e i) = ((∑ i, a (e i) * a (e i) : ℝ) : EReal) := by
    rw [coe_sum]
    exact Finset.sum_congr rfl fun k _ => by rw [ha (e k), EReal.coe_mul]
  rw [hs, ← EReal.coe_mul, Finset.sum_mul, coe_sum]
  symm
  refine Fintype.sum_of_injective e he _ _ (fun i hi => by rw [h0 i hi, mul_zero]) fun i => ?_
  rw [h1 i, ha (e i), ← EReal.coe_mul, ← EReal.coe_mul]

/-- The word of 1/64. -/
theorem w64 : Ideal.ofBits .f32 0x3C800000#32 = ((1 / 64 : ℝ) : EReal) := by
  simp [Ideal.ofBits, Ideal.ieee]
  rw [← EReal.coe_mul]
  norm_num

/-- The word of 1/32. -/
theorem w32 : Ideal.ofBits .f32 0x3D000000#32 = ((1 / 32 : ℝ) : EReal) := by
  simp [Ideal.ofBits, Ideal.ieee]
  rw [← EReal.coe_mul]
  norm_num

/-- The word of 64. -/
theorem n64 : Ideal.ofBits .f32 0x42800000#32 = ((64 : ℝ) : EReal) := by
  simp [Ideal.ofBits, Ideal.ieee]
  rw [← EReal.coe_mul]
  norm_num

/-- The word of 32. -/
theorem n32 : Ideal.ofBits .f32 0x42000000#32 = ((32 : ℝ) : EReal) := by
  simp [Ideal.ofBits, Ideal.ieee]
  rw [← EReal.coe_mul]
  norm_num

section pair
variable (raw : Fin 256 → EReal) (hr : ∀ k, IsReal (raw k)) (j : Fin 2)
include hr

/-- The mean at one of a head's first 64 lanes. -/
theorem segm_low (c : Fin 256) (l : Fin 64) (hc : c.val = 128 * j.val + l.val) :
    segm raw (fun k c => segW k.val c.val) c
      = Ideal.div (∑ i : Fin 64, raw ⟨128 * j.val + i.val, by omega⟩ * raw ⟨128 * j.val + i.val, by omega⟩) (Ideal.ofBits .f32 0x42800000#32) := by
  rw [n64, Ideal.div_coe (by norm_num)]
  refine segm_pick raw hr _ c (fun i : Fin 64 => ⟨128 * j.val + i.val, by omega⟩) (fun a b h => ?_) (1 / 64) (fun i => ?_) fun i hi => ?_
  · have := congrArg Fin.val h
    exact Fin.ext (by simpa using this)
  · unfold segW
    rw [if_pos ⟨by simp only; omega, by simp only; omega, by omega⟩, w64]
  · unfold segW
    rw [if_neg, if_neg]
    · rintro ⟨_, _, _, _⟩
      omega
    · rintro ⟨h1, h2, _⟩
      exact hi ⟨⟨i.val % 128, h2⟩, Fin.ext (by simp only; omega)⟩

/-- The mean at one of a head's last 64 lanes. -/
theorem segm_high (c : Fin 256) (l : Fin 64) (hc : c.val = 128 * j.val + (64 + l.val)) :
    segm raw (fun k c => segW k.val c.val) c
      = Ideal.div (∑ i : Fin 32, raw ⟨128 * j.val + (64 + i.val), by omega⟩ * raw ⟨128 * j.val + (64 + i.val), by omega⟩)
          (Ideal.ofBits .f32 0x42000000#32) := by
  rw [n32, Ideal.div_coe (by norm_num)]
  refine segm_pick raw hr _ c (fun i : Fin 32 => ⟨128 * j.val + (64 + i.val), by omega⟩) (fun a b h => ?_) (1 / 32) (fun i => ?_) fun i hi => ?_
  · have := congrArg Fin.val h
    exact Fin.ext (by simpa using this)
  · unfold segW
    rw [if_neg (by rintro ⟨_, _, _⟩; omega), if_pos ⟨by simp only; omega, by simp only; omega, by simp only; omega, by omega⟩, w32]
  · unfold segW
    rw [if_neg, if_neg]
    · rintro ⟨h1, h2, h3, _⟩
      exact hi ⟨⟨i.val % 128 - 64, by omega⟩, Fin.ext (by simp only; omega)⟩
    · rintro ⟨_, _, _⟩
      omega

end pair

/-- Two heads of each of four pairs are eight heads. -/
theorem headOf_lt (p : Fin 4) (j : Fin 2) : 2 * p.val + j.val < 8 := by omega

/-- The number of a head: head `j` of pair `p`. -/
def headOf (p : Fin 4) (j : Fin 2) : Fin 8 := ⟨2 * p.val + j.val, headOf_lt p j⟩

/-- Four pairs of 256 lanes are 1024 lanes. -/
theorem pair_lt (p : Fin 4) (k : Fin 256) : 256 * p.val + k.val < 1024 := by omega

section query
variable (d : Given) (hq : ∀ h l, IsReal (d.q0 h l)) (p : Fin 4) (j : Fin 2) (raw g : Fin 256 → EReal)
  (hraw : ∀ k : Fin 256, raw k = ∑ a, d.cq a * d.packUq a ⟨256 * p.val + k.val, pair_lt p k⟩)
  (hg : ∀ k : Fin 256, g k = d.packGq ⟨256 * p.val + k.val, pair_lt p k⟩)

include hraw in
/-- The first 96 lanes of a head. -/
theorem raw_lo (k : Fin 256) (l : Fin 96) (e : k.val = 128 * j.val + l.val) : raw k = d.q0 (headOf p j) l := by
  rw [hraw]
  unfold Given.q0
  refine Finset.sum_congr rfl fun a _ => ?_
  unfold Given.packUq headOf
  rw [dif_pos (by simp only; omega)]
  congr 2
  apply Fin.ext
  simp only
  omega

include hraw in
/-- Lanes 96 to 111 hold the second half of the last 32 lanes. -/
theorem raw_mid (k : Fin 256) (i : Fin 16) (e : k.val = 128 * j.val + (96 + i.val)) :
    raw k = d.q0 (headOf p j) ⟨64 + (16 + i.val), by omega⟩ := by
  rw [hraw]
  unfold Given.q0
  refine Finset.sum_congr rfl fun a _ => ?_
  unfold Given.packUq headOf
  rw [dif_neg (by simp only; omega), dif_pos (by simp only; omega)]
  congr 2
  apply Fin.ext
  simp only
  omega

include hraw in
/-- Lanes 112 to 127 hold the first half of the last 32 lanes. -/
theorem raw_hi (k : Fin 256) (i : Fin 16) (e : k.val = 128 * j.val + (112 + i.val)) :
    raw k = d.q0 (headOf p j) ⟨64 + i.val, by omega⟩ := by
  rw [hraw]
  unfold Given.q0
  refine Finset.sum_congr rfl fun a _ => ?_
  unfold Given.packUq headOf
  rw [dif_neg (by simp only; omega), dif_neg (by simp only; omega)]
  congr 2
  apply Fin.ext
  simp only
  omega

include hraw hq in
/-- Every lane of a pair is a real number. -/
theorem raw_real (k : Fin 256) : IsReal (raw k) := by
  have hk := k.isLt
  by_cases h1 : k.val % 128 < 96
  · rw [raw_lo d p ⟨k.val / 128, by omega⟩ raw hraw k ⟨k.val % 128, h1⟩ (by simp only; omega)]
    exact hq _ _
  · by_cases h2 : k.val % 128 < 112
    · rw [raw_mid d p ⟨k.val / 128, by omega⟩ raw hraw k ⟨k.val % 128 - 96, by omega⟩ (by simp only; omega)]
      exact hq _ _
    · rw [raw_hi d p ⟨k.val / 128, by omega⟩ raw hraw k ⟨k.val % 128 - 112, by omega⟩ (by simp only; omega)]
      exact hq _ _

include hraw hq in
/-- The mean at the first 64 lanes. -/
theorem mean_lo (k : Fin 256) (l : Fin 64) (e : k.val = 128 * j.val + l.val) :
    segm raw (fun k c => segW k.val c.val) k
      = Ideal.div (∑ i : Fin 64, d.q0 (headOf p j) ⟨i.val, by omega⟩ * d.q0 (headOf p j) ⟨i.val, by omega⟩)
          (Ideal.ofBits .f32 0x42800000#32) := by
  rw [segm_low raw (raw_real d hq p raw hraw) j k l e]
  congr 1
  refine Finset.sum_congr rfl fun i _ => ?_
  rw [raw_lo d p j raw hraw ⟨128 * j.val + i.val, by omega⟩ ⟨i.val, by omega⟩ rfl]

include hraw hq hg in
/-- The first 64 lanes after the normalisation. -/
theorem norm_lo (k : Fin 256) (l : Fin 64) (e : k.val = 128 * j.val + l.val) :
    segn raw (fun k c => segW k.val c.val) g k = d.qn (headOf p j) l := by
  unfold segn Given.qn rms
  rw [mean_lo d hq p j raw hraw k l e, raw_lo d p j raw hraw k ⟨l.val, by omega⟩ e, hg]
  congr 1
  unfold Given.packGq
  rw [dif_pos (by simp only; omega)]
  congr 1
  apply Fin.ext
  simp only
  omega

include hraw hq in
/-- The mean at the last 64 lanes. -/
theorem mean_hi (k : Fin 256) (l : Fin 64) (e : k.val = 128 * j.val + (64 + l.val)) :
    segm raw (fun k c => segW k.val c.val) k
      = Ideal.div (∑ i : Fin 32, d.q0 (headOf p j) ⟨64 + i.val, by omega⟩ * d.q0 (headOf p j) ⟨64 + i.val, by omega⟩)
          (Ideal.ofBits .f32 0x42000000#32) := by
  rw [segm_high raw (raw_real d hq p raw hraw) j k l e]
  congr 1
  refine Finset.sum_congr rfl fun i _ => ?_
  rw [raw_lo d p j raw hraw ⟨128 * j.val + (64 + i.val), by omega⟩ ⟨64 + i.val, by omega⟩ rfl]

include hraw hq hg in
/-- Lanes 64 to 95 after the normalisation. -/
theorem norm_rope (k : Fin 256) (l : Fin 32) (e : k.val = 128 * j.val + (64 + l.val)) :
    segn raw (fun k c => segW k.val c.val) g k = d.qr (headOf p j) l := by
  unfold segn Given.qr rms
  rw [mean_hi d hq p j raw hraw k ⟨l.val, by omega⟩ e, raw_lo d p j raw hraw k ⟨64 + l.val, by omega⟩ e, hg]
  congr 1
  unfold Given.packGq
  rw [dif_neg (by simp only; omega), dif_pos (by simp only; omega)]
  congr 1
  apply Fin.ext
  simp only
  omega

include hraw hq hg in
/-- Lanes 96 to 111 after the normalisation: the second half of lanes 64 to 95. -/
theorem norm_mid (k : Fin 256) (i : Fin 16) (e : k.val = 128 * j.val + (96 + i.val)) :
    segn raw (fun k c => segW k.val c.val) g k = d.qr (headOf p j) ⟨16 + i.val, by omega⟩ := by
  unfold segn Given.qr rms
  rw [mean_hi d hq p j raw hraw k ⟨32 + i.val, by omega⟩ (by simp only; omega), raw_mid d p j raw hraw k i e, hg]
  congr 1
  unfold Given.packGq
  rw [dif_neg (by simp only; omega), dif_neg (by simp only; omega), dif_pos (by simp only; omega)]
  congr 1
  apply Fin.ext
  simp only
  omega

include hraw hq hg in
/-- Lanes 112 to 127 after the normalisation: the first half of lanes 64 to 95. -/
theorem norm_hi (k : Fin 256) (i : Fin 16) (e : k.val = 128 * j.val + (112 + i.val)) :
    segn raw (fun k c => segW k.val c.val) g k = d.qr (headOf p j) ⟨i.val, by omega⟩ := by
  unfold segn Given.qr rms
  rw [mean_hi d hq p j raw hraw k ⟨48 + i.val, by omega⟩ (by simp only; omega), raw_hi d p j raw hraw k i e, hg]
  congr 1
  unfold Given.packGq
  rw [dif_neg (by simp only; omega), dif_neg (by simp only; omega), dif_neg (by simp only; omega)]
  congr 1
  apply Fin.ext
  simp only
  omega

include hraw hq hg in
/-- A QUERY HEAD: the normalised lanes times the tables are the head of the layer. -/
theorem query_head (y : Fin 128 → EReal)
    (hy : ∀ l : Fin 128, y l = segn raw (fun k c => segW k.val c.val) g ⟨128 * j.val + l.val, by omega⟩) (l : Fin 128) :
    tabled y d.cosQ d.sinQ l = d.q (headOf p j) l := by
  have hl := l.isLt
  unfold tabled Given.cosQ Given.sinQ Given.q
  by_cases h1 : l.val < 64
  · rw [dif_pos h1, dif_pos h1, dif_pos h1, mul_one, mul_zero, add_zero, hy]
    exact norm_lo d hq p j raw g hraw hg _ ⟨l.val, h1⟩ rfl
  rw [dif_neg h1, dif_neg h1, dif_neg h1]
  by_cases h2 : l.val - 64 < 32
  · rw [dif_pos h2, dif_pos h2, dif_pos h2]
    unfold turn
    by_cases h3 : l.val - 64 < 16
    · rw [dif_pos h3, dif_pos h3, dif_pos h3, hy, hy,
        norm_rope d hq p j raw g hraw hg _ ⟨l.val - 64, h2⟩ (by simp only; omega),
        norm_mid d hq p j raw g hraw hg _ ⟨l.val - 64, h3⟩ (by simp only; omega), mul_neg, ← sub_eq_add_neg]
    · rw [dif_neg h3, dif_neg h3, dif_neg h3, hy, hy,
        norm_rope d hq p j raw g hraw hg _ ⟨l.val - 64, h2⟩ (by simp only; omega),
        norm_hi d hq p j raw g hraw hg _ ⟨l.val - 64 - 16, by omega⟩ (by simp only; omega)]
      congr 2
      congr 1
      apply Fin.ext
      simp only
      omega
  · rw [dif_neg h2, dif_neg h2, dif_neg h2, mul_zero, mul_zero, add_zero]

end query

section key
variable (d : Given) (hk : ∀ h l, IsReal (d.k0 h l)) (p : Fin 4) (j : Fin 2) (raw g : Fin 256 → EReal)
  (hraw : ∀ k : Fin 256, raw k = ∑ a, d.ckv a * d.packUk a ⟨256 * p.val + k.val, pair_lt p k⟩)
  (hg : ∀ k : Fin 256, g k = d.packGk ⟨256 * p.val + k.val, pair_lt p k⟩)

include hraw in
/-- The first 64 lanes of a key head. -/
theorem key_lo (k : Fin 256) (l : Fin 64) (e : k.val = 128 * j.val + l.val) : raw k = d.k0 (headOf p j) l := by
  rw [hraw]
  unfold Given.k0
  refine Finset.sum_congr rfl fun a _ => ?_
  unfold Given.packUk headOf
  rw [dif_pos (by simp only; omega)]
  congr 2
  apply Fin.ext
  simp only
  omega

include hraw in
/-- The last 64 lanes of a key head. -/
theorem key_hi (k : Fin 256) (h : ¬ k.val % 128 < 64) : raw k = 0 := by
  rw [hraw]
  refine Finset.sum_eq_zero fun a _ => ?_
  unfold Given.packUk
  rw [dif_neg (by simp only; omega), mul_zero]

include hraw hk in
/-- Every lane of a pair of keys is a real number. -/
theorem key_real (k : Fin 256) : IsReal (raw k) := by
  have hk' := k.isLt
  by_cases h1 : k.val % 128 < 64
  · rw [key_lo d p ⟨k.val / 128, by omega⟩ raw hraw k ⟨k.val % 128, h1⟩ (by simp only; omega)]
    exact hk _ _
  · rw [key_hi d p raw hraw k h1]
    exact IsReal.zero

include hraw hk hg in
/-- A KEY HEAD before the shared lanes: the normalised lanes, then zeros. -/
theorem key_head (k : Fin 256) (l : Fin 128) (e : k.val = 128 * j.val + l.val) :
    segn raw (fun k c => segW k.val c.val) g k = if h : l.val < 64 then d.kn (headOf p j) ⟨l.val, h⟩ else 0 := by
  by_cases h : l.val < 64
  · rw [dif_pos h]
    unfold segn Given.kn rms
    rw [segm_low raw (key_real d hk p raw hraw) j k ⟨l.val, h⟩ e, key_lo d p j raw hraw k ⟨l.val, h⟩ e, hg]
    simp only [key_lo d p j raw hraw ⟨128 * j.val + _, _⟩ _ rfl]
    congr 1
    unfold Given.packGk
    rw [dif_pos (by simp only; omega)]
    congr 1
    apply Fin.ext
    simp only
    omega
  · rw [dif_neg h]
    unfold segn
    rw [key_hi d p raw hraw k (by omega), zero_mul, zero_mul]

end key

section shared
variable (d : Given) (hz : ∀ j, IsReal (d.z j))
include hz

/-- The lanes of the shared key and the gates are real numbers. -/
theorem misc_real (l : Fin 128) : IsReal (d.misc l) := by
  unfold Given.misc
  split_ifs <;> first | exact hz _ | exact IsReal.zero

/-- The mean at the first 64 lanes. -/
theorem mean_shared (l : Fin 128) (hl : l.val < 64) :
    segm d.misc (fun k c => segK k.val c.val) l
      = Ideal.div (∑ i : Fin 32, d.z ⟨384 + i.val, by omega⟩ * d.z ⟨384 + i.val, by omega⟩) (Ideal.ofBits .f32 0x42000000#32) := by
  rw [n32, Ideal.div_coe (by norm_num)]
  rw [segm_pick d.misc (misc_real d hz) _ l (fun i : Fin 32 => ⟨i.val, by omega⟩) (fun a b h => ?_) (1 / 32) (fun i => ?_) fun i hi => ?_]
  · congr 1
  · exact Fin.ext (by simpa using congrArg Fin.val h)
  · unfold segK
    rw [if_pos ⟨i.isLt, hl⟩, w32]
  · unfold segK
    rw [if_neg]
    rintro ⟨h1, _⟩
    exact hi ⟨⟨i.val, h1⟩, rfl⟩

/-- The first 32 lanes, normalised. -/
theorem shared_lo (l : Fin 128) (h : l.val < 32) :
    segn d.misc (fun k c => segK k.val c.val) d.packGm l = d.kr0 ⟨l.val, h⟩ := by
  unfold segn Given.kr0 rms
  rw [mean_shared d hz l (by omega)]
  have e1 : d.misc l = d.z ⟨384 + l.val, by omega⟩ := by
    unfold Given.misc
    rw [dif_pos h]
  have g1 : d.packGm l = d.gKRope ⟨l.val, h⟩ := by
    unfold Given.packGm
    rw [dif_pos h]
  rw [e1, g1]

/-- Lanes 32 to 47, normalised: the second half of the first 32. -/
theorem shared_mid (l : Fin 128) (i : Fin 16) (e : l.val = 32 + i.val) :
    segn d.misc (fun k c => segK k.val c.val) d.packGm l = d.kr0 ⟨16 + i.val, by omega⟩ := by
  unfold segn Given.kr0 rms
  rw [mean_shared d hz l (by omega)]
  have e1 : d.misc l = d.z ⟨384 + (16 + i.val), by omega⟩ := by
    unfold Given.misc
    rw [dif_neg (by omega), dif_pos (by omega)]
    congr 1
    exact Fin.ext (by simp only; omega)
  have g1 : d.packGm l = d.gKRope ⟨16 + i.val, by omega⟩ := by
    unfold Given.packGm
    rw [dif_neg (by omega), dif_pos (by omega), dif_pos (by omega)]
    congr 1
    exact Fin.ext (by simp only; omega)
  rw [e1, g1]

/-- Lanes 48 to 63, normalised: the first half of the first 32. -/
theorem shared_hi (l : Fin 128) (i : Fin 16) (e : l.val = 48 + i.val) :
    segn d.misc (fun k c => segK k.val c.val) d.packGm l = d.kr0 ⟨i.val, by omega⟩ := by
  unfold segn Given.kr0 rms
  rw [mean_shared d hz l (by omega)]
  have e1 : d.misc l = d.z ⟨384 + i.val, by omega⟩ := by
    unfold Given.misc
    rw [dif_neg (by omega), dif_neg (by omega), dif_pos (by omega)]
    congr 1
    exact Fin.ext (by simp only; omega)
  have g1 : d.packGm l = d.gKRope ⟨i.val, by omega⟩ := by
    unfold Given.packGm
    rw [dif_neg (by omega), dif_pos (by omega), dif_neg (by omega)]
    congr 1
    exact Fin.ext (by simp only; omega)
  rw [e1, g1]

/-- THE SHARED KEY LANES: the normalised lanes times the tables are the turned lanes of the layer, then zeros. -/
theorem shared_lanes (l : Fin 128) :
    tabled (segn d.misc (fun k c => segK k.val c.val) d.packGm) d.cosK d.sinK l = if h : l.val < 32 then d.kr ⟨l.val, h⟩ else 0 := by
  have hl := l.isLt
  unfold tabled Given.cosK Given.sinK
  by_cases h1 : l.val < 32
  · rw [dif_pos h1, dif_pos h1, dif_pos h1, shared_lo d hz l h1]
    unfold Given.kr turn
    by_cases h2 : l.val < 16
    · rw [dif_pos h2, dif_pos h2, dif_pos h2,
        shared_mid d hz ⟨(l.val + 128 - 96) % 128, by omega⟩ ⟨l.val, h2⟩ (by simp only; omega), mul_neg, ← sub_eq_add_neg]
    · have e3 : (⟨16 + (l.val - 16), by omega⟩ : Fin 32) = ⟨l.val, h1⟩ := Fin.ext (by simp only; omega)
      rw [dif_neg h2, dif_neg h2, dif_neg h2,
        shared_hi d hz ⟨(l.val + 128 - 96) % 128, by omega⟩ ⟨l.val - 16, by omega⟩ (by simp only; omega), e3]
  · rw [dif_neg h1, dif_neg h1, dif_neg h1, mul_zero, mul_zero, add_zero]

end shared

/-- From real inputs every intermediate row is real. -/
theorem Given.reals (d : Given) (hx : ∀ k, IsReal (d.x k)) (h1 : ∀ k, IsReal (d.gMix k)) (h2 : ∀ k j, IsReal (d.w k j))
    (h3 : ∀ k, IsReal (d.gLat k)) (h4 : ∀ a j, IsReal (d.uq a j)) (h7 : ∀ a, IsReal (d.gKv a)) (h9 : ∀ a j, IsReal (d.uk a j)) :
    (∀ j, IsReal (d.z j)) ∧ (∀ h l, IsReal (d.q0 h l)) ∧ ∀ h l, IsReal (d.k0 h l) := by
  have c1 : ∃ y : ℝ, 0 < y ∧ Ideal.ofBits .f32 0x44800000#32 = (y : EReal) :=
    ⟨8388608 * (2 ^ 13)⁻¹, by positivity, by simp [Ideal.ofBits, Ideal.ieee]⟩
  have c2 : ∃ y : ℝ, 0 < y ∧ Ideal.ofBits .f32 0x43800000#32 = (y : EReal) :=
    ⟨8388608 * (2 ^ 15)⁻¹, by positivity, by simp [Ideal.ofBits, Ideal.ieee]⟩
  have c3 : ∃ y : ℝ, 0 < y ∧ Ideal.ofBits .f32 0x43000000#32 = (y : EReal) :=
    ⟨8388608 * (2 ^ 16)⁻¹, by positivity, by simp [Ideal.ofBits, Ideal.ieee]⟩
  have hz : ∀ j, IsReal (d.z j) := fun j => IsReal.sum fun k => (rms_real _ c1 _ _ hx h1 k).mul (h2 k j)
  exact ⟨hz, fun h l => IsReal.sum fun a => (rms_real _ c2 _ _ (fun _ => hz _) h3 a).mul (h4 _ _),
    fun h l => IsReal.sum fun a => (rms_real _ c3 _ _ (fun _ => hz _) h7 a).mul (h9 _ _)⟩

end Cert.Proj
-- ==== Proof.ProjBlock.lean ====
/- What one grid point of the projection kernel stores, row by row. -/
module

public import proofs.«01_k».proof.Proof.ProjPay
public import proofs.«01_k».proof.Proof.ProjHead
public import Idealize.ShloMosaic.Lib.Pipeline.CanonAppend

@[expose] public section

set_option maxRecDepth 16384

noncomputable section

namespace Cert.Proj

open Cert.Kernel3Ideal Cert.Kernel3Ideal.Gen Idealize.ShloMosaic Idealize.ShloMosaic.TcCoe Idealize.SL.Sem

/-- A unit-stride part of a block at an index: the block at the offsets plus the index. -/
theorem ld_at {s : Shape} {e : EltTy} (x : s.Idx → Elt Ideal e) {off size : Fin s.rank → ℕ} (inb : ∀ a, off a + size a ≤ s.size a)
    (z : (Rect.unit off size inb).shape.Idx) (y : s.Idx) (h : ∀ a, (y a).val = off a + (z a).val) :
    View.ld x (Rect.unit off size inb) z = x y := by
  unfold View.ld
  congr 1
  funext a
  apply Fin.ext
  rw [h a]
  show off a + 1 * (z a).val = _
  rw [one_mul]

/-- What a load of this part of its block reads. -/
theorem ld_x (x : Vec Ideal S512x1024 .f32) (a : Fin 512) (k : Fin 1024) : View.ld x r0_0 (ix2 a k) = x (ix2 a k) := by
  exact ld_at _ _ _ _ fun a => by fin_cases a <;> simp [ix2]

/-- What a load of this part of its block reads. -/
theorem ld_g (x : Vec Ideal S1x1024 .f32) (k : Fin 1024) : View.ld x r0_1 (ix2 0 k) = x (ix2 0 k) := by
  exact ld_at _ _ _ _ fun a => by fin_cases a <;> simp [ix2]

/-- What a load of this part of its block reads. -/
theorem ld_wqk (x : Vec Ideal S1024x2560 .bf16) (a : Fin 1024) (k : Fin 1024) : View.ld x r0_2 (ix2 a k) = x (ix2 a ⟨384 + k.val, by omega⟩) := by
  exact ld_at _ _ _ _ fun a => by fin_cases a <;> simp [ix2]

/-- What a load of this part of its block reads. -/
theorem ld_wv (x : Vec Ideal S1024x2560 .bf16) (a : Fin 1024) (k : Fin 512) : View.ld x r0_3 (ix2 a k) = x (ix2 a ⟨1408 + k.val, by omega⟩) := by
  exact ld_at _ _ _ _ fun a => by fin_cases a <;> simp [ix2]

/-- What a load of this part of its block reads. -/
theorem ld_wo (x : Vec Ideal S1024x2560 .bf16) (a : Fin 1024) (k : Fin 512) : View.ld x r0_5 (ix2 a k) = x (ix2 a ⟨1920 + k.val, by omega⟩) := by
  exact ld_at _ _ _ _ fun a => by fin_cases a <;> simp [ix2]

/-- What a load of this part of its block reads. -/
theorem ld_wm (x : Vec Ideal S1024x2560 .bf16) (a : Fin 1024) (k : Fin 128) : View.ld x r0_6 (ix2 a k) = x (ix2 a ⟨2432 + k.val, by omega⟩) := by
  exact ld_at _ _ _ _ fun a => by fin_cases a <;> simp [ix2]

/-- What a load of this part of its block reads. -/
theorem ld_wcq (x : Vec Ideal S1024x2560 .bf16) (a : Fin 1024) (k : Fin 256) : View.ld x r0_8 (ix2 a k) = x (ix2 a ⟨0 + k.val, by omega⟩) := by
  exact ld_at _ _ _ _ fun a => by fin_cases a <;> simp [ix2]

/-- What a load of this part of its block reads. -/
theorem ld_wkv (x : Vec Ideal S1024x2560 .bf16) (a : Fin 1024) (k : Fin 128) : View.ld x r0_27 (ix2 a k) = x (ix2 a ⟨256 + k.val, by omega⟩) := by
  exact ld_at _ _ _ _ fun a => by fin_cases a <;> simp [ix2]

/-- What a load of this part of its block reads. -/
theorem ld_t (x : Vec Ideal S512x128 .f32) (a : Fin 512) (k : Fin 128) : View.ld x r0_7 (ix2 a k) = x (ix2 a k) := by
  exact ld_at _ _ _ _ fun a => by fin_cases a <;> simp [ix2]

/-- What a load of this part of its block reads. -/
theorem ld_gl (x : Vec Ideal S1x256 .f32) (k : Fin 256) : View.ld x r0_9 (ix2 0 k) = x (ix2 0 k) := by
  exact ld_at _ _ _ _ fun a => by fin_cases a <;> simp [ix2]

/-- What a load of this part of its block reads. -/
theorem ld_gk (x : Vec Ideal S1x128 .f32) (k : Fin 128) : View.ld x r0_28 (ix2 0 k) = x (ix2 0 k) := by
  exact ld_at _ _ _ _ fun a => by fin_cases a <;> simp [ix2]

/-- What a load of this part of its block reads. -/
theorem ld_uv (x : Vec Ideal S128x512 .bf16) (a : Fin 128) (k : Fin 512) : View.ld x r0_29 (ix2 a k) = x (ix2 a k) := by
  exact ld_at _ _ _ _ fun a => by fin_cases a <;> simp [ix2]

/-- What a load of this part of its block reads. -/
theorem ld_ms (x : Vec Ideal S128x128 .bf16) (a : Fin 128) (k : Fin 128) : View.ld x r0_30 (ix2 a k) = x (ix2 a k) := by
  exact ld_at _ _ _ _ fun a => by fin_cases a <;> simp [ix2]

/-- What a load of this part of its block reads. -/
theorem ld_M (x : Vec Ideal S256x256 .bf16) (a : Fin 256) (k : Fin 256) : View.ld x r0_11 (ix2 a k) = x (ix2 a k) := by
  exact ld_at _ _ _ _ fun a => by fin_cases a <;> simp [ix2]

/-- What a load of this part of its block reads. -/
theorem ld_uq0 (x : Vec Ideal S256x1024 .bf16) (a : Fin 256) (k : Fin 256) : View.ld x r0_10 (ix2 a k) = x (ix2 a ⟨0 + k.val, by omega⟩) := by
  exact ld_at _ _ _ _ fun a => by fin_cases a <;> simp [ix2]

/-- What a load of this part of its block reads. -/
theorem ld_uq1 (x : Vec Ideal S256x1024 .bf16) (a : Fin 256) (k : Fin 256) : View.ld x r0_15 (ix2 a k) = x (ix2 a ⟨256 + k.val, by omega⟩) := by
  exact ld_at _ _ _ _ fun a => by fin_cases a <;> simp [ix2]

/-- What a load of this part of its block reads. -/
theorem ld_uq2 (x : Vec Ideal S256x1024 .bf16) (a : Fin 256) (k : Fin 256) : View.ld x r0_19 (ix2 a k) = x (ix2 a ⟨512 + k.val, by omega⟩) := by
  exact ld_at _ _ _ _ fun a => by fin_cases a <;> simp [ix2]

/-- What a load of this part of its block reads. -/
theorem ld_uq3 (x : Vec Ideal S256x1024 .bf16) (a : Fin 256) (k : Fin 256) : View.ld x r0_23 (ix2 a k) = x (ix2 a ⟨768 + k.val, by omega⟩) := by
  exact ld_at _ _ _ _ fun a => by fin_cases a <;> simp [ix2]

/-- What a load of this part of its block reads. -/
theorem ld_gh0 (x : Vec Ideal S1x1024 .f32) (k : Fin 256) : View.ld x r0_12 (ix2 0 k) = x (ix2 0 ⟨0 + k.val, by omega⟩) := by
  exact ld_at _ _ _ _ fun a => by fin_cases a <;> simp [ix2]

/-- What a load of this part of its block reads. -/
theorem ld_gh1 (x : Vec Ideal S1x1024 .f32) (k : Fin 256) : View.ld x r0_16 (ix2 0 k) = x (ix2 0 ⟨256 + k.val, by omega⟩) := by
  exact ld_at _ _ _ _ fun a => by fin_cases a <;> simp [ix2]

/-- What a load of this part of its block reads. -/
theorem ld_gh2 (x : Vec Ideal S1x1024 .f32) (k : Fin 256) : View.ld x r0_20 (ix2 0 k) = x (ix2 0 ⟨512 + k.val, by omega⟩) := by
  exact ld_at _ _ _ _ fun a => by fin_cases a <;> simp [ix2]

/-- What a load of this part of its block reads. -/
theorem ld_gh3 (x : Vec Ideal S1x1024 .f32) (k : Fin 256) : View.ld x r0_24 (ix2 0 k) = x (ix2 0 ⟨768 + k.val, by omega⟩) := by
  exact ld_at _ _ _ _ fun a => by fin_cases a <;> simp [ix2]

/-- What a load of this part of its block reads. -/
theorem ld_uk0 (x : Vec Ideal S128x1024 .bf16) (a : Fin 128) (k : Fin 256) : View.ld x r0_32 (ix2 a k) = x (ix2 a ⟨0 + k.val, by omega⟩) := by
  exact ld_at _ _ _ _ fun a => by fin_cases a <;> simp [ix2]

/-- What a load of this part of its block reads. -/
theorem ld_uk1 (x : Vec Ideal S128x1024 .bf16) (a : Fin 128) (k : Fin 256) : View.ld x r0_34 (ix2 a k) = x (ix2 a ⟨256 + k.val, by omega⟩) := by
  exact ld_at _ _ _ _ fun a => by fin_cases a <;> simp [ix2]

/-- What a load of this part of its block reads. -/
theorem ld_uk2 (x : Vec Ideal S128x1024 .bf16) (a : Fin 128) (k : Fin 256) : View.ld x r0_36 (ix2 a k) = x (ix2 a ⟨512 + k.val, by omega⟩) := by
  exact ld_at _ _ _ _ fun a => by fin_cases a <;> simp [ix2]

/-- What a load of this part of its block reads. -/
theorem ld_uk3 (x : Vec Ideal S128x1024 .bf16) (a : Fin 128) (k : Fin 256) : View.ld x r0_38 (ix2 a k) = x (ix2 a ⟨768 + k.val, by omega⟩) := by
  exact ld_at _ _ _ _ fun a => by fin_cases a <;> simp [ix2]

/-- Columns of the joint projection in the kernel's order. -/
theorem packW_qk (e : Given) (k : Fin 1024) (j : Fin 1024) : e.packW k ⟨384 + j.val, by omega⟩ = e.w k ⟨416 + j.val, by omega⟩ := by
  unfold Given.packW
  rw [dif_neg (by simp only; omega), dif_neg (by simp only; omega), dif_pos (by simp only; omega)]
  congr 1
  exact Fin.ext (by simp only; omega)

/-- These columns of the packed weight are columns of the input projection. -/
theorem packW_v (e : Given) (k : Fin 1024) (j : Fin 512) : e.packW k ⟨1408 + j.val, by omega⟩ = e.w k ⟨1440 + j.val, by omega⟩ := by
  unfold Given.packW
  rw [dif_neg (by simp only; omega), dif_neg (by simp only; omega), dif_neg (by simp only; omega), dif_pos (by simp only; omega)]
  congr 1
  exact Fin.ext (by simp only; omega)

/-- These columns of the packed weight are columns of the input projection. -/
theorem packW_o (e : Given) (k : Fin 1024) (j : Fin 512) : e.packW k ⟨1920 + j.val, by omega⟩ = e.w k ⟨1952 + j.val, by omega⟩ := by
  unfold Given.packW
  rw [dif_neg (by simp only; omega), dif_neg (by simp only; omega), dif_neg (by simp only; omega), dif_neg (by simp only; omega),
    dif_pos (by simp only; omega)]
  congr 1
  exact Fin.ext (by simp only; omega)

/-- These columns of the packed weight are columns of the input projection. -/
theorem packW_cq (e : Given) (k : Fin 1024) (j : Fin 256) : e.packW k ⟨0 + j.val, by omega⟩ = e.w k ⟨j.val, by omega⟩ := by
  unfold Given.packW
  rw [dif_pos (by simp only; omega)]
  congr 1
  exact Fin.ext (by simp only; omega)

/-- These columns of the packed weight are columns of the input projection. -/
theorem packW_kv (e : Given) (k : Fin 1024) (j : Fin 128) : e.packW k ⟨256 + j.val, by omega⟩ = e.w k ⟨256 + j.val, by omega⟩ := by
  unfold Given.packW
  rw [dif_neg (by simp only; omega), dif_pos (by simp only; omega)]
  congr 1
  exact Fin.ext (by simp only; omega)

/-- These columns of the packed weight are columns of the input projection. -/
theorem packW_m1 (e : Given) (k : Fin 1024) (j : Fin 128) (h : j.val < 32) : e.packW k ⟨2432 + j.val, by omega⟩ = e.w k ⟨384 + j.val, by omega⟩ := by
  have hj := j.isLt
  unfold Given.packW
  rw [dif_neg (by simp only; omega),
    dif_neg (by simp only; omega),
    dif_neg (by simp only; omega),
    dif_neg (by simp only; omega),
    dif_neg (by simp only; omega),
    dif_pos (by simp only; omega)]
  congr 1
  exact Fin.ext (by simp only; omega)

/-- These columns of the packed weight are columns of the input projection. -/
theorem packW_m2 (e : Given) (k : Fin 1024) (j : Fin 128) (h1 : ¬ j.val < 32) (h : j.val - 32 < 16) : e.packW k ⟨2432 + j.val, by omega⟩ = e.w k ⟨384 + (16 + (j.val - 32)), by omega⟩ := by
  have hj := j.isLt
  unfold Given.packW
  rw [dif_neg (by simp only; omega),
    dif_neg (by simp only; omega),
    dif_neg (by simp only; omega),
    dif_neg (by simp only; omega),
    dif_neg (by simp only; omega),
    dif_neg (by simp only; omega),
    dif_pos (by simp only; omega),
    dif_pos (by simp only; omega)]
  congr 1
  exact Fin.ext (by simp only; omega)

/-- These columns of the packed weight are columns of the input projection. -/
theorem packW_m3 (e : Given) (k : Fin 1024) (j : Fin 128) (h1 : ¬ j.val < 32) (h2 : ¬ j.val - 32 < 16) (h : j.val - 32 - 16 < 16) : e.packW k ⟨2432 + j.val, by omega⟩ = e.w k ⟨384 + (j.val - 32 - 16), by omega⟩ := by
  have hj := j.isLt
  unfold Given.packW
  rw [dif_neg (by simp only; omega),
    dif_neg (by simp only; omega),
    dif_neg (by simp only; omega),
    dif_neg (by simp only; omega),
    dif_neg (by simp only; omega),
    dif_neg (by simp only; omega),
    dif_pos (by simp only; omega),
    dif_neg (by simp only; omega)]
  congr 1
  exact Fin.ext (by simp only; omega)

set_option maxHeartbeats 1000000 in
/-- These columns of the packed weight are columns of the input projection. -/
theorem packW_m4 (e : Given) (k : Fin 1024) (j : Fin 128) (h1 : ¬ j.val < 32) (h2 : ¬ j.val - 32 < 16) (h3 : ¬ j.val - 32 - 16 < 16) (h : j.val - 32 - 16 - 16 < 4) : e.packW k ⟨2432 + j.val, by omega⟩ = e.w k ⟨2464 + (j.val - 32 - 16 - 16), by omega⟩ := by
  have hj := j.isLt
  unfold Given.packW
  rw [dif_neg (by simp only; omega),
    dif_neg (by simp only; omega),
    dif_neg (by simp only; omega),
    dif_neg (by simp only; omega),
    dif_neg (by simp only; omega),
    dif_neg (by simp only; omega),
    dif_neg (by simp only; omega),
    dif_pos (by simp only; omega)]
  congr 1
  exact Fin.ext (by simp only; omega)

set_option maxHeartbeats 1000000 in
/-- These columns of the packed weight are columns of the input projection. -/
theorem packW_m5 (e : Given) (k : Fin 1024) (j : Fin 128) (h1 : ¬ j.val < 32) (h2 : ¬ j.val - 32 < 16) (h3 : ¬ j.val - 32 - 16 < 16) (h4 : ¬ j.val - 32 - 16 - 16 < 4)
    (h : j.val - 32 - 16 - 16 - 4 < 4) : e.packW k ⟨2432 + j.val, by omega⟩ = e.w k ⟨2468 + (j.val - 32 - 16 - 16 - 4), by omega⟩ := by
  have hj := j.isLt
  unfold Given.packW
  rw [dif_neg (by simp only; omega),
    dif_neg (by simp only; omega),
    dif_neg (by simp only; omega),
    dif_neg (by simp only; omega),
    dif_neg (by simp only; omega),
    dif_neg (by simp only; omega),
    dif_neg (by simp only; omega),
    dif_neg (by simp only; omega),
    dif_pos (by simp only; omega)]
  congr 1
  exact Fin.ext (by simp only; omega)

set_option maxHeartbeats 1000000 in
/-- These columns of the packed weight are columns of the input projection. -/
theorem packW_m6 (e : Given) (k : Fin 1024) (j : Fin 128) (h1 : ¬ j.val < 32) (h2 : ¬ j.val - 32 < 16) (h3 : ¬ j.val - 32 - 16 < 16) (h4 : ¬ j.val - 32 - 16 - 16 < 4)
    (h : ¬ j.val - 32 - 16 - 16 - 4 < 4) : e.packW k ⟨2432 + j.val, by omega⟩ = 0 := by
  have hj := j.isLt
  unfold Given.packW
  rw [dif_neg (by simp only; omega),
    dif_neg (by simp only; omega),
    dif_neg (by simp only; omega),
    dif_neg (by simp only; omega),
    dif_neg (by simp only; omega),
    dif_neg (by simp only; omega),
    dif_neg (by simp only; omega),
    dif_neg (by simp only; omega),
    dif_neg (by simp only; omega)]

/-- The last 128 columns give the shared key lanes and the gates. -/
theorem misc_sum (e : Given) (j : Fin 128) : ∑ k, e.hid k * e.packW k ⟨2432 + j.val, by omega⟩ = e.misc j := by
  unfold Given.misc Given.z
  by_cases h1 : j.val < 32
  · rw [dif_pos h1]
    exact Finset.sum_congr rfl fun k _ => congrArg _ (packW_m1 e k j h1)
  rw [dif_neg h1]
  by_cases h2 : j.val - 32 < 16
  · rw [dif_pos h2]
    exact Finset.sum_congr rfl fun k _ => congrArg _ (packW_m2 e k j h1 h2)
  rw [dif_neg h2]
  by_cases h3 : j.val - 32 - 16 < 16
  · rw [dif_pos h3]
    exact Finset.sum_congr rfl fun k _ => congrArg _ (packW_m3 e k j h1 h2 h3)
  rw [dif_neg h3]
  by_cases h4 : j.val - 32 - 16 - 16 < 4
  · rw [dif_pos h4]
    exact Finset.sum_congr rfl fun k _ => congrArg _ (packW_m4 e k j h1 h2 h3 h4)
  rw [dif_neg h4]
  by_cases h5 : j.val - 32 - 16 - 16 - 4 < 4
  · rw [dif_pos h5]
    exact Finset.sum_congr rfl fun k _ => congrArg _ (packW_m5 e k j h1 h2 h3 h4 h5)
  rw [dif_neg h5]
  exact Finset.sum_eq_zero fun k _ => by rw [packW_m6 e k j h1 h2 h3 h4 h5, mul_zero]

/-- The normed rows. -/
theorem hid_of (d : Fin 512 → Given) (x : Vec Ideal S512x1024 .f32) (g : Vec Ideal S1x1024 .f32) (hx : ∀ r k, x (ix2 r k) = (d r).x k)
    (hg : ∀ (r : Fin 512) k, g (ix2 0 k) = (d r).gMix k) (r : Fin 512) (k : Fin 1024) : k0_pay2 x g (ix2 r k) = (d r).hid k := by
  refine (pay2_at _ _ r k).trans ?_
  unfold Given.hid
  congr 1
  · exact funext fun k => hx r k
  · exact funext fun k => hg r k

variable (d : Fin 512 → Given) (x0 : Vec Ideal S512x1024 .f32) (x1 x2 x3 x4 : Vec Ideal S512x128 .f32) (x5 : Vec Ideal S1x1024 .f32)
  (x6 : Vec Ideal S1024x2560 .bf16) (x7 : Vec Ideal S1x256 .f32) (x8 : Vec Ideal S256x1024 .bf16) (x9 : Vec Ideal S1x1024 .f32)
  (x10 x11 : Vec Ideal S1x128 .f32) (x12 : Vec Ideal S128x1024 .bf16) (x13 : Vec Ideal S1x1024 .f32) (x14 : Vec Ideal S128x512 .bf16)
  (x15 : Vec Ideal S256x256 .bf16) (x16 : Vec Ideal S128x128 .bf16)

/-- What the blocks of a grid point hold, in terms of what its 512 rows are computed from. -/
structure Holds : Prop where
  x : ∀ r k, x0 (ix2 r k) = (d r).x k
  cq : ∀ r l, x1 (ix2 r l) = (d r).cosQ l
  sq : ∀ r l, x2 (ix2 r l) = (d r).sinQ l
  ck : ∀ r l, x3 (ix2 r l) = (d r).cosK l
  sk : ∀ r l, x4 (ix2 r l) = (d r).sinK l
  gMix : ∀ (r : Fin 512) k, x5 (ix2 0 k) = (d r).gMix k
  w : ∀ (r : Fin 512) k j, x6 (ix2 k j) = (d r).packW k j
  gLat : ∀ (r : Fin 512) k, x7 (ix2 0 k) = (d r).gLat k
  uq : ∀ (r : Fin 512) a j, x8 (ix2 a j) = (d r).packUq a j
  gq : ∀ (r : Fin 512) j, x9 (ix2 0 j) = (d r).packGq j
  gKv : ∀ (r : Fin 512) k, x10 (ix2 0 k) = (d r).gKv k
  gm : ∀ (r : Fin 512) k, x11 (ix2 0 k) = (d r).packGm k
  uk : ∀ (r : Fin 512) a j, x12 (ix2 a j) = (d r).packUk a j
  gk : ∀ (r : Fin 512) j, x13 (ix2 0 j) = (d r).packGk j
  uv : ∀ (r : Fin 512) a j, x14 (ix2 a j) = (d r).uv a j
  seg : ∀ k j : Fin 256, x15 (ix2 k j) = segW k j
  segK : ∀ k j : Fin 128, x16 (ix2 k j) = segK k j
  z : ∀ r j, IsReal ((d r).z j)
  q0 : ∀ r h l, IsReal ((d r).q0 h l)
  k0 : ∀ r h l, IsReal ((d r).k0 h l)

variable {d x0 x1 x2 x3 x4 x5 x6 x7 x8 x9 x10 x11 x12 x13 x14 x15 x16} (H : Holds d x0 x1 x2 x3 x4 x5 x6 x7 x8 x9 x10 x11 x12 x13 x14 x15 x16)

include H in
/-- The normed rows of the block. -/
theorem p51 (r : Fin 512) (k : Fin 1024) : k0_pay51 x0 x1 x2 x3 x4 x5 x6 x7 x8 x9 x10 x11 x12 x13 x14 x15 x16 (ix2 r k) = (d r).hid k :=
  hid_of d _ _ (fun r k => (ld_x x0 r k).trans (H.x r k)) (fun r k => (ld_g x5 k).trans (H.gMix r k)) r k

include H in
/-- The recurrent query and key columns. -/
theorem out_qk_at (r : Fin 512) (j : Fin 1024) : out0_22 x0 x1 x2 x3 x4 x5 x6 x7 x8 x9 x10 x11 x12 x13 x14 x15 x16 (ix2 r j) = (d r).z ⟨416 + j.val, by omega⟩ := by
  unfold out0_22
  frame_out
  refine (pay3_at _ _ _ r j).trans ?_
  unfold Given.z
  refine Finset.sum_congr rfl fun k _ => ?_
  exact congrArg₂ _ (hid_of d x0 x5 H.x H.gMix r k) ((ld_wqk x6 k j).trans ((H.w r _ _).trans (packW_qk _ k j)))

include H in
/-- The recurrent value columns. -/
theorem out_vl_at (r : Fin 512) (j : Fin 512) : out0_23 x0 x1 x2 x3 x4 x5 x6 x7 x8 x9 x10 x11 x12 x13 x14 x15 x16 (ix2 r j) = (d r).z ⟨1440 + j.val, by omega⟩ := by
  unfold out0_23
  frame_out
  refine (pay4_at _ _ _ r j).trans ?_
  unfold Given.z
  refine Finset.sum_congr rfl fun k _ => ?_
  exact congrArg₂ _ (hid_of d x0 x5 H.x H.gMix r k) ((ld_wv x6 k j).trans ((H.w r _ _).trans (packW_v _ k j)))

include H in
/-- The output gate's columns. -/
theorem out_o_at (r : Fin 512) (j : Fin 512) : out0_24 x0 x1 x2 x3 x4 x5 x6 x7 x8 x9 x10 x11 x12 x13 x14 x15 x16 (ix2 r j) = (d r).z ⟨1952 + j.val, by omega⟩ := by
  unfold out0_24
  frame_out
  refine (pay5_at _ _ _ r j).trans ?_
  unfold Given.z
  refine Finset.sum_congr rfl fun k _ => ?_
  exact congrArg₂ _ (hid_of d x0 x5 H.x H.gMix r k) ((ld_wo x6 k j).trans ((H.w r _ _).trans (packW_o _ k j)))

include H in
/-- The shared key lanes and the gates. -/
theorem p52 (r : Fin 512) (j : Fin 128) : k0_pay52 x0 x1 x2 x3 x4 x5 x6 x7 x8 x9 x10 x11 x12 x13 x14 x15 x16 (ix2 r j) = (d r).misc j := by
  unfold k0_pay52
  refine (pay6_at _ _ _ r j).trans ?_
  rw [← misc_sum]
  refine Finset.sum_congr rfl fun k _ => ?_
  exact congrArg₂ _ (hid_of d _ _ (fun r k => (ld_x x0 r k).trans (H.x r k)) (fun r k => (ld_g x5 k).trans (H.gMix r k)) r k) ((ld_wm x6 k j).trans (H.w r _ _))

include H in
/-- The stored shared lanes and gates. -/
theorem out_misc_at (r : Fin 512) (j : Fin 128) : out0_25 x0 x1 x2 x3 x4 x5 x6 x7 x8 x9 x10 x11 x12 x13 x14 x15 x16 (ix2 r j) = (d r).misc j := by
  unfold out0_25
  frame_out
  exact p52 H r j

include H in
/-- The query latent. -/
theorem p53 (r : Fin 512) (a : Fin 256) : k0_pay53 x0 x1 x2 x3 x4 x5 x6 x7 x8 x9 x10 x11 x12 x13 x14 x15 x16 (ix2 r a) = (d r).cq a := by
  unfold k0_pay53
  refine (pay7_at _ _ _ r a).trans ?_
  unfold Given.cq Given.z
  congr 1
  · funext a
    refine Finset.sum_congr rfl fun k _ => ?_
    exact congrArg₂ _ (p51 H r k) ((ld_wcq x6 k a).trans ((H.w r _ _).trans (packW_cq _ k a)))
  · exact funext fun k => (ld_gl x7 k).trans (H.gLat r k)

include H in
/-- The latent of keys and values. -/
theorem lat_at (g : Vec Ideal S1x128 .f32) (hg : ∀ (r : Fin 512) k, g (ix2 0 k) = (d r).gKv k) (r : Fin 512) (a : Fin 128) :
    k0_pay31 (k0_pay51 x0 x1 x2 x3 x4 x5 x6 x7 x8 x9 x10 x11 x12 x13 x14 x15 x16) (View.ld x6 r0_27) g (ix2 r a) = (d r).ckv a := by
  refine (pay31_at _ _ _ r a).trans ?_
  unfold Given.ckv Given.z
  congr 1
  · funext a
    refine Finset.sum_congr rfl fun k _ => ?_
    exact congrArg₂ _ (p51 H r k) ((ld_wkv x6 k a).trans ((H.w r _ _).trans (packW_kv _ k a)))
  · exact funext fun k => hg r k

include H in
/-- The stored latents. -/
theorem out_lat_at (r : Fin 512) (a : Fin 128) : out0_20 x0 x1 x2 x3 x4 x5 x6 x7 x8 x9 x10 x11 x12 x13 x14 x15 x16 (ix2 r a) = (d r).ckv a := by
  unfold out0_20
  frame_out
  exact lat_at H x10 H.gKv r a

include H in
/-- The latents of the block. -/
theorem p61 (r : Fin 512) (a : Fin 128) : k0_pay61 x0 x1 x2 x3 x4 x5 x6 x7 x8 x9 x10 x11 x12 x13 x14 x15 x16 (ix2 r a) = (d r).ckv a := by
  unfold k0_pay61
  exact (pay32_at _ _ _ r a).trans (lat_at H _ (fun r k => (ld_gk x10 k).trans (H.gKv r k)) r a)

include H in
/-- The values. -/
theorem out_v_at (r : Fin 512) (j : Fin 512) : out0_19 x0 x1 x2 x3 x4 x5 x6 x7 x8 x9 x10 x11 x12 x13 x14 x15 x16 (ix2 r j) = (d r).v j := by
  unfold out0_19
  frame_out
  refine (pay33_at _ _ _ _ r j).trans ?_
  unfold Given.v
  refine Finset.sum_congr rfl fun a _ => ?_
  exact congrArg₂ _ (lat_at H x10 H.gKv r a) (H.uv r a j)

include H in
/-- The shared key lanes after the turn, over the 128 lanes. -/
theorem turned_at (g : Vec Ideal S1x128 .f32) (co si : Vec Ideal S512x128 .f32) (hg : ∀ (r : Fin 512) k, g (ix2 0 k) = (d r).packGm k)
    (hco : ∀ r l, co (ix2 r l) = (d r).cosK l) (hsi : ∀ r l, si (ix2 r l) = (d r).sinK l) (r : Fin 512) (l : Fin 128) :
    k0_pay38 (k0_pay52 x0 x1 x2 x3 x4 x5 x6 x7 x8 x9 x10 x11 x12 x13 x14 x15 x16) (k0_pay62 x0 x1 x2 x3 x4 x5 x6 x7 x8 x9 x10 x11 x12 x13 x14 x15 x16) (k0_pay63 x0 x1 x2 x3 x4 x5 x6 x7 x8 x9 x10 x11 x12 x13 x14 x15 x16) (k0_pay64 x0 x1 x2 x3 x4 x5 x6 x7 x8 x9 x10 x11 x12 x13 x14 x15 x16) g co si (ix2 r l)
      = if h : l.val < 32 then (d r).kr ⟨l.val, h⟩ else 0 := by
  unfold k0_pay62 k0_pay63 k0_pay64
  refine (pay38_at _ _ _ _ _ r l).trans (Eq.trans ?_ (shared_lanes (d r) (H.z r) l))
  congr 1
  · congr 1
    · exact funext fun k => p52 H r k
    · exact funext fun k => funext fun j => (ld_ms x16 k j).trans (H.segK k j)
    · exact funext fun k => hg r k
  · exact funext fun l => hco r l
  · exact funext fun l => hsi r l

include H in
/-- The stored shared key lanes. -/
theorem out_kr_at (r : Fin 512) (l : Fin 32) : out0_21 x0 x1 x2 x3 x4 x5 x6 x7 x8 x9 x10 x11 x12 x13 x14 x15 x16 (ix2 r l) = (d r).kr l := by
  unfold out0_21
  frame_out
  refine (pay39_at _ _ _ _ _ _ _ r l).trans ((turned_at H x11 x3 x4 H.gm H.ck H.sk r _).trans ?_)
  rw [dif_pos l.isLt]

include H in
/-- The shared key lanes placed in both heads of a pair. -/
theorem p65 (r : Fin 512) (k : Fin 256) :
    k0_pay65 x0 x1 x2 x3 x4 x5 x6 x7 x8 x9 x10 x11 x12 x13 x14 x15 x16 (ix2 r k)
      = if h : 64 ≤ k.val % 128 ∧ k.val % 128 < 96 then (d r).kr ⟨k.val % 128 - 64, by omega⟩ else 0 := by
  have hk := k.isLt
  unfold k0_pay65
  refine (pay40_at _ _ _ _ _ _ _ r k).trans ?_
  by_cases h : k.val < 128
  · rw [dif_pos h]
    refine (turned_at H _ _ _ (fun r k => (ld_gk x11 k).trans (H.gm r k)) (fun r l => (ld_t x3 r l).trans (H.ck r l))
      (fun r l => (ld_t x4 r l).trans (H.sk r l)) r _).trans ?_
    by_cases h2 : 64 ≤ k.val % 128 ∧ k.val % 128 < 96
    · rw [dif_pos h2, dif_pos (by simp only; omega)]
      congr 1
      exact Fin.ext (by simp only; omega)
    · rw [dif_neg h2, dif_neg (by simp only; omega)]
  · rw [dif_neg h]
    refine (turned_at H _ _ _ (fun r k => (ld_gk x11 k).trans (H.gm r k)) (fun r l => (ld_t x3 r l).trans (H.ck r l))
      (fun r l => (ld_t x4 r l).trans (H.sk r l)) r _).trans ?_
    by_cases h2 : 64 ≤ k.val % 128 ∧ k.val % 128 < 96
    · rw [dif_pos h2, dif_pos (by simp only; omega)]
      congr 1
      exact Fin.ext (by simp only; omega)
    · rw [dif_neg h2, dif_neg (by simp only; omega)]

end Cert.Proj
-- ==== Proof.ProjStore.lean ====
/- The query and key heads that one grid point of the projection kernel stores. -/
module

public import proofs.«01_k».proof.Proof.ProjBlock

@[expose] public section

set_option maxRecDepth 16384

noncomputable section

namespace Cert.Proj

open Cert.Kernel3Ideal Cert.Kernel3Ideal.Gen Idealize.ShloMosaic Idealize.ShloMosaic.TcCoe Idealize.SL.Sem

/-- A store of some columns of a block: where its value is a table's entries at those columns, it is the table at the store's places. -/
theorem piece {n : ℕ} (G : Fin 512 → Fin 1024 → EReal) (off : ℕ) (hn : off + n ≤ 1024)
    (inb : ∀ a, (![0, off] : Fin S512x1024.rank → ℕ) a + (![512, n] : Fin S512x1024.rank → ℕ) a ≤ S512x1024.size a)
    (f : (⟨2, ![512, n]⟩ : Shape).Idx → EReal) (h : ∀ (r : Fin 512) (k : Fin n), f (ix2 r k) = G r ⟨off + k.val, by omega⟩)
    (x : (⟨2, ![512, n]⟩ : Shape).Idx) :
    f x = (fun y : S512x1024.Idx => G (y 0) (y 1)) ((Rect.unit (s := S512x1024) ![0, off] ![512, n] inb).emb x) := by
  obtain ⟨x0, x1, rfl⟩ : ∃ (r : Fin 512) (k : Fin n), x = ix2 r k := ⟨x 0, x 1, by funext a; fin_cases a <;> rfl⟩
  rw [h]
  congr 1
  · exact Fin.ext (by show x0.val = 0 + 1 * x0.val; omega)
  · exact Fin.ext (by show off + x1.val = off + 1 * x1.val; omega)

/-- A query head from values that agree with those of `query_head`. -/
theorem q_core (e : Given) (hq : ∀ h l, IsReal (e.q0 h l)) (p : Fin 4) (j : Fin 2) (raw g : Fin 256 → EReal)
    (hraw : ∀ k : Fin 256, raw k = ∑ a, e.cq a * e.packUq a ⟨256 * p.val + k.val, pair_lt p k⟩)
    (hg : ∀ k : Fin 256, g k = e.packGq ⟨256 * p.val + k.val, pair_lt p k⟩)
    (M : Fin 256 → Fin 256 → EReal) (hM : ∀ k c, M k c = segW k.val c.val)
    (y co si : Fin 128 → EReal) (hy : ∀ l : Fin 128, y l = segn raw M g ⟨128 * j.val + l.val, by omega⟩)
    (hco : ∀ l, co l = e.cosQ l) (hsi : ∀ l, si l = e.sinQ l) (l : Fin 128) :
    tabled y co si l = e.q (headOf p j) l := by
  obtain rfl : M = fun k c => segW k.val c.val := funext fun k => funext fun c => hM k c
  obtain rfl : co = e.cosQ := funext hco
  obtain rfl : si = e.sinQ := funext hsi
  exact query_head e hq p j raw g hraw hg y hy l

/-- A key head and the shared lanes. -/
theorem k_core (e : Given) (hk : ∀ h l, IsReal (e.k0 h l)) (p : Fin 4) (raw g : Fin 256 → EReal)
    (hraw : ∀ k : Fin 256, raw k = ∑ a, e.ckv a * e.packUk a ⟨256 * p.val + k.val, pair_lt p k⟩)
    (hg : ∀ k : Fin 256, g k = e.packGk ⟨256 * p.val + k.val, pair_lt p k⟩)
    (M : Fin 256 → Fin 256 → EReal) (hM : ∀ k c, M k c = segW k.val c.val) (t : EReal) (k : Fin 256)
    (ht : t = if h : 64 ≤ k.val % 128 ∧ k.val % 128 < 96 then e.kr ⟨k.val % 128 - 64, by omega⟩ else 0) :
    segn raw M g k + t = e.k ⟨(256 * p.val + k.val) / 128, by omega⟩ ⟨(256 * p.val + k.val) % 128, by omega⟩ := by
  have hk' := k.isLt
  obtain rfl : M = fun k c => segW k.val c.val := funext fun k => funext fun c => hM k c
  rw [key_head e hk p ⟨k.val / 128, by omega⟩ raw g hraw hg k ⟨k.val % 128, by omega⟩ (by simp only; omega), ht]
  have e1 : (⟨(256 * p.val + k.val) / 128, by omega⟩ : Fin 8) = headOf p ⟨k.val / 128, by omega⟩ :=
    Fin.ext (by unfold headOf; simp only; omega)
  have e2 : (⟨(256 * p.val + k.val) % 128, by omega⟩ : Fin 128) = ⟨k.val % 128, by omega⟩ := Fin.ext (by simp only; omega)
  rw [e1, e2]
  unfold Given.k
  by_cases h1 : k.val % 128 < 64
  · rw [dif_pos h1, dif_pos h1, dif_neg (by omega), add_zero]
  · rw [dif_neg h1, dif_neg h1, zero_add]
    by_cases h2 : k.val % 128 - 64 < 32
    · rw [dif_pos h2, dif_pos (by omega)]
    · rw [dif_neg h2, dif_neg (by omega)]

/-- The query heads of the rows, beside one another. -/
def Qw (d : Fin 512 → Given) (r : Fin 512) (j : Fin 1024) : EReal := (d r).q ⟨j.val / 128, by omega⟩ ⟨j.val % 128, by omega⟩

/-- The key heads of the rows, beside one another. -/
def Kw (d : Fin 512 → Given) (r : Fin 512) (j : Fin 1024) : EReal := (d r).k ⟨j.val / 128, by omega⟩ ⟨j.val % 128, by omega⟩

/-- A lane of a query head, by its place in the block. -/
theorem Qw_at (d : Fin 512 → Given) (r : Fin 512) (p : Fin 4) (j : Fin 2) (o : ℕ) (ho : o = 256 * p.val + 128 * j.val) (l : Fin 128) :
    (d r).q (headOf p j) l = Qw d r ⟨o + l.val, by omega⟩ := by
  unfold Qw
  congr 1
  · exact Fin.ext (by unfold headOf; simp only; omega)
  · exact Fin.ext (by simp only; omega)

variable {d : Fin 512 → Given} {x0 : Vec Ideal S512x1024 .f32} {x1 x2 x3 x4 : Vec Ideal S512x128 .f32} {x5 : Vec Ideal S1x1024 .f32}
  {x6 : Vec Ideal S1024x2560 .bf16} {x7 : Vec Ideal S1x256 .f32} {x8 : Vec Ideal S256x1024 .bf16} {x9 : Vec Ideal S1x1024 .f32}
  {x10 x11 : Vec Ideal S1x128 .f32} {x12 : Vec Ideal S128x1024 .bf16} {x13 : Vec Ideal S1x1024 .f32} {x14 : Vec Ideal S128x512 .bf16}
  {x15 : Vec Ideal S256x256 .bf16} {x16 : Vec Ideal S128x128 .bf16}

variable (H : Holds d x0 x1 x2 x3 x4 x5 x6 x7 x8 x9 x10 x11 x12 x13 x14 x15 x16)

include H in
/-- The raw queries of pair 0. -/
theorem rawq_0 (r : Fin 512) (q : FVec Ideal S512x256 .bf16) (hq : ∀ a, q (ix2 r a) = (d r).cq a) (k : Fin 256) :
    (∑ a, q (ix2 r a) * View.ld x8 r0_10 (ix2 a k)) = ∑ a, (d r).cq a * (d r).packUq a ⟨256 * (0 : Fin 4).val + k.val, pair_lt _ k⟩ := by
  refine Finset.sum_congr rfl fun a _ => ?_
  exact congrArg₂ _ (hq a) ((ld_uq0 x8 a k).trans (H.uq r a _))

include H in
/-- The gains of this pair of query heads, as loaded. -/
theorem gainq_0 (r : Fin 512) (k : Fin 256) :
    View.ld x9 r0_12 (ix2 0 k) = (d r).packGq ⟨256 * (0 : Fin 4).val + k.val, pair_lt _ k⟩ :=
  (ld_gh0 x9 k).trans (H.gq r _)

include H in
/-- The raw keys of pair 0. -/
theorem rawk_0 (r : Fin 512) (k : Fin 256) :
    (∑ a, k0_pay61 x0 x1 x2 x3 x4 x5 x6 x7 x8 x9 x10 x11 x12 x13 x14 x15 x16 (ix2 r a) * View.ld x12 r0_32 (ix2 a k)) = ∑ a, (d r).ckv a * (d r).packUk a ⟨256 * (0 : Fin 4).val + k.val, pair_lt _ k⟩ := by
  refine Finset.sum_congr rfl fun a _ => ?_
  exact congrArg₂ _ (p61 H r a) ((ld_uk0 x12 a k).trans (H.uk r a _))

include H in
/-- The gains of this pair of key heads, as loaded. -/
theorem gaink_0 (r : Fin 512) (k : Fin 256) :
    View.ld x13 r0_12 (ix2 0 k) = (d r).packGk ⟨256 * (0 : Fin 4).val + k.val, pair_lt _ k⟩ :=
  (ld_gh0 x13 k).trans (H.gk r _)

include H in
/-- The raw queries of pair 1. -/
theorem rawq_1 (r : Fin 512) (q : FVec Ideal S512x256 .bf16) (hq : ∀ a, q (ix2 r a) = (d r).cq a) (k : Fin 256) :
    (∑ a, q (ix2 r a) * View.ld x8 r0_15 (ix2 a k)) = ∑ a, (d r).cq a * (d r).packUq a ⟨256 * (1 : Fin 4).val + k.val, pair_lt _ k⟩ := by
  refine Finset.sum_congr rfl fun a _ => ?_
  exact congrArg₂ _ (hq a) ((ld_uq1 x8 a k).trans (H.uq r a _))

include H in
/-- The gains of this pair of query heads, as loaded. -/
theorem gainq_1 (r : Fin 512) (k : Fin 256) :
    View.ld x9 r0_16 (ix2 0 k) = (d r).packGq ⟨256 * (1 : Fin 4).val + k.val, pair_lt _ k⟩ :=
  (ld_gh1 x9 k).trans (H.gq r _)

include H in
/-- The raw keys of pair 1. -/
theorem rawk_1 (r : Fin 512) (k : Fin 256) :
    (∑ a, k0_pay61 x0 x1 x2 x3 x4 x5 x6 x7 x8 x9 x10 x11 x12 x13 x14 x15 x16 (ix2 r a) * View.ld x12 r0_34 (ix2 a k)) = ∑ a, (d r).ckv a * (d r).packUk a ⟨256 * (1 : Fin 4).val + k.val, pair_lt _ k⟩ := by
  refine Finset.sum_congr rfl fun a _ => ?_
  exact congrArg₂ _ (p61 H r a) ((ld_uk1 x12 a k).trans (H.uk r a _))

include H in
/-- The gains of this pair of key heads, as loaded. -/
theorem gaink_1 (r : Fin 512) (k : Fin 256) :
    View.ld x13 r0_16 (ix2 0 k) = (d r).packGk ⟨256 * (1 : Fin 4).val + k.val, pair_lt _ k⟩ :=
  (ld_gh1 x13 k).trans (H.gk r _)

include H in
/-- The raw queries of pair 2. -/
theorem rawq_2 (r : Fin 512) (q : FVec Ideal S512x256 .bf16) (hq : ∀ a, q (ix2 r a) = (d r).cq a) (k : Fin 256) :
    (∑ a, q (ix2 r a) * View.ld x8 r0_19 (ix2 a k)) = ∑ a, (d r).cq a * (d r).packUq a ⟨256 * (2 : Fin 4).val + k.val, pair_lt _ k⟩ := by
  refine Finset.sum_congr rfl fun a _ => ?_
  exact congrArg₂ _ (hq a) ((ld_uq2 x8 a k).trans (H.uq r a _))

include H in
/-- The gains of this pair of query heads, as loaded. -/
theorem gainq_2 (r : Fin 512) (k : Fin 256) :
    View.ld x9 r0_20 (ix2 0 k) = (d r).packGq ⟨256 * (2 : Fin 4).val + k.val, pair_lt _ k⟩ :=
  (ld_gh2 x9 k).trans (H.gq r _)

include H in
/-- The raw keys of pair 2. -/
theorem rawk_2 (r : Fin 512) (k : Fin 256) :
    (∑ a, k0_pay61 x0 x1 x2 x3 x4 x5 x6 x7 x8 x9 x10 x11 x12 x13 x14 x15 x16 (ix2 r a) * View.ld x12 r0_36 (ix2 a k)) = ∑ a, (d r).ckv a * (d r).packUk a ⟨256 * (2 : Fin 4).val + k.val, pair_lt _ k⟩ := by
  refine Finset.sum_congr rfl fun a _ => ?_
  exact congrArg₂ _ (p61 H r a) ((ld_uk2 x12 a k).trans (H.uk r a _))

include H in
/-- The gains of this pair of key heads, as loaded. -/
theorem gaink_2 (r : Fin 512) (k : Fin 256) :
    View.ld x13 r0_20 (ix2 0 k) = (d r).packGk ⟨256 * (2 : Fin 4).val + k.val, pair_lt _ k⟩ :=
  (ld_gh2 x13 k).trans (H.gk r _)

include H in
/-- The raw queries of pair 3. -/
theorem rawq_3 (r : Fin 512) (q : FVec Ideal S512x256 .bf16) (hq : ∀ a, q (ix2 r a) = (d r).cq a) (k : Fin 256) :
    (∑ a, q (ix2 r a) * View.ld x8 r0_23 (ix2 a k)) = ∑ a, (d r).cq a * (d r).packUq a ⟨256 * (3 : Fin 4).val + k.val, pair_lt _ k⟩ := by
  refine Finset.sum_congr rfl fun a _ => ?_
  exact congrArg₂ _ (hq a) ((ld_uq3 x8 a k).trans (H.uq r a _))

include H in
/-- The gains of this pair of query heads, as loaded. -/
theorem gainq_3 (r : Fin 512) (k : Fin 256) :
    View.ld x9 r0_24 (ix2 0 k) = (d r).packGq ⟨256 * (3 : Fin 4).val + k.val, pair_lt _ k⟩ :=
  (ld_gh3 x9 k).trans (H.gq r _)

include H in
/-- The raw keys of pair 3. -/
theorem rawk_3 (r : Fin 512) (k : Fin 256) :
    (∑ a, k0_pay61 x0 x1 x2 x3 x4 x5 x6 x7 x8 x9 x10 x11 x12 x13 x14 x15 x16 (ix2 r a) * View.ld x12 r0_38 (ix2 a k)) = ∑ a, (d r).ckv a * (d r).packUk a ⟨256 * (3 : Fin 4).val + k.val, pair_lt _ k⟩ := by
  refine Finset.sum_congr rfl fun a _ => ?_
  exact congrArg₂ _ (p61 H r a) ((ld_uk3 x12 a k).trans (H.uk r a _))

include H in
/-- The gains of this pair of key heads, as loaded. -/
theorem gaink_3 (r : Fin 512) (k : Fin 256) :
    View.ld x13 r0_24 (ix2 0 k) = (d r).packGk ⟨256 * (3 : Fin 4).val + k.val, pair_lt _ k⟩ :=
  (ld_gh3 x13 k).trans (H.gk r _)

include H in
/-- The weights of the segment means, as loaded. -/
theorem seg_at (k c : Fin 256) : View.ld x15 r0_11 (ix2 k c) = segW k.val c.val := (ld_M x15 k c).trans (H.seg k c)

include H in
/-- The cosine table of the block, for the queries. -/
theorem p54 (r : Fin 512) (l : Fin 128) : k0_pay54 x0 x1 x2 x3 x4 x5 x6 x7 x8 x9 x10 x11 x12 x13 x14 x15 x16 (ix2 r l) = (d r).cosQ l := by
  unfold k0_pay54
  exact (pay8_at _ r l).trans ((ld_t x1 r l).trans (H.cq r l))

include H in
/-- The sine table of the block, for the queries. -/
theorem p55 (r : Fin 512) (l : Fin 128) : k0_pay55 x0 x1 x2 x3 x4 x5 x6 x7 x8 x9 x10 x11 x12 x13 x14 x15 x16 (ix2 r l) = (d r).sinQ l := by
  unfold k0_pay55
  exact (pay9_at _ r l).trans ((ld_t x2 r l).trans (H.sq r l))

include H in
/-- Pair 0 before the gains. -/
theorem y0_at (r : Fin 512) (k : Fin 256) :
    k0_pay13 (k0_pay56 x0 x1 x2 x3 x4 x5 x6 x7 x8 x9 x10 x11 x12 x13 x14 x15 x16) (k0_pay57 x0 x1 x2 x3 x4 x5 x6 x7 x8 x9 x10 x11 x12 x13 x14 x15 x16) (k0_pay58 x0 x1 x2 x3 x4 x5 x6 x7 x8 x9 x10 x11 x12 x13 x14 x15 x16) (View.ld x9 r0_12) (ix2 r k)
      = segn (fun k => ∑ a, k0_pay53 x0 x1 x2 x3 x4 x5 x6 x7 x8 x9 x10 x11 x12 x13 x14 x15 x16 (ix2 r a) * View.ld x8 r0_10 (ix2 a k)) (fun k c => View.ld x15 r0_11 (ix2 k c))
          (fun k => View.ld x9 r0_12 (ix2 0 k)) k := by
  refine (pay13_at _ _ _ _ r k).trans ?_
  unfold k0_pay56 k0_pay57 k0_pay58 k0_pay53 segn
  exact congrArg₂ _ (congrArg₂ _ (pay10_at _ _ _ _ r k)
    (congrArg _ (congrArg₂ _ (pay11_at _ _ _ _ _ r k) (pay12_at r k)))) rfl

include H in
/-- Pair 1 before the gains. -/
theorem y1_at (r : Fin 512) (k : Fin 256) :
    k0_pay18 (k0_pay59 x0 x1 x2 x3 x4 x5 x6 x7 x8 x9 x10 x11 x12 x13 x14 x15 x16) (k0_pay60 x0 x1 x2 x3 x4 x5 x6 x7 x8 x9 x10 x11 x12 x13 x14 x15 x16) (ix2 r k)
      = segn (fun k => ∑ a, k0_pay53 x0 x1 x2 x3 x4 x5 x6 x7 x8 x9 x10 x11 x12 x13 x14 x15 x16 (ix2 r a) * View.ld x8 r0_15 (ix2 a k)) (fun k c => View.ld x15 r0_11 (ix2 k c))
          (fun k => View.ld x9 r0_16 (ix2 0 k)) k := by
  refine (pay18_at _ _ r k).trans ?_
  unfold k0_pay59 k0_pay60 segn
  exact congrArg₂ _ (pay16_at _ _ _ r k) (pay17_at _ k)

include H in
/-- Query head 0. -/
theorem head_0 (r : Fin 512) (l : Fin 128) :
    (k0_pay14 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay56 x0 x1 x2 x3 x4 x5 x6 x7 x8 x9 x10 x11 x12 x13 x14 x15 x16) (k0_pay57 x0 x1 x2 x3 x4 x5 x6 x7 x8 x9 x10 x11 x12 x13 x14 x15 x16) (k0_pay58 x0 x1 x2 x3 x4 x5 x6 x7 x8 x9 x10 x11 x12 x13 x14 x15 x16) (View.ld x9 r0_12) : FVec Ideal S512x128 .bf16) (ix2 r l) = Qw d r ⟨0 + l.val, by omega⟩ := by
  refine (pay14_at _ _ _ _ _ _ r l).trans ?_
  refine (q_core (d r) (H.q0 r) 0 0 _ _ (rawq_0 H r _ (p53 H r)) (gainq_0 H r) _ (seg_at H) _ _ _ (fun l => ?_) (p54 H r) (p55 H r) l).trans
    (Qw_at d r 0 0 0 rfl l)
  refine (y0_at H r _).trans ?_
  congr 1
  all_goals exact Fin.ext (by simp)

include H in
/-- Query head 1. -/
theorem head_1 (r : Fin 512) (l : Fin 128) :
    (k0_pay15 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay56 x0 x1 x2 x3 x4 x5 x6 x7 x8 x9 x10 x11 x12 x13 x14 x15 x16) (k0_pay57 x0 x1 x2 x3 x4 x5 x6 x7 x8 x9 x10 x11 x12 x13 x14 x15 x16) (k0_pay58 x0 x1 x2 x3 x4 x5 x6 x7 x8 x9 x10 x11 x12 x13 x14 x15 x16) (View.ld x9 r0_12) : FVec Ideal S512x128 .bf16) (ix2 r l) = Qw d r ⟨128 + l.val, by omega⟩ := by
  refine (pay15_at _ _ _ _ _ _ r l).trans ?_
  refine (q_core (d r) (H.q0 r) 0 1 _ _ (rawq_0 H r _ (p53 H r)) (gainq_0 H r) _ (seg_at H) _ _ _ (fun l => ?_) (p54 H r) (p55 H r) l).trans
    (Qw_at d r 0 1 128 rfl l)
  refine (y0_at H r _).trans ?_
  congr 1
  all_goals exact Fin.ext (by simp)

include H in
/-- Query head 2. -/
theorem head_2 (r : Fin 512) (l : Fin 128) :
    (k0_pay19 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay59 x0 x1 x2 x3 x4 x5 x6 x7 x8 x9 x10 x11 x12 x13 x14 x15 x16) (k0_pay60 x0 x1 x2 x3 x4 x5 x6 x7 x8 x9 x10 x11 x12 x13 x14 x15 x16) : FVec Ideal S512x128 .bf16) (ix2 r l) = Qw d r ⟨256 + l.val, by omega⟩ := by
  refine (pay19_at _ _ _ _ r l).trans ?_
  refine (q_core (d r) (H.q0 r) 1 0 _ _ (rawq_1 H r _ (p53 H r)) (gainq_1 H r) _ (seg_at H) _ _ _ (fun l => ?_) (p54 H r) (p55 H r) l).trans
    (Qw_at d r 1 0 256 rfl l)
  refine (y1_at H r _).trans ?_
  congr 1
  all_goals exact Fin.ext (by simp)

include H in
/-- Query head 3. -/
theorem head_3 (r : Fin 512) (l : Fin 128) :
    (k0_pay20 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay59 x0 x1 x2 x3 x4 x5 x6 x7 x8 x9 x10 x11 x12 x13 x14 x15 x16) (k0_pay60 x0 x1 x2 x3 x4 x5 x6 x7 x8 x9 x10 x11 x12 x13 x14 x15 x16) : FVec Ideal S512x128 .bf16) (ix2 r l) = Qw d r ⟨384 + l.val, by omega⟩ := by
  refine (pay20_at _ _ _ _ r l).trans ?_
  refine (q_core (d r) (H.q0 r) 1 1 _ _ (rawq_1 H r _ (p53 H r)) (gainq_1 H r) _ (seg_at H) _ _ _ (fun l => ?_) (p54 H r) (p55 H r) l).trans
    (Qw_at d r 1 1 384 rfl l)
  refine (y1_at H r _).trans ?_
  congr 1
  all_goals exact Fin.ext (by simp)

include H in
/-- Query head 4. -/
theorem head_4 (r : Fin 512) (l : Fin 128) :
    (k0_pay25 (k0_pay23 (k0_pay53 x0 x1 x2 x3 x4 x5 x6 x7 x8 x9 x10 x11 x12 x13 x14 x15 x16) (k0_pay54 x0 x1 x2 x3 x4 x5 x6 x7 x8 x9 x10 x11 x12 x13 x14 x15 x16) (View.ld x8 r0_19) (View.ld x15 r0_11) (View.ld x9 r0_20)) (k0_pay24 (k0_pay53 x0 x1 x2 x3 x4 x5 x6 x7 x8 x9 x10 x11 x12 x13 x14 x15 x16) (k0_pay55 x0 x1 x2 x3 x4 x5 x6 x7 x8 x9 x10 x11 x12 x13 x14 x15 x16) (View.ld x8 r0_19) (View.ld x15 r0_11) (View.ld x9 r0_20)) : FVec Ideal S512x128 .bf16) (ix2 r l) = Qw d r ⟨512 + l.val, by omega⟩ := by
  refine (pay25_at _ _ _ _ _ _ r l).trans ?_
  refine (q_core (d r) (H.q0 r) 2 0 _ _ (rawq_2 H r _ (p53 H r)) (gainq_2 H r) _ (seg_at H) _ _ _ (fun l => ?_) (p54 H r) (p55 H r) l).trans
    (Qw_at d r 2 0 512 rfl l)
  refine (pay21_at _ _ _ _ r _).trans ?_
  congr 1
  all_goals exact Fin.ext (by simp)

include H in
/-- Query head 5. -/
theorem head_5 (r : Fin 512) (l : Fin 128) :
    (k0_pay26 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay21 (k0_pay53 x0 x1 x2 x3 x4 x5 x6 x7 x8 x9 x10 x11 x12 x13 x14 x15 x16) (View.ld x8 r0_19) (View.ld x15 r0_11) (View.ld x9 r0_20)) : FVec Ideal S512x128 .bf16) (ix2 r l) = Qw d r ⟨640 + l.val, by omega⟩ := by
  refine (pay26_at _ _ _ r l).trans ?_
  refine (q_core (d r) (H.q0 r) 2 1 _ _ (rawq_2 H r _ (p53 H r)) (gainq_2 H r) _ (seg_at H) _ _ _ (fun l => ?_) (p54 H r) (p55 H r) l).trans
    (Qw_at d r 2 1 640 rfl l)
  refine (pay21_at _ _ _ _ r _).trans ?_
  congr 1
  all_goals exact Fin.ext (by simp)

include H in
/-- Query head 6. -/
theorem head_6 (r : Fin 512) (l : Fin 128) :
    (k0_pay28 (k0_pay53 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x8 r0_23) (View.ld x15 r0_11) (View.ld x9 r0_24) : FVec Ideal S512x128 .bf16) (ix2 r l) = Qw d r ⟨768 + l.val, by omega⟩ := by
  refine (pay28_at _ _ _ _ _ _ r l).trans ?_
  refine (q_core (d r) (H.q0 r) 3 0 _ _ (rawq_3 H r _ (p53 H r)) (gainq_3 H r) _ (seg_at H) _ _ _ (fun l => ?_) (p54 H r) (p55 H r) l).trans
    (Qw_at d r 3 0 768 rfl l)
  refine (pay27_at _ _ _ _ r _).trans ?_
  congr 1
  all_goals exact Fin.ext (by simp)

include H in
/-- Query head 7. -/
theorem head_7 (r : Fin 512) (l : Fin 128) :
    (k0_pay30 (k0_pay54 x0 x1 x2 x3 x4 x5 x6 x7 x8 x9 x10 x11 x12 x13 x14 x15 x16) (k0_pay55 x0 x1 x2 x3 x4 x5 x6 x7 x8 x9 x10 x11 x12 x13 x14 x15 x16) (k0_pay29 (k0_pay53 x0 x1 x2 x3 x4 x5 x6 x7 x8 x9 x10 x11 x12 x13 x14 x15 x16) (View.ld x8 r0_23) (View.ld x15 r0_11) (View.ld x9 r0_24)) : FVec Ideal S512x128 .bf16) (ix2 r l) = Qw d r ⟨896 + l.val, by omega⟩ := by
  refine (pay30_at _ _ _ _ _ _ r l).trans ?_
  refine (q_core (d r) (H.q0 r) 3 1 _ _ (rawq_3 H r _ (p53 H r)) (gainq_3 H r) _ (seg_at H) _ _ _ (fun l => ?_) (p54 H r) (p55 H r) l).trans
    (Qw_at d r 3 1 896 rfl l)
  refine (pay27_at _ _ _ _ r _).trans ?_
  congr 1
  all_goals exact Fin.ext (by simp)

include H in
/-- Key heads 0 and 1. -/
theorem keys_0 (r : Fin 512) (k : Fin 256) :
    (k0_pay43 (k0_pay65 x0 x1 x2 x3 x4 x5 x6 x7 x8 x9 x10 x11 x12 x13 x14 x15 x16) (k0_pay41 (k0_pay61 x0 x1 x2 x3 x4 x5 x6 x7 x8 x9 x10 x11 x12 x13 x14 x15 x16) (View.ld x12 r0_32)) (k0_pay42 (k0_pay61 x0 x1 x2 x3 x4 x5 x6 x7 x8 x9 x10 x11 x12 x13 x14 x15 x16) (View.ld x12 r0_32) (View.ld x15 r0_11)) (View.ld x13 r0_12) : FVec Ideal S512x256 .bf16) (ix2 r k) = Kw d r ⟨0 + k.val, by omega⟩ := by
  refine (pay43_at _ _ _ _ _ r k).trans ?_
  unfold keyPair
  exact k_core (d r) (H.k0 r) 0 _ _ (rawk_0 H r) (gaink_0 H r) _ (seg_at H) _ k (p65 H r k)

include H in
/-- Key heads 2 and 3. -/
theorem keys_1 (r : Fin 512) (k : Fin 256) :
    (k0_pay44 (k0_pay61 x0 x1 x2 x3 x4 x5 x6 x7 x8 x9 x10 x11 x12 x13 x14 x15 x16) (k0_pay65 x0 x1 x2 x3 x4 x5 x6 x7 x8 x9 x10 x11 x12 x13 x14 x15 x16) (View.ld x12 r0_34) (View.ld x15 r0_11) (View.ld x13 r0_16) : FVec Ideal S512x256 .bf16) (ix2 r k) = Kw d r ⟨256 + k.val, by omega⟩ := by
  refine (pay44_at _ _ _ _ _ r k).trans ?_
  unfold keyPair
  exact k_core (d r) (H.k0 r) 1 _ _ (rawk_1 H r) (gaink_1 H r) _ (seg_at H) _ k (p65 H r k)

include H in
/-- Key heads 4 and 5. -/
theorem keys_2 (r : Fin 512) (k : Fin 256) :
    (k0_pay49 (k0_pay65 x0 x1 x2 x3 x4 x5 x6 x7 x8 x9 x10 x11 x12 x13 x14 x15 x16) (k0_pay45 (k0_pay61 x0 x1 x2 x3 x4 x5 x6 x7 x8 x9 x10 x11 x12 x13 x14 x15 x16) (View.ld x12 r0_36)) (k0_pay46 (k0_pay61 x0 x1 x2 x3 x4 x5 x6 x7 x8 x9 x10 x11 x12 x13 x14 x15 x16) (View.ld x12 r0_36)) (k0_pay47 (k0_pay61 x0 x1 x2 x3 x4 x5 x6 x7 x8 x9 x10 x11 x12 x13 x14 x15 x16) (View.ld x12 r0_36)) (k0_pay48 (k0_pay61 x0 x1 x2 x3 x4 x5 x6 x7 x8 x9 x10 x11 x12 x13 x14 x15 x16) (View.ld x12 r0_36)) (View.ld x15 r0_11) (View.ld x13 r0_20) : FVec Ideal S512x256 .bf16) (ix2 r k) = Kw d r ⟨512 + k.val, by omega⟩ := by
  refine (pay49_at _ _ _ _ _ r k).trans ?_
  unfold keyPair
  exact k_core (d r) (H.k0 r) 2 _ _ (rawk_2 H r) (gaink_2 H r) _ (seg_at H) _ k (p65 H r k)

include H in
/-- Key heads 6 and 7. -/
theorem keys_3 (r : Fin 512) (k : Fin 256) :
    (k0_pay1 (k0_pay50 (k0_pay61 x0 x1 x2 x3 x4 x5 x6 x7 x8 x9 x10 x11 x12 x13 x14 x15 x16) (k0_pay65 x0 x1 x2 x3 x4 x5 x6 x7 x8 x9 x10 x11 x12 x13 x14 x15 x16) (View.ld x12 r0_38) (View.ld x15 r0_11) (View.ld x13 r0_24)) : FVec Ideal S512x256 .bf16) (ix2 r k) = Kw d r ⟨768 + k.val, by omega⟩ := by
  refine (pay50_at _ _ _ _ _ r k).trans ?_
  unfold keyPair
  exact k_core (d r) (H.k0 r) 3 _ _ (rawk_3 H r) (gaink_3 H r) _ (seg_at H) _ k (p65 H r k)

include H in
/-- The query block. -/
theorem out_q_at (r : Fin 512) (j : Fin 1024) : out0_17 x0 x1 x2 x3 x4 x5 x6 x7 x8 x9 x10 x11 x12 x13 x14 x15 x16 (ix2 r j) = Qw d r j := by
  unfold out0_17
  refine View.canon_append_of_pieces (Val := Elt Ideal) (e := .bf16) (fun y : S512x1024.Idx => Qw d (y 0) (y 1)) [] _ ?_ (ix2 r j) (cover0_17 _ _ _ _ _ _ _ _ _)
  intro pc hp
  simp only [List.mem_cons, List.not_mem_nil, or_false] at hp
  rcases hp with rfl | rfl | rfl | rfl | rfl | rfl | rfl | rfl
  · exact piece (Qw d) 896 (by omega) inb_S512x1024_S512x128_0_896 _ (head_7 H)
  · exact piece (Qw d) 768 (by omega) inb_S512x1024_S512x128_0_768 _ (head_6 H)
  · exact piece (Qw d) 640 (by omega) inb_S512x1024_S512x128_0_640 _ (head_5 H)
  · exact piece (Qw d) 512 (by omega) inb_S512x1024_S512x128_0_512 _ (head_4 H)
  · exact piece (Qw d) 384 (by omega) inb_S512x1024_S512x128_0_384 _ (head_3 H)
  · exact piece (Qw d) 256 (by omega) inb_S512x1024_S512x128_0_256 _ (head_2 H)
  · exact piece (Qw d) 128 (by omega) inb_S512x1024_S512x128_0_128 _ (head_1 H)
  · exact piece (Qw d) 0 (by omega) inb_S512x1024_S512x128_0_0 _ (head_0 H)

include H in
/-- The key block. -/
theorem out_k_at (r : Fin 512) (j : Fin 1024) : out0_18 x0 x1 x2 x3 x4 x5 x6 x7 x8 x9 x10 x11 x12 x13 x14 x15 x16 (ix2 r j) = Kw d r j := by
  unfold out0_18
  refine View.canon_append_of_pieces (Val := Elt Ideal) (e := .bf16) (fun y : S512x1024.Idx => Kw d (y 0) (y 1)) [] _ ?_ (ix2 r j) (cover0_18 _ _ _ _ _)
  intro pc hp
  simp only [List.mem_cons, List.not_mem_nil, or_false] at hp
  rcases hp with rfl | rfl | rfl | rfl
  · exact piece (Kw d) 768 (by omega) inb_S512x1024_S512x256_0_768 _ (keys_3 H)
  · exact piece (Kw d) 512 (by omega) inb_S512x1024_S512x256_0_512 _ (keys_2 H)
  · exact piece (Kw d) 256 (by omega) inb_S512x1024_S512x256_0_256 _ (keys_1 H)
  · exact piece (Kw d) 0 (by omega) inb_S512x1024_S512x256_0_0 _ (keys_0 H)

end Cert.Proj
-- ==== Proof.ProjFinal.lean ====
/- What the nine output arrays of the projection kernel hold after the whole grid: the reference's arrays. -/
module

public import proofs.«01_k».proof.Proof.Gen.Kernel3Ideal.Value
public import proofs.«01_k».proof.Proof.ProjHost
public import proofs.«01_k».proof.Proof.ProjStore

@[expose] public section

set_option maxRecDepth 16384

noncomputable section

namespace Cert.Proj

open Cert.Kernel3Ideal Cert.Kernel3Ideal.Gen Idealize.ShloMosaic Idealize.ShloMosaic.TcCoe Idealize.SL.Sem

/-- Where the blocks of windows 0 to 8 lie at a grid point: block `t` of the rows, or the whole of a weight. -/
theorem idxA : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![0, 0]
    ∧ win0_6.index t = ![0, 0]
    ∧ win0_7.index t = ![0, 0]
    ∧ win0_8.index t = ![0, 0] :=
  (by decide +kernel : ∀ t : Fin grid0.N, _)

/-- Where the blocks of windows 9 to 16 lie at a grid point: block `t` of the rows, or the whole of a weight. -/
theorem idxB : ∀ t : Fin cfg0.N,
    win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

/-- Where the blocks of windows 17 to 25 lie at a grid point: block `t` of the rows, or the whole of a weight. -/
theorem idxC : ∀ t : Fin cfg0.N,
    win0_17.index t = ![(grid0.coords t 0).val, 0]
    ∧ win0_18.index t = ![(grid0.coords t 0).val, 0]
    ∧ win0_19.index t = ![(grid0.coords t 0).val, 0]
    ∧ win0_20.index t = ![(grid0.coords t 0).val, 0]
    ∧ win0_21.index t = ![(grid0.coords t 0).val, 0]
    ∧ win0_22.index t = ![(grid0.coords t 0).val, 0]
    ∧ win0_23.index t = ![(grid0.coords t 0).val, 0]
    ∧ win0_24.index t = ![(grid0.coords t 0).val, 0]
    ∧ win0_25.index t = ![(grid0.coords t 0).val, 0] :=
  (by decide +kernel : ∀ t : Fin grid0.N, _)

variable (m : (ℓ : Loc nD τ sig) → Buf (Elt Ideal) ℓ) (c : Dev nD) (t : Fin cfg0.N)

/-- Row `r` of grid point `t`'s block, in the whole array. -/
def at_ (r : Fin 512) : Fin 16384 := ⟨512 * (grid0.coords t 0).val + r.val, by have : (grid0.coords t 0).val < 32 := (grid0.coords t 0).isLt; omega⟩

/-- An element of window 0's block, from the arguments. -/
theorem blk_x (r : Fin 512) (k : Fin 1024) : iblk m c 0 t (ix2 r k) = (rowG m c (at_ t r)).x k := by
  refine Eq.trans ?_ (V_x m c (at_ t r) k)
  unfold at_
  blk_ext [iblk, idxA t]

/-- An element of window 1's block, from the arguments. -/
theorem blk_cq (r : Fin 512) (k : Fin 128) : iblk m c 1 t (ix2 r k) = (rowG m c (at_ t r)).cosQ k := by
  refine Eq.trans ?_ (V_cq m c (at_ t r) k)
  unfold at_
  blk_ext [iblk, idxA t]

/-- An element of window 2's block, from the arguments. -/
theorem blk_sq (r : Fin 512) (k : Fin 128) : iblk m c 2 t (ix2 r k) = (rowG m c (at_ t r)).sinQ k := by
  refine Eq.trans ?_ (V_sq m c (at_ t r) k)
  unfold at_
  blk_ext [iblk, idxA t]

/-- An element of window 3's block, from the arguments. -/
theorem blk_ck (r : Fin 512) (k : Fin 128) : iblk m c 3 t (ix2 r k) = (rowG m c (at_ t r)).cosK k := by
  refine Eq.trans ?_ (V_ck m c (at_ t r) k)
  unfold at_
  blk_ext [iblk, idxA t]

/-- An element of window 4's block, from the arguments. -/
theorem blk_sk (r : Fin 512) (k : Fin 128) : iblk m c 4 t (ix2 r k) = (rowG m c (at_ t r)).sinK k := by
  refine Eq.trans ?_ (V_sk m c (at_ t r) k)
  unfold at_
  blk_ext [iblk, idxA t]

/-- An element of window 5's block, from the arguments. -/
theorem blk_gMix (r : Fin 512) (k : Fin 1024) : iblk m c 5 t (ix2 0 k) = (rowG m c (at_ t r)).gMix k := by
  refine Eq.trans ?_ (V_gmix m c (at_ t r) k)
  blk_ext [iblk, idxA t]

/-- An element of window 7's block, from the arguments. -/
theorem blk_gLat (r : Fin 512) (k : Fin 256) : iblk m c 7 t (ix2 0 k) = (rowG m c (at_ t r)).gLat k := by
  refine Eq.trans ?_ (V_glat m c (at_ t r) k)
  blk_ext [iblk, idxA t]

/-- An element of window 9's block, from the arguments. -/
theorem blk_gq (r : Fin 512) (k : Fin 1024) : iblk m c 9 t (ix2 0 k) = (rowG m c (at_ t r)).packGq k := by
  refine Eq.trans ?_ (V_gq m c (at_ t r) k)
  blk_ext [iblk, idxB t]

/-- An element of window 10's block, from the arguments. -/
theorem blk_gKv (r : Fin 512) (k : Fin 128) : iblk m c 10 t (ix2 0 k) = (rowG m c (at_ t r)).gKv k := by
  refine Eq.trans ?_ (V_gkv m c (at_ t r) k)
  blk_ext [iblk, idxB t]

/-- An element of window 11's block, from the arguments. -/
theorem blk_gm (r : Fin 512) (k : Fin 128) : iblk m c 11 t (ix2 0 k) = (rowG m c (at_ t r)).packGm k := by
  refine Eq.trans ?_ (V_gkm m c (at_ t r) k)
  blk_ext [iblk, idxB t]

/-- An element of window 13's block, from the arguments. -/
theorem blk_gk (r : Fin 512) (k : Fin 1024) : iblk m c 13 t (ix2 0 k) = (rowG m c (at_ t r)).packGk k := by
  refine Eq.trans ?_ (V_gkn m c (at_ t r) k)
  blk_ext [iblk, idxB t]

/-- An element of window 6's block, from the arguments. -/
theorem blk_w (r : Fin 512) (k : Fin 1024) (j : Fin 2560) : iblk m c 6 t (ix2 k j) = (rowG m c (at_ t r)).packW k j := by
  refine Eq.trans ?_ (V_w m c (at_ t r) k j)
  blk_ext [iblk, idxA t]

/-- An element of window 8's block, from the arguments. -/
theorem blk_uq (r : Fin 512) (k : Fin 256) (j : Fin 1024) : iblk m c 8 t (ix2 k j) = (rowG m c (at_ t r)).packUq k j := by
  refine Eq.trans ?_ (V_uq m c (at_ t r) k j)
  blk_ext [iblk, idxA t]

/-- An element of window 12's block, from the arguments. -/
theorem blk_uk (r : Fin 512) (k : Fin 128) (j : Fin 1024) : iblk m c 12 t (ix2 k j) = (rowG m c (at_ t r)).packUk k j := by
  refine Eq.trans ?_ (V_uk m c (at_ t r) k j)
  blk_ext [iblk, idxB t]

/-- An element of window 14's block, from the arguments. -/
theorem blk_uv (r : Fin 512) (k : Fin 128) (j : Fin 512) : iblk m c 14 t (ix2 k j) = (rowG m c (at_ t r)).uv k j := by
  refine Eq.trans ?_ (V_uv m c (at_ t r) k j)
  blk_ext [iblk, idxB t]

/-- An element of window 15's block. -/
theorem blk_seg (k j : Fin 256) : iblk m c 15 t (ix2 k j) = segW k j := by
  refine Eq.trans ?_ (V_mseg m c k j)
  blk_ext [iblk, idxB t]

/-- An element of window 16's block. -/
theorem blk_segK (k j : Fin 128) : iblk m c 16 t (ix2 k j) = segK k j := by
  refine Eq.trans ?_ (V_mmisc m c k j)
  blk_ext [iblk, idxB t]

/-- That the values whose squares the kernel splits in two are real numbers, in every row. -/
structure Reals : Prop where
  z : ∀ n j, IsReal ((rowG m c n).z j)
  q0 : ∀ n h l, IsReal ((rowG m c n).q0 h l)
  k0 : ∀ n h l, IsReal ((rowG m c n).k0 h l)

variable (R : Reals m c)

include R in
/-- What the blocks of a grid point hold. -/
theorem holds : Holds (fun r => rowG m c (at_ t r)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  x := blk_x m c t
  cq := blk_cq m c t
  sq := blk_sq m c t
  ck := blk_ck m c t
  sk := blk_sk m c t
  gMix := blk_gMix m c t
  w := blk_w m c t
  gLat := blk_gLat m c t
  uq := blk_uq m c t
  gq := blk_gq m c t
  gKv := blk_gKv m c t
  gm := blk_gm m c t
  uk := blk_uk m c t
  gk := blk_gk m c t
  uv := blk_uv m c t
  seg := blk_seg m c t
  segK := blk_segK m c t
  z r j := R.z _ j
  q0 r h l := R.q0 _ h l
  k0 r h l := R.k0 _ h l

/-- Two blocks agree when they agree at every row and column. -/
theorem block_ext {n : ℕ} {f g : (⟨2, ![512, n]⟩ : Shape).Idx → EReal} (h : ∀ (r : Fin 512) (j : Fin n), f (ix2 r j) = g (ix2 r j))
    (y : (⟨2, ![512, n]⟩ : Shape).Idx) : f y = g y := by
  obtain ⟨r, k, rfl⟩ : ∃ (r : Fin 512) (k : Fin n), y = ix2 r k := ⟨y 0, y 1, by funext a; fin_cases a <;> rfl⟩
  exact h r k

/-- The array whose entries are given by row and column. -/
def table {n : ℕ} (f : Fin 16384 → Fin n → EReal) : (⟨2, ![16384, n]⟩ : Shape).Idx → EReal := fun y => f (y 0) (y 1)

/-- The queries of a row. -/
def of_q (e : Given) (j : Fin 1024) : EReal := e.q ⟨j.val / 128, by omega⟩ ⟨j.val % 128, by omega⟩

/-- What the stores write is the queries of the row. -/
theorem stored_q (d : Fin 16384 → Given) (p : Fin 512 → Fin 16384) (r : Fin 512) (j : Fin 1024) :
    Qw (fun r => d (p r)) r j = table (fun n => of_q (d n)) (ix2 (p r) j) := by
  unfold Qw table of_q
  rfl

/-- Row `r` of output block `t` is a row of the whole array. -/
theorem emb_q (r : Fin 512) (j : Fin 1024) : (win0_17.blk t).view.emb (ix2 r j) = ix2 (at_ t r) j := by
  unfold at_
  blk_ext [idxC t]

include R in
/-- What a grid point writes is its block of the queries. -/
theorem point_q (y : S512x1024.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_q (rowG m c n)) ((win0_17.blk t).view.emb y) := by
  refine block_ext (n := 1024) (f := out0_17 (F := Ideal) _ _ _ _ _ _ _ _ _ _ _ _ _ _ _ _ _)
    (g := fun y => table (fun n => of_q (rowG m c n)) ((win0_17.blk t).view.emb y)) (fun r j => ?_) y
  refine ((out_q_at (holds m c t R) r j).trans (stored_q (fun n => rowG m c n) (at_ t) r j)).trans (congrArg (table fun n => of_q (rowG m c n)) (emb_q t r j).symm)

include R in
/-- THE QUERIES, after the whole grid. -/
theorem final_q : (dats m 0 c).arrAt 17 (cfgs 0).N = table (fun n => of_q (rowG m c n)) := by
  refine (dats m 0 c).arrAt_eq_of_covers 17 _ (by decide +kernel) fun t _ y => ?_
  blk_simp
  rw [after0_17]
  exact point_q m c t R y

/-- The keys of a row. -/
def of_k (e : Given) (j : Fin 1024) : EReal := e.k ⟨j.val / 128, by omega⟩ ⟨j.val % 128, by omega⟩

/-- What the stores write is the keys of the row. -/
theorem stored_k (d : Fin 16384 → Given) (p : Fin 512 → Fin 16384) (r : Fin 512) (j : Fin 1024) :
    Kw (fun r => d (p r)) r j = table (fun n => of_k (d n)) (ix2 (p r) j) := by
  unfold Kw table of_k
  rfl

/-- Row `r` of output block `t` is a row of the whole array. -/
theorem emb_k (r : Fin 512) (j : Fin 1024) : (win0_18.blk t).view.emb (ix2 r j) = ix2 (at_ t r) j := by
  unfold at_
  blk_ext [idxC t]

include R in
/-- What a grid point writes is its block of the keys. -/
theorem point_k (y : S512x1024.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_k (rowG m c n)) ((win0_18.blk t).view.emb y) := by
  refine block_ext (n := 1024) (f := out0_18 (F := Ideal) _ _ _ _ _ _ _ _ _ _ _ _ _ _ _ _ _)
    (g := fun y => table (fun n => of_k (rowG m c n)) ((win0_18.blk t).view.emb y)) (fun r j => ?_) y
  refine ((out_k_at (holds m c t R) r j).trans (stored_k (fun n => rowG m c n) (at_ t) r j)).trans (congrArg (table fun n => of_k (rowG m c n)) (emb_k t r j).symm)

include R in
/-- THE KEYS, after the whole grid. -/
theorem final_k : (dats m 0 c).arrAt 18 (cfgs 0).N = table (fun n => of_k (rowG m c n)) := by
  refine (dats m 0 c).arrAt_eq_of_covers 18 _ (by decide +kernel) fun t _ y => ?_
  blk_simp
  rw [after0_18]
  exact point_k m c t R y

/-- The values of a row. -/
def of_v (e : Given) (j : Fin 512) : EReal := e.v j

/-- What the stores write is the values of the row. -/
theorem stored_v (d : Fin 16384 → Given) (p : Fin 512 → Fin 16384) (r : Fin 512) (j : Fin 512) :
    (d (p r)).v j = table (fun n => of_v (d n)) (ix2 (p r) j) := by
  unfold table of_v
  rfl

/-- Row `r` of output block `t` is a row of the whole array. -/
theorem emb_v (r : Fin 512) (j : Fin 512) : (win0_19.blk t).view.emb (ix2 r j) = ix2 (at_ t r) j := by
  unfold at_
  blk_ext [idxC t]

include R in
/-- What a grid point writes is its block of the values. -/
theorem point_v (y : S512x512.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_v (rowG m c n)) ((win0_19.blk t).view.emb y) := by
  refine block_ext (n := 512) (f := out0_19 (F := Ideal) _ _ _ _ _ _ _ _ _ _ _ _ _ _ _ _ _)
    (g := fun y => table (fun n => of_v (rowG m c n)) ((win0_19.blk t).view.emb y)) (fun r j => ?_) y
  refine ((out_v_at (holds m c t R) r j).trans (stored_v (fun n => rowG m c n) (at_ t) r j)).trans (congrArg (table fun n => of_v (rowG m c n)) (emb_v t r j).symm)

include R in
/-- THE VALUES, after the whole grid. -/
theorem final_v : (dats m 0 c).arrAt 19 (cfgs 0).N = table (fun n => of_v (rowG m c n)) := by
  refine (dats m 0 c).arrAt_eq_of_covers 19 _ (by decide +kernel) fun t _ y => ?_
  blk_simp
  rw [after0_19]
  exact point_v m c t R y

/-- The latents of a row. -/
def of_lat (e : Given) (j : Fin 128) : EReal := e.ckv j

/-- What the stores write is the latents of the row. -/
theorem stored_lat (d : Fin 16384 → Given) (p : Fin 512 → Fin 16384) (r : Fin 512) (j : Fin 128) :
    (d (p r)).ckv j = table (fun n => of_lat (d n)) (ix2 (p r) j) := by
  unfold table of_lat
  rfl

/-- Row `r` of output block `t` is a row of the whole array. -/
theorem emb_lat (r : Fin 512) (j : Fin 128) : (win0_20.blk t).view.emb (ix2 r j) = ix2 (at_ t r) j := by
  unfold at_
  blk_ext [idxC t]

include R in
/-- What a grid point writes is its block of the latents. -/
theorem point_lat (y : S512x128.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_lat (rowG m c n)) ((win0_20.blk t).view.emb y) := by
  refine block_ext (n := 128) (f := out0_20 (F := Ideal) _ _ _ _ _ _ _ _ _ _ _ _ _ _ _ _ _)
    (g := fun y => table (fun n => of_lat (rowG m c n)) ((win0_20.blk t).view.emb y)) (fun r j => ?_) y
  refine ((out_lat_at (holds m c t R) r j).trans (stored_lat (fun n => rowG m c n) (at_ t) r j)).trans (congrArg (table fun n => of_lat (rowG m c n)) (emb_lat t r j).symm)

include R in
/-- THE LATENTS, after the whole grid. -/
theorem final_lat : (dats m 0 c).arrAt 20 (cfgs 0).N = table (fun n => of_lat (rowG m c n)) := by
  refine (dats m 0 c).arrAt_eq_of_covers 20 _ (by decide +kernel) fun t _ y => ?_
  blk_simp
  rw [after0_20]
  exact point_lat m c t R y

/-- The shared key lanes of a row. -/
def of_kr (e : Given) (j : Fin 32) : EReal := e.kr j

/-- What the stores write is the shared key lanes of the row. -/
theorem stored_kr (d : Fin 16384 → Given) (p : Fin 512 → Fin 16384) (r : Fin 512) (j : Fin 32) :
    (d (p r)).kr j = table (fun n => of_kr (d n)) (ix2 (p r) j) := by
  unfold table of_kr
  rfl

/-- Row `r` of output block `t` is a row of the whole array. -/
theorem emb_kr (r : Fin 512) (j : Fin 32) : (win0_21.blk t).view.emb (ix2 r j) = ix2 (at_ t r) j := by
  unfold at_
  blk_ext [idxC t]

include R in
/-- What a grid point writes is its block of the shared key lanes. -/
theorem point_kr (y : S512x32.Idx) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_kr (rowG m c n)) ((win0_21.blk t).view.emb y) := by
  refine block_ext (n := 32) (f := out0_21 (F := Ideal) _ _ _ _ _ _ _ _ _ _ _ _ _ _ _ _ _)
    (g := fun y => table (fun n => of_kr (rowG m c n)) ((win0_21.blk t).view.emb y)) (fun r j => ?_) y
  refine ((out_kr_at (holds m c t R) r j).trans (stored_kr (fun n => rowG m c n) (at_ t) r j)).trans (congrArg (table fun n => of_kr (rowG m c n)) (emb_kr t r j).symm)

include R in
/-- THE SHARED KEY LANES, after the whole grid. -/
theorem final_kr : (dats m 0 c).arrAt 21 (cfgs 0).N = table (fun n => of_kr (rowG m c n)) := by
  refine (dats m 0 c).arrAt_eq_of_covers 21 _ (by decide +kernel) fun t _ y => ?_
  blk_simp
  rw [after0_21]
  exact point_kr m c t R y

/-- The queries and keys of the recurrent step of a row. -/
def of_qk (e : Given) (j : Fin 1024) : EReal := e.z ⟨416 + j.val, by omega⟩

/-- What the stores write is the queries and keys of the recurrent step of the row. -/
theorem stored_qk (d : Fin 16384 → Given) (p : Fin 512 → Fin 16384) (r : Fin 512) (j : Fin 1024) :
    (d (p r)).z ⟨416 + j.val, by omega⟩ = table (fun n => of_qk (d n)) (ix2 (p r) j) := by
  unfold table of_qk
  rfl

/-- Row `r` of output block `t` is a row of the whole array. -/
theorem emb_qk (r : Fin 512) (j : Fin 1024) : (win0_22.blk t).view.emb (ix2 r j) = ix2 (at_ t r) j := by
  unfold at_
  blk_ext [idxC t]

include R in
/-- What a grid point writes is its block of the queries and keys of the recurrent step. -/
theorem point_qk (y : S512x1024.Idx) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_qk (rowG m c n)) ((win0_22.blk t).view.emb y) := by
  refine block_ext (n := 1024) (f := out0_22 (F := Ideal) _ _ _ _ _ _ _ _ _ _ _ _ _ _ _ _ _)
    (g := fun y => table (fun n => of_qk (rowG m c n)) ((win0_22.blk t).view.emb y)) (fun r j => ?_) y
  refine ((out_qk_at (holds m c t R) r j).trans (stored_qk (fun n => rowG m c n) (at_ t) r j)).trans (congrArg (table fun n => of_qk (rowG m c n)) (emb_qk t r j).symm)

include R in
/-- THE QUERIES AND KEYS OF THE RECURRENT STEP, after the whole grid. -/
theorem final_qk : (dats m 0 c).arrAt 22 (cfgs 0).N = table (fun n => of_qk (rowG m c n)) := by
  refine (dats m 0 c).arrAt_eq_of_covers 22 _ (by decide +kernel) fun t _ y => ?_
  blk_simp
  rw [after0_22]
  exact point_qk m c t R y

/-- The values of the recurrent step of a row. -/
def of_vl (e : Given) (j : Fin 512) : EReal := e.z ⟨1440 + j.val, by omega⟩

/-- What the stores write is the values of the recurrent step of the row. -/
theorem stored_vl (d : Fin 16384 → Given) (p : Fin 512 → Fin 16384) (r : Fin 512) (j : Fin 512) :
    (d (p r)).z ⟨1440 + j.val, by omega⟩ = table (fun n => of_vl (d n)) (ix2 (p r) j) := by
  unfold table of_vl
  rfl

/-- Row `r` of output block `t` is a row of the whole array. -/
theorem emb_vl (r : Fin 512) (j : Fin 512) : (win0_23.blk t).view.emb (ix2 r j) = ix2 (at_ t r) j := by
  unfold at_
  blk_ext [idxC t]

include R in
/-- What a grid point writes is its block of the values of the recurrent step. -/
theorem point_vl (y : S512x512.Idx) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_vl (rowG m c n)) ((win0_23.blk t).view.emb y) := by
  refine block_ext (n := 512) (f := out0_23 (F := Ideal) _ _ _ _ _ _ _ _ _ _ _ _ _ _ _ _ _)
    (g := fun y => table (fun n => of_vl (rowG m c n)) ((win0_23.blk t).view.emb y)) (fun r j => ?_) y
  refine ((out_vl_at (holds m c t R) r j).trans (stored_vl (fun n => rowG m c n) (at_ t) r j)).trans (congrArg (table fun n => of_vl (rowG m c n)) (emb_vl t r j).symm)

include R in
/-- THE VALUES OF THE RECURRENT STEP, after the whole grid. -/
theorem final_vl : (dats m 0 c).arrAt 23 (cfgs 0).N = table (fun n => of_vl (rowG m c n)) := by
  refine (dats m 0 c).arrAt_eq_of_covers 23 _ (by decide +kernel) fun t _ y => ?_
  blk_simp
  rw [after0_23]
  exact point_vl m c t R y

/-- The output gate of the recurrent step of a row. -/
def of_o (e : Given) (j : Fin 512) : EReal := e.z ⟨1952 + j.val, by omega⟩

/-- What the stores write is the output gate of the recurrent step of the row. -/
theorem stored_o (d : Fin 16384 → Given) (p : Fin 512 → Fin 16384) (r : Fin 512) (j : Fin 512) :
    (d (p r)).z ⟨1952 + j.val, by omega⟩ = table (fun n => of_o (d n)) (ix2 (p r) j) := by
  unfold table of_o
  rfl

/-- Row `r` of output block `t` is a row of the whole array. -/
theorem emb_o (r : Fin 512) (j : Fin 512) : (win0_24.blk t).view.emb (ix2 r j) = ix2 (at_ t r) j := by
  unfold at_
  blk_ext [idxC t]

include R in
/-- What a grid point writes is its block of the output gate of the recurrent step. -/
theorem point_o (y : S512x512.Idx) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_o (rowG m c n)) ((win0_24.blk t).view.emb y) := by
  refine block_ext (n := 512) (f := out0_24 (F := Ideal) _ _ _ _ _ _ _ _ _ _ _ _ _ _ _ _ _)
    (g := fun y => table (fun n => of_o (rowG m c n)) ((win0_24.blk t).view.emb y)) (fun r j => ?_) y
  refine ((out_o_at (holds m c t R) r j).trans (stored_o (fun n => rowG m c n) (at_ t) r j)).trans (congrArg (table fun n => of_o (rowG m c n)) (emb_o t r j).symm)

include R in
/-- THE OUTPUT GATE OF THE RECURRENT STEP, after the whole grid. -/
theorem final_o : (dats m 0 c).arrAt 24 (cfgs 0).N = table (fun n => of_o (rowG m c n)) := by
  refine (dats m 0 c).arrAt_eq_of_covers 24 _ (by decide +kernel) fun t _ y => ?_
  blk_simp
  rw [after0_24]
  exact point_o m c t R y

/-- The shared lanes and gates of a row. -/
def of_misc (e : Given) (j : Fin 128) : EReal := e.misc j

/-- What the stores write is the shared lanes and gates of the row. -/
theorem stored_misc (d : Fin 16384 → Given) (p : Fin 512 → Fin 16384) (r : Fin 512) (j : Fin 128) :
    (d (p r)).misc j = table (fun n => of_misc (d n)) (ix2 (p r) j) := by
  unfold table of_misc
  rfl

/-- Row `r` of output block `t` is a row of the whole array. -/
theorem emb_misc (r : Fin 512) (j : Fin 128) : (win0_25.blk t).view.emb (ix2 r j) = ix2 (at_ t r) j := by
  unfold at_
  blk_ext [idxC t]

include R in
/-- What a grid point writes is its block of the shared lanes and gates. -/
theorem point_misc (y : S512x128.Idx) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = table (fun n => of_misc (rowG m c n)) ((win0_25.blk t).view.emb y) := by
  refine block_ext (n := 128) (f := out0_25 (F := Ideal) _ _ _ _ _ _ _ _ _ _ _ _ _ _ _ _ _)
    (g := fun y => table (fun n => of_misc (rowG m c n)) ((win0_25.blk t).view.emb y)) (fun r j => ?_) y
  refine ((out_misc_at (holds m c t R) r j).trans (stored_misc (fun n => rowG m c n) (at_ t) r j)).trans (congrArg (table fun n => of_misc (rowG m c n)) (emb_misc t r j).symm)

include R in
/-- THE SHARED LANES AND GATES, after the whole grid. -/
theorem final_misc : (dats m 0 c).arrAt 25 (cfgs 0).N = table (fun n => of_misc (rowG m c n)) := by
  refine (dats m 0 c).arrAt_eq_of_covers 25 _ (by decide +kernel) fun t _ y => ?_
  blk_simp
  rw [after0_25]
  exact point_misc m c t R y

end Cert.Proj
-- ==== Proof.ProjReference.lean ====
/- Every result of the projection's reference, element by element. -/
module

public import proofs.«01_k».proof.Proof.Gen.Reference3Ideal.Run
public import proofs.«01_k».proof.Proof.ProjRow
public import Idealize.ShloMosaic.Lib.Claim

@[expose] public section

set_option maxRecDepth 16384

noncomputable section

namespace Cert.ProjRef

open Cert.Reference3Ideal Cert.Reference3Ideal.Gen Cert.Reference3Ideal.Value Idealize.ShloMosaic Idealize.ShloMosaic.TcCoe Idealize.SL.Sem
open Cert.Proj

variable (V0 : Valuation τ sig (Elt Ideal))

/-- What row `n` is computed from. -/
def row (n : Fin 16384) : Given :=
  given (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11)) n

/-- The queries, as the reference computes them. -/
def out_q : FVec Ideal S16384x1024 .bf16 := truncf .bf16 (shapeCast _ ((concatenate S16384x8x128 2 [⟨S16384x8x64, ((mulf (mulf (res_main_v38 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v38 V0) (res_main_v38 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (V0 (Proc.devRef .tc main_arg5))))) : (⟨S16384x8x64, .f32⟩ : BufTy).Contents (Elt Ideal))⟩, ⟨S16384x8x32, ((concatenate S16384x8x32 2 [⟨S16384x8x16, (subf (mulf (res_main_v82 V0) (broadcastInDim S16384x8x16 ![0, 1, 2] bcast_S16384x1x16_S16384x8x16_0_1_2 (res_main_v79 V0))) (mulf (res_main_v83 V0) (broadcastInDim S16384x8x16 ![0, 1, 2] bcast_S16384x1x16_S16384x8x16_0_1_2 (res_main_v81 V0))))⟩, ⟨S16384x8x16, (addf (mulf (res_main_v83 V0) (broadcastInDim S16384x8x16 ![0, 1, 2] bcast_S16384x1x16_S16384x8x16_0_1_2 (res_main_v79 V0))) (mulf (res_main_v82 V0) (broadcastInDim S16384x8x16 ![0, 1, 2] bcast_S16384x1x16_S16384x8x16_0_1_2 (res_main_v81 V0))))⟩] concatenates_S16384x8x16_S16384x8x16_S16384x8x32_d2) : (⟨S16384x8x32, .f32⟩ : BufTy).Contents (Elt Ideal))⟩, ⟨S16384x8x32, ((res_main_v166 V0) : (⟨S16384x8x32, .f32⟩ : BufTy).Contents (Elt Ideal))⟩] concatenates_S16384x8x64_S16384x8x32_S16384x8x32_S16384x8x128_d2 : (⟨S16384x8x128, .f32⟩ : BufTy).Contents (Elt Ideal))) shapeCasts_S16384x8x128_S16384x1024) bitsLt_bf16_f32

/-- The keys, as the reference computes them. -/
def out_k : FVec Ideal S16384x1024 .bf16 := truncf .bf16 (shapeCast _ ((concatenate S16384x8x128 2 [⟨S16384x8x64, ((mulf (mulf (res_main_v149 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v149 V0) (res_main_v149 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (V0 (Proc.devRef .tc main_arg10))))) : (⟨S16384x8x64, .f32⟩ : BufTy).Contents (Elt Ideal))⟩, ⟨S16384x8x32, ((broadcastInDim S16384x8x32 ![0, 1, 2] bcast_S16384x1x32_S16384x8x32_0_1_2 (broadcastInDim S16384x1x32 ![0, 2] bcast_S16384x32_S16384x1x32_0_2 (shapeCast _ (concatenate S16384x1x32 2 [⟨S16384x1x16, (subf (mulf (res_main_v138 V0) (res_main_v135 V0)) (mulf (res_main_v139 V0) (res_main_v137 V0)))⟩, ⟨S16384x1x16, (addf (mulf (res_main_v139 V0) (res_main_v135 V0)) (mulf (res_main_v138 V0) (res_main_v137 V0)))⟩] concatenates_S16384x1x16_S16384x1x16_S16384x1x32_d2) shapeCasts_S16384x1x32_S16384x32))) : (⟨S16384x8x32, .f32⟩ : BufTy).Contents (Elt Ideal))⟩, ⟨S16384x8x32, ((res_main_v166 V0) : (⟨S16384x8x32, .f32⟩ : BufTy).Contents (Elt Ideal))⟩] concatenates_S16384x8x64_S16384x8x32_S16384x8x32_S16384x8x128_d2 : (⟨S16384x8x128, .f32⟩ : BufTy).Contents (Elt Ideal))) shapeCasts_S16384x8x128_S16384x1024) bitsLt_bf16_f32

/-- The values, as the reference computes them. -/
def out_v : FVec Ideal S16384x512 .bf16 := truncf .bf16 (Host.dotGeneral (φ₁ := .f32) (φ₂ := .f32) dot_S16384x128_S128x512_S16384x512_1_0_0_1_n_n none (res_main_v107 V0) (V0 (Proc.devRef .tc main_arg11))) bitsLt_bf16_f32

/-- The latents, as the reference computes them. -/
def out_lat : FVec Ideal S16384x128 .f32 := res_main_v107 V0

/-- The shared key lanes, as the reference computes them. -/
def out_kr : FVec Ideal S16384x32 .f32 := shapeCast _ (concatenate S16384x1x32 2 [⟨S16384x1x16, (subf (mulf (res_main_v138 V0) (res_main_v135 V0)) (mulf (res_main_v139 V0) (res_main_v137 V0)))⟩, ⟨S16384x1x16, (addf (mulf (res_main_v139 V0) (res_main_v135 V0)) (mulf (res_main_v138 V0) (res_main_v137 V0)))⟩] concatenates_S16384x1x16_S16384x1x16_S16384x1x32_d2) shapeCasts_S16384x1x32_S16384x32

/-- The recurrent step's queries and keys, as the reference computes them. -/
def out_qk : FVec Ideal S16384x1024 .f32 := extractStridedSlice S16384x1024 ![0, 416] (res_main_v14 V0) slices_S16384x2472_S16384x1024_0_416

/-- The recurrent step's values, as the reference computes them. -/
def out_vl : FVec Ideal S16384x512 .f32 := extractStridedSlice S16384x512 ![0, 1440] (res_main_v14 V0) slices_S16384x2472_S16384x512_0_1440

/-- The recurrent step's output gate, as the reference computes them. -/
def out_o : FVec Ideal S16384x512 .f32 := extractStridedSlice S16384x512 ![0, 1952] (res_main_v14 V0) slices_S16384x2472_S16384x512_0_1952

/-- The shared lanes and the gates, as the reference computes them. -/
def out_misc : FVec Ideal S16384x128 .f32 := (concatenate S16384x128 1 [⟨S16384x32, ((res_main_v17 V0) : (⟨S16384x32, .f32⟩ : BufTy).Contents (Elt Ideal))⟩, ⟨S16384x16, ((extractStridedSlice S16384x16 ![0, 16] (res_main_v17 V0) slices_S16384x32_S16384x16_0_16) : (⟨S16384x16, .f32⟩ : BufTy).Contents (Elt Ideal))⟩, ⟨S16384x16, ((extractStridedSlice S16384x16 ![0, 0] (res_main_v17 V0) slices_S16384x32_S16384x16_0_0) : (⟨S16384x16, .f32⟩ : BufTy).Contents (Elt Ideal))⟩, ⟨S16384x4, ((extractStridedSlice S16384x4 ![0, 2464] (res_main_v14 V0) slices_S16384x2472_S16384x4_0_2464) : (⟨S16384x4, .f32⟩ : BufTy).Contents (Elt Ideal))⟩, ⟨S16384x4, ((extractStridedSlice S16384x4 ![0, 2468] (res_main_v14 V0) slices_S16384x2472_S16384x4_0_2468) : (⟨S16384x4, .f32⟩ : BufTy).Contents (Elt Ideal))⟩, ⟨S16384x56, ((broadcastInDim S16384x56 ![] bcast_S_S16384x56 (constant (F := Ideal) S_ .f32 0x00000000#32)) : (⟨S16384x56, .f32⟩ : BufTy).Contents (Elt Ideal))⟩] concatenates_S16384x32_S16384x16_S16384x16_S16384x4_S16384x4_S16384x56_S16384x128_d1 : (⟨S16384x128, .f32⟩ : BufTy).Contents (Elt Ideal))

/-- The input projection of a row. -/
theorem z_at (n : Fin 16384) (j : Fin 2472) : res_main_v14 (F := Ideal) V0 (ix2 n j) = (row V0 n).z j := by
  unfold Given.z Given.hid rms row given
  pointwise [res_main_v14]

/-- The latent of a row. -/
theorem lat_at (n : Fin 16384) (j : Fin 128) : res_main_v107 (F := Ideal) V0 (ix2 n j) = (row V0 n).ckv j := by
  unfold Given.ckv rms
  simp only [← z_at]
  unfold row given
  pointwise [res_main_v107, res_main_v16]

/-- The raw query heads of a row. -/
theorem q0_at (n : Fin 16384) (h : Fin 8) (l : Fin 96) : res_main_v37 (F := Ideal) V0 (ix3 n h l) = (row V0 n).q0 h l := by
  unfold Given.q0 Given.cq rms
  simp only [← z_at]
  unfold row given
  pointwise [res_main_v37, res_main_v15]

/-- The normed rotary query lanes of a row. -/
theorem qr_at (n : Fin 16384) (h : Fin 8) (l : Fin 32) : res_main_v65 (F := Ideal) V0 (ix3 n h l) = (row V0 n).qr h l := by
  unfold Given.qr rms
  simp only [← q0_at]
  unfold row given
  pointwise [res_main_v65, res_main_v52]

/-- The raw key heads of a row. -/
theorem k0_at (n : Fin 16384) (h : Fin 8) (l : Fin 64) : res_main_v149 (F := Ideal) V0 (ix3 n h l) = (row V0 n).k0 h l := by
  unfold Given.k0
  simp only [← lat_at]
  unfold row given
  pointwise [res_main_v149]

/-- The normed shared key lanes of a row. -/
theorem kr0_at (n : Fin 16384) (l : Fin 32) : res_main_v121 (F := Ideal) V0 (ix3 n 0 l) = (row V0 n).kr0 l := by
  unfold Given.kr0 rms
  simp only [← z_at]
  unfold row given
  pointwise [res_main_v121, res_main_v17]

/-- The cosines for the queries. -/
theorem cosq_at (n : Fin 16384) (j : Fin 16) : res_main_v79 (F := Ideal) V0 (ix3 n 0 j) = (row V0 n).co j := by
  unfold row given angle
  pointwise [res_main_v79, res_main_v77, res_main_v0]

/-- The sines for the queries. -/
theorem sinq_at (n : Fin 16384) (j : Fin 16) : res_main_v81 (F := Ideal) V0 (ix3 n 0 j) = (row V0 n).si j := by
  unfold row given angle
  pointwise [res_main_v81, res_main_v77, res_main_v0]

/-- The cosines for the keys. -/
theorem cosk_at (n : Fin 16384) (j : Fin 16) : res_main_v135 (F := Ideal) V0 (ix3 n 0 j) = (row V0 n).co j := by
  unfold row given angle
  pointwise [res_main_v135, res_main_v133, res_main_v0]

/-- The sines for the keys. -/
theorem sink_at (n : Fin 16384) (j : Fin 16) : res_main_v137 (F := Ideal) V0 (ix3 n 0 j) = (row V0 n).si j := by
  unfold row given angle
  pointwise [res_main_v137, res_main_v133, res_main_v0]

/-- The queries of a row. -/
theorem q_at (n : Fin 16384) (j : Fin 1024) :
    out_q V0 (ix2 n j) = (row V0 n).q ⟨j.val / 128, by omega⟩ ⟨j.val % 128, by omega⟩ := by
  unfold Given.q turn Given.qn rms
  simp only [← q0_at, ← qr_at, ← cosq_at, ← sinq_at]
  unfold row given
  pointwise [out_q, res_main_v38, res_main_v166, res_main_v82, res_main_v83]

/-- The keys of a row. -/
theorem k_at (n : Fin 16384) (j : Fin 1024) :
    out_k V0 (ix2 n j) = (row V0 n).k ⟨j.val / 128, by omega⟩ ⟨j.val % 128, by omega⟩ := by
  unfold Given.k Given.kr turn Given.kn rms
  simp only [← k0_at, ← kr0_at, ← cosk_at, ← sink_at]
  unfold row given
  pointwise [out_k, res_main_v166, res_main_v138, res_main_v139]

/-- The values of a row. -/
theorem v_at (n : Fin 16384) (j : Fin 512) : out_v V0 (ix2 n j) = (row V0 n).v j := by
  unfold Given.v
  simp only [← lat_at]
  unfold row given
  pointwise [out_v]

/-- The turned shared key lanes of a row. -/
theorem kr_at (n : Fin 16384) (j : Fin 32) : out_kr V0 (ix2 n j) = (row V0 n).kr j := by
  unfold Given.kr turn
  simp only [← kr0_at, ← cosk_at, ← sink_at]
  pointwise [out_kr, res_main_v138, res_main_v139]

/-- The recurrent step's queries and keys of a row. -/
theorem qk_at (n : Fin 16384) (j : Fin 1024) : out_qk V0 (ix2 n j) = (row V0 n).z ⟨416 + j.val, by omega⟩ := by
  rw [← z_at]
  pointwise [out_qk]

/-- The recurrent step's values of a row. -/
theorem vl_at (n : Fin 16384) (j : Fin 512) : out_vl V0 (ix2 n j) = (row V0 n).z ⟨1440 + j.val, by omega⟩ := by
  rw [← z_at]
  pointwise [out_vl]

/-- The recurrent step's output gate of a row. -/
theorem o_at (n : Fin 16384) (j : Fin 512) : out_o V0 (ix2 n j) = (row V0 n).z ⟨1952 + j.val, by omega⟩ := by
  rw [← z_at]
  pointwise [out_o]

/-- The shared lanes and gates of a row. -/
theorem misc_at (n : Fin 16384) (j : Fin 128) : out_misc V0 (ix2 n j) = (row V0 n).misc j := by
  unfold Given.misc
  simp only [← z_at]
  pointwise [out_misc, res_main_v17]

end Cert.ProjRef
-- ==== Proof.ProjEqual.lean ====
/- The reference's nine arrays are the tables that the projection kernel's output arrays hold, and the rows of finite arguments are real numbers. -/
module

public import proofs.«01_k».proof.Proof.ProjFinal
public import proofs.«01_k».proof.Proof.ProjReference

@[expose] public section

set_option maxRecDepth 16384

noncomputable section

namespace Cert.Proj

open Cert.Kernel3Ideal Cert.Kernel3Ideal.Gen Idealize.ShloMosaic Idealize.ShloMosaic.TcCoe Idealize.SL.Sem

/-- What the precondition says of one element: below infinity in absolute value, so a real number. -/
theorem real_of_lt (x : EReal) (h : FloatOps.cmpf (F := Ideal) (φ := .f32) .olt (FloatOps.absf (F := Ideal) (φ := .f32) x) (Ideal.ofBits .f32 0x7F800000#32) = 1#1) :
    IsReal x := by
  have e : Ideal.ofBits .f32 0x7F800000#32 = ⊤ := by simp [Ideal.ofBits, Ideal.ieee]
  rw [e] at h
  have hc : Ideal.cmp .olt (max x (-x)) ⊤ = 1#1 := h
  induction x with
  | bot => simp [Ideal.cmp] at hc
  | coe a => exact ⟨a, rfl⟩
  | top => simp [Ideal.cmp] at hc

variable (m : (ℓ : Loc nD τ sig) → Buf (Elt Ideal) ℓ) (c : Dev nD)

/-- From real arguments the values whose squares are split are real numbers. -/
theorem reals_of
    (h0 : ∀ y : S16384x1024.Idx, IsReal (m ((c.tc : Thread nD τ).loc main_arg0) y)) (h1 : ∀ y : S1024.Idx, IsReal (m ((c.tc : Thread nD τ).loc main_arg1) y))
    (h2 : ∀ y : S1024x2472.Idx, IsReal (m ((c.tc : Thread nD τ).loc main_arg2) y)) (h3 : ∀ y : S256.Idx, IsReal (m ((c.tc : Thread nD τ).loc main_arg3) y))
    (h4 : ∀ y : S256x768.Idx, IsReal (m ((c.tc : Thread nD τ).loc main_arg4) y)) (h7 : ∀ y : S128.Idx, IsReal (m ((c.tc : Thread nD τ).loc main_arg7) y))
    (h9 : ∀ y : S128x512.Idx, IsReal (m ((c.tc : Thread nD τ).loc main_arg9) y)) : Reals m c := by
  have R := fun n : Fin 16384 => Given.reals (rowG m c n) (fun k => h0 (ix2 n k)) (fun k => h1 (ix1 k)) (fun k j => h2 (ix2 k j))
    (fun k => h3 (ix1 k)) (fun a j => h4 (ix2 a j)) (fun a => h7 (ix1 a)) (fun a j => h9 (ix2 a j))
  exact ⟨fun n => (R n).1, fun n => (R n).2.1, fun n => (R n).2.2⟩

/-- An array is the table of its entries. -/
theorem table_ext {n : ℕ} {f : (⟨2, ![16384, n]⟩ : Shape).Idx → EReal} {g : Fin 16384 → Fin n → EReal}
    (h : ∀ (r : Fin 16384) (j : Fin n), f (ix2 r j) = g r j) : f = table g := by
  funext y
  obtain ⟨r, k, rfl⟩ : ∃ (r : Fin 16384) (k : Fin n), y = ix2 r k := ⟨y 0, y 1, by funext a; fin_cases a <;> rfl⟩
  exact h r k

variable (V0 : Valuation Cert.Reference3Ideal.τ Cert.Reference3Ideal.sig (Elt Ideal))

/-- The reference's queries, as a table. -/
theorem ref_q : Cert.ProjRef.out_q V0 = table (fun n => of_q (Cert.ProjRef.row V0 n)) := by
  refine table_ext fun r j => (Cert.ProjRef.q_at V0 r j).trans ?_
  unfold of_q
  rfl

/-- The reference's keys, as a table. -/
theorem ref_k : Cert.ProjRef.out_k V0 = table (fun n => of_k (Cert.ProjRef.row V0 n)) := by
  refine table_ext fun r j => (Cert.ProjRef.k_at V0 r j).trans ?_
  unfold of_k
  rfl

/-- The reference's values, as a table. -/
theorem ref_v : Cert.ProjRef.out_v V0 = table (fun n => of_v (Cert.ProjRef.row V0 n)) := by
  refine table_ext fun r j => (Cert.ProjRef.v_at V0 r j).trans ?_
  unfold of_v
  rfl

/-- The reference's latents, as a table. -/
theorem ref_lat : Cert.ProjRef.out_lat V0 = table (fun n => of_lat (Cert.ProjRef.row V0 n)) := by
  refine table_ext fun r j => (Cert.ProjRef.lat_at V0 r j).trans ?_
  unfold of_lat
  rfl

/-- The reference's shared key lanes, as a table. -/
theorem ref_kr : Cert.ProjRef.out_kr V0 = table (fun n => of_kr (Cert.ProjRef.row V0 n)) := by
  refine table_ext fun r j => (Cert.ProjRef.kr_at V0 r j).trans ?_
  unfold of_kr
  rfl

/-- The reference's queries and keys of the recurrent step, as a table. -/
theorem ref_qk : Cert.ProjRef.out_qk V0 = table (fun n => of_qk (Cert.ProjRef.row V0 n)) := by
  refine table_ext fun r j => (Cert.ProjRef.qk_at V0 r j).trans ?_
  unfold of_qk
  rfl

/-- The reference's values of the recurrent step, as a table. -/
theorem ref_vl : Cert.ProjRef.out_vl V0 = table (fun n => of_vl (Cert.ProjRef.row V0 n)) := by
  refine table_ext fun r j => (Cert.ProjRef.vl_at V0 r j).trans ?_
  unfold of_vl
  rfl

/-- The reference's output gate of the recurrent step, as a table. -/
theorem ref_o : Cert.ProjRef.out_o V0 = table (fun n => of_o (Cert.ProjRef.row V0 n)) := by
  refine table_ext fun r j => (Cert.ProjRef.o_at V0 r j).trans ?_
  unfold of_o
  rfl

/-- The reference's shared lanes and gates, as a table. -/
theorem ref_misc : Cert.ProjRef.out_misc V0 = table (fun n => of_misc (Cert.ProjRef.row V0 n)) := by
  refine table_ext fun r j => (Cert.ProjRef.misc_at V0 r j).trans ?_
  unfold of_misc
  rfl

end Cert.Proj
-- ==== Proof.ProjRuns.lean ====
/- What the projection kernel and its reference end holding: the same nine tables of their rows. -/
module

public import proofs.«01_k».proof.Proof.ProjEqual

@[expose] public section

set_option maxRecDepth 16384

noncomputable section

namespace Cert.Proj

section
open Cert.Kernel3Ideal Cert.Kernel3Ideal.Gen Idealize.ShloMosaic Idealize.ShloMosaic.TcCoe Idealize.SL.Sem

/-- The projection kernel ends with the nine tables of its rows, where these are real numbers. -/
theorem run_kernel (m : (ℓ : Loc nD τ sig) → Buf (Elt Ideal) ℓ) (g : Dev nD → PrngReg) (R : ∀ c, Reals m c) :
    θ_run (defs (F := Ideal)) (onTc (τ := τ) (main (F := Ideal))) ⟨m, fun _ => 0, g⟩ fun r => ∀ c : Dev nD,
      r.2.mem ((c.tc : Thread nD τ).loc main_v129_0) = Cert.Proj.table (fun n => Cert.Proj.of_q (rowG m c n))
      ∧ r.2.mem ((c.tc : Thread nD τ).loc main_v129_1) = Cert.Proj.table (fun n => Cert.Proj.of_k (rowG m c n))
      ∧ r.2.mem ((c.tc : Thread nD τ).loc main_v129_2) = Cert.Proj.table (fun n => Cert.Proj.of_v (rowG m c n))
      ∧ r.2.mem ((c.tc : Thread nD τ).loc main_v129_3) = Cert.Proj.table (fun n => Cert.Proj.of_lat (rowG m c n))
      ∧ r.2.mem ((c.tc : Thread nD τ).loc main_v129_4) = Cert.Proj.table (fun n => Cert.Proj.of_kr (rowG m c n))
      ∧ r.2.mem ((c.tc : Thread nD τ).loc main_v129_5) = Cert.Proj.table (fun n => Cert.Proj.of_qk (rowG m c n))
      ∧ r.2.mem ((c.tc : Thread nD τ).loc main_v129_6) = Cert.Proj.table (fun n => Cert.Proj.of_vl (rowG m c n))
      ∧ r.2.mem ((c.tc : Thread nD τ).loc main_v129_7) = Cert.Proj.table (fun n => Cert.Proj.of_o (rowG m c n))
      ∧ r.2.mem ((c.tc : Thread nD τ).loc main_v129_8) = Cert.Proj.table (fun n => Cert.Proj.of_misc (rowG m c n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (final_q m c (R c)), (h c).2.1.trans (final_k m c (R c)), (h c).2.2.1.trans (final_v m c (R c)), (h c).2.2.2.1.trans (final_lat m c (R c)), (h c).2.2.2.2.1.trans (final_kr m c (R c)), (h c).2.2.2.2.2.1.trans (final_qk m c (R c)), (h c).2.2.2.2.2.2.1.trans (final_vl m c (R c)), (h c).2.2.2.2.2.2.2.1.trans (final_o m c (R c)), (h c).2.2.2.2.2.2.2.2.1.trans (final_misc m c (R c)), (h c).2.2.2.2.2.2.2.2.2⟩)
    (Cert.Kernel3Ideal.Value.run_blocks m g)

end

section
open Cert.Reference3Ideal Cert.Reference3Ideal.Gen Idealize.ShloMosaic Idealize.ShloMosaic.TcCoe Idealize.SL.Sem

variable (m : (ℓ : Loc nD τ sig) → Buf (Elt Ideal) ℓ) (g : Dev nD → PrngReg)

/-- The reference ends with the nine tables of its rows. -/
theorem run_reference :
    θ_run (defs (F := Ideal)) (onTc (τ := τ) (main (F := Ideal))) ⟨m, fun _ => 0, g⟩ fun r => ∀ c : Dev nD,
      r.2.mem ((c.tc : Thread nD τ).loc main_v175) = Cert.Proj.table (fun n => Cert.Proj.of_q (Cert.ProjRef.row (StableHlo.launchContents m c) n))
      ∧ r.2.mem ((c.tc : Thread nD τ).loc main_v176) = Cert.Proj.table (fun n => Cert.Proj.of_k (Cert.ProjRef.row (StableHlo.launchContents m c) n))
      ∧ r.2.mem ((c.tc : Thread nD τ).loc main_v177) = Cert.Proj.table (fun n => Cert.Proj.of_v (Cert.ProjRef.row (StableHlo.launchContents m c) n))
      ∧ r.2.mem ((c.tc : Thread nD τ).loc main_v107) = Cert.Proj.table (fun n => Cert.Proj.of_lat (Cert.ProjRef.row (StableHlo.launchContents m c) n))
      ∧ r.2.mem ((c.tc : Thread nD τ).loc main_v147) = Cert.Proj.table (fun n => Cert.Proj.of_kr (Cert.ProjRef.row (StableHlo.launchContents m c) n))
      ∧ r.2.mem ((c.tc : Thread nD τ).loc main_v18) = Cert.Proj.table (fun n => Cert.Proj.of_qk (Cert.ProjRef.row (StableHlo.launchContents m c) n))
      ∧ r.2.mem ((c.tc : Thread nD τ).loc main_v19) = Cert.Proj.table (fun n => Cert.Proj.of_vl (Cert.ProjRef.row (StableHlo.launchContents m c) n))
      ∧ r.2.mem ((c.tc : Thread nD τ).loc main_v20) = Cert.Proj.table (fun n => Cert.Proj.of_o (Cert.ProjRef.row (StableHlo.launchContents m c) n))
      ∧ r.2.mem ((c.tc : Thread nD τ).loc main_v174) = Cert.Proj.table (fun n => Cert.Proj.of_misc (Cert.ProjRef.row (StableHlo.launchContents m c) n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (ref_q _), (h c).2.1.trans (ref_k _), (h c).2.2.1.trans (ref_v _), (h c).2.2.2.1.trans (ref_lat _), (h c).2.2.2.2.1.trans (ref_kr _), (h c).2.2.2.2.2.1.trans (ref_qk _), (h c).2.2.2.2.2.2.1.trans (ref_vl _), (h c).2.2.2.2.2.2.2.1.trans (ref_o _), (h c).2.2.2.2.2.2.2.2.1.trans (ref_misc _), (h c).2.2.2.2.2.2.2.2.2⟩)
    (Cert.Reference3Ideal.Value.run m g)

end

end Cert.Proj
-- ==== Proof.LstmRow.lean ====
/- One batch entry of the recurrent step, as mathematics: the convolution, the gates, the hidden rows and the new state. -/
module

public import proofs.«01_k».proof.Proof.Gen.Kernel4Ideal.Skeleton
public import proofs.«01_k».proof.Proof.RowMath
public import Idealize.ShloMosaic.Lib.Pointwise

@[expose] public section

set_option maxRecDepth 16384

noncomputable section

namespace Cert.Lstm

open Cert.Attn Cert.Kernel4Ideal Idealize.ShloMosaic

/-- The logistic function, by its quotient. -/
def gate (x : EReal) : EReal :=
  Ideal.div (Ideal.ofBits .f32 0x3F800000#32) (Ideal.ofBits .f32 0x3F800000#32 + Ideal.exp (-x))

/-- The logarithm of the logistic function. -/
def lgate (x : EReal) : EReal :=
  -(max (-x) (Ideal.ofBits .f32 0x00000000#32)
    + Ideal.log1p (Ideal.exp (-max (-x - Ideal.ofBits .f32 0x00000000#32) (-(-x - Ideal.ofBits .f32 0x00000000#32)))))

/-- What one batch entry is computed from: the rows before and after the three of history, the taps and their offset, the
gates, the values, the output gate, the state and the gains. -/
structure Given where
  full : Fin 19 → Fin 1024 → EReal
  wc : Fin 4 → Fin 1024 → EReal
  bc : Fin 1024 → EReal
  ig : Fin 16 → Fin 4 → EReal
  fg : Fin 16 → Fin 4 → EReal
  v : Fin 16 → Fin 512 → EReal
  o : Fin 16 → Fin 512 → EReal
  C : Fin 4 → Fin 128 → Fin 128 → EReal
  n : Fin 4 → Fin 128 → EReal
  m : Fin 4 → EReal
  g : Fin 512 → EReal

namespace Given

variable (d : Given)

/-- The convolution of the rows with the four taps. -/
def conv (t : Fin 16) (j : Fin 1024) : EReal :=
  d.bc j + d.full ⟨t.val, by omega⟩ j * d.wc 0 j + d.full ⟨1 + t.val, by omega⟩ j * d.wc 1 j
    + d.full ⟨2 + t.val, by omega⟩ j * d.wc 2 j + d.full ⟨3 + t.val, by omega⟩ j * d.wc 3 j

/-- The rows after the convolution and its activation. -/
def act (t : Fin 16) (j : Fin 1024) : EReal := d.conv t j * gate (d.conv t j)

/-- The queries of a head. -/
def q (t : Fin 16) (h : Fin 4) (l : Fin 128) : EReal := d.act t ⟨h.val * 128 + l.val, by omega⟩

/-- The keys of a head. -/
def k (t : Fin 16) (h : Fin 4) (l : Fin 128) : EReal :=
  d.act t ⟨512 + h.val * 128 + l.val, by omega⟩ * Ideal.ofBits .f32 0x3DB504F3#32

/-- The values of a head. -/
def vh (t : Fin 16) (h : Fin 4) (l : Fin 128) : EReal := d.v t ⟨h.val * 128 + l.val, by omega⟩

/-- The logarithm of the forget gate. -/
def lf (t : Fin 16) (h : Fin 4) : EReal := lgate (d.fg t h)

/-- The logarithms of the forget gates, added up to a row. -/
def b (t : Fin 16) (h : Fin 4) : EReal := ∑ s : Fin 16, if s.val ≤ t.val then d.lf s h else 0

/-- The logarithm of the weight of row `s` at row `t`. -/
def ld (t s : Fin 16) (h : Fin 4) : EReal := if s.val ≤ t.val then d.b t h - d.b s h + d.ig s h else ⊥

/-- The logarithm of the weight of the state at row `t`. -/
def inter (t : Fin 16) (h : Fin 4) : EReal := d.b t h + d.m h

/-- The greatest logarithm at row `t`. -/
def mt (t : Fin 16) (h : Fin 4) : EReal := max (d.inter t h) (top fun s => d.ld t s h)

/-- The weight of row `s` at row `t`. -/
def w (t s : Fin 16) (h : Fin 4) : EReal := (∑ l, d.q t h l * d.k s h l) * Ideal.exp (d.ld t s h - d.mt t h)

/-- The scale of the state at row `t`. -/
def isc (t : Fin 16) (h : Fin 4) : EReal := Ideal.exp (d.inter t h - d.mt t h)

/-- The weighted sum of the values at row `t`. -/
def num (t : Fin 16) (h : Fin 4) (l : Fin 128) : EReal :=
  (∑ s, d.w t s h * d.vh s h l) + d.isc t h * ∑ e, d.q t h e * d.C h l e

/-- The normaliser at row `t`. -/
def den (t : Fin 16) (h : Fin 4) : EReal := (∑ s, d.w t s h) + d.isc t h * ∑ e, d.q t h e * d.n h e

/-- The hidden row before its normalisation. -/
def hid (t : Fin 16) (h : Fin 4) (l : Fin 128) : EReal :=
  Ideal.div (d.num t h l) (max (max (d.den t h) (-d.den t h)) (Ideal.exp (-d.mt t h)))

/-- The scale of the old state in the new one. -/
def carry (h : Fin 4) : EReal := Ideal.exp (d.b 15 h + d.m h - d.mt 15 h)

/-- The weight of row `s` in the new state. -/
def dend (s : Fin 16) (h : Fin 4) : EReal := Ideal.exp (d.b 15 h - d.b s h + d.ig s h - d.mt 15 h)

/-- The new state. -/
def newC (h : Fin 4) (l e : Fin 128) : EReal := d.carry h * d.C h l e + ∑ s, d.dend s h * d.vh s h l * d.k s h e

/-- The new normaliser. -/
def newN (h : Fin 4) (e : Fin 128) : EReal := d.carry h * d.n h e + ∑ s, d.dend s h * d.k s h e

/-- The result row of a head. -/
def out (t : Fin 16) (h : Fin 4) (l : Fin 128) : EReal :=
  d.hid t h l * Ideal.rsqrt (Ideal.div (∑ e, d.hid t h e * d.hid t h e) (Ideal.ofBits .f32 0x43000000#32) + Ideal.ofBits .f32 0x358637BD#32)
    * d.g ⟨h.val * 128 + l.val, by omega⟩ * gate (d.o t ⟨h.val * 128 + l.val, by omega⟩)

end Given

/-- The three rows of history, then the sixteen rows. -/
def joined (a0 : FVec Ideal S512x1024 .f32) (a4 : FVec Ideal S32x3x1024 .f32) (e : Fin 32) (r : Fin 19) (j : Fin 1024) : EReal :=
  if h : r.val < 3 then a4 (ix3 e ⟨r.val, h⟩ j) else a0 (ix2 ⟨e.val * 16 + (r.val - 3), by omega⟩ j)

/-- What batch entry `e` is computed from, taken from the argument arrays. -/
def given (a0 : FVec Ideal S512x1024 .f32) (a1 a2 : FVec Ideal S512x512 .f32) (a3 : FVec Ideal S512x128 .f32)
    (a4 : FVec Ideal S32x3x1024 .f32) (a5 : FVec Ideal S32x4x128x128 .f32) (a6 : FVec Ideal S32x4x128 .f32) (a7 : FVec Ideal S32x4 .f32)
    (a8 : FVec Ideal S4x1024 .f32) (a9 : FVec Ideal S1024 .f32) (a10 a11 : FVec Ideal S4 .f32) (a12 : FVec Ideal S512 .f32)
    (e : Fin 32) : Given where
  full := joined a0 a4 e
  wc p j := a8 (ix2 p j)
  bc j := a9 (ix1 j)
  ig t h := a3 (ix2 ⟨e.val * 16 + t.val, by omega⟩ ⟨64 + h.val, by omega⟩) + a10 (ix1 h)
  fg t h := a3 (ix2 ⟨e.val * 16 + t.val, by omega⟩ ⟨68 + h.val, by omega⟩) + a11 (ix1 h)
  v t j := a1 (ix2 ⟨e.val * 16 + t.val, by omega⟩ j)
  o t j := a2 (ix2 ⟨e.val * 16 + t.val, by omega⟩ j)
  C h l k := a5 (ix4 e h l k)
  n h k := a6 (ix3 e h k)
  m h := a7 (ix2 e h)
  g j := a12 (ix1 j)

end Cert.Lstm
-- ==== Proof.LstmPay.lean ====
/- The parts of one grid point's arithmetic, head by head: each value the kernel computes is the one of the mathematics. -/
module

public import proofs.«01_k».proof.Proof.LstmRow

@[expose] public section

set_option maxRecDepth 16384

noncomputable section

namespace Cert.Lstm

open Cert.Attn Cert.Kernel4Ideal Cert.Kernel4Ideal.Gen Idealize.ShloMosaic

/-- What the convolved rows, the gates and the summed forget gates hold, the last two also by columns. -/
structure Pre (d : Given) (v31 : FVec Ideal S16x1024 .f32) (v40 v69 : FVec Ideal S16x128 .f32) (v76 : FVec Ideal S128x128 .f32) : Prop where
  act : ∀ t j, v31 (ix2 t j) = d.act t j
  ig : ∀ (t : Fin 16) (h : Fin 4), v40 (ix2 t ⟨64 + h.val, by omega⟩) = d.ig t h
  b : ∀ (t : Fin 16) (h : Fin 4), v69 (ix2 t ⟨68 + h.val, by omega⟩) = d.b t h
  igT : ∀ (t : Fin 16) (h : Fin 4), v76 (ix2 ⟨64 + h.val, by omega⟩ ⟨t.val, by omega⟩) = d.ig t h
  bT : ∀ (t : Fin 16) (h : Fin 4), v76 (ix2 ⟨68 + h.val, by omega⟩ ⟨t.val, by omega⟩) = d.b t h

/-- The pattern of minus infinity denotes `⊥`. -/
theorem bits_ninf : Ideal.ofBits .f32 0xFF800000#32 = ⊥ := by simp [Ideal.ofBits, Ideal.ieee]

/-- The lower triangle, from its words. -/
theorem tri_word (t s : Fin 16) (x y : EReal) :
    Scalar.select (IntOp.cmpi CmpIPredicate.sge (BitVec.ofNat 32 t.val) (BitVec.ofNat 32 s.val)) x y = if s.val ≤ t.val then x else y := by
  have h : ∀ a b : Fin 16, IntOp.cmpi CmpIPredicate.sge (BitVec.ofNat 32 a.val) (BitVec.ofNat 32 b.val) = if b.val ≤ a.val then 1#1 else 0#1 := by
    decide +kernel
  rw [h]
  split <;> rfl

/-- A number without its sign. -/
theorem absf_eq (x : EReal) : FloatOps.absf (F := Ideal) (φ := .f32) x = max x (-x) := rfl

variable {d : Given} {v31 : FVec Ideal S16x1024 .f32} {v40 v69 : FVec Ideal S16x128 .f32} {v73 : FVec Ideal S16x128 .f32} {cst : Ideal .f32}
  {v76 : FVec Ideal S128x128 .f32} {mh : FVec Ideal S1x1 .f32} {vv : FVec Ideal S16x128 .f32} {Ch : FVec Ideal S1x128x128 .f32}
  {nh : FVec Ideal S1x128 .f32} {gn : FVec Ideal S1x512 .f32} {oo : FVec Ideal S16x128 .f32}

/-- What is kept for head `h`: its greatest logarithm, its values, its state and its normaliser. -/
structure Kept (d : Given) (h : Fin 4) (mh : FVec Ideal S1x1 .f32) (vv : FVec Ideal S16x128 .f32) (Ch : FVec Ideal S1x128x128 .f32)
    (nh : FVec Ideal S1x128 .f32) : Prop where
  m : mh (ix2 0 0) = d.m h
  v : ∀ t l, vv (ix2 t l) = d.vh t h l
  C : ∀ l k, Ch (ix3 0 l k) = d.C h l k
  n : ∀ k, nh (ix2 0 k) = d.n h k

/-- The logarithms of the weights of head 0. -/
theorem ld_0 (P : Pre d v31 v40 v69 (k0_pay16 v73 cst)) (t s : Fin 16) : (k0_pay20 k0_pay13 v69 v73 cst) (ix2 t s) = d.ld t s 0 := by
  have e1 := P.b t 0
  have e2 := P.bT s 0
  have e3 := P.igT s 0
  unfold Given.ld
  rw [← e1, ← e2, ← e3, ← bits_ninf, ← tri_word]
  pointwise [k0_pay20, k0_pay13, k0_pay19]

/-- The logarithms of the weights of the state of head 0. -/
theorem inter_0 (P : Pre d v31 v40 v69 (k0_pay16 v73 cst)) (hm : mh (ix2 0 0) = d.m 0) (t : Fin 16) : (k0_pay21 v69 mh) (ix2 t 0) = d.inter t 0 := by
  have e1 := P.b t 0
  unfold Given.inter
  rw [← e1, ← hm]
  pointwise [k0_pay21, k0_pay19]

/-- The greatest logarithms of head 0. -/
theorem mt_0 (P : Pre d v31 v40 v69 (k0_pay16 v73 cst)) (hm : mh (ix2 0 0) = d.m 0) (t : Fin 16) : (k0_pay22 k0_pay13 v69 v73 cst mh) (ix2 t 0) = d.mt t 0 := by
  unfold Given.mt top
  simp only [← ld_0 P, ← inter_0 P hm, ← bits_ninf]
  pointwise [k0_pay22]

/-- The scales of the state of head 0. -/
theorem isc_0 (P : Pre d v31 v40 v69 (k0_pay16 v73 cst)) (hm : mh (ix2 0 0) = d.m 0) (t : Fin 16) : (k0_pay23 k0_pay13 v69 v73 cst mh) (ix2 t 0) = d.isc t 0 := by
  unfold Given.isc
  simp only [← mt_0 P hm, ← inter_0 P hm]
  pointwise [k0_pay23]

/-- The weights of head 0. -/
theorem w_0 (P : Pre d v31 v40 v69 (k0_pay16 v73 cst)) (hm : mh (ix2 0 0) = d.m 0) (t s : Fin 16) : (k0_pay29 v31 k0_pay13 v69 v73 cst mh) (ix2 t s) = d.w t s 0 := by
  unfold Given.w Given.q Given.k
  simp only [← mt_0 P hm, ← ld_0 P, ← P.act]
  pointwise [k0_pay29, k0_pay26, k0_pay27, k0_pay24, k0_pay25]

/-- The scale of the old state of head 0. -/
theorem carry_0 (P : Pre d v31 v40 v69 (k0_pay16 v73 cst)) (hm : mh (ix2 0 0) = d.m 0) : (k0_pay36 (k0_pay19 v69) mh (k0_pay22 k0_pay13 v69 v73 cst mh)) (ix2 0 0) = d.carry 0 := by
  have e1 := P.b 15 0
  unfold Given.carry
  rw [← e1, ← hm, ← mt_0 P hm]
  pointwise [k0_pay36, k0_pay35, k0_pay34, k0_pay19]

/-- The weights of the new state of head 0. -/
theorem dend_0 (P : Pre d v31 v40 v69 (k0_pay16 v73 cst)) (hm : mh (ix2 0 0) = d.m 0) (s : Fin 16) : (k0_pay37 (k0_pay18 v40) (k0_pay19 v69) (k0_pay22 k0_pay13 v69 v73 cst mh)) (ix2 s 0) = d.dend s 0 := by
  have e1 := P.b 15 0
  have e2 := P.b s 0
  have e3 := P.ig s 0
  unfold Given.dend
  rw [← e1, ← e2, ← e3, ← mt_0 P hm]
  pointwise [k0_pay37, k0_pay35, k0_pay34, k0_pay18, k0_pay19]

/-- The new state of head 0. -/
theorem newC_0 (P : Pre d v31 v40 v69 (k0_pay16 v73 cst)) (hm : mh (ix2 0 0) = d.m 0) (hv : ∀ t l, vv (ix2 t l) = d.vh t 0 l) (hC : ∀ l k, Ch (ix3 0 l k) = d.C 0 l k)
    (l e : Fin 128) : (k0_pay38 (k0_pay18 v40) (k0_pay19 v69) mh (k0_pay22 k0_pay13 v69 v73 cst mh) vv (k0_pay27 v31) (k0_pay28 Ch)) (ix3 0 l e) = d.newC 0 l e := by
  unfold Given.newC Given.k
  simp only [← carry_0 P hm, ← dend_0 P hm, ← hC, ← hv, ← P.act]
  pointwise [k0_pay38, k0_pay27, k0_pay25, k0_pay28]

/-- The new normaliser of head 0. -/
theorem newN_0 (P : Pre d v31 v40 v69 (k0_pay16 v73 cst)) (hm : mh (ix2 0 0) = d.m 0) (hn : ∀ k, nh (ix2 0 k) = d.n 0 k)
    (e : Fin 128) : (k0_pay40 (k0_pay39 (k0_pay18 v40) (k0_pay19 v69) mh (k0_pay22 k0_pay13 v69 v73 cst mh) (k0_pay25 v31) nh)) (ix2 0 e) = d.newN 0 e := by
  unfold Given.newN Given.k
  simp only [← carry_0 P hm, ← dend_0 P hm, ← hn, ← P.act]
  pointwise [k0_pay40, k0_pay39, k0_pay25]

/-- The new greatest logarithm of head 0. -/
theorem newM_0 (P : Pre d v31 v40 v69 (k0_pay16 v73 cst)) (hm : mh (ix2 0 0) = d.m 0) : (k0_pay41 (k0_pay34 (k0_pay22 k0_pay13 v69 v73 cst mh))) (ix2 0 0) = d.mt 15 0 := by
  rw [← mt_0 P hm]
  pointwise [k0_pay41, k0_pay34]

/-- The hidden rows of head 0. -/
theorem hid_0 (P : Pre d v31 v40 v69 (k0_pay16 v73 cst)) (H : Kept d 0 mh vv Ch nh) (t : Fin 16) (l : Fin 128) : (k0_pay33 (k0_pay22 k0_pay13 v69 v73 cst mh) (k0_pay23 k0_pay13 v69 v73 cst mh) (k0_pay24 v31) nh (k0_pay29 v31 k0_pay13 v69 v73 cst mh) (k0_pay30 v31 Ch) (k0_pay31 v31 k0_pay13 v69 v73 cst mh) (k0_pay32 vv) (constant S16x128 .f32 0x00000000#32)) (ix2 t l) = d.hid t 0 l := by
  unfold Given.hid Given.num Given.den Given.q
  simp only [← w_0 P H.m]
  simp only [← mt_0 P H.m, ← isc_0 P H.m, ← H.C, ← H.v, ← H.n, ← P.act]
  pointwise [k0_pay33, k0_pay30, k0_pay31, k0_pay32, k0_pay26, k0_pay24, k0_pay28]
  simp only [absf_eq, zero_sub]

/-- The result rows of head 0. -/
theorem out_0 (P : Pre d v31 v40 v69 (k0_pay16 v73 cst)) (H : Kept d 0 mh vv Ch nh) (hg : ∀ j, gn (ix2 0 j) = d.g j) (ho : ∀ (t : Fin 16) (l : Fin 128), oo (ix2 t l) = d.o t ⟨0 * 128 + l.val, by omega⟩)
    (t : Fin 16) (l : Fin 128) : (k0_pay42 gn (k0_pay33 (k0_pay22 k0_pay13 v69 v73 cst mh) (k0_pay23 k0_pay13 v69 v73 cst mh) (k0_pay24 v31) nh (k0_pay29 v31 k0_pay13 v69 v73 cst mh) (k0_pay30 v31 Ch) (k0_pay31 v31 k0_pay13 v69 v73 cst mh) (k0_pay32 vv) (constant S16x128 .f32 0x00000000#32)) oo) (ix2 t l) = d.out t 0 l := by
  have e1 := hg ⟨0 * 128 + l.val, by omega⟩
  have e2 := ho t l
  unfold Given.out gate
  show _ = d.hid t 0 l * Ideal.rsqrt (Ideal.div (∑ e, d.hid t 0 e * d.hid t 0 e) (Ideal.ofBits .f32 0x43000000#32) + Ideal.ofBits .f32 0x358637BD#32)
    * d.g ⟨0 * 128 + l.val, by omega⟩ * Ideal.div (Ideal.ofBits .f32 0x3F800000#32) (Ideal.ofBits .f32 0x3F800000#32 + Ideal.exp (-d.o t ⟨0 * 128 + l.val, by omega⟩))
  rw [← e1, ← e2]
  simp only [← hid_0 P H]
  pointwise [k0_pay42]
  rfl

/-- The logarithms of the weights of head 1. -/
theorem ld_1 (P : Pre d v31 v40 v69 v76) (t s : Fin 16) : (k0_pay45 k0_pay13 v69 v76) (ix2 t s) = d.ld t s 1 := by
  have e1 := P.b t 1
  have e2 := P.bT s 1
  have e3 := P.igT s 1
  unfold Given.ld
  rw [← e1, ← e2, ← e3, ← bits_ninf, ← tri_word]
  pointwise [k0_pay45, k0_pay13, k0_pay44]

/-- The logarithms of the weights of the state of head 1. -/
theorem inter_1 (P : Pre d v31 v40 v69 v76) (hm : mh (ix2 0 0) = d.m 1) (t : Fin 16) : (k0_pay46 v69 mh) (ix2 t 0) = d.inter t 1 := by
  have e1 := P.b t 1
  unfold Given.inter
  rw [← e1, ← hm]
  pointwise [k0_pay46, k0_pay44]

/-- The greatest logarithms of head 1. -/
theorem mt_1 (P : Pre d v31 v40 v69 v76) (hm : mh (ix2 0 0) = d.m 1) (t : Fin 16) : (k0_pay47 k0_pay13 v69 v76 mh) (ix2 t 0) = d.mt t 1 := by
  unfold Given.mt top
  simp only [← ld_1 P, ← inter_1 P hm, ← bits_ninf]
  pointwise [k0_pay47]

/-- The scales of the state of head 1. -/
theorem isc_1 (P : Pre d v31 v40 v69 v76) (hm : mh (ix2 0 0) = d.m 1) (t : Fin 16) : (k0_pay49 k0_pay13 v69 v76 mh) (ix2 t 0) = d.isc t 1 := by
  unfold Given.isc
  simp only [← mt_1 P hm, ← inter_1 P hm]
  pointwise [k0_pay49]

/-- The weights of head 1 before their inner products. -/
theorem exp_1 (P : Pre d v31 v40 v69 v76) (hm : mh (ix2 0 0) = d.m 1) (t s : Fin 16) : (k0_pay48 k0_pay13 v69 v76 mh) (ix2 t s) = Ideal.exp (d.ld t s 1 - d.mt t 1) := by
  simp only [← mt_1 P hm, ← ld_1 P]
  pointwise [k0_pay48]

/-- The scale of the old state of head 1. -/
theorem carry_1 (P : Pre d v31 v40 v69 v76) (hm : mh (ix2 0 0) = d.m 1) : (k0_pay56 (k0_pay44 v69) mh (k0_pay47 k0_pay13 v69 v76 mh)) (ix2 0 0) = d.carry 1 := by
  have e1 := P.b 15 1
  unfold Given.carry
  rw [← e1, ← hm, ← mt_1 P hm]
  pointwise [k0_pay56, k0_pay55, k0_pay54, k0_pay44]

/-- The weights of the new state of head 1. -/
theorem dend_1 (P : Pre d v31 v40 v69 v76) (hm : mh (ix2 0 0) = d.m 1) (s : Fin 16) : (k0_pay57 (k0_pay43 v40) (k0_pay44 v69) (k0_pay47 k0_pay13 v69 v76 mh)) (ix2 s 0) = d.dend s 1 := by
  have e1 := P.b 15 1
  have e2 := P.b s 1
  have e3 := P.ig s 1
  unfold Given.dend
  rw [← e1, ← e2, ← e3, ← mt_1 P hm]
  pointwise [k0_pay57, k0_pay55, k0_pay54, k0_pay43, k0_pay44]

/-- The new state of head 1. -/
theorem newC_1 (P : Pre d v31 v40 v69 v76) (hm : mh (ix2 0 0) = d.m 1) (hv : ∀ t l, vv (ix2 t l) = d.vh t 1 l) (hC : ∀ l k, Ch (ix3 0 l k) = d.C 1 l k)
    (l e : Fin 128) : (k0_pay58 vv (k0_pay51 v31) (k0_pay52 Ch) (k0_pay56 (k0_pay44 v69) mh (k0_pay47 k0_pay13 v69 v76 mh)) (k0_pay57 (k0_pay43 v40) (k0_pay44 v69) (k0_pay47 k0_pay13 v69 v76 mh))) (ix3 0 l e) = d.newC 1 l e := by
  unfold Given.newC Given.k
  simp only [← carry_1 P hm, ← dend_1 P hm, ← hC, ← hv, ← P.act]
  pointwise [k0_pay58, k0_pay51, k0_pay50, k0_pay52]

/-- The new normaliser of head 1. -/
theorem newN_1 (P : Pre d v31 v40 v69 v76) (hm : mh (ix2 0 0) = d.m 1) (hn : ∀ k, nh (ix2 0 k) = d.n 1 k)
    (e : Fin 128) : (k0_pay59 (k0_pay50 v31) nh (k0_pay56 (k0_pay44 v69) mh (k0_pay47 k0_pay13 v69 v76 mh)) (k0_pay57 (k0_pay43 v40) (k0_pay44 v69) (k0_pay47 k0_pay13 v69 v76 mh))) (ix2 0 e) = d.newN 1 e := by
  unfold Given.newN Given.k
  simp only [← carry_1 P hm, ← dend_1 P hm, ← hn, ← P.act]
  pointwise [k0_pay59, k0_pay50]

/-- The new greatest logarithm of head 1. -/
theorem newM_1 (P : Pre d v31 v40 v69 v76) (hm : mh (ix2 0 0) = d.m 1) : (k0_pay60 (k0_pay54 (k0_pay47 k0_pay13 v69 v76 mh))) (ix2 0 0) = d.mt 15 1 := by
  rw [← mt_1 P hm]
  pointwise [k0_pay60, k0_pay54]

/-- The hidden rows of head 1. -/
theorem hid_1 (P : Pre d v31 v40 v69 v76) (H : Kept d 1 mh vv Ch nh) (t : Fin 16) (l : Fin 128) : (k0_pay53 v31 (k0_pay47 k0_pay13 v69 v76 mh) (k0_pay48 k0_pay13 v69 v76 mh) (k0_pay49 k0_pay13 v69 v76 mh) vv Ch nh) (ix2 t l) = d.hid t 1 l := by
  unfold Given.hid Given.num Given.den Given.w Given.q Given.k
  simp only [← exp_1 P H.m]
  simp only [← mt_1 P H.m, ← isc_1 P H.m, ← H.C, ← H.v, ← H.n, ← P.act]
  pointwise [k0_pay53, k0_pay51, k0_pay50, k0_pay52]
  simp only [absf_eq, zero_sub]

/-- The result rows of head 1. -/
theorem out_1 (P : Pre d v31 v40 v69 v76) (H : Kept d 1 mh vv Ch nh) (hg : ∀ j, gn (ix2 0 j) = d.g j) (ho : ∀ (t : Fin 16) (l : Fin 128), oo (ix2 t l) = d.o t ⟨1 * 128 + l.val, by omega⟩)
    (t : Fin 16) (l : Fin 128) : (k0_pay61 gn (k0_pay53 v31 (k0_pay47 k0_pay13 v69 v76 mh) (k0_pay48 k0_pay13 v69 v76 mh) (k0_pay49 k0_pay13 v69 v76 mh) vv Ch nh) oo) (ix2 t l) = d.out t 1 l := by
  have e1 := hg ⟨1 * 128 + l.val, by omega⟩
  have e2 := ho t l
  unfold Given.out gate
  show _ = d.hid t 1 l * Ideal.rsqrt (Ideal.div (∑ e, d.hid t 1 e * d.hid t 1 e) (Ideal.ofBits .f32 0x43000000#32) + Ideal.ofBits .f32 0x358637BD#32)
    * d.g ⟨1 * 128 + l.val, by omega⟩ * Ideal.div (Ideal.ofBits .f32 0x3F800000#32) (Ideal.ofBits .f32 0x3F800000#32 + Ideal.exp (-d.o t ⟨1 * 128 + l.val, by omega⟩))
  rw [← e1, ← e2]
  simp only [← hid_1 P H]
  pointwise [k0_pay61]
  rfl

/-- The logarithms of the weights of head 2. -/
theorem ld_2 (P : Pre d v31 v40 v69 v76) (t s : Fin 16) : (k0_pay64 k0_pay13 v69 v76) (ix2 t s) = d.ld t s 2 := by
  have e1 := P.b t 2
  have e2 := P.bT s 2
  have e3 := P.igT s 2
  unfold Given.ld
  rw [← e1, ← e2, ← e3, ← bits_ninf, ← tri_word]
  pointwise [k0_pay64, k0_pay13, k0_pay63]

/-- The logarithms of the weights of the state of head 2. -/
theorem inter_2 (P : Pre d v31 v40 v69 v76) (hm : mh (ix2 0 0) = d.m 2) (t : Fin 16) : (k0_pay65 v69 mh) (ix2 t 0) = d.inter t 2 := by
  have e1 := P.b t 2
  unfold Given.inter
  rw [← e1, ← hm]
  pointwise [k0_pay65, k0_pay63]

/-- The greatest logarithms of head 2. -/
theorem mt_2 (P : Pre d v31 v40 v69 v76) (hm : mh (ix2 0 0) = d.m 2) (t : Fin 16) : (k0_pay66 k0_pay13 v69 v76 mh) (ix2 t 0) = d.mt t 2 := by
  unfold Given.mt top
  simp only [← ld_2 P, ← inter_2 P hm, ← bits_ninf]
  pointwise [k0_pay66]

/-- The scales of the state of head 2. -/
theorem isc_2 (P : Pre d v31 v40 v69 v76) (hm : mh (ix2 0 0) = d.m 2) (t : Fin 16) : (k0_pay67 k0_pay13 v69 v76 mh) (ix2 t 0) = d.isc t 2 := by
  unfold Given.isc
  simp only [← mt_2 P hm, ← inter_2 P hm]
  pointwise [k0_pay67]

/-- The weights of head 2. -/
theorem w_2 (P : Pre d v31 v40 v69 v76) (hm : mh (ix2 0 0) = d.m 2) (t s : Fin 16) : (k0_pay73 v31 k0_pay13 v69 v76 mh) (ix2 t s) = d.w t s 2 := by
  unfold Given.w Given.q Given.k
  simp only [← mt_2 P hm, ← ld_2 P, ← P.act]
  pointwise [k0_pay73, k0_pay70, k0_pay71, k0_pay68, k0_pay69]

/-- The scale of the old state of head 2. -/
theorem carry_2 (P : Pre d v31 v40 v69 v76) (hm : mh (ix2 0 0) = d.m 2) : (k0_pay79 (k0_pay63 v69) mh (k0_pay66 k0_pay13 v69 v76 mh)) (ix2 0 0) = d.carry 2 := by
  have e1 := P.b 15 2
  unfold Given.carry
  rw [← e1, ← hm, ← mt_2 P hm]
  pointwise [k0_pay79, k0_pay78, k0_pay77, k0_pay63]

/-- The weights of the new state of head 2. -/
theorem dend_2 (P : Pre d v31 v40 v69 v76) (hm : mh (ix2 0 0) = d.m 2) (s : Fin 16) : (k0_pay80 (k0_pay62 v40) (k0_pay63 v69) (k0_pay66 k0_pay13 v69 v76 mh)) (ix2 s 0) = d.dend s 2 := by
  have e1 := P.b 15 2
  have e2 := P.b s 2
  have e3 := P.ig s 2
  unfold Given.dend
  rw [← e1, ← e2, ← e3, ← mt_2 P hm]
  pointwise [k0_pay80, k0_pay78, k0_pay77, k0_pay62, k0_pay63]

/-- The new state of head 2. -/
theorem newC_2 (P : Pre d v31 v40 v69 v76) (hm : mh (ix2 0 0) = d.m 2) (hv : ∀ t l, vv (ix2 t l) = d.vh t 2 l) (hC : ∀ l k, Ch (ix3 0 l k) = d.C 2 l k)
    (l e : Fin 128) : (k0_pay81 (k0_pay62 v40) (k0_pay63 v69) mh (k0_pay66 k0_pay13 v69 v76 mh) vv (k0_pay71 v31) (k0_pay72 Ch)) (ix3 0 l e) = d.newC 2 l e := by
  unfold Given.newC Given.k
  simp only [← carry_2 P hm, ← dend_2 P hm, ← hC, ← hv, ← P.act]
  pointwise [k0_pay81, k0_pay71, k0_pay69, k0_pay72]

/-- The new normaliser of head 2. -/
theorem newN_2 (P : Pre d v31 v40 v69 v76) (hm : mh (ix2 0 0) = d.m 2) (hn : ∀ k, nh (ix2 0 k) = d.n 2 k)
    (e : Fin 128) : (k0_pay82 (k0_pay62 v40) (k0_pay63 v69) mh (k0_pay66 k0_pay13 v69 v76 mh) (k0_pay69 v31) nh) (ix2 0 e) = d.newN 2 e := by
  unfold Given.newN Given.k
  simp only [← carry_2 P hm, ← dend_2 P hm, ← hn, ← P.act]
  pointwise [k0_pay82, k0_pay69]

/-- The new greatest logarithm of head 2. -/
theorem newM_2 (P : Pre d v31 v40 v69 v76) (hm : mh (ix2 0 0) = d.m 2) : (k0_pay83 (k0_pay77 (k0_pay66 k0_pay13 v69 v76 mh))) (ix2 0 0) = d.mt 15 2 := by
  rw [← mt_2 P hm]
  pointwise [k0_pay83, k0_pay77]

/-- The hidden rows of head 2. -/
theorem hid_2 (P : Pre d v31 v40 v69 v76) (H : Kept d 2 mh vv Ch nh) (t : Fin 16) (l : Fin 128) : (k0_pay76 (k0_pay66 k0_pay13 v69 v76 mh) (k0_pay67 k0_pay13 v69 v76 mh) (k0_pay68 v31) nh (k0_pay74 v31 k0_pay13 v69 v76 mh vv Ch) (k0_pay75 v31 k0_pay13 v69 v76 mh)) (ix2 t l) = d.hid t 2 l := by
  unfold Given.hid Given.num Given.den Given.q
  simp only [← w_2 P H.m]
  simp only [← mt_2 P H.m, ← isc_2 P H.m, ← H.C, ← H.v, ← H.n, ← P.act]
  pointwise [k0_pay76, k0_pay75, k0_pay74, k0_pay72, k0_pay70, k0_pay68]
  simp only [absf_eq, zero_sub]

/-- The result rows of head 2. -/
theorem out_2 (P : Pre d v31 v40 v69 v76) (H : Kept d 2 mh vv Ch nh) (hg : ∀ j, gn (ix2 0 j) = d.g j) (ho : ∀ (t : Fin 16) (l : Fin 128), oo (ix2 t l) = d.o t ⟨2 * 128 + l.val, by omega⟩)
    (t : Fin 16) (l : Fin 128) : (k0_pay84 gn (k0_pay76 (k0_pay66 k0_pay13 v69 v76 mh) (k0_pay67 k0_pay13 v69 v76 mh) (k0_pay68 v31) nh (k0_pay74 v31 k0_pay13 v69 v76 mh vv Ch) (k0_pay75 v31 k0_pay13 v69 v76 mh)) oo) (ix2 t l) = d.out t 2 l := by
  have e1 := hg ⟨2 * 128 + l.val, by omega⟩
  have e2 := ho t l
  unfold Given.out gate
  show _ = d.hid t 2 l * Ideal.rsqrt (Ideal.div (∑ e, d.hid t 2 e * d.hid t 2 e) (Ideal.ofBits .f32 0x43000000#32) + Ideal.ofBits .f32 0x358637BD#32)
    * d.g ⟨2 * 128 + l.val, by omega⟩ * Ideal.div (Ideal.ofBits .f32 0x3F800000#32) (Ideal.ofBits .f32 0x3F800000#32 + Ideal.exp (-d.o t ⟨2 * 128 + l.val, by omega⟩))
  rw [← e1, ← e2]
  simp only [← hid_2 P H]
  pointwise [k0_pay84]
  rfl

/-- The logarithms of the weights of head 3. -/
theorem ld_3 (P : Pre d v31 v40 v69 v76) (t s : Fin 16) : (k0_pay87 k0_pay13 v69 v76) (ix2 t s) = d.ld t s 3 := by
  have e1 := P.b t 3
  have e2 := P.bT s 3
  have e3 := P.igT s 3
  unfold Given.ld
  rw [← e1, ← e2, ← e3, ← bits_ninf, ← tri_word]
  pointwise [k0_pay87, k0_pay13, k0_pay86]

/-- The logarithms of the weights of the state of head 3. -/
theorem inter_3 (P : Pre d v31 v40 v69 v76) (hm : mh (ix2 0 0) = d.m 3) (t : Fin 16) : (k0_pay88 v69 mh) (ix2 t 0) = d.inter t 3 := by
  have e1 := P.b t 3
  unfold Given.inter
  rw [← e1, ← hm]
  pointwise [k0_pay88, k0_pay86]

/-- The greatest logarithms of head 3. -/
theorem mt_3 (P : Pre d v31 v40 v69 v76) (hm : mh (ix2 0 0) = d.m 3) (t : Fin 16) : (k0_pay89 k0_pay13 v69 v76 mh) (ix2 t 0) = d.mt t 3 := by
  unfold Given.mt top
  simp only [← ld_3 P, ← inter_3 P hm, ← bits_ninf]
  pointwise [k0_pay89]

/-- The scales of the state of head 3. -/
theorem isc_3 (P : Pre d v31 v40 v69 v76) (hm : mh (ix2 0 0) = d.m 3) (t : Fin 16) : (k0_pay91 k0_pay13 v69 v76 mh) (ix2 t 0) = d.isc t 3 := by
  unfold Given.isc
  simp only [← mt_3 P hm, ← inter_3 P hm]
  pointwise [k0_pay91]

/-- The weights of head 3 before their inner products. -/
theorem exp_3 (P : Pre d v31 v40 v69 v76) (hm : mh (ix2 0 0) = d.m 3) (t s : Fin 16) : (k0_pay90 k0_pay13 v69 v76 mh) (ix2 t s) = Ideal.exp (d.ld t s 3 - d.mt t 3) := by
  simp only [← mt_3 P hm, ← ld_3 P]
  pointwise [k0_pay90]

/-- The scale of the old state of head 3. -/
theorem carry_3 (P : Pre d v31 v40 v69 v76) (hm : mh (ix2 0 0) = d.m 3) : (k0_pay99 (k0_pay86 v69) mh (k0_pay89 k0_pay13 v69 v76 mh)) (ix2 0 0) = d.carry 3 := by
  have e1 := P.b 15 3
  unfold Given.carry
  rw [← e1, ← hm, ← mt_3 P hm]
  pointwise [k0_pay99, k0_pay98, k0_pay97, k0_pay86]

/-- The weights of the new state of head 3. -/
theorem dend_3 (P : Pre d v31 v40 v69 v76) (hm : mh (ix2 0 0) = d.m 3) (s : Fin 16) : (k0_pay100 (k0_pay85 v40) (k0_pay86 v69) (k0_pay89 k0_pay13 v69 v76 mh)) (ix2 s 0) = d.dend s 3 := by
  have e1 := P.b 15 3
  have e2 := P.b s 3
  have e3 := P.ig s 3
  unfold Given.dend
  rw [← e1, ← e2, ← e3, ← mt_3 P hm]
  pointwise [k0_pay100, k0_pay98, k0_pay97, k0_pay85, k0_pay86]

/-- The new state of head 3. -/
theorem newC_3 (P : Pre d v31 v40 v69 v76) (hm : mh (ix2 0 0) = d.m 3) (hv : ∀ t l, vv (ix2 t l) = d.vh t 3 l) (hC : ∀ l k, Ch (ix3 0 l k) = d.C 3 l k)
    (l e : Fin 128) : (k0_pay103 (k0_pay95 Ch) (k0_pay101 (k0_pay85 v40) (k0_pay86 v69) (k0_pay89 k0_pay13 v69 v76 mh) (k0_pay93 v31) vv) (k0_pay102 (k0_pay86 v69) mh (k0_pay89 k0_pay13 v69 v76 mh))) (ix3 0 l e) = d.newC 3 l e := by
  unfold Given.newC Given.k
  simp only [← carry_3 P hm, ← dend_3 P hm, ← hC, ← hv, ← P.act]
  pointwise [k0_pay103, k0_pay102, k0_pay101, k0_pay100, k0_pay99, k0_pay98, k0_pay97, k0_pay86, k0_pay85, k0_pay95, k0_pay94, k0_pay93]

/-- The new normaliser of head 3. -/
theorem newN_3 (P : Pre d v31 v40 v69 v76) (hm : mh (ix2 0 0) = d.m 3) (hn : ∀ k, nh (ix2 0 k) = d.n 3 k)
    (e : Fin 128) : (k0_pay104 (k0_pay93 v31) nh (k0_pay99 (k0_pay86 v69) mh (k0_pay89 k0_pay13 v69 v76 mh)) (k0_pay100 (k0_pay85 v40) (k0_pay86 v69) (k0_pay89 k0_pay13 v69 v76 mh))) (ix2 0 e) = d.newN 3 e := by
  unfold Given.newN Given.k
  simp only [← carry_3 P hm, ← dend_3 P hm, ← hn, ← P.act]
  pointwise [k0_pay104, k0_pay93]

/-- The new greatest logarithm of head 3. -/
theorem newM_3 (P : Pre d v31 v40 v69 v76) (hm : mh (ix2 0 0) = d.m 3) : (k0_pay105 (k0_pay97 (k0_pay89 k0_pay13 v69 v76 mh))) (ix2 0 0) = d.mt 15 3 := by
  rw [← mt_3 P hm]
  pointwise [k0_pay105, k0_pay97]

/-- The hidden rows of head 3. -/
theorem hid_3 (P : Pre d v31 v40 v69 v76) (H : Kept d 3 mh vv Ch nh) (t : Fin 16) (l : Fin 128) : (k0_pay96 (k0_pay89 k0_pay13 v69 v76 mh) (k0_pay90 k0_pay13 v69 v76 mh) (k0_pay91 k0_pay13 v69 v76 mh) (k0_pay92 v31) (k0_pay93 v31) vv Ch nh) (ix2 t l) = d.hid t 3 l := by
  unfold Given.hid Given.num Given.den Given.w Given.q Given.k
  simp only [← exp_3 P H.m]
  simp only [← mt_3 P H.m, ← isc_3 P H.m, ← H.C, ← H.v, ← H.n, ← P.act]
  pointwise [k0_pay96, k0_pay95, k0_pay94, k0_pay93, k0_pay92]
  simp only [absf_eq, zero_sub]

/-- The result rows of head 3. -/
theorem out_3 (P : Pre d v31 v40 v69 v76) (H : Kept d 3 mh vv Ch nh) (hg : ∀ j, gn (ix2 0 j) = d.g j) (ho : ∀ (t : Fin 16) (l : Fin 128), oo (ix2 t l) = d.o t ⟨3 * 128 + l.val, by omega⟩)
    (t : Fin 16) (l : Fin 128) : (k0_pay106 gn (k0_pay96 (k0_pay89 k0_pay13 v69 v76 mh) (k0_pay90 k0_pay13 v69 v76 mh) (k0_pay91 k0_pay13 v69 v76 mh) (k0_pay92 v31) (k0_pay93 v31) vv Ch nh) oo) (ix2 t l) = d.out t 3 l := by
  have e1 := hg ⟨3 * 128 + l.val, by omega⟩
  have e2 := ho t l
  unfold Given.out gate
  show _ = d.hid t 3 l * Ideal.rsqrt (Ideal.div (∑ e, d.hid t 3 e * d.hid t 3 e) (Ideal.ofBits .f32 0x43000000#32) + Ideal.ofBits .f32 0x358637BD#32)
    * d.g ⟨3 * 128 + l.val, by omega⟩ * Ideal.div (Ideal.ofBits .f32 0x3F800000#32) (Ideal.ofBits .f32 0x3F800000#32 + Ideal.exp (-d.o t ⟨3 * 128 + l.val, by omega⟩))
  rw [← e1, ← e2]
  simp only [← hid_3 P H]
  pointwise [k0_pay106]
  rfl

end Cert.Lstm
-- ==== Proof.LstmPre.lean ====
/- The first part of one grid point's arithmetic: the convolved rows, the gates and the summed forget gates. -/
module

public import proofs.«01_k».proof.Proof.LstmPay

@[expose] public section

set_option maxRecDepth 16384

noncomputable section

namespace Cert.Lstm

open Cert.Attn Cert.Kernel4Ideal Cert.Kernel4Ideal.Gen Idealize.ShloMosaic

/-- The pattern of one denotes one. -/
theorem one_bits : Ideal.ofBits .f32 0x3F800000#32 = 1 := by
  simp [Ideal.ofBits, Ideal.ieee]
  rw [← EReal.coe_mul]
  norm_num

/-- The pattern of zero denotes zero. -/
theorem zero_bits : Ideal.ofBits .f32 0x00000000#32 = 0 := by simp [Ideal.ofBits, Ideal.ieee]

/-- The logistic function is its quotient. -/
theorem logistic_eq (x : EReal) : Ideal.logistic x = gate x := by
  have h : Ideal.ofBits .f32 0x3F800000#32 = 1 := one_bits
  unfold gate
  rw [h]
  rfl

variable {d : Given}

/-- The convolved rows, from the rows below each tap. -/
theorem act_of {b0 w0 w1 w2 w3 : FVec Ideal S1x1024 .f32} {r0 r1 r2 r3 : FVec Ideal S16x1024 .f32}
    (hb : ∀ j, b0 (ix2 0 j) = d.bc j) (h0 : ∀ j, w0 (ix2 0 j) = d.wc 0 j) (h1 : ∀ j, w1 (ix2 0 j) = d.wc 1 j)
    (h2 : ∀ j, w2 (ix2 0 j) = d.wc 2 j) (h3 : ∀ j, w3 (ix2 0 j) = d.wc 3 j)
    (f0 : ∀ (t : Fin 16) j, r0 (ix2 t j) = d.full ⟨t.val, by omega⟩ j) (f1 : ∀ (t : Fin 16) j, r1 (ix2 t j) = d.full ⟨1 + t.val, by omega⟩ j)
    (f2 : ∀ (t : Fin 16) j, r2 (ix2 t j) = d.full ⟨2 + t.val, by omega⟩ j) (f3 : ∀ (t : Fin 16) j, r3 (ix2 t j) = d.full ⟨3 + t.val, by omega⟩ j)
    (t : Fin 16) (j : Fin 1024) : k0_pay10 (F := Ideal) b0 r0 w0 r1 w1 r2 w2 r3 w3 (ix2 t j) = d.act t j := by
  unfold Given.act Given.conv
  simp only [← hb, ← h0, ← h1, ← h2, ← h3, ← f0, ← f1, ← f2, ← f3, ← logistic_eq]
  pointwise [k0_pay10]

/-- The gates: each column with its offset. -/
theorem gate_at (x : FVec Ideal S16x128 .f32) (y : FVec Ideal S1x128 .f32) (t : Fin 16) (j : Fin 128) :
    k0_pay12 (F := Ideal) x y (ix2 t j) = x (ix2 t j) + y (ix2 0 j) := by
  pointwise [k0_pay12]

/-- The logarithm of a forget gate, the way the kernel forms it. -/
def slope (x : EReal) : EReal := min x (Ideal.ofBits .f32 0x00000000#32) - Ideal.log1p (Ideal.exp (Ideal.ofBits .f32 0x00000000#32 - max x (-x)))

/-- The logarithm of one plus an exponential is a real number, but at `⊤`. -/
theorem log1p_exp (z : EReal) (hz : z ≠ ⊤) : ∃ r : ℝ, Ideal.log1p (Ideal.exp z) = (r : EReal) := by
  induction z with
  | bot =>
    refine ⟨0, ?_⟩
    show Ideal.log (1 + 0) = _
    rw [add_zero]
    show (if (1 : ℝ) ≤ 0 then (⊥ : EReal) else ((Real.log 1 : ℝ) : EReal)) = _
    rw [if_neg (by norm_num), Real.log_one]
  | top => exact absurd rfl hz
  | coe r =>
    refine ⟨Real.log (1 + Real.exp r), ?_⟩
    show (if (1 + Real.exp r : ℝ) ≤ 0 then (⊥ : EReal) else ((Real.log (1 + Real.exp r) : ℝ) : EReal)) = _
    rw [if_neg (by have := Real.exp_pos r; linarith)]

/-- The negative of a number without its sign is not `⊤`. -/
theorem neg_abs (x : EReal) : 0 - max x (-x) ≠ ⊤ := by
  rw [zero_sub]
  intro h
  rw [EReal.neg_eq_top_iff, max_eq_bot] at h
  rw [h.1] at h
  simp at h

/-- Both ways of forming the logarithm of a forget gate agree. -/
theorem slope_eq (x : EReal) : slope x = lgate x := by
  unfold slope lgate
  rw [zero_bits]
  obtain ⟨r, hr⟩ := log1p_exp _ (neg_abs x)
  have e : -max (-x - 0) (-(-x - 0)) = 0 - max x (-x) := by
    rw [zero_sub, sub_zero, neg_neg, max_comm]
  rw [e, hr, EReal.neg_add (Or.inr (EReal.coe_ne_top r)) (Or.inr (EReal.coe_ne_bot r))]
  congr 1
  rw [← neg_inj, neg_neg]
  rcases le_total x 0 with h | h
  · rw [min_eq_left h, max_eq_left (EReal.le_neg_of_le_neg (by simpa using h))]
  · rw [min_eq_right h, max_eq_right (EReal.neg_le_of_neg_le (by simpa using h)), neg_zero]

/-- The logarithm of a forget gate is not `⊤`. -/
theorem slope_ne_top (x : EReal) : slope x ≠ ⊤ := by
  unfold slope
  rw [zero_bits]
  obtain ⟨r, hr⟩ := log1p_exp _ (neg_abs x)
  rw [hr, sub_eq_add_neg, ← EReal.coe_neg]
  have h : min x 0 ≠ ⊤ := ne_top_of_le_ne_top EReal.zero_ne_top (min_le_right _ _)
  exact (EReal.add_lt_top h (EReal.coe_ne_top _)).ne

/-- A number below `⊤` and the two differences that are left of it. -/
theorem split_sum (a : EReal) (h : a ≠ ⊤) (p : Prop) [Decidable p] :
    (if p then a else 0) + (if p then a - a else 0) + (if p then a - a - (a - a) else 0) = if p then a else 0 := by
  split
  · induction a with
    | bot => simp
    | top => exact absurd rfl h
    | coe r => norm_cast; simp
  · rw [add_zero, add_zero]

/-- A sum over the lower triangle of a three-way split is the sum itself. -/
theorem split_at (x : FVec Ideal S16x128 .f32) (y : FVec Ideal S1x128 .f32) (t : Fin 16) (j : Fin 128) :
    k0_pay14 (F := Ideal) x y (ix2 t j) = ∑ s : Fin 16, if s.val ≤ t.val then slope (k0_pay12 (F := Ideal) x y (ix2 s j)) else 0 := by
  pointwise [k0_pay14, k0_pay13]
  simp only [tri_word, absf_eq]
  rw [← Finset.sum_add_distrib, ← Finset.sum_add_distrib]
  refine Finset.sum_congr rfl fun s _ => ?_
  have h := split_sum (slope (k0_pay12 (F := Ideal) x y (ix2 s j))) (slope_ne_top _) (s.val ≤ t.val)
  unfold slope at h
  rw [zero_bits] at h
  unfold slope
  rw [zero_bits]
  exact h

/-- The gates in the first columns, the summed forget gates in the others. -/
theorem comb_at (x : FVec Ideal S16x128 .f32) (y : FVec Ideal S1x128 .f32) (t : Fin 16) (j : Fin 128) :
    k0_pay15 (F := Ideal) x y (ix2 t j) = if j.val < 68 then k0_pay12 (F := Ideal) x y (ix2 t j) else k0_pay14 (F := Ideal) x y (ix2 t j) := by
  have h : ∀ a : Fin 128, IntOp.cmpi CmpIPredicate.slt (BitVec.ofNat 32 a.val) (68#32) = if a.val < 68 then 1#1 else 0#1 := by
    decide +kernel
  pointwise [k0_pay15]
  rw [h]
  split <;> rfl

/-- The same by columns. -/
theorem turn_at (v : FVec Ideal S16x128 .f32) (z : Ideal .f32) (j : Fin 128) (t : Fin 16) :
    k0_pay16 (F := Ideal) v z (ix2 j ⟨t.val, by omega⟩) = v (ix2 t j) := by
  pointwise [k0_pay16]

/-- What the first part of a grid point forms. -/
theorem pre_of {v31 : FVec Ideal S16x1024 .f32} {x : FVec Ideal S16x128 .f32} {y : FVec Ideal S1x128 .f32} {z : Ideal .f32}
    (ha : ∀ t j, v31 (ix2 t j) = d.act t j)
    (hi : ∀ (t : Fin 16) (h : Fin 4), (x (ix2 t ⟨64 + h.val, by omega⟩) + y (ix2 0 ⟨64 + h.val, by omega⟩) : EReal) = d.ig t h)
    (hf : ∀ (t : Fin 16) (h : Fin 4), (x (ix2 t ⟨68 + h.val, by omega⟩) + y (ix2 0 ⟨68 + h.val, by omega⟩) : EReal) = d.fg t h) :
    Pre d v31 (k0_pay12 (F := Ideal) x y) (k0_pay14 (F := Ideal) x y) (k0_pay16 (F := Ideal) (k0_pay15 (F := Ideal) x y) z) := by
  have gi : ∀ (t : Fin 16) (h : Fin 4), k0_pay12 (F := Ideal) x y (ix2 t ⟨64 + h.val, by omega⟩) = d.ig t h :=
    fun t h => (gate_at x y t _).trans (hi t h)
  have gb : ∀ (t : Fin 16) (h : Fin 4), k0_pay14 (F := Ideal) x y (ix2 t ⟨68 + h.val, by omega⟩) = d.b t h := by
    intro t h
    rw [split_at]
    unfold Given.b Given.lf
    refine Finset.sum_congr rfl fun s _ => ?_
    rw [slope_eq, gate_at]
    exact congrArg (fun w : EReal => if s.val ≤ t.val then lgate w else 0) (hf s h)
  refine ⟨ha, gi, gb, fun t h => ?_, fun t h => ?_⟩
  · rw [turn_at, comb_at, if_pos (by simp only; omega)]
    exact gi t h
  · rw [turn_at, comb_at, if_neg (by simp only; omega)]
    exact gb t h

end Cert.Lstm
-- ==== Proof.LstmBlock.lean ====
/- What one grid point of the recurrent step's kernel stores: the results of one batch entry. -/
module

public import proofs.«01_k».proof.Proof.LstmPre
public import proofs.«01_k».proof.Proof.Gen.Kernel4Ideal.Frame
public import Idealize.ShloMosaic.Lib.Pipeline.CanonAppend
public import Idealize.ShloMosaic.Lib.WritesUnit

@[expose] public section

set_option maxRecDepth 16384

noncomputable section

namespace Cert.Lstm

open Cert.Attn Cert.Kernel4Ideal Cert.Kernel4Ideal.Gen Idealize.ShloMosaic Idealize.ShloMosaic.TcCoe Idealize.SL.Sem

/-- A read through a box, at its place in the whole. -/
theorem box_at {κ : Kind} {sp : Space} {s : Shape} {e : EltTy} (v : View sig κ sp s e)
    (f : v.ty.Contents (Elt Ideal)) {off size : Fin s.rank → ℕ} (inb : ∀ a, off a + size a ≤ s.size a)
    (z : (Rect.unit off size inb).shape.Idx) (y : s.Idx) (h : ∀ a, (y a).val = off a + (z a).val) :
    View.readAt (Elt Ideal) v (Rect.unit off size inb).toLoadRect f z = v.read (Elt Ideal) f y := by
  rw [View.readAt_apply]
  congr 1
  funext a
  apply Fin.ext
  rw [h a]
  show off a + 1 * (z a).val = _
  rw [one_mul]

/-- A read of a whole buffer through a box. -/
theorem whole_at {s : Shape} {e : EltTy} (arg : Memref sig .tc .vmem s e) (harg : arg.IsWhole) (x : Vec Ideal s e)
    {off size : Fin s.rank → ℕ} (inb : ∀ a, off a + size a ≤ s.size a)
    (z : (Rect.unit off size inb).shape.Idx) (y : s.Idx) (h : ∀ a, (y a).val = off a + (z a).val) :
    View.readAt (Elt Ideal) arg.view (Rect.unit off size inb).toLoadRect (harg.unread x) z = x y := by
  rw [box_at _ _ inb z y h, harg.read_unread]

/-- A read of what was stored, through a box. -/
theorem kept_at {κ : Kind} {sp : Space} {s : Shape} {e : EltTy} (v : View sig κ sp s e) (L : List (View.Piece (Elt Ideal) s e))
    {off size : Fin s.rank → ℕ} (inb : ∀ a, off a + size a ≤ s.size a)
    (z : (Rect.unit off size inb).shape.Idx) (y : s.Idx) (h : ∀ a, (y a).val = off a + (z a).val) :
    v.readCov L (Rect.unit off size inb).toLoadRect z = v.read (Elt Ideal) (v.writes (Elt Ideal) v.junk L) y :=
  box_at v _ inb z y h

/-- The rows stored first, unchanged. -/
theorem pay9_at (x : Vec Ideal S16x1024 .f32) (t : Fin 16) (j : Fin 1024) : k0_pay9 (F := Ideal) x (ix2 t j) = x (ix2 t j) := by
  pointwise [k0_pay9]

/-- The rows of history, without their leading axis. -/
theorem pay5_at (x : Vec Ideal S1x3x1024 .f32) (t : Fin 3) (j : Fin 1024) : k0_pay5 (F := Ideal) x (ix2 t j) = x (ix3 0 t j) := by
  pointwise [k0_pay5]

/-- The state, without its leading axis. -/
theorem pay6_at (x : Vec Ideal S1x4x128x128 .f32) (h : Fin 4) (l k : Fin 128) : k0_pay6 (F := Ideal) x (ix3 h l k) = x (ix4 0 h l k) := by
  pointwise [k0_pay6]

/-- The normaliser, without its leading axis. -/
theorem pay7_at (x : Vec Ideal S1x4x128 .f32) (h : Fin 4) (k : Fin 128) : k0_pay7 (F := Ideal) x (ix2 h k) = x (ix3 0 h k) := by
  pointwise [k0_pay7]

/-- The greatest logarithms, without their leading axis. -/
theorem pay8_at (x : Vec Ideal S1x1x4 .f32) (h : Fin 4) : k0_pay8 (F := Ideal) x (ix2 0 h) = x (ix3 0 0 h) := by
  pointwise [k0_pay8]

/-- The gains, unchanged. -/
theorem pay17_at (x : Vec Ideal S1x512 .f32) (j : Fin 512) : k0_pay17 (F := Ideal) x (ix2 0 j) = x (ix2 0 j) := by
  pointwise [k0_pay17]

/-- The last rows, with a leading axis. -/
theorem pay1_at (x : Vec Ideal S3x1024 .f32) (t : Fin 3) (j : Fin 1024) : k0_pay1 (F := Ideal) x (ix3 0 t j) = x (ix2 t j) := by
  pointwise [k0_pay1]

/-- The new state, with a leading axis. -/
theorem pay2_at (x : Vec Ideal S4x128x128 .f32) (h : Fin 4) (l k : Fin 128) : k0_pay2 (F := Ideal) x (ix4 0 h l k) = x (ix3 h l k) := by
  pointwise [k0_pay2]

/-- The new normaliser, with a leading axis. -/
theorem pay3_at (x : Vec Ideal S4x128 .f32) (h : Fin 4) (k : Fin 128) : k0_pay3 (F := Ideal) x (ix3 0 h k) = x (ix2 h k) := by
  pointwise [k0_pay3]

/-- The new greatest logarithms, with a leading axis. -/
theorem pay4_at (x : Vec Ideal S1x4 .f32) (h : Fin 4) : k0_pay4 (F := Ideal) x (ix3 0 0 h) = x (ix2 0 h) := by
  pointwise [k0_pay4]

/-- What the blocks of a grid point hold of one batch entry. -/
structure Holds (d : Given) (x0 : Vec Ideal S16x1024 .f32) (x1 : Vec Ideal S16x512 .f32) (x2 : Vec Ideal S16x512 .f32) (x3 : Vec Ideal S16x128 .f32) (x4 : Vec Ideal S1x3x1024 .f32) (x5 : Vec Ideal S1x4x128x128 .f32) (x6 : Vec Ideal S1x4x128 .f32) (x7 : Vec Ideal S1x1x4 .f32) (x8 : Vec Ideal S4x1024 .f32) (x9 : Vec Ideal S1x1024 .f32) (x10 : Vec Ideal S1x128 .f32) (x11 : Vec Ideal S1x512 .f32) : Prop where
  x : ∀ (t : Fin 16) j, x0 (ix2 t j) = d.full ⟨3 + t.val, by omega⟩ j
  v : ∀ t j, x1 (ix2 t j) = d.v t j
  o : ∀ t j, x2 (ix2 t j) = d.o t j
  ig : ∀ (t : Fin 16) (h : Fin 4), (x3 (ix2 t ⟨64 + h.val, by omega⟩) + x10 (ix2 0 ⟨64 + h.val, by omega⟩) : EReal) = d.ig t h
  fg : ∀ (t : Fin 16) (h : Fin 4), (x3 (ix2 t ⟨68 + h.val, by omega⟩) + x10 (ix2 0 ⟨68 + h.val, by omega⟩) : EReal) = d.fg t h
  hist : ∀ (r : Fin 3) j, x4 (ix3 0 r j) = d.full ⟨r.val, by omega⟩ j
  C : ∀ h l k, x5 (ix4 0 h l k) = d.C h l k
  n : ∀ h k, x6 (ix3 0 h k) = d.n h k
  m : ∀ h, x7 (ix3 0 0 h) = d.m h
  wc : ∀ p j, x8 (ix2 p j) = d.wc p j
  bc : ∀ j, x9 (ix2 0 j) = d.bc j
  g : ∀ j, x11 (ix2 0 j) = d.g j

variable {d : Given} (c : Dev nD) (i : grid0.Coords) (arg2 : Memref sig .tc .vmem S16x1024 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S1x3x1024 .f32) (harg6 : arg6.IsWhole) (arg7 : Memref sig .tc .vmem S1x4x128x128 .f32) (harg7 : arg7.IsWhole) (arg8 : Memref sig .tc .vmem S1x4x128 .f32) (harg8 : arg8.IsWhole) (arg9 : Memref sig .tc .vmem S1x1x4 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S16x512 .bf16) (harg14 : arg14.IsWhole) (arg15 : Memref sig .tc .vmem S1x3x1024 .f32) (harg15 : arg15.IsWhole) (arg16 : Memref sig .tc .vmem S1x4x128x128 .f32) (harg16 : arg16.IsWhole) (arg17 : Memref sig .tc .vmem S1x4x128 .f32) (harg17 : arg17.IsWhole) (arg18 : Memref sig .tc .vmem S1x1x4 .f32) (harg18 : arg18.IsWhole) (arg19 : Memref sig .tc .vmem S24x1024 .f32) (harg19 : arg19.IsWhole) (arg20 : Memref sig .tc .vmem S4x128x128 .f32) (harg20 : arg20.IsWhole) (arg21 : Memref sig .tc .vmem S4x128 .f32) (harg21 : arg21.IsWhole) (arg22 : Memref sig .tc .vmem S1x4 .f32) (harg22 : arg22.IsWhole) (hc0 : cond0_0 i) (hc1 : cond0_1 i) (x0 : Vec Ideal S16x1024 .f32) (x1 : Vec Ideal S16x512 .f32) (x2 : Vec Ideal S16x512 .f32) (x3 : Vec Ideal S16x128 .f32) (x4 : Vec Ideal S1x3x1024 .f32) (x5 : Vec Ideal S1x4x128x128 .f32) (x6 : Vec Ideal S1x4x128 .f32) (x7 : Vec Ideal S1x1x4 .f32) (x8 : Vec Ideal S4x1024 .f32) (x9 : Vec Ideal S1x1024 .f32) (x10 : Vec Ideal S1x128 .f32) (x11 : Vec Ideal S1x512 .f32)

variable (H : Holds d x0 x1 x2 x3 x4 x5 x6 x7 x8 x9 x10 x11)

include c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H

/-- The rows and their history, as they are stored. -/
theorem rows_at (r : Fin 19) (j : Fin 1024) : arg19.view.read (Elt Ideal) (arg19.view.writes (Elt Ideal) arg19.view.junk (kernelRun0_A.sl.HS0_2 (F := Ideal) c arg2 harg2 arg6 harg6 x0 x4)) (ix2 ⟨5 + r.val, by omega⟩ j) = d.full r j := by
  unfold kernelRun0_A.sl.HS0_2
  by_cases h : r.val < 3
  · refine (View.read_writes_cons_unit_of_not_mem _ _ _ _ _ _ rfl 0 (by simp [ix2, ix3, ix4] <;> omega)).trans ?_
    refine (View.read_writes_cons_unit_of_mem _ _ _ _ _ _ (ix2 ⟨r.val, h⟩ j : S3x1024.Idx) rfl (fun a => by fin_cases a <;> simp [ix2, ix3, ix4])).trans ?_
    refine (pay5_at _ ⟨r.val, h⟩ j).trans ?_
    exact (whole_at arg6 harg6 x4 _ (ix3 0 ⟨r.val, h⟩ j : S1x3x1024.Idx) (ix3 0 ⟨r.val, h⟩ j) (fun a => by fin_cases a <;> simp [ix2, ix3, ix4])).trans (H.hist _ j)
  · refine (View.read_writes_cons_unit_of_mem _ _ _ _ _ _ (ix2 ⟨r.val - 3, by omega⟩ j : S16x1024.Idx) rfl (fun a => by fin_cases a <;> simp [ix2, ix3, ix4] <;> omega)).trans ?_
    refine (pay9_at _ ⟨r.val - 3, by omega⟩ j).trans ?_
    refine (whole_at arg2 harg2 x0 _ (ix2 ⟨r.val - 3, by omega⟩ j : S16x1024.Idx) (ix2 ⟨r.val - 3, by omega⟩ j) (fun a => by fin_cases a <;> simp [ix2, ix3, ix4])).trans ((H.x _ j).trans ?_)
    congr 1
    exact Fin.ext (by simp only; omega)

/-- The sixteen rows from row 0 on. -/
theorem tap_0 (t : Fin 16) (j : Fin 1024) : (kernelRun0_A.sl.v9 (F := Ideal) c arg2 harg2 arg6 harg6 arg19 x0 x4) (ix2 t j) = d.full ⟨t.val, by omega⟩ j := by
  unfold kernelRun0_A.sl.v9
  exact (kept_at arg19.view _ _ (ix2 t j : S16x1024.Idx) (ix2 ⟨5 + (⟨t.val, by omega⟩ : Fin 19).val, by simp only; omega⟩ j) (fun a => by fin_cases a <;> simp [ix2] <;> omega)).trans ((rows_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) _ _)

/-- The sixteen rows from row 1 on. -/
theorem tap_1 (t : Fin 16) (j : Fin 1024) : (kernelRun0_A.sl.v15 (F := Ideal) c arg2 harg2 arg6 harg6 arg19 x0 x4) (ix2 t j) = d.full ⟨1 + t.val, by omega⟩ j := by
  unfold kernelRun0_A.sl.v15
  exact (kept_at arg19.view _ _ (ix2 t j : S16x1024.Idx) (ix2 ⟨5 + (⟨1 + t.val, by omega⟩ : Fin 19).val, by simp only; omega⟩ j) (fun a => by fin_cases a <;> simp [ix2] <;> omega)).trans ((rows_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) _ _)

/-- The sixteen rows from row 2 on. -/
theorem tap_2 (t : Fin 16) (j : Fin 1024) : (kernelRun0_A.sl.v20 (F := Ideal) c arg2 harg2 arg6 harg6 arg19 x0 x4) (ix2 t j) = d.full ⟨2 + t.val, by omega⟩ j := by
  unfold kernelRun0_A.sl.v20
  exact (kept_at arg19.view _ _ (ix2 t j : S16x1024.Idx) (ix2 ⟨5 + (⟨2 + t.val, by omega⟩ : Fin 19).val, by simp only; omega⟩ j) (fun a => by fin_cases a <;> simp [ix2] <;> omega)).trans ((rows_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) _ _)

/-- The sixteen rows from row 3 on. -/
theorem tap_3 (t : Fin 16) (j : Fin 1024) : (kernelRun0_A.sl.v25 (F := Ideal) c arg2 harg2 arg6 harg6 arg19 x0 x4) (ix2 t j) = d.full ⟨3 + t.val, by omega⟩ j := by
  unfold kernelRun0_A.sl.v25
  exact (kept_at arg19.view _ _ (ix2 t j : S16x1024.Idx) (ix2 ⟨5 + (⟨3 + t.val, by omega⟩ : Fin 19).val, by simp only; omega⟩ j) (fun a => by fin_cases a <;> simp [ix2] <;> omega)).trans ((rows_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) _ _)

/-- The last three rows. -/
theorem last_at (t : Fin 3) (j : Fin 1024) : (kernelRun0_A.sl.v32 (F := Ideal) c arg2 harg2 arg6 harg6 arg19 x0 x4) (ix2 t j) = d.full ⟨16 + t.val, by omega⟩ j := by
  unfold kernelRun0_A.sl.v32
  exact (kept_at arg19.view _ _ (ix2 t j : S3x1024.Idx) (ix2 ⟨5 + (⟨16 + t.val, by omega⟩ : Fin 19).val, by simp only; omega⟩ j) (fun a => by fin_cases a <;> simp [ix2] <;> omega)).trans ((rows_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) _ _)

/-- The convolved rows. -/
theorem row_act (t : Fin 16) (j : Fin 1024) : (kernelRun0_A.sl.r (F := Ideal) c arg2 harg2 arg6 harg6 arg10 harg10 arg11 harg11 arg19 x0 x4 x8 x9) (ix2 t j) = d.act t j := by
  unfold kernelRun0_A.sl.r
  exact act_of (fun j => (whole_at arg11 harg11 x9 _ (ix2 0 j : S1x1024.Idx) (ix2 0 j) (fun a => by fin_cases a <;> simp [ix2, ix3, ix4])).trans (H.bc j))
    (fun j => (whole_at arg10 harg10 x8 _ (ix2 0 j : S1x1024.Idx) (ix2 0 j) (fun a => by fin_cases a <;> simp [ix2, ix3, ix4])).trans (H.wc 0 j)) (fun j => (whole_at arg10 harg10 x8 _ (ix2 0 j : S1x1024.Idx) (ix2 1 j) (fun a => by fin_cases a <;> simp [ix2, ix3, ix4])).trans (H.wc 1 j))
    (fun j => (whole_at arg10 harg10 x8 _ (ix2 0 j : S1x1024.Idx) (ix2 2 j) (fun a => by fin_cases a <;> simp [ix2, ix3, ix4])).trans (H.wc 2 j)) (fun j => (whole_at arg10 harg10 x8 _ (ix2 0 j : S1x1024.Idx) (ix2 3 j) (fun a => by fin_cases a <;> simp [ix2, ix3, ix4])).trans (H.wc 3 j))
    (fun t j => (tap_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j) (fun t j => (tap_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j) (fun t j => (tap_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j) (fun t j => (tap_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j) t j

/-- The rows, the gates and the summed forget gates. -/
theorem row_pre : Pre d (kernelRun0_A.sl.r (F := Ideal) c arg2 harg2 arg6 harg6 arg10 harg10 arg11 harg11 arg19 x0 x4 x8 x9) (kernelRun0_A.sl.r_1 (F := Ideal) c arg5 harg5 arg12 harg12 x3 x10) (kernelRun0_A.sl.r_2 (F := Ideal) c arg5 harg5 arg12 harg12 x3 x10) (k0_pay16 (F := Ideal) (kernelRun0_A.sl.r_3 (F := Ideal) c arg5 harg5 arg12 harg12 x3 x10) (kernelRun0_A.sl.cst_28 (F := Ideal))) := by
  unfold kernelRun0_A.sl.r_1 kernelRun0_A.sl.r_2 kernelRun0_A.sl.r_3
  exact pre_of (fun t j => (row_act c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j)
    (fun t h => (congrArg₂ (fun a b : EReal => a + b)
      (whole_at arg5 harg5 x3 _ (ix2 t ⟨64 + h.val, by omega⟩ : S16x128.Idx) (ix2 t ⟨64 + h.val, by omega⟩) (fun a => by fin_cases a <;> simp [ix2, ix3, ix4]))
      (whole_at arg12 harg12 x10 _ (ix2 0 ⟨64 + h.val, by omega⟩ : S1x128.Idx) (ix2 0 ⟨64 + h.val, by omega⟩) (fun a => by fin_cases a <;> simp [ix2, ix3, ix4]))).trans (H.ig t h))
    (fun t h => (congrArg₂ (fun a b : EReal => a + b)
      (whole_at arg5 harg5 x3 _ (ix2 t ⟨68 + h.val, by omega⟩ : S16x128.Idx) (ix2 t ⟨68 + h.val, by omega⟩) (fun a => by fin_cases a <;> simp [ix2, ix3, ix4]))
      (whole_at arg12 harg12 x10 _ (ix2 0 ⟨68 + h.val, by omega⟩ : S1x128.Idx) (ix2 0 ⟨68 + h.val, by omega⟩) (fun a => by fin_cases a <;> simp [ix2, ix3, ix4]))).trans (H.fg t h))

/-- The first state kept. -/
theorem C0_old (h : Fin 4) (l k : Fin 128) : arg20.view.read (Elt Ideal) (arg20.view.writes (Elt Ideal) arg20.view.junk (kernelRun0_A.sl.HS1_1 (F := Ideal) c arg7 harg7 x5)) (ix3 h l k) = d.C h l k := by
  unfold kernelRun0_A.sl.HS1_1
  refine (View.read_writes_cons_unit_of_mem _ _ _ _ _ _ (ix3 h l k : S4x128x128.Idx) rfl (fun a => by fin_cases a <;> simp [ix2, ix3, ix4])).trans ?_
  refine (pay6_at _ h l k).trans ?_
  exact (whole_at arg7 harg7 x5 _ (ix4 0 h l k : S1x4x128x128.Idx) (ix4 0 h l k) (fun a => by fin_cases a <;> simp [ix2, ix3, ix4])).trans (H.C h l k)

/-- The first normaliser kept. -/
theorem n0_old (h : Fin 4) (k : Fin 128) : arg21.view.read (Elt Ideal) (arg21.view.writes (Elt Ideal) arg21.view.junk (kernelRun0_A.sl.HS2_1 (F := Ideal) c arg8 harg8 x6)) (ix2 h k) = d.n h k := by
  unfold kernelRun0_A.sl.HS2_1
  refine (View.read_writes_cons_unit_of_mem _ _ _ _ _ _ (ix2 h k : S4x128.Idx) rfl (fun a => by fin_cases a <;> simp [ix2, ix3, ix4])).trans ?_
  refine (pay7_at _ h k).trans ?_
  exact (whole_at arg8 harg8 x6 _ (ix3 0 h k : S1x4x128.Idx) (ix3 0 h k) (fun a => by fin_cases a <;> simp [ix2, ix3, ix4])).trans (H.n h k)

/-- The first greatest logarithms kept. -/
theorem m0_old (h : Fin 4) : arg22.view.read (Elt Ideal) (arg22.view.writes (Elt Ideal) arg22.view.junk (kernelRun0_A.sl.HS3_1 (F := Ideal) c arg9 harg9 x7)) (ix2 0 h) = d.m h := by
  unfold kernelRun0_A.sl.HS3_1
  refine (View.read_writes_cons_unit_of_mem _ _ _ _ _ _ (ix2 0 h : S1x4.Idx) rfl (fun a => by fin_cases a <;> simp [ix2, ix3, ix4])).trans ?_
  refine (pay8_at _ h).trans ?_
  exact (whole_at arg9 harg9 x7 _ (ix3 0 0 h : S1x1x4.Idx) (ix3 0 0 h) (fun a => by fin_cases a <;> simp [ix2, ix3, ix4])).trans (H.m h)

/-- What is kept for head 0. -/
theorem kept_0 : Kept d 0 (kernelRun0_A.sl.v83 (F := Ideal) c arg9 harg9 arg22 x7) (View.readAt (Elt Ideal) arg3.view (Rect.unit (s := S16x512) ![0, 0] S16x128.size inb_S16x512_S16x128_0_0).toLoadRect (harg3.unread x1)) (kernelRun0_A.sl.v108 (F := Ideal) c arg7 harg7 arg20 x5) (kernelRun0_A.sl.v110 (F := Ideal) c arg8 harg8 arg21 x6) := by
  refine ⟨?_, fun t l => ?_, fun l k => ?_, fun k => ?_⟩
  · unfold kernelRun0_A.sl.v83
    exact (kept_at arg22.view _ _ (ix2 0 0 : S1x1.Idx) (ix2 0 0) (fun a => by fin_cases a <;> simp [ix2, ix3, ix4])).trans ((m0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 0)
  · unfold Given.vh
    exact (whole_at arg3 harg3 x1 _ (ix2 t l : S16x128.Idx) (ix2 t ⟨(0 : Fin 4).val * 128 + l.val, by omega⟩) (fun a => by fin_cases a <;> simp [ix2, ix3, ix4])).trans (H.v t _)
  · unfold kernelRun0_A.sl.v108
    exact (kept_at arg20.view _ _ (ix3 0 l k : S1x128x128.Idx) (ix3 0 l k) (fun a => by fin_cases a <;> simp [ix2, ix3, ix4])).trans ((C0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 0 l k)
  · unfold kernelRun0_A.sl.v110
    exact (kept_at arg21.view _ _ (ix2 0 k : S1x128.Idx) (ix2 0 k) (fun a => by fin_cases a <;> simp [ix2, ix3, ix4])).trans ((n0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 0 k)

/-- The states of the later heads, after head 0. -/
theorem C1_old (h : Fin 4) (l k : Fin 128) (hh : 1 ≤ h.val) : arg20.view.read (Elt Ideal) (arg20.view.writes (Elt Ideal) arg20.view.junk (kernelRun0_A.sl.HS1_2 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.C h l k := by
  unfold kernelRun0_A.sl.HS1_2
  exact (View.read_writes_cons_unit_of_not_mem _ _ _ _ _ _ rfl 0 (by simp [ix2, ix3, ix4] <;> omega)).trans ((C0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k)

/-- The states of the heads up to head 0, after it. -/
theorem C1_new (h : Fin 4) (l k : Fin 128) (hh : h.val < 1) : arg20.view.read (Elt Ideal) (arg20.view.writes (Elt Ideal) arg20.view.junk (kernelRun0_A.sl.HS1_2 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.newC h l k := by
  unfold kernelRun0_A.sl.HS1_2
  by_cases e : h.val = 0
  · obtain rfl : h = 0 := Fin.ext e
    unfold kernelRun0_A.sl.r_8 kernelRun0_A.sl.r_7 kernelRun0_A.sl.r_6 kernelRun0_A.sl.r_14 kernelRun0_A.sl.r_13 kernelRun0_A.sl.r_12
    refine (View.read_writes_cons_unit_of_mem _ _ _ _ _ _ (ix3 0 l k : S1x128x128.Idx) rfl (fun a => by fin_cases a <;> simp [ix2, ix3, ix4])).trans ?_
    exact newC_0 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).v (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).C l k
  · exact absurd hh (by omega)

/-- The normalisers of the later heads, after head 0. -/
theorem n1_old (h : Fin 4) (k : Fin 128) (hh : 1 ≤ h.val) : arg21.view.read (Elt Ideal) (arg21.view.writes (Elt Ideal) arg21.view.junk (kernelRun0_A.sl.HS2_2 (F := Ideal) c arg2 harg2 arg5 harg5 arg6 harg6 arg8 harg8 arg9 harg9 arg10 harg10 arg11 harg11 arg12 harg12 arg19 arg21 arg22 x0 x3 x4 x6 x7 x8 x9 x10)) (ix2 h k) = d.n h k := by
  unfold kernelRun0_A.sl.HS2_2
  exact (View.read_writes_cons_unit_of_not_mem _ _ _ _ _ _ rfl 0 (by simp [ix2, ix3, ix4] <;> omega)).trans ((n0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k)

/-- The normalisers of the heads up to head 0, after it. -/
theorem n1_new (h : Fin 4) (k : Fin 128) (hh : h.val < 1) : arg21.view.read (Elt Ideal) (arg21.view.writes (Elt Ideal) arg21.view.junk (kernelRun0_A.sl.HS2_2 (F := Ideal) c arg2 harg2 arg5 harg5 arg6 harg6 arg8 harg8 arg9 harg9 arg10 harg10 arg11 harg11 arg12 harg12 arg19 arg21 arg22 x0 x3 x4 x6 x7 x8 x9 x10)) (ix2 h k) = d.newN h k := by
  unfold kernelRun0_A.sl.HS2_2
  by_cases e : h.val = 0
  · obtain rfl : h = 0 := Fin.ext e
    unfold kernelRun0_A.sl.r_21 kernelRun0_A.sl.r_8 kernelRun0_A.sl.r_7 kernelRun0_A.sl.r_6 kernelRun0_A.sl.r_11
    refine (View.read_writes_cons_unit_of_mem _ _ _ _ _ _ (ix2 0 k : S1x128.Idx) rfl (fun a => by fin_cases a <;> simp [ix2, ix3, ix4])).trans ?_
    exact newN_0 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).n k
  · exact absurd hh (by omega)

/-- The greatest logarithms of the later heads, after head 0. -/
theorem m1_old (h : Fin 4) (hh : 1 ≤ h.val) : arg22.view.read (Elt Ideal) (arg22.view.writes (Elt Ideal) arg22.view.junk (kernelRun0_A.sl.HS3_2 (F := Ideal) c arg5 harg5 arg9 harg9 arg12 harg12 arg22 x3 x7 x10)) (ix2 0 h) = d.m h := by
  unfold kernelRun0_A.sl.HS3_2
  exact (View.read_writes_cons_unit_of_not_mem _ _ _ _ _ _ rfl 1 (by simp [ix2, ix3, ix4] <;> omega)).trans ((m0_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h)

/-- The greatest logarithms of the heads up to head 0, after it. -/
theorem m1_new (h : Fin 4) (hh : h.val < 1) : arg22.view.read (Elt Ideal) (arg22.view.writes (Elt Ideal) arg22.view.junk (kernelRun0_A.sl.HS3_2 (F := Ideal) c arg5 harg5 arg9 harg9 arg12 harg12 arg22 x3 x7 x10)) (ix2 0 h) = d.mt 15 h := by
  unfold kernelRun0_A.sl.HS3_2
  by_cases e : h.val = 0
  · obtain rfl : h = 0 := Fin.ext e
    unfold kernelRun0_A.sl.r_20 kernelRun0_A.sl.r_8
    refine (View.read_writes_cons_unit_of_mem _ _ _ _ _ _ (ix2 0 0 : S1x1.Idx) rfl (fun a => by fin_cases a <;> simp [ix2, ix3, ix4])).trans ?_
    exact newM_0 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m
  · exact absurd hh (by omega)

/-- What is kept for head 1. -/
theorem kept_1 : Kept d 1 (kernelRun0_A.sl.v192 (F := Ideal) c arg5 harg5 arg9 harg9 arg12 harg12 arg22 x3 x7 x10) (View.readAt (Elt Ideal) arg3.view (Rect.unit (s := S16x512) ![0, 128] S16x128.size inb_S16x512_S16x128_0_128).toLoadRect (harg3.unread x1)) (kernelRun0_A.sl.v217 (F := Ideal) c arg2 harg2 arg3 harg3 arg5 harg5 arg6 harg6 arg7 harg7 arg9 harg9 arg10 harg10 arg11 harg11 arg12 harg12 arg19 arg20 arg22 x0 x1 x3 x4 x5 x7 x8 x9 x10) (kernelRun0_A.sl.v219 (F := Ideal) c arg2 harg2 arg5 harg5 arg6 harg6 arg8 harg8 arg9 harg9 arg10 harg10 arg11 harg11 arg12 harg12 arg19 arg21 arg22 x0 x3 x4 x6 x7 x8 x9 x10) := by
  refine ⟨?_, fun t l => ?_, fun l k => ?_, fun k => ?_⟩
  · unfold kernelRun0_A.sl.v192
    exact (kept_at arg22.view _ _ (ix2 0 0 : S1x1.Idx) (ix2 0 1) (fun a => by fin_cases a <;> simp [ix2, ix3, ix4])).trans ((m1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 1 le_rfl)
  · unfold Given.vh
    exact (whole_at arg3 harg3 x1 _ (ix2 t l : S16x128.Idx) (ix2 t ⟨(1 : Fin 4).val * 128 + l.val, by omega⟩) (fun a => by fin_cases a <;> simp [ix2, ix3, ix4])).trans (H.v t _)
  · unfold kernelRun0_A.sl.v217
    exact (kept_at arg20.view _ _ (ix3 0 l k : S1x128x128.Idx) (ix3 1 l k) (fun a => by fin_cases a <;> simp [ix2, ix3, ix4])).trans ((C1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 1 l k le_rfl)
  · unfold kernelRun0_A.sl.v219
    exact (kept_at arg21.view _ _ (ix2 0 k : S1x128.Idx) (ix2 1 k) (fun a => by fin_cases a <;> simp [ix2, ix3, ix4])).trans ((n1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 1 k le_rfl)

/-- The states of the later heads, after head 1. -/
theorem C2_old (h : Fin 4) (l k : Fin 128) (hh : 2 ≤ h.val) : arg20.view.read (Elt Ideal) (arg20.view.writes (Elt Ideal) arg20.view.junk (kernelRun0_A.sl.HS1_3 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.C h l k := by
  unfold kernelRun0_A.sl.HS1_3
  exact (View.read_writes_cons_unit_of_not_mem _ _ _ _ _ _ rfl 0 (by simp [ix2, ix3, ix4] <;> omega)).trans ((C1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k (by omega))

/-- The states of the heads up to head 1, after it. -/
theorem C2_new (h : Fin 4) (l k : Fin 128) (hh : h.val < 2) : arg20.view.read (Elt Ideal) (arg20.view.writes (Elt Ideal) arg20.view.junk (kernelRun0_A.sl.HS1_3 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.newC h l k := by
  unfold kernelRun0_A.sl.HS1_3
  by_cases e : h.val = 1
  · obtain rfl : h = 1 := Fin.ext e
    unfold kernelRun0_A.sl.r_34 kernelRun0_A.sl.r_22 kernelRun0_A.sl.r_33 kernelRun0_A.sl.r_24 kernelRun0_A.sl.r_4 kernelRun0_A.sl.r_23 kernelRun0_A.sl.r_30 kernelRun0_A.sl.r_29 kernelRun0_A.sl.r_28
    refine (View.read_writes_cons_unit_of_mem _ _ _ _ _ _ (ix3 0 l k : S1x128x128.Idx) rfl (fun a => by fin_cases a <;> simp [ix2, ix3, ix4])).trans ?_
    exact newC_1 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).v (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).C l k
  · exact (View.read_writes_cons_unit_of_not_mem _ _ _ _ _ _ rfl 0 (by simp [ix2, ix3, ix4] <;> omega)).trans ((C1_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k (by omega))

/-- The normalisers of the later heads, after head 1. -/
theorem n2_old (h : Fin 4) (k : Fin 128) (hh : 2 ≤ h.val) : arg21.view.read (Elt Ideal) (arg21.view.writes (Elt Ideal) arg21.view.junk (kernelRun0_A.sl.HS2_3 (F := Ideal) c arg2 harg2 arg5 harg5 arg6 harg6 arg8 harg8 arg9 harg9 arg10 harg10 arg11 harg11 arg12 harg12 arg19 arg21 arg22 x0 x3 x4 x6 x7 x8 x9 x10)) (ix2 h k) = d.n h k := by
  unfold kernelRun0_A.sl.HS2_3
  exact (View.read_writes_cons_unit_of_not_mem _ _ _ _ _ _ rfl 0 (by simp [ix2, ix3, ix4] <;> omega)).trans ((n1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k (by omega))

/-- The normalisers of the heads up to head 1, after it. -/
theorem n2_new (h : Fin 4) (k : Fin 128) (hh : h.val < 2) : arg21.view.read (Elt Ideal) (arg21.view.writes (Elt Ideal) arg21.view.junk (kernelRun0_A.sl.HS2_3 (F := Ideal) c arg2 harg2 arg5 harg5 arg6 harg6 arg8 harg8 arg9 harg9 arg10 harg10 arg11 harg11 arg12 harg12 arg19 arg21 arg22 x0 x3 x4 x6 x7 x8 x9 x10)) (ix2 h k) = d.newN h k := by
  unfold kernelRun0_A.sl.HS2_3
  by_cases e : h.val = 1
  · obtain rfl : h = 1 := Fin.ext e
    unfold kernelRun0_A.sl.r_34 kernelRun0_A.sl.r_22 kernelRun0_A.sl.r_33 kernelRun0_A.sl.r_24 kernelRun0_A.sl.r_4 kernelRun0_A.sl.r_23 kernelRun0_A.sl.r_27
    refine (View.read_writes_cons_unit_of_mem _ _ _ _ _ _ (ix2 0 k : S1x128.Idx) rfl (fun a => by fin_cases a <;> simp [ix2, ix3, ix4])).trans ?_
    exact newN_1 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).n k
  · exact (View.read_writes_cons_unit_of_not_mem _ _ _ _ _ _ rfl 0 (by simp [ix2, ix3, ix4] <;> omega)).trans ((n1_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k (by omega))

/-- The greatest logarithms of the later heads, after head 1. -/
theorem m2_old (h : Fin 4) (hh : 2 ≤ h.val) : arg22.view.read (Elt Ideal) (arg22.view.writes (Elt Ideal) arg22.view.junk (kernelRun0_A.sl.HS3_3 (F := Ideal) c arg5 harg5 arg9 harg9 arg12 harg12 arg22 x3 x7 x10)) (ix2 0 h) = d.m h := by
  unfold kernelRun0_A.sl.HS3_3
  exact (View.read_writes_cons_unit_of_not_mem _ _ _ _ _ _ rfl 1 (by simp [ix2, ix3, ix4] <;> omega)).trans ((m1_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h (by omega))

/-- The greatest logarithms of the heads up to head 1, after it. -/
theorem m2_new (h : Fin 4) (hh : h.val < 2) : arg22.view.read (Elt Ideal) (arg22.view.writes (Elt Ideal) arg22.view.junk (kernelRun0_A.sl.HS3_3 (F := Ideal) c arg5 harg5 arg9 harg9 arg12 harg12 arg22 x3 x7 x10)) (ix2 0 h) = d.mt 15 h := by
  unfold kernelRun0_A.sl.HS3_3
  by_cases e : h.val = 1
  · obtain rfl : h = 1 := Fin.ext e
    unfold kernelRun0_A.sl.r_32 kernelRun0_A.sl.r_24 kernelRun0_A.sl.r_4
    refine (View.read_writes_cons_unit_of_mem _ _ _ _ _ _ (ix2 0 0 : S1x1.Idx) rfl (fun a => by fin_cases a <;> simp [ix2, ix3, ix4])).trans ?_
    exact newM_1 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m
  · exact (View.read_writes_cons_unit_of_not_mem _ _ _ _ _ _ rfl 1 (by simp [ix2, ix3, ix4] <;> omega)).trans ((m1_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h (by omega))

/-- What is kept for head 2. -/
theorem kept_2 : Kept d 2 (kernelRun0_A.sl.v301 (F := Ideal) c arg5 harg5 arg9 harg9 arg12 harg12 arg22 x3 x7 x10) (View.readAt (Elt Ideal) arg3.view (Rect.unit (s := S16x512) ![0, 256] S16x128.size inb_S16x512_S16x128_0_256).toLoadRect (harg3.unread x1)) (kernelRun0_A.sl.v326 (F := Ideal) c arg2 harg2 arg3 harg3 arg5 harg5 arg6 harg6 arg7 harg7 arg9 harg9 arg10 harg10 arg11 harg11 arg12 harg12 arg19 arg20 arg22 x0 x1 x3 x4 x5 x7 x8 x9 x10) (kernelRun0_A.sl.v328 (F := Ideal) c arg2 harg2 arg5 harg5 arg6 harg6 arg8 harg8 arg9 harg9 arg10 harg10 arg11 harg11 arg12 harg12 arg19 arg21 arg22 x0 x3 x4 x6 x7 x8 x9 x10) := by
  refine ⟨?_, fun t l => ?_, fun l k => ?_, fun k => ?_⟩
  · unfold kernelRun0_A.sl.v301
    exact (kept_at arg22.view _ _ (ix2 0 0 : S1x1.Idx) (ix2 0 2) (fun a => by fin_cases a <;> simp [ix2, ix3, ix4])).trans ((m2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 2 le_rfl)
  · unfold Given.vh
    exact (whole_at arg3 harg3 x1 _ (ix2 t l : S16x128.Idx) (ix2 t ⟨(2 : Fin 4).val * 128 + l.val, by omega⟩) (fun a => by fin_cases a <;> simp [ix2, ix3, ix4])).trans (H.v t _)
  · unfold kernelRun0_A.sl.v326
    exact (kept_at arg20.view _ _ (ix3 0 l k : S1x128x128.Idx) (ix3 2 l k) (fun a => by fin_cases a <;> simp [ix2, ix3, ix4])).trans ((C2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 2 l k le_rfl)
  · unfold kernelRun0_A.sl.v328
    exact (kept_at arg21.view _ _ (ix2 0 k : S1x128.Idx) (ix2 2 k) (fun a => by fin_cases a <;> simp [ix2, ix3, ix4])).trans ((n2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 2 k le_rfl)

/-- The states of the later heads, after head 2. -/
theorem C3_old (h : Fin 4) (l k : Fin 128) (hh : 3 ≤ h.val) : arg20.view.read (Elt Ideal) (arg20.view.writes (Elt Ideal) arg20.view.junk (kernelRun0_A.sl.HS1_4 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.C h l k := by
  unfold kernelRun0_A.sl.HS1_4
  exact (View.read_writes_cons_unit_of_not_mem _ _ _ _ _ _ rfl 0 (by simp [ix2, ix3, ix4] <;> omega)).trans ((C2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k (by omega))

/-- The states of the heads up to head 2, after it. -/
theorem C3_new (h : Fin 4) (l k : Fin 128) (hh : h.val < 3) : arg20.view.read (Elt Ideal) (arg20.view.writes (Elt Ideal) arg20.view.junk (kernelRun0_A.sl.HS1_4 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.newC h l k := by
  unfold kernelRun0_A.sl.HS1_4
  by_cases e : h.val = 2
  · obtain rfl : h = 2 := Fin.ext e
    unfold kernelRun0_A.sl.r_44 kernelRun0_A.sl.r_43 kernelRun0_A.sl.r_42 kernelRun0_A.sl.r_38 kernelRun0_A.sl.r_4 kernelRun0_A.sl.r_37 kernelRun0_A.sl.r_36
    refine (View.read_writes_cons_unit_of_mem _ _ _ _ _ _ (ix3 0 l k : S1x128x128.Idx) rfl (fun a => by fin_cases a <;> simp [ix2, ix3, ix4])).trans ?_
    exact newC_2 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).v (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).C l k
  · exact (View.read_writes_cons_unit_of_not_mem _ _ _ _ _ _ rfl 0 (by simp [ix2, ix3, ix4] <;> omega)).trans ((C2_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k (by omega))

/-- The normalisers of the later heads, after head 2. -/
theorem n3_old (h : Fin 4) (k : Fin 128) (hh : 3 ≤ h.val) : arg21.view.read (Elt Ideal) (arg21.view.writes (Elt Ideal) arg21.view.junk (kernelRun0_A.sl.HS2_4 (F := Ideal) c arg2 harg2 arg5 harg5 arg6 harg6 arg8 harg8 arg9 harg9 arg10 harg10 arg11 harg11 arg12 harg12 arg19 arg21 arg22 x0 x3 x4 x6 x7 x8 x9 x10)) (ix2 h k) = d.n h k := by
  unfold kernelRun0_A.sl.HS2_4
  exact (View.read_writes_cons_unit_of_not_mem _ _ _ _ _ _ rfl 0 (by simp [ix2, ix3, ix4] <;> omega)).trans ((n2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k (by omega))

/-- The normalisers of the heads up to head 2, after it. -/
theorem n3_new (h : Fin 4) (k : Fin 128) (hh : h.val < 3) : arg21.view.read (Elt Ideal) (arg21.view.writes (Elt Ideal) arg21.view.junk (kernelRun0_A.sl.HS2_4 (F := Ideal) c arg2 harg2 arg5 harg5 arg6 harg6 arg8 harg8 arg9 harg9 arg10 harg10 arg11 harg11 arg12 harg12 arg19 arg21 arg22 x0 x3 x4 x6 x7 x8 x9 x10)) (ix2 h k) = d.newN h k := by
  unfold kernelRun0_A.sl.HS2_4
  by_cases e : h.val = 2
  · obtain rfl : h = 2 := Fin.ext e
    unfold kernelRun0_A.sl.r_41 kernelRun0_A.sl.r_38 kernelRun0_A.sl.r_4 kernelRun0_A.sl.r_37 kernelRun0_A.sl.r_36
    refine (View.read_writes_cons_unit_of_mem _ _ _ _ _ _ (ix2 0 k : S1x128.Idx) rfl (fun a => by fin_cases a <;> simp [ix2, ix3, ix4])).trans ?_
    exact newN_2 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).n k
  · exact (View.read_writes_cons_unit_of_not_mem _ _ _ _ _ _ rfl 0 (by simp [ix2, ix3, ix4] <;> omega)).trans ((n2_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k (by omega))

/-- The greatest logarithms of the later heads, after head 2. -/
theorem m3_old (h : Fin 4) (hh : 3 ≤ h.val) : arg22.view.read (Elt Ideal) (arg22.view.writes (Elt Ideal) arg22.view.junk (kernelRun0_A.sl.HS3_4 (F := Ideal) c arg5 harg5 arg9 harg9 arg12 harg12 arg22 x3 x7 x10)) (ix2 0 h) = d.m h := by
  unfold kernelRun0_A.sl.HS3_4
  exact (View.read_writes_cons_unit_of_not_mem _ _ _ _ _ _ rfl 1 (by simp [ix2, ix3, ix4] <;> omega)).trans ((m2_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h (by omega))

/-- The greatest logarithms of the heads up to head 2, after it. -/
theorem m3_new (h : Fin 4) (hh : h.val < 3) : arg22.view.read (Elt Ideal) (arg22.view.writes (Elt Ideal) arg22.view.junk (kernelRun0_A.sl.HS3_4 (F := Ideal) c arg5 harg5 arg9 harg9 arg12 harg12 arg22 x3 x7 x10)) (ix2 0 h) = d.mt 15 h := by
  unfold kernelRun0_A.sl.HS3_4
  by_cases e : h.val = 2
  · obtain rfl : h = 2 := Fin.ext e
    unfold kernelRun0_A.sl.r_48 kernelRun0_A.sl.r_38 kernelRun0_A.sl.r_4
    refine (View.read_writes_cons_unit_of_mem _ _ _ _ _ _ (ix2 0 0 : S1x1.Idx) rfl (fun a => by fin_cases a <;> simp [ix2, ix3, ix4])).trans ?_
    exact newM_2 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m
  · exact (View.read_writes_cons_unit_of_not_mem _ _ _ _ _ _ rfl 1 (by simp [ix2, ix3, ix4] <;> omega)).trans ((m2_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h (by omega))

/-- What is kept for head 3. -/
theorem kept_3 : Kept d 3 (kernelRun0_A.sl.v410 (F := Ideal) c arg5 harg5 arg9 harg9 arg12 harg12 arg22 x3 x7 x10) (View.readAt (Elt Ideal) arg3.view (Rect.unit (s := S16x512) ![0, 384] S16x128.size inb_S16x512_S16x128_0_384).toLoadRect (harg3.unread x1)) (kernelRun0_A.sl.v435 (F := Ideal) c arg2 harg2 arg3 harg3 arg5 harg5 arg6 harg6 arg7 harg7 arg9 harg9 arg10 harg10 arg11 harg11 arg12 harg12 arg19 arg20 arg22 x0 x1 x3 x4 x5 x7 x8 x9 x10) (kernelRun0_A.sl.v437 (F := Ideal) c arg2 harg2 arg5 harg5 arg6 harg6 arg8 harg8 arg9 harg9 arg10 harg10 arg11 harg11 arg12 harg12 arg19 arg21 arg22 x0 x3 x4 x6 x7 x8 x9 x10) := by
  refine ⟨?_, fun t l => ?_, fun l k => ?_, fun k => ?_⟩
  · unfold kernelRun0_A.sl.v410
    exact (kept_at arg22.view _ _ (ix2 0 0 : S1x1.Idx) (ix2 0 3) (fun a => by fin_cases a <;> simp [ix2, ix3, ix4])).trans ((m3_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 3 le_rfl)
  · unfold Given.vh
    exact (whole_at arg3 harg3 x1 _ (ix2 t l : S16x128.Idx) (ix2 t ⟨(3 : Fin 4).val * 128 + l.val, by omega⟩) (fun a => by fin_cases a <;> simp [ix2, ix3, ix4])).trans (H.v t _)
  · unfold kernelRun0_A.sl.v435
    exact (kept_at arg20.view _ _ (ix3 0 l k : S1x128x128.Idx) (ix3 3 l k) (fun a => by fin_cases a <;> simp [ix2, ix3, ix4])).trans ((C3_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 3 l k le_rfl)
  · unfold kernelRun0_A.sl.v437
    exact (kept_at arg21.view _ _ (ix2 0 k : S1x128.Idx) (ix2 3 k) (fun a => by fin_cases a <;> simp [ix2, ix3, ix4])).trans ((n3_old c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) 3 k le_rfl)

/-- The states of the heads up to head 3, after it. -/
theorem C4_new (h : Fin 4) (l k : Fin 128) (hh : h.val < 4) : arg20.view.read (Elt Ideal) (arg20.view.writes (Elt Ideal) arg20.view.junk (kernelRun0_A.sl.HS1_5 (F := Ideal) c arg2 harg2 arg3 harg3 arg5 harg5 arg6 harg6 arg7 harg7 arg9 harg9 arg10 harg10 arg11 harg11 arg12 harg12 arg19 arg20 arg22 x0 x1 x3 x4 x5 x7 x8 x9 x10)) (ix3 h l k) = d.newC h l k := by
  unfold kernelRun0_A.sl.HS1_5
  by_cases e : h.val = 3
  · obtain rfl : h = 3 := Fin.ext e
    unfold kernelRun0_A.sl.r_62 kernelRun0_A.sl.r_61 kernelRun0_A.sl.r_55 kernelRun0_A.sl.r_51 kernelRun0_A.sl.r_4 kernelRun0_A.sl.r_50 kernelRun0_A.sl.r_49 kernelRun0_A.sl.r_56
    refine (View.read_writes_cons_unit_of_mem _ _ _ _ _ _ (ix3 0 l k : S1x128x128.Idx) rfl (fun a => by fin_cases a <;> simp [ix2, ix3, ix4])).trans ?_
    exact newC_3 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).v (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).C l k
  · exact (View.read_writes_cons_unit_of_not_mem _ _ _ _ _ _ rfl 0 (by simp [ix2, ix3, ix4] <;> omega)).trans ((C3_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k (by omega))

/-- The normalisers of the heads up to head 3, after it. -/
theorem n4_new (h : Fin 4) (k : Fin 128) (hh : h.val < 4) : arg21.view.read (Elt Ideal) (arg21.view.writes (Elt Ideal) arg21.view.junk (kernelRun0_A.sl.HS2_5 (F := Ideal) c arg2 harg2 arg5 harg5 arg6 harg6 arg8 harg8 arg9 harg9 arg10 harg10 arg11 harg11 arg12 harg12 arg19 arg21 arg22 x0 x3 x4 x6 x7 x8 x9 x10)) (ix2 h k) = d.newN h k := by
  unfold kernelRun0_A.sl.HS2_5
  by_cases e : h.val = 3
  · obtain rfl : h = 3 := Fin.ext e
    unfold kernelRun0_A.sl.r_60 kernelRun0_A.sl.r_49 kernelRun0_A.sl.r_59 kernelRun0_A.sl.r_51 kernelRun0_A.sl.r_4 kernelRun0_A.sl.r_50 kernelRun0_A.sl.r_55
    refine (View.read_writes_cons_unit_of_mem _ _ _ _ _ _ (ix2 0 k : S1x128.Idx) rfl (fun a => by fin_cases a <;> simp [ix2, ix3, ix4])).trans ?_
    exact newN_3 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).n k
  · exact (View.read_writes_cons_unit_of_not_mem _ _ _ _ _ _ rfl 0 (by simp [ix2, ix3, ix4] <;> omega)).trans ((n3_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k (by omega))

/-- The greatest logarithms of the heads up to head 3, after it. -/
theorem m4_new (h : Fin 4) (hh : h.val < 4) : arg22.view.read (Elt Ideal) (arg22.view.writes (Elt Ideal) arg22.view.junk (kernelRun0_A.sl.HS3_5 (F := Ideal) c arg5 harg5 arg9 harg9 arg12 harg12 arg22 x3 x7 x10)) (ix2 0 h) = d.mt 15 h := by
  unfold kernelRun0_A.sl.HS3_5
  by_cases e : h.val = 3
  · obtain rfl : h = 3 := Fin.ext e
    unfold kernelRun0_A.sl.r_58 kernelRun0_A.sl.r_51 kernelRun0_A.sl.r_4
    refine (View.read_writes_cons_unit_of_mem _ _ _ _ _ _ (ix2 0 0 : S1x1.Idx) rfl (fun a => by fin_cases a <;> simp [ix2, ix3, ix4])).trans ?_
    exact newM_3 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H).m
  · exact (View.read_writes_cons_unit_of_not_mem _ _ _ _ _ _ rfl 1 (by simp [ix2, ix3, ix4] <;> omega)).trans ((m3_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h (by omega))

end Cert.Lstm
-- ==== Proof.LstmOut.lean ====
/- The blocks that one grid point of the recurrent step's kernel writes. -/
module

public import proofs.«01_k».proof.Proof.LstmBlock
public import proofs.«01_k».proof.Proof.Gen.Kernel4Ideal.Frame
public import Idealize.ShloMosaic.Lib.Pipeline.CanonAppend
public import Idealize.ShloMosaic.Lib.WritesUnit

@[expose] public section

set_option maxRecDepth 16384

noncomputable section

namespace Cert.Lstm

open Cert.Attn Cert.Kernel4Ideal Cert.Kernel4Ideal.Gen Idealize.ShloMosaic Idealize.ShloMosaic.TcCoe Idealize.SL.Sem

variable {d : Given} (c : Dev nD) (i : grid0.Coords) (arg2 : Memref sig .tc .vmem S16x1024 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x128 .f32) (harg5 : arg5.IsWhole) (arg6 : Memref sig .tc .vmem S1x3x1024 .f32) (harg6 : arg6.IsWhole) (arg7 : Memref sig .tc .vmem S1x4x128x128 .f32) (harg7 : arg7.IsWhole) (arg8 : Memref sig .tc .vmem S1x4x128 .f32) (harg8 : arg8.IsWhole) (arg9 : Memref sig .tc .vmem S1x1x4 .f32) (harg9 : arg9.IsWhole) (arg10 : Memref sig .tc .vmem S4x1024 .f32) (harg10 : arg10.IsWhole) (arg11 : Memref sig .tc .vmem S1x1024 .f32) (harg11 : arg11.IsWhole) (arg12 : Memref sig .tc .vmem S1x128 .f32) (harg12 : arg12.IsWhole) (arg13 : Memref sig .tc .vmem S1x512 .f32) (harg13 : arg13.IsWhole) (arg14 : Memref sig .tc .vmem S16x512 .bf16) (harg14 : arg14.IsWhole) (arg15 : Memref sig .tc .vmem S1x3x1024 .f32) (harg15 : arg15.IsWhole) (arg16 : Memref sig .tc .vmem S1x4x128x128 .f32) (harg16 : arg16.IsWhole) (arg17 : Memref sig .tc .vmem S1x4x128 .f32) (harg17 : arg17.IsWhole) (arg18 : Memref sig .tc .vmem S1x1x4 .f32) (harg18 : arg18.IsWhole) (arg19 : Memref sig .tc .vmem S24x1024 .f32) (harg19 : arg19.IsWhole) (arg20 : Memref sig .tc .vmem S4x128x128 .f32) (harg20 : arg20.IsWhole) (arg21 : Memref sig .tc .vmem S4x128 .f32) (harg21 : arg21.IsWhole) (arg22 : Memref sig .tc .vmem S1x4 .f32) (harg22 : arg22.IsWhole) (hc0 : cond0_0 i) (hc1 : cond0_1 i) (x0 : Vec Ideal S16x1024 .f32) (x1 : Vec Ideal S16x512 .f32) (x2 : Vec Ideal S16x512 .f32) (x3 : Vec Ideal S16x128 .f32) (x4 : Vec Ideal S1x3x1024 .f32) (x5 : Vec Ideal S1x4x128x128 .f32) (x6 : Vec Ideal S1x4x128 .f32) (x7 : Vec Ideal S1x1x4 .f32) (x8 : Vec Ideal S4x1024 .f32) (x9 : Vec Ideal S1x1024 .f32) (x10 : Vec Ideal S1x128 .f32) (x11 : Vec Ideal S1x512 .f32)

variable (H : Holds d x0 x1 x2 x3 x4 x5 x6 x7 x8 x9 x10 x11)

include c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H

/-- What is stored for the result rows of head 0. -/
theorem rows_0 (t : Fin 16) (l : Fin 128) : (k0_pay42 (F := Ideal) (kernelRun0_A.sl.r_5 (F := Ideal) c arg13 harg13 x11) (kernelRun0_A.sl.r_19 (F := Ideal) c arg2 harg2 arg3 harg3 arg5 harg5 arg6 harg6 arg7 harg7 arg8 harg8 arg9 harg9 arg10 harg10 arg11 harg11 arg12 harg12 arg19 arg20 arg21 arg22 x0 x1 x3 x4 x5 x6 x7 x8 x9 x10) (View.readAt (Elt Ideal) arg4.view (Rect.unit (s := S16x512) ![0, 0] S16x128.size inb_S16x512_S16x128_0_0).toLoadRect (harg4.unread x2))) (ix2 t l) = d.out t 0 l := by
  unfold kernelRun0_A.sl.r_19
  exact out_0 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (fun j => (pay17_at _ j).trans ((whole_at arg13 harg13 x11 _ (ix2 0 j : S1x512.Idx) (ix2 0 j) (fun a => by fin_cases a <;> simp [ix2, ix3, ix4])).trans (H.g j)))
    (fun t l => (whole_at arg4 harg4 x2 _ (ix2 t l : S16x128.Idx) (ix2 t ⟨0 * 128 + l.val, by omega⟩) (fun a => by fin_cases a <;> simp [ix2, ix3, ix4])).trans (H.o t _)) t l

/-- What is stored for the result rows of head 1. -/
theorem rows_1 (t : Fin 16) (l : Fin 128) : (kernelRun0_A.sl.r_35 (F := Ideal) c arg2 harg2 arg3 harg3 arg4 harg4 arg5 harg5 arg6 harg6 arg7 harg7 arg8 harg8 arg9 harg9 arg10 harg10 arg11 harg11 arg12 harg12 arg13 harg13 arg19 arg20 arg21 arg22 x0 x1 x2 x3 x4 x5 x6 x7 x8 x9 x10 x11) (ix2 t l) = d.out t 1 l := by
  unfold kernelRun0_A.sl.r_35
  exact out_1 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (fun j => (pay17_at _ j).trans ((whole_at arg13 harg13 x11 _ (ix2 0 j : S1x512.Idx) (ix2 0 j) (fun a => by fin_cases a <;> simp [ix2, ix3, ix4])).trans (H.g j)))
    (fun t l => (whole_at arg4 harg4 x2 _ (ix2 t l : S16x128.Idx) (ix2 t ⟨1 * 128 + l.val, by omega⟩) (fun a => by fin_cases a <;> simp [ix2, ix3, ix4])).trans (H.o t _)) t l

/-- What is stored for the result rows of head 2. -/
theorem rows_2 (t : Fin 16) (l : Fin 128) : (k0_pay84 (F := Ideal) (kernelRun0_A.sl.r_5 (F := Ideal) c arg13 harg13 x11) (kernelRun0_A.sl.r_47 (F := Ideal) c arg2 harg2 arg3 harg3 arg5 harg5 arg6 harg6 arg7 harg7 arg8 harg8 arg9 harg9 arg10 harg10 arg11 harg11 arg12 harg12 arg19 arg20 arg21 arg22 x0 x1 x3 x4 x5 x6 x7 x8 x9 x10) (View.readAt (Elt Ideal) arg4.view (Rect.unit (s := S16x512) ![0, 256] S16x128.size inb_S16x512_S16x128_0_256).toLoadRect (harg4.unread x2))) (ix2 t l) = d.out t 2 l := by
  unfold kernelRun0_A.sl.r_47
  exact out_2 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (fun j => (pay17_at _ j).trans ((whole_at arg13 harg13 x11 _ (ix2 0 j : S1x512.Idx) (ix2 0 j) (fun a => by fin_cases a <;> simp [ix2, ix3, ix4])).trans (H.g j)))
    (fun t l => (whole_at arg4 harg4 x2 _ (ix2 t l : S16x128.Idx) (ix2 t ⟨2 * 128 + l.val, by omega⟩) (fun a => by fin_cases a <;> simp [ix2, ix3, ix4])).trans (H.o t _)) t l

/-- What is stored for the result rows of head 3. -/
theorem rows_3 (t : Fin 16) (l : Fin 128) : (k0_pay106 (F := Ideal) (kernelRun0_A.sl.r_5 (F := Ideal) c arg13 harg13 x11) (kernelRun0_A.sl.r_57 (F := Ideal) c arg2 harg2 arg3 harg3 arg5 harg5 arg6 harg6 arg7 harg7 arg8 harg8 arg9 harg9 arg10 harg10 arg11 harg11 arg12 harg12 arg19 arg20 arg21 arg22 x0 x1 x3 x4 x5 x6 x7 x8 x9 x10) (View.readAt (Elt Ideal) arg4.view (Rect.unit (s := S16x512) ![0, 384] S16x128.size inb_S16x512_S16x128_0_384).toLoadRect (harg4.unread x2))) (ix2 t l) = d.out t 3 l := by
  unfold kernelRun0_A.sl.r_57
  exact out_3 (row_pre c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (kept_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) (fun j => (pay17_at _ j).trans ((whole_at arg13 harg13 x11 _ (ix2 0 j : S1x512.Idx) (ix2 0 j) (fun a => by fin_cases a <;> simp [ix2, ix3, ix4])).trans (H.g j)))
    (fun t l => (whole_at arg4 harg4 x2 _ (ix2 t l : S16x128.Idx) (ix2 t ⟨3 * 128 + l.val, by omega⟩) (fun a => by fin_cases a <;> simp [ix2, ix3, ix4])).trans (H.o t _)) t l

/-- The block of the last three rows. -/
theorem block_13 (t : Fin 3) (j : Fin 1024) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 (ix3 0 t j) = d.full ⟨16 + t.val, by omega⟩ j := by
  unfold out0_A_13 kernelRun0_A
  dsimp only
  refine (View.read_writes_cons_unit_of_mem _ _ _ _ _ _ (ix3 0 t j : S1x3x1024.Idx) rfl (fun a => by fin_cases a <;> simp [ix2, ix3, ix4])).trans ?_
  refine (pay1_at _ t j).trans ?_
  exact (last_at c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t j

/-- The block of the new state. -/
theorem block_14 (h : Fin 4) (l k : Fin 128) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 (ix4 0 h l k) = d.newC h l k := by
  unfold out0_A_14 kernelRun0_A
  dsimp only
  refine (View.read_writes_cons_unit_of_mem _ _ _ _ _ _ (ix4 0 h l k : S1x4x128x128.Idx) rfl (fun a => by fin_cases a <;> simp [ix2, ix3, ix4])).trans ?_
  refine (pay2_at _ h l k).trans ?_
  unfold kernelRun0_A.sl.v521
  refine (kept_at arg20.view _ _ (ix3 h l k : S4x128x128.Idx) (ix3 h l k) (fun a => by fin_cases a <;> simp [ix2, ix3, ix4])).trans ?_
  exact (C4_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h l k h.isLt

/-- The block of the new normaliser. -/
theorem block_15 (h : Fin 4) (k : Fin 128) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 (ix3 0 h k) = d.newN h k := by
  unfold out0_A_15 kernelRun0_A
  dsimp only
  refine (View.read_writes_cons_unit_of_mem _ _ _ _ _ _ (ix3 0 h k : S1x4x128.Idx) rfl (fun a => by fin_cases a <;> simp [ix2, ix3, ix4])).trans ?_
  refine (pay3_at _ h k).trans ?_
  unfold kernelRun0_A.sl.v525
  refine (kept_at arg21.view _ _ (ix2 h k : S4x128.Idx) (ix2 h k) (fun a => by fin_cases a <;> simp [ix2, ix3, ix4])).trans ?_
  exact (n4_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h k h.isLt

/-- The block of the new greatest logarithms. -/
theorem block_16 (h : Fin 4) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 (ix3 0 0 h) = d.mt 15 h := by
  unfold out0_A_16 kernelRun0_A
  dsimp only
  refine (View.read_writes_cons_unit_of_mem _ _ _ _ _ _ (ix3 0 0 h : S1x1x4.Idx) rfl (fun a => by fin_cases a <;> simp [ix2, ix3, ix4])).trans ?_
  refine (pay4_at _ h).trans ?_
  unfold kernelRun0_A.sl.v529
  refine (kept_at arg22.view _ _ (ix2 0 h : S1x4.Idx) (ix2 0 h) (fun a => by fin_cases a <;> simp [ix2, ix3, ix4])).trans ?_
  exact (m4_new c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) h h.isLt

/-- The block of the result rows. -/
theorem block_12 (t : Fin 16) (h : Fin 4) (l : Fin 128) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 (ix2 t ⟨h.val * 128 + l.val, by omega⟩) = d.out t h l := by
  unfold out0_A_12 kernelRun0_A
  dsimp only
  by_cases e3 : h.val = 3
  · obtain rfl : h = 3 := Fin.ext e3
    refine (View.read_writes_cons_unit_of_mem _ _ _ _ _ _ (ix2 t l : S16x128.Idx) rfl (fun a => by fin_cases a <;> simp [ix2, ix3, ix4])).trans ?_
    exact (rows_3 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t l
  refine (View.read_writes_cons_unit_of_not_mem _ _ _ _ _ _ rfl 1 (by simp [ix2, ix3, ix4] <;> omega)).trans ?_
  by_cases e2 : h.val = 2
  · obtain rfl : h = 2 := Fin.ext e2
    refine (View.read_writes_cons_unit_of_mem _ _ _ _ _ _ (ix2 t l : S16x128.Idx) rfl (fun a => by fin_cases a <;> simp [ix2, ix3, ix4])).trans ?_
    exact (rows_2 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t l
  refine (View.read_writes_cons_unit_of_not_mem _ _ _ _ _ _ rfl 1 (by simp [ix2, ix3, ix4] <;> omega)).trans ?_
  by_cases e1 : h.val = 1
  · obtain rfl : h = 1 := Fin.ext e1
    refine (View.read_writes_cons_unit_of_mem _ _ _ _ _ _ (ix2 t l : S16x128.Idx) rfl (fun a => by fin_cases a <;> simp [ix2, ix3, ix4])).trans ?_
    exact (rows_1 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t l
  refine (View.read_writes_cons_unit_of_not_mem _ _ _ _ _ _ rfl 1 (by simp [ix2, ix3, ix4] <;> omega)).trans ?_
  have e0 : h.val = 0 := by omega
  obtain rfl : h = 0 := Fin.ext e0
  refine (View.read_writes_cons_unit_of_mem _ _ _ _ _ _ (ix2 t l : S16x128.Idx) rfl (fun a => by fin_cases a <;> simp [ix2, ix3, ix4])).trans ?_
  exact (rows_0 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 H) t l

end Cert.Lstm
-- ==== Proof.LstmFinal.lean ====
/- What the five output arrays of the recurrent step's kernel hold after the whole grid. -/
module

public import proofs.«01_k».proof.Proof.Gen.Kernel4Ideal.Value
public import proofs.«01_k».proof.Proof.LstmOut
public import Idealize.ShloMosaic.Lib.Claim
public import Idealize.ShloMosaic.Lib.Pointwise
public import Idealize.ShloMosaic.Lib.Pipeline.ValueKit

@[expose] public section

set_option maxRecDepth 16384

noncomputable section

namespace Cert.Lstm

open Cert.Attn Cert.Kernel4Ideal Cert.Kernel4Ideal.Gen Idealize.ShloMosaic Idealize.ShloMosaic.TcCoe Idealize.SL.Sem

variable (m : (ℓ : Loc nD τ sig) → Buf (Elt Ideal) ℓ) (c : Dev nD)

/-- What batch entry `e` is computed from, in the arguments of the kernel's program. -/
def entry (e : Fin 32) : Given :=
  given (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12)) e

/-- The greatest logarithms, with an axis in the middle. -/
theorem V_m (e : Fin 32) (h : Fin 4) : V m c main_v6 (ix3 e 0 h) = (entry m c e).m h := by
  unfold entry given
  unfold V
  simp only [hostOps0]
  after_results
  pointwise

/-- The offset of the convolution. -/
theorem V_bc (e : Fin 32) (j : Fin 1024) : V m c main_v3 (ix2 0 j) = (entry m c e).bc j := by
  unfold entry given
  unfold V
  simp only [hostOps0]
  after_results
  pointwise

/-- The gains. -/
theorem V_g (e : Fin 32) (j : Fin 512) : V m c main_v5 (ix2 0 j) = (entry m c e).g j := by
  unfold entry given
  unfold V
  simp only [hostOps0]
  after_results
  pointwise

/-- The offsets of the input gates. -/
theorem V_bi (h : Fin 4) : V m c main_v4 (ix2 0 ⟨64 + h.val, by omega⟩) = (m (c, Proc.tc.devRef main_arg10) : FVec Ideal S4 .f32) (ix1 h) := by
  unfold V
  simp only [hostOps0]
  after_results
  dsimp only [Matrix.cons_val]
  repeat (first
    | (simp only [↓ StableHlo.readResult, ↓ StableHlo.readPieces])
    | rw [StableHlo.nary_result])
  pointwise

/-- The offsets of the forget gates. -/
theorem V_bf (h : Fin 4) : V m c main_v4 (ix2 0 ⟨68 + h.val, by omega⟩) = (m (c, Proc.tc.devRef main_arg11) : FVec Ideal S4 .f32) (ix1 h) := by
  unfold V
  simp only [hostOps0]
  after_results
  dsimp only [Matrix.cons_val]
  repeat (first
    | (simp only [↓ StableHlo.readResult, ↓ StableHlo.readPieces])
    | rw [StableHlo.nary_result])
  pointwise
  rw [dif_neg (by omega), dif_neg (by omega), dif_pos (by omega)]
  exact congrArg (fun k => (m (c, Proc.tc.devRef main_arg11) : FVec Ideal S4 .f32) (ix1 k)) (Fin.ext (by simp only; omega))

/-- Where the blocks of windows 0 to 7 lie at a grid point: those of its batch entry. -/
theorem idxA : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0, 0]
    ∧ win0_5.index t = ![(grid0.coords t 0).val, 0, 0, 0]
    ∧ win0_6.index t = ![(grid0.coords t 0).val, 0, 0]
    ∧ win0_7.index t = ![(grid0.coords t 0).val, 0, 0] :=
  (by decide +kernel : ∀ t : Fin grid0.N, _)

/-- Where the blocks of windows 8 to 11 lie at a grid point: the whole arrays. -/
theorem idxB : ∀ t : Fin cfg0.N,
    win0_8.index t = ![0, 0]
    ∧ win0_9.index t = ![0, 0]
    ∧ win0_10.index t = ![0, 0]
    ∧ win0_11.index t = ![0, 0] :=
  (by decide +kernel : ∀ t : Fin grid0.N, _)

/-- Where the blocks of windows 12 to 16 lie at a grid point: those of its batch entry. -/
theorem idxC : ∀ t : Fin cfg0.N,
    win0_12.index t = ![(grid0.coords t 0).val, 0]
    ∧ win0_13.index t = ![(grid0.coords t 0).val, 0, 0]
    ∧ win0_14.index t = ![(grid0.coords t 0).val, 0, 0, 0]
    ∧ win0_15.index t = ![(grid0.coords t 0).val, 0, 0]
    ∧ win0_16.index t = ![(grid0.coords t 0).val, 0, 0] :=
  (by decide +kernel : ∀ t : Fin grid0.N, _)

variable (t : Fin cfg0.N)

/-- The batch entry of a grid point. -/
def ent : Fin 32 := ⟨(grid0.coords t 0).val, (grid0.coords t 0).isLt⟩

/-- The row of the whole array that is row `r` of a grid point's block. -/
def rowOf (r : Fin 16) : Fin 512 := ⟨(ent t).val * 16 + r.val, by omega⟩

/-- The rows of a block. -/
theorem blk_x (r : Fin 16) (j : Fin 1024) : iblk m c 0 t (ix2 r j) = (m (c, Proc.tc.devRef main_arg0) : FVec Ideal S512x1024 .f32) (ix2 (rowOf t r) j) := by
  refine Eq.trans ?_ (congrFun (V_main_arg0 m c) (ix2 (rowOf t r) j))
  blk_ext [iblk, idxA t, rowOf, ent]

/-- The values of a block. -/
theorem blk_v (r : Fin 16) (j : Fin 512) : iblk m c 1 t (ix2 r j) = (entry m c (ent t)).v r j := by
  refine Eq.trans ?_ (congrFun (V_main_arg1 m c) (ix2 (rowOf t r) j))
  blk_ext [iblk, idxA t, rowOf, ent]

/-- The output gates of a block. -/
theorem blk_o (r : Fin 16) (j : Fin 512) : iblk m c 2 t (ix2 r j) = (entry m c (ent t)).o r j := by
  refine Eq.trans ?_ (congrFun (V_main_arg2 m c) (ix2 (rowOf t r) j))
  blk_ext [iblk, idxA t, rowOf, ent]

/-- The gates of a block. -/
theorem blk_misc (r : Fin 16) (j : Fin 128) : iblk m c 3 t (ix2 r j) = (m (c, Proc.tc.devRef main_arg3) : FVec Ideal S512x128 .f32) (ix2 (rowOf t r) j) := by
  refine Eq.trans ?_ (congrFun (V_main_arg3 m c) (ix2 (rowOf t r) j))
  blk_ext [iblk, idxA t, rowOf, ent]

/-- The history of a block. -/
theorem blk_hist (r : Fin 3) (j : Fin 1024) : iblk m c 4 t (ix3 0 r j) = (m (c, Proc.tc.devRef main_arg4) : FVec Ideal S32x3x1024 .f32) (ix3 (ent t) r j) := by
  refine Eq.trans ?_ (congrFun (V_main_arg4 m c) (ix3 (ent t) r j))
  blk_ext [iblk, idxA t, rowOf, ent]

/-- The state of a block. -/
theorem blk_C (h : Fin 4) (l k : Fin 128) : iblk m c 5 t (ix4 0 h l k) = (entry m c (ent t)).C h l k := by
  refine Eq.trans ?_ (congrFun (V_main_arg5 m c) (ix4 (ent t) h l k))
  blk_ext [iblk, idxA t, rowOf, ent]

/-- The normaliser of a block. -/
theorem blk_n (h : Fin 4) (k : Fin 128) : iblk m c 6 t (ix3 0 h k) = (entry m c (ent t)).n h k := by
  refine Eq.trans ?_ (congrFun (V_main_arg6 m c) (ix3 (ent t) h k))
  blk_ext [iblk, idxA t, rowOf, ent]

/-- The greatest logarithms of a block. -/
theorem blk_m (h : Fin 4) : iblk m c 7 t (ix3 0 0 h) = (entry m c (ent t)).m h := by
  refine Eq.trans ?_ (V_m m c (ent t) h)
  blk_ext [iblk, idxA t, rowOf, ent]

/-- The taps. -/
theorem blk_wc (p : Fin 4) (j : Fin 1024) : iblk m c 8 t (ix2 p j) = (entry m c (ent t)).wc p j := by
  refine Eq.trans ?_ (congrFun (V_main_arg8 m c) (ix2 p j))
  blk_ext [iblk, idxB t, rowOf, ent]

/-- The offset of the convolution. -/
theorem blk_bc (j : Fin 1024) : iblk m c 9 t (ix2 0 j) = (entry m c (ent t)).bc j := by
  refine Eq.trans ?_ (V_bc m c (ent t) j)
  blk_ext [iblk, idxB t, rowOf, ent]

/-- The offsets of the input gates. -/
theorem blk_bi (h : Fin 4) : iblk m c 10 t (ix2 0 ⟨64 + h.val, by omega⟩) = (m (c, Proc.tc.devRef main_arg10) : FVec Ideal S4 .f32) (ix1 h) := by
  refine Eq.trans ?_ (V_bi m c h)
  blk_ext [iblk, idxB t, rowOf, ent]

/-- The offsets of the forget gates. -/
theorem blk_bf (h : Fin 4) : iblk m c 10 t (ix2 0 ⟨68 + h.val, by omega⟩) = (m (c, Proc.tc.devRef main_arg11) : FVec Ideal S4 .f32) (ix1 h) := by
  refine Eq.trans ?_ (V_bf m c h)
  blk_ext [iblk, idxB t, rowOf, ent]

/-- The gains. -/
theorem blk_g (j : Fin 512) : iblk m c 11 t (ix2 0 j) = (entry m c (ent t)).g j := by
  refine Eq.trans ?_ (V_g m c (ent t) j)
  blk_ext [iblk, idxB t, rowOf, ent]

/-- What the blocks of a grid point hold. -/
theorem holds : Holds (entry m c (ent t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  x r j := by
    refine (blk_x m c t r j).trans ?_
    unfold entry given joined rowOf
    dsimp only
    rw [dif_neg (by omega)]
    congr 2
    exact Fin.ext (by simp only; omega)
  v := blk_v m c t
  o := blk_o m c t
  ig r h := congrArg₂ (fun a b : EReal => a + b) (blk_misc m c t r ⟨64 + h.val, by omega⟩) (blk_bi m c t h)
  fg r h := congrArg₂ (fun a b : EReal => a + b) (blk_misc m c t r ⟨68 + h.val, by omega⟩) (blk_bf m c t h)
  hist r j := by
    refine (blk_hist m c t r j).trans ?_
    unfold entry given joined
    dsimp only
    rw [dif_pos r.isLt]
  C := blk_C m c t
  n := blk_n m c t
  m := blk_m m c t
  wc := blk_wc m c t
  bc := blk_bc m c t
  g := blk_g m c t

/-- The result rows of all batch entries. -/
def rowsAll (d : Fin 32 → Given) : S512x512.Idx → EReal := fun y =>
  (d ⟨(y 0).val / 16, by have h : (y 0).val < 512 := (y 0).isLt; omega⟩).out ⟨(y 0).val % 16, by omega⟩
    ⟨(y 1).val / 128, by have h : (y 1).val < 512 := (y 1).isLt; omega⟩ ⟨(y 1).val % 128, by omega⟩

/-- The last three rows of all batch entries. -/
def lastAll (d : Fin 32 → Given) : S32x3x1024.Idx → EReal := fun y =>
  (d (y 0)).full ⟨16 + (y 1).val, by have h : (y 1).val < 3 := (y 1).isLt; omega⟩ (y 2)

/-- The new states of all batch entries. -/
def stateAll (d : Fin 32 → Given) : S32x4x128x128.Idx → EReal := fun y => (d (y 0)).newC (y 1) (y 2) (y 3)

/-- The new normalisers of all batch entries. -/
def normAll (d : Fin 32 → Given) : S32x4x128.Idx → EReal := fun y => (d (y 0)).newN (y 1) (y 2)

/-- The new greatest logarithms of all batch entries. -/
def topAll (d : Fin 32 → Given) : S32x1x4.Idx → EReal := fun y => (d (y 0)).mt 15 (y 2)

/-- The result rows, at a row and column of a batch entry. -/
theorem rowsAll_at (d : Fin 32 → Given) (e : Fin 32) (r : Fin 16) (h : Fin 4) (l : Fin 128) :
    rowsAll d (ix2 ⟨e.val * 16 + r.val, by omega⟩ ⟨h.val * 128 + l.val, by omega⟩) = (d e).out r h l := by
  have e1 : (⟨(e.val * 16 + r.val) / 16, by omega⟩ : Fin 32) = e := Fin.ext (by simp only; omega)
  have e2 : (⟨(e.val * 16 + r.val) % 16, by omega⟩ : Fin 16) = r := Fin.ext (by simp only; omega)
  have e3 : (⟨(h.val * 128 + l.val) / 128, by omega⟩ : Fin 4) = h := Fin.ext (by simp only; omega)
  have e4 : (⟨(h.val * 128 + l.val) % 128, by omega⟩ : Fin 128) = l := Fin.ext (by simp only; omega)
  show (d ⟨(e.val * 16 + r.val) / 16, _⟩).out ⟨(e.val * 16 + r.val) % 16, _⟩ ⟨(h.val * 128 + l.val) / 128, _⟩ ⟨(h.val * 128 + l.val) % 128, _⟩ = _
  rw [e1, e2, e3, e4]

/-- A column is one of a head. -/
theorem col_split (j : Fin 512) : ∃ (h : Fin 4) (l : Fin 128), j = ⟨h.val * 128 + l.val, by omega⟩ :=
  ⟨⟨j.val / 128, by omega⟩, ⟨j.val % 128, by omega⟩, Fin.ext (by simp only; omega)⟩

/-- Where an element of output block 12 lies in the whole array. -/
theorem emb_rows (r : Fin 16) (h : Fin 4) (l : Fin 128) : (win0_12.blk t).view.emb (ix2 r ⟨h.val * 128 + l.val, by omega⟩) = (ix2 ⟨(ent t).val * 16 + r.val, by omega⟩ ⟨h.val * 128 + l.val, by omega⟩) := by
  blk_ext [idxC t, ent]

/-- What a grid point writes is its block. -/
theorem point_rows (y : S16x512.Idx) : (outsAt0 m c t).1 y = rowsAll (entry m c) ((win0_12.blk t).view.emb y) := by
  obtain ⟨r, j, rfl⟩ : ∃ (r : Fin 16) (j : Fin 512), y = ix2 r j := ⟨y 0, y 1, by funext a; fin_cases a <;> rfl⟩
  obtain ⟨h, l, rfl⟩ := col_split j
  refine Eq.trans ?_ (congrArg (rowsAll (entry m c)) (emb_rows t r h l).symm)
  unfold outsAt0
  dsimp only
  refine (@block_12 (entry m c (ent t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (holds m c t) r h l).trans ?_
  exact (rowsAll_at (entry m c) (ent t) r h l).symm

/-- THE RESULT ROWS, after the whole grid. -/
theorem final_rows : (dats m 0 c).arrAt 12 (cfgs 0).N = rowsAll (entry m c) := by
  refine (dats m 0 c).arrAt_eq_of_covers 12 _ (by decide +kernel) fun t _ y => ?_
  blk_simp
  rw [after0_12]
  exact point_rows m c t y

/-- Where an element of output block 13 lies in the whole array. -/
theorem emb_last (r : Fin 3) (j : Fin 1024) : (win0_13.blk t).view.emb (ix3 0 r j) = (ix3 (ent t) r j) := by
  blk_ext [idxC t, ent]

/-- What a grid point writes is its block. -/
theorem point_last (y : S1x3x1024.Idx) : (outsAt0 m c t).2.1 y = lastAll (entry m c) ((win0_13.blk t).view.emb y) := by
  obtain ⟨r, j, rfl⟩ : ∃ (r : Fin 3) (j : Fin 1024), y = ix3 0 r j :=
    ⟨y 1, y 2, by funext a; fin_cases a <;> first | rfl | exact Subsingleton.elim (α := Fin 1) _ _⟩
  refine Eq.trans ?_ (congrArg (lastAll (entry m c)) (emb_last t r j).symm)
  unfold outsAt0
  dsimp only
  refine (@block_13 (entry m c (ent t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (holds m c t) r j).trans ?_
  exact rfl

/-- THE LAST THREE ROWS, after the whole grid. -/
theorem final_last : (dats m 0 c).arrAt 13 (cfgs 0).N = lastAll (entry m c) := by
  refine (dats m 0 c).arrAt_eq_of_covers 13 _ (by decide +kernel) fun t _ y => ?_
  blk_simp
  rw [after0_13]
  exact point_last m c t y

/-- Where an element of output block 14 lies in the whole array. -/
theorem emb_state (h : Fin 4) (l k : Fin 128) : (win0_14.blk t).view.emb (ix4 0 h l k) = (ix4 (ent t) h l k) := by
  blk_ext [idxC t, ent]

/-- What a grid point writes is its block. -/
theorem point_state (y : S1x4x128x128.Idx) : (outsAt0 m c t).2.2.1 y = stateAll (entry m c) ((win0_14.blk t).view.emb y) := by
  obtain ⟨h, l, k, rfl⟩ : ∃ (h : Fin 4) (l k : Fin 128), y = ix4 0 h l k :=
    ⟨y 1, y 2, y 3, by funext a; fin_cases a <;> first | rfl | exact Subsingleton.elim (α := Fin 1) _ _⟩
  refine Eq.trans ?_ (congrArg (stateAll (entry m c)) (emb_state t h l k).symm)
  unfold outsAt0
  dsimp only
  refine (@block_14 (entry m c (ent t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (holds m c t) h l k).trans ?_
  exact rfl

/-- THE NEW STATE, after the whole grid. -/
theorem final_state : (dats m 0 c).arrAt 14 (cfgs 0).N = stateAll (entry m c) := by
  refine (dats m 0 c).arrAt_eq_of_covers 14 _ (by decide +kernel) fun t _ y => ?_
  blk_simp
  rw [after0_14]
  exact point_state m c t y

/-- Where an element of output block 15 lies in the whole array. -/
theorem emb_norm (h : Fin 4) (k : Fin 128) : (win0_15.blk t).view.emb (ix3 0 h k) = (ix3 (ent t) h k) := by
  blk_ext [idxC t, ent]

/-- What a grid point writes is its block. -/
theorem point_norm (y : S1x4x128.Idx) : (outsAt0 m c t).2.2.2.1 y = normAll (entry m c) ((win0_15.blk t).view.emb y) := by
  obtain ⟨h, k, rfl⟩ : ∃ (h : Fin 4) (k : Fin 128), y = ix3 0 h k :=
    ⟨y 1, y 2, by funext a; fin_cases a <;> first | rfl | exact Subsingleton.elim (α := Fin 1) _ _⟩
  refine Eq.trans ?_ (congrArg (normAll (entry m c)) (emb_norm t h k).symm)
  unfold outsAt0
  dsimp only
  refine (@block_15 (entry m c (ent t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (holds m c t) h k).trans ?_
  exact rfl

/-- THE NEW NORMALISER, after the whole grid. -/
theorem final_norm : (dats m 0 c).arrAt 15 (cfgs 0).N = normAll (entry m c) := by
  refine (dats m 0 c).arrAt_eq_of_covers 15 _ (by decide +kernel) fun t _ y => ?_
  blk_simp
  rw [after0_15]
  exact point_norm m c t y

/-- Where an element of output block 16 lies in the whole array. -/
theorem emb_top (h : Fin 4) : (win0_16.blk t).view.emb (ix3 0 0 h) = (ix3 (ent t) 0 h) := by
  blk_ext [idxC t, ent]

/-- What a grid point writes is its block. -/
theorem point_top (y : S1x1x4.Idx) : (outsAt0 m c t).2.2.2.2 y = topAll (entry m c) ((win0_16.blk t).view.emb y) := by
  obtain ⟨h, rfl⟩ : ∃ h : Fin 4, y = ix3 0 0 h :=
    ⟨y 2, by funext a; fin_cases a <;> first | rfl | exact Subsingleton.elim (α := Fin 1) _ _⟩
  refine Eq.trans ?_ (congrArg (topAll (entry m c)) (emb_top t h).symm)
  unfold outsAt0
  dsimp only
  refine (@block_16 (entry m c (ent t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (holds m c t) h).trans ?_
  exact rfl

/-- THE NEW GREATEST LOGARITHMS, after the whole grid. -/
theorem final_top : (dats m 0 c).arrAt 16 (cfgs 0).N = topAll (entry m c) := by
  refine (dats m 0 c).arrAt_eq_of_covers 16 _ (by decide +kernel) fun t _ y => ?_
  blk_simp
  rw [after0_16]
  exact point_top m c t y

end Cert.Lstm
-- ==== Proof.LstmReference.lean ====
/- Every result of the recurrent step's reference, element by element. -/
module

public import proofs.«01_k».proof.Proof.Gen.Reference4Ideal.Run
public import proofs.«01_k».proof.Proof.LstmRow
public import Idealize.ShloMosaic.Lib.Claim

@[expose] public section

set_option maxRecDepth 16384

noncomputable section

namespace Cert.LstmRef

open Cert.Reference4Ideal Cert.Reference4Ideal.Gen Cert.Reference4Ideal.Value Idealize.ShloMosaic Idealize.ShloMosaic.TcCoe Idealize.SL.Sem
open Cert.Lstm Cert.Attn

variable (V0 : Valuation τ sig (Elt Ideal))

/-- What batch entry `e` is computed from. -/
def row (e : Fin 32) : Given :=
  given (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) e

/-- The history and the rows. -/
theorem full_at (e : Fin 32) (r : Fin 19) (j : Fin 1024) : res_main_v1 (F := Ideal) V0 (ix3 e r j) = (row V0 e).full r j := by
  unfold row given joined
  pointwise [res_main_v1]

/-- The convolution. -/
theorem conv_at (e : Fin 32) (t : Fin 16) (j : Fin 1024) : res_main_v31 (F := Ideal) V0 (ix3 e t j) = (row V0 e).conv t j := by
  unfold Given.conv
  simp only [← full_at]
  unfold row given
  pointwise [res_main_v31]

/-- The queries. -/
theorem q_at (e : Fin 32) (t : Fin 16) (h : Fin 4) (l : Fin 128) : res_main_v36 (F := Ideal) V0 (ix4 e t h l) = (row V0 e).q t h l := by
  unfold Given.q Given.act gate
  simp only [← conv_at]
  pointwise [res_main_v36, res_main_v34]

/-- The keys. -/
theorem k_at (e : Fin 32) (t : Fin 16) (h : Fin 4) (l : Fin 128) : res_main_v40 (F := Ideal) V0 (ix4 e t h l) = (row V0 e).k t h l := by
  unfold Given.k Given.act gate
  simp only [← conv_at]
  pointwise [res_main_v40, res_main_v34]

/-- The values. -/
theorem v_at (e : Fin 32) (t : Fin 16) (h : Fin 4) (l : Fin 128) : res_main_v41 (F := Ideal) V0 (ix4 e t h l) = (row V0 e).vh t h l := by
  unfold Given.vh row given
  pointwise [res_main_v41]

/-- The input gates. -/
theorem ig_at (e : Fin 32) (t : Fin 16) (h : Fin 4) : res_main_v46 (F := Ideal) V0 (ix3 e t h) = (row V0 e).ig t h := by
  unfold row given
  pointwise [res_main_v46]

/-- A sum over a window of sixteen rows that ends at row `t`, the rows before the first counting as zero: the rows up to `t`. -/
theorem window_sum (y : Fin 16 → EReal) (t : Fin 16) :
    (∑ n : Fin 16, if h : 15 ≤ t.val + n.val then y ⟨t.val + n.val - 15, by omega⟩ else 0)
      = ∑ s : Fin 16, if s.val ≤ t.val then y s else 0 := by
  refine Fintype.sum_equiv (Equiv.addRight (t + 1)) _ _ fun n => ?_
  have hv : (Equiv.addRight (t + 1) n).val = (n.val + (t.val + 1)) % 16 := by
    rw [Equiv.coe_addRight, Fin.val_add, Fin.val_add, Fin.val_one, Nat.add_mod_mod]
  by_cases h : 15 ≤ t.val + n.val
  · rw [dif_pos h, if_pos (by rw [hv]; omega)]
    exact congrArg y (Fin.ext (by rw [hv]; show t.val + n.val - 15 = _; omega))
  · rw [dif_neg h, if_neg (by rw [hv]; omega)]

/-- A left fold that adds is a sum. -/
theorem foldl_sum {ι : Type*} (f : ι → EReal) (l : List ι) (v : EReal) : l.foldl (fun r i => r + f i) v = v + (l.map f).sum := by
  induction l generalizing v with
  | nil => simp
  | cons a l ih => rw [List.foldl_cons, ih, List.map_cons, List.sum_cons, add_assoc]

/-- The sums of the rows up to each row. -/
theorem cumsum_at (x : FVec Ideal S32x16x4 .f32) (z : FVec Ideal S_ .f32) (hz : z (Shape.Idx.first h_S_) = 0) (e : Fin 32) (t : Fin 16) (h : Fin 4) :
    Host.reduceWindowAdd ![1, 16, 1] ![1, 1, 1] ![0, 15, 0] ![0, 0, 0] x z reduceWindows_S32x16x4_S32x16x4_w1s1p0_0_w16s1p15_0_w1s1p0_0 h_S_ (ix3 e t h)
      = ∑ s : Fin 16, if s.val ≤ t.val then x (ix3 e s h) else 0 := by
  rw [← window_sum]
  show Ideal.hostReduceWindowAdd ![1, 16, 1] ![1, 1, 1] ![0, 15, 0] ![0, 0, 0] reduceWindows_S32x16x4_S32x16x4_w1s1p0_0_w16s1p15_0_w1s1p0_0 x (z (Shape.Idx.first h_S_)) (ix3 e t h) = _
  rw [hz]
  unfold Ideal.hostReduceWindowAdd Host.reduceWindow
  refine (foldl_sum _ _ 0).trans ?_
  rw [zero_add, ← Fin.sum_univ_def]
  refine Fintype.sum_equiv (((⟨3, ![1, 16, 1]⟩ : Shape).rowMajor.symm).trans
    { toFun := fun i => i 1, invFun := fun n => ix3 0 n 0, left_inv := fun i => ?_, right_inv := fun n => rfl }) _ _ fun n => ?_
  · funext a
    fin_cases a
    · exact Subsingleton.elim (α := Fin 1) _ _
    · rfl
    · exact Subsingleton.elim (α := Fin 1) _ _
  · obtain ⟨i, rfl⟩ : ∃ i, (⟨3, ![1, 16, 1]⟩ : Shape).rowMajor i = n := ⟨_, Equiv.apply_symm_apply _ n⟩
    obtain ⟨i1, rfl⟩ : ∃ s : Fin 16, i = ix3 0 s 0 := ⟨i 1, by
      funext a
      fin_cases a
      · exact Subsingleton.elim (α := Fin 1) _ _
      · rfl
      · exact Subsingleton.elim (α := Fin 1) _ _⟩
    simp only [Equiv.trans_apply, Equiv.symm_apply_apply]
    by_cases h1 : 15 ≤ t.val + i1.val
    · show _ = (if h2 : 15 ≤ t.val + i1.val then x (ix3 e ⟨t.val + i1.val - 15, by omega⟩ h) else 0)
      rw [dif_pos h1]
      refine (dif_pos fun a => ?_).trans (congrArg x ?_)
      · fin_cases a
        · exact ⟨Nat.zero_le _, by show e.val * 1 + 0 - 0 < 32; omega⟩
        · exact ⟨by show 15 ≤ t.val * 1 + i1.val; omega, by show t.val * 1 + i1.val - 15 < 16; omega⟩
        · exact ⟨Nat.zero_le _, by show h.val * 1 + 0 - 0 < 4; omega⟩
      · funext a
        fin_cases a
        · exact Fin.ext (by show e.val * 1 + 0 - 0 = e.val; omega)
        · exact Fin.ext (by show t.val * 1 + i1.val - 15 = t.val + i1.val - 15; omega)
        · exact Fin.ext (by show h.val * 1 + 0 - 0 = h.val; omega)
    · show _ = (if h2 : 15 ≤ t.val + i1.val then x (ix3 e ⟨t.val + i1.val - 15, by omega⟩ h) else 0)
      rw [dif_neg h1]
      refine (dif_neg fun hin => ?_)
      have := (hin 1).1
      exact h1 (by have h2 : 15 ≤ t.val * 1 + i1.val := this; omega)

/-- The lower triangle, from its words. -/
theorem mask_word (t s : Fin 16) (x y : EReal) :
    Scalar.select (Scalar.select (IntOp.cmpi CmpIPredicate.sge (IntOp.addi (BitVec.ofNat 32 t.val) 0#32) (BitVec.ofNat 32 s.val)) 1#1 0#1) x y
      = if s.val ≤ t.val then x else y := by
  have h : ∀ a b : Fin 16, Scalar.select (IntOp.cmpi CmpIPredicate.sge (IntOp.addi (BitVec.ofNat 32 a.val) 0#32) (BitVec.ofNat 32 b.val)) 1#1 0#1
      = if b.val ≤ a.val then 1#1 else 0#1 := by
    decide +kernel
  rw [h]
  split <;> rfl

/-- The pattern of minus infinity denotes `⊥`. -/
theorem ofBits_ninf : Ideal.ofBits .f32 0xFF800000#32 = ⊥ := by simp [Ideal.ofBits, Ideal.ieee]

/-- The constant of minus infinity. -/
theorem const_bot : (constant S_ FTy.f32 0xFF800000#32 : FVec Ideal S_ .f32) ix0 = (⊥ : EReal) := ofBits_ninf

/-- A maximum over the third axis. -/
theorem fold_axis (x : S32x16x16x4.Idx → EReal) (z : EReal) (e : Fin 32) (t : Fin 16) (h : Fin 4) :
    Finset.fold max z x {i | reducesTo_S32x16x16x4_S32x16x4_d2.drop i = ix3 e t h} = Finset.fold max z (fun s => x (ix4 e t s h)) Finset.univ := by
  have hr : S32x16x16x4.Reduces [2] S32x16x4 := by decide
  rw [Shape.ReducesTo.drop_eq_drop _ hr]
  classical
  refine Eq.trans ?_ ((hr.fold_filter_drop_single max z x (ix3 e t h)).trans ?_)
  · congr
  · congr 1
    funext s
    refine congrArg x ?_
    funext a
    fin_cases a <;> rfl

/-- The logarithms of the forget gates. -/
theorem lf_at (e : Fin 32) (t : Fin 16) (h : Fin 4) : (Host.negf (select (cmpf .une (res_main_call1_call0_v3 V0) (res_main_call1_call0_v3 V0)) (addf (res_main_call1_v0 V0) (broadcastInDim S32x16x4 ![] bcast_S_S32x16x4 (res_main_call1_call0_cst V0))) (addf (maximumf (res_main_call1_v0 V0) (broadcastInDim S32x16x4 ![] bcast_S_S32x16x4 (res_main_call1_call0_cst V0))) (Host.log1p (Host.exp (Host.negf (Host.absf (res_main_call1_call0_v3 V0)))))))) (ix3 e t h) = (row V0 e).lf t h := by
  unfold Given.lf lgate row given
  pointwise [res_main_call1_call0_v3, res_main_call1_v0, res_main_call1_call0_cst]
  rw [if_neg fun h => h rfl]
  rfl

/-- The logarithms of the forget gates, added up. -/
theorem b_at (e : Fin 32) (t : Fin 16) (h : Fin 4) : res_main_v53 (F := Ideal) V0 (ix3 e t h) = (row V0 e).b t h := by
  unfold Given.b
  simp only [← lf_at]
  exact cumsum_at _ _ (by pointwise []) e t h

/-- The scale of the state. -/
theorem inter_at (e : Fin 32) (t : Fin 16) (h : Fin 4) : res_main_v68 (F := Ideal) V0 (ix3 e t h) = (row V0 e).inter t h := by
  unfold Given.inter
  simp only [← b_at]
  unfold row given
  pointwise [res_main_v68]

/-- The logarithms of the weights. -/
theorem ld_at (e : Fin 32) (t s : Fin 16) (h : Fin 4) : res_main_v65 (F := Ideal) V0 (ix4 e t s h) = (row V0 e).ld t s h := by
  unfold Given.ld
  simp only [← b_at, ← ig_at]
  pointwise [res_main_v65]
  rw [mask_word]
  exact congrArg (ite _ _) const_bot

/-- The greatest logarithm. -/
theorem mt_at (e : Fin 32) (t : Fin 16) (h : Fin 4) : res_main_v70 (F := Ideal) V0 (ix3 e t h) = (row V0 e).mt t h := by
  unfold Given.mt top
  simp only [← inter_at, ← ld_at]
  pointwise [res_main_v70]
  have e1 := fold_axis (res_main_v65 (F := Ideal) V0) (Ideal.ofBits .f32 0xFF800000#32) e t h
  refine congrArg (@max EReal _ (res_main_v68 (F := Ideal) V0 (ix3 e t h))) (e1.trans ?_)
  rw [ofBits_ninf]

/-- The weights. -/
theorem w_at (e : Fin 32) (t s : Fin 16) (h : Fin 4) : res_main_v77 (F := Ideal) V0 (ix4 e t s h) = (row V0 e).w t s h := by
  unfold Given.w
  simp only [← q_at, ← k_at, ← ld_at, ← mt_at]
  pointwise [res_main_v77]
  simp only [mul_comm]

/-- The scale of the state. -/
theorem isc_at (e : Fin 32) (t : Fin 16) (h : Fin 4) : res_main_v79 (F := Ideal) V0 (ix3 e t h) = (row V0 e).isc t h := by
  unfold Given.isc
  simp only [← inter_at, ← mt_at]
  pointwise [res_main_v79]

/-- The hidden rows. -/
theorem hid_at (e : Fin 32) (t : Fin 16) (h : Fin 4) (l : Fin 128) : res_main_v99 (F := Ideal) V0 (ix4 e t h l) = (row V0 e).hid t h l := by
  unfold Given.hid Given.num Given.den
  simp only [← w_at, ← isc_at, ← v_at, ← q_at, ← mt_at]
  unfold row given
  pointwise [res_main_v99]
  exact congrArg (fun z => Ideal.div (z + _) _) (Finset.sum_congr rfl fun x _ => @mul_comm EReal _ _ _)

/-- The new greatest logarithm. -/
theorem m_at (e : Fin 32) (h : Fin 4) : res_main_v101 (F := Ideal) V0 (ix2 e h) = (row V0 e).mt 15 h := by
  simp only [← mt_at]
  pointwise [res_main_v101]

/-- The scale of the old state. -/
theorem carry_at (e : Fin 32) (h : Fin 4) : res_main_v106 (F := Ideal) V0 (ix2 e h) = (row V0 e).carry h := by
  unfold Given.carry
  simp only [← m_at, ← b_at]
  unfold row given
  pointwise [res_main_v106]

/-- The weights of the new state. -/
theorem dend_at (e : Fin 32) (s : Fin 16) (h : Fin 4) : res_main_v114 (F := Ideal) V0 (ix3 e s h) = (row V0 e).dend s h := by
  unfold Given.dend
  simp only [← m_at, ← b_at, ← ig_at]
  pointwise [res_main_v114]

/-- The three rows the next step starts from. -/
theorem last_at (e : Fin 32) (r : Fin 3) (j : Fin 1024) :
    (extractStridedSlice S32x3x1024 ![0, 16, 0] (res_main_v1 V0) slices_S32x19x1024_S32x3x1024_0_16_0 : FVec Ideal S32x3x1024 .f32) (ix3 e r j)
      = (row V0 e).full ⟨16 + r.val, by omega⟩ j := by
  rw [← full_at]
  pointwise []

/-- The new state. -/
theorem newC_at (e : Fin 32) (h : Fin 4) (l k : Fin 128) :
    (addf (mulf (broadcastInDim S32x4x128x128 ![0, 1, 2, 3] bcast_S32x4x1x1_S32x4x128x128_0_1_2_3 (broadcastInDim S32x4x1x1 ![0, 1] bcast_S32x4_S32x4x1x1_0_1 (res_main_v106 V0))) (V0 (Proc.devRef .tc main_arg5))) (Host.dotGeneral (φ₁ := .f32) (φ₂ := .f32) dot_S32x16x4x128_S32x16x4x128_S32x4x128x128_1_1_3_3_02_02 none (mulf (broadcastInDim S32x16x4x128 ![0, 1, 2, 3] bcast_S32x16x4x1_S32x16x4x128_0_1_2_3 (broadcastInDim S32x16x4x1 ![0, 1, 2] bcast_S32x16x4_S32x16x4x1_0_1_2 (res_main_v114 V0))) (res_main_v41 V0)) (res_main_v40 V0)) : FVec Ideal S32x4x128x128 .f32) (ix4 e h l k)
      = (row V0 e).newC h l k := by
  unfold Given.newC
  simp only [← carry_at, ← dend_at, ← v_at, ← k_at]
  unfold row given
  pointwise []

/-- The new normaliser. -/
theorem newN_at (e : Fin 32) (h : Fin 4) (k : Fin 128) :
    (addf (mulf (broadcastInDim S32x4x128 ![0, 1, 2] bcast_S32x4x1_S32x4x128_0_1_2 (broadcastInDim S32x4x1 ![0, 1] bcast_S32x4_S32x4x1_0_1 (res_main_v106 V0))) (V0 (Proc.devRef .tc main_arg6))) (Host.dotGeneral (φ₁ := .f32) (φ₂ := .f32) dot_S32x16x4_S32x16x4x128_S32x4x128_1_1_n_3_02_02 none (res_main_v114 V0) (res_main_v40 V0)) : FVec Ideal S32x4x128 .f32) (ix3 e h k)
      = (row V0 e).newN h k := by
  unfold Given.newN
  simp only [← carry_at, ← dend_at, ← k_at]
  unfold row given
  pointwise []

/-- The new greatest logarithms, with an axis in the middle. -/
theorem newM_at (e : Fin 32) (h : Fin 4) :
    (broadcastInDim S32x1x4 ![0, 2] bcast_S32x4_S32x1x4_0_2 (res_main_v101 V0) : FVec Ideal S32x1x4 .f32) (ix3 e 0 h) = (row V0 e).mt 15 h := by
  rw [← m_at]
  pointwise []

/-- The result rows. -/
theorem out_at (e : Fin 32) (t : Fin 16) (h : Fin 4) (l : Fin 128) :
    (truncf .bf16 (mulf (shapeCast _ (mulf (mulf (res_main_v99 V0) (broadcastInDim S32x16x4x128 ![0, 1, 2, 3] bcast_S32x16x4x1_S32x16x4x128_0_1_2_3 (Host.rsqrt (addf (Host.divf (broadcastInDim S32x16x4x1 ![0, 1, 2] bcast_S32x16x4_S32x16x4x1_0_1_2 (Host.reduceAdd (mulf (res_main_v99 V0) (res_main_v99 V0)) (constant S_ .f32 0x00000000#32) reducesTo_S32x16x4x128_S32x16x4_d3 h_S_)) (broadcastInDim S32x16x4x1 ![] bcast_S_S32x16x4x1 (constant S_ .f32 0x43000000#32))) (broadcastInDim S32x16x4x1 ![] bcast_S_S32x16x4x1 (constant S_ .f32 0x358637BD#32)))))) (broadcastInDim S32x16x4x128 ![0, 1, 2, 3] bcast_S1x1x4x128_S32x16x4x128_0_1_2_3 (broadcastInDim S1x1x4x128 ![2, 3] bcast_S4x128_S1x1x4x128_2_3 (shapeCast _ (V0 (Proc.devRef .tc main_arg12)) shapeCasts_S512_S4x128)))) shapeCasts_S32x16x4x128_S512x512) (Host.divf (broadcastInDim S512x512 ![] bcast_S_S512x512 (constant S_ .f32 0x3F800000#32)) (addf (broadcastInDim S512x512 ![] bcast_S_S512x512 (constant S_ .f32 0x3F800000#32)) (Host.exp (Host.negf (V0 (Proc.devRef .tc main_arg2))))))) bitsLt_bf16_f32 : FVec Ideal S512x512 .bf16)
        (ix2 ⟨e.val * 16 + t.val, by omega⟩ ⟨h.val * 128 + l.val, by omega⟩)
      = (row V0 e).out t h l := by
  unfold Given.out gate
  simp only [← hid_at]
  unfold row given
  pointwise []

end Cert.LstmRef
-- ==== Proof.LstmRuns.lean ====
/- What the recurrent step's kernel and its reference end holding: the same five tables of their batch entries. -/
module

public import proofs.«01_k».proof.Proof.LstmFinal
public import proofs.«01_k».proof.Proof.LstmReference

@[expose] public section

set_option maxRecDepth 16384

noncomputable section

namespace Cert.Lstm

section
open Cert.Kernel4Ideal Cert.Kernel4Ideal.Gen Idealize.ShloMosaic Idealize.ShloMosaic.TcCoe Idealize.SL.Sem

/-- The recurrent step's kernel ends with the five tables of its batch entries. -/
theorem run_kernel (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7_0) = rowsAll (entry m c)
      ∧ r.2.mem ((c.tc : Thread nD τ).loc main_v7_1) = lastAll (entry m c)
      ∧ r.2.mem ((c.tc : Thread nD τ).loc main_v7_2) = stateAll (entry m c)
      ∧ r.2.mem ((c.tc : Thread nD τ).loc main_v7_3) = normAll (entry m c)
      ∧ r.2.mem ((c.tc : Thread nD τ).loc main_v7_4) = topAll (entry m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (final_rows m c), (h c).2.1.trans (final_last m c), (h c).2.2.1.trans (final_state m c), (h c).2.2.2.1.trans (final_norm m c), (h c).2.2.2.2.1.trans (final_top m c), (h c).2.2.2.2.2⟩)
    (Cert.Kernel4Ideal.Value.run_blocks m g)

end

section
open Cert.Reference4Ideal Cert.Reference4Ideal.Gen Cert.Reference4Ideal.Value Cert.Attn Cert.LstmRef Idealize.ShloMosaic Idealize.ShloMosaic.TcCoe Idealize.SL.Sem

/-- An array that holds the result rows at every row and column of a batch entry is their table. -/
theorem eq_rowsAll (f : FVec Ideal S512x512 .bf16) (d : Fin 32 → Given)
    (H : ∀ (e : Fin 32) (t : Fin 16) (h : Fin 4) (l : Fin 128), f (ix2 ⟨e.val * 16 + t.val, by omega⟩ ⟨h.val * 128 + l.val, by omega⟩) = (d e).out t h l) :
    f = rowsAll d := by
  funext y
  obtain ⟨r, j, rfl⟩ : ∃ (r : Fin 512) (j : Fin 512), y = ix2 r j := ⟨y 0, y 1, by funext a; fin_cases a <;> rfl⟩
  obtain ⟨e, t, rfl⟩ : ∃ (e : Fin 32) (t : Fin 16), r = ⟨e.val * 16 + t.val, by omega⟩ :=
    ⟨⟨r.val / 16, by omega⟩, ⟨r.val % 16, by omega⟩, Fin.ext (by simp only; omega)⟩
  obtain ⟨h, l, rfl⟩ := col_split j
  exact (H e t h l).trans (rowsAll_at d e t h l).symm

/-- An array that holds the last rows is their table. -/
theorem eq_lastAll (f : FVec Ideal S32x3x1024 .f32) (d : Fin 32 → Given)
    (H : ∀ (e : Fin 32) (r : Fin 3) (j : Fin 1024), f (ix3 e r j) = (d e).full ⟨16 + r.val, by omega⟩ j) : f = lastAll d := by
  funext y
  obtain ⟨e, r, j, rfl⟩ : ∃ (e : Fin 32) (r : Fin 3) (j : Fin 1024), y = ix3 e r j := ⟨y 0, y 1, y 2, by funext a; fin_cases a <;> rfl⟩
  exact H e r j

/-- An array that holds the new states is their table. -/
theorem eq_stateAll (f : FVec Ideal S32x4x128x128 .f32) (d : Fin 32 → Given)
    (H : ∀ (e : Fin 32) (h : Fin 4) (l k : Fin 128), f (ix4 e h l k) = (d e).newC h l k) : f = stateAll d := by
  funext y
  obtain ⟨e, h, l, k, rfl⟩ : ∃ (e : Fin 32) (h : Fin 4) (l k : Fin 128), y = ix4 e h l k :=
    ⟨y 0, y 1, y 2, y 3, by funext a; fin_cases a <;> rfl⟩
  exact H e h l k

/-- An array that holds the new normalisers is their table. -/
theorem eq_normAll (f : FVec Ideal S32x4x128 .f32) (d : Fin 32 → Given)
    (H : ∀ (e : Fin 32) (h : Fin 4) (k : Fin 128), f (ix3 e h k) = (d e).newN h k) : f = normAll d := by
  funext y
  obtain ⟨e, h, k, rfl⟩ : ∃ (e : Fin 32) (h : Fin 4) (k : Fin 128), y = ix3 e h k := ⟨y 0, y 1, y 2, by funext a; fin_cases a <;> rfl⟩
  exact H e h k

/-- An array that holds the new greatest logarithms is their table. -/
theorem eq_topAll (f : FVec Ideal S32x1x4 .f32) (d : Fin 32 → Given)
    (H : ∀ (e : Fin 32) (h : Fin 4), f (ix3 e 0 h) = (d e).mt 15 h) : f = topAll d := by
  funext y
  obtain ⟨e, h, rfl⟩ : ∃ (e : Fin 32) (h : Fin 4), y = ix3 e 0 h :=
    ⟨y 0, y 2, by funext a; fin_cases a <;> first | rfl | exact Subsingleton.elim (α := Fin 1) _ _⟩
  exact H e h

/-- The reference ends with the five tables of its batch entries. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v150) = rowsAll (Cert.LstmRef.row (StableHlo.launchContents m c))
      ∧ r.2.mem ((c.tc : Thread nD τ).loc main_v33) = lastAll (Cert.LstmRef.row (StableHlo.launchContents m c))
      ∧ r.2.mem ((c.tc : Thread nD τ).loc main_v122) = stateAll (Cert.LstmRef.row (StableHlo.launchContents m c))
      ∧ r.2.mem ((c.tc : Thread nD τ).loc main_v127) = normAll (Cert.LstmRef.row (StableHlo.launchContents m c))
      ∧ r.2.mem ((c.tc : Thread nD τ).loc main_v151) = topAll (Cert.LstmRef.row (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    refine ⟨(h c).1.trans ?_, (h c).2.1.trans ?_, (h c).2.2.1.trans ?_, (h c).2.2.2.1.trans ?_, (h c).2.2.2.2.1.trans ?_, (h c).2.2.2.2.2⟩
    · refine eq_rowsAll _ _ fun e t h l => ?_
      exact out_at (StableHlo.launchContents m c) e t h l
    · refine eq_lastAll _ _ fun e r j => ?_
      exact Cert.LstmRef.last_at (StableHlo.launchContents m c) e r j
    · refine eq_stateAll _ _ fun e h l k => ?_
      exact newC_at (StableHlo.launchContents m c) e h l k
    · refine eq_normAll _ _ fun e h k => ?_
      exact newN_at (StableHlo.launchContents m c) e h k
    · refine eq_topAll _ _ fun e h => ?_
      exact newM_at (StableHlo.launchContents m c) e h)
    (Cert.Reference4Ideal.Value.run m g)

end

end Cert.Lstm
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.Gen.KernelIdeal.Value
public import proofs.«01_k».proof.Proof.Gen.ReferenceIdeal.Run
public import proofs.«01_k».proof.Proof.Equation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnFinal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.ProjRuns
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.LstmRuns

@[expose] public section

set_option maxRecDepth 16384

noncomputable section

namespace Cert.Proof

open Idealize.ShloMosaic Idealize.SL.Sem Cert.Kernel

/-- The side condition of the finiteness predicate: a scalar spreads over a batch of rows. -/
theorem finite_facts : Cert.Pre_finite.Facts where
  bcast_S_S1x16384x1024 := by decide

/-- The reference runs, leaves its arguments alone and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => ⟨(h c).2.1, (h c).2.2.1, (h c).2.2.2⟩, Idealize.ShloMosaic.sem_eq_zero_of_no_sems (by decide) r.2⟩)
    (Cert.ReferenceIdeal.Value.run m g)

set_option maxHeartbeats 1600000 in
/-- The attention kernel computes the attention of its queries, keys and values, where queries and keys are finite. -/
theorem algebraic : Cert.algebraic_KernelIdeal_ReferenceIdeal_pre_finite (hPre_finite := finite_facts) := by
  pair_intro
  · run_from Cert.KernelIdeal.Gen.run_main m g
  · refine (θ_run Cert.ReferenceIdeal.defs _ _).mono (fun r h c => ⟨(h c).1.trans ?_, (h c).2⟩) (Cert.ReferenceIdeal.Value.run m' g')
    obtain ⟨e0, e1, e2⟩ := hagree c
    rw [Cert.AttnRef.result_eq, e0, e1, e2]
    refine Eq.trans ?_ (Cert.Attn.final m c).symm
    refine (Cert.Attn.whole_eq _ _ _ (fun x => ?_) (fun x => ?_)).symm
    · exact Cert.Attn.real_of_lt _ (congrFun (hpre c).1 x)
    · exact Cert.Attn.real_of_lt _ (congrFun (hpre c).2 x)

/-- The second reference runs, leaves its arguments alone and has no semaphore. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run m g)

set_option maxHeartbeats 1600000 in
/-- The output and feed-forward kernel computes the output projection and the feed-forward part. -/
theorem algebraic2 : Cert.algebraic_Kernel2Ideal_Reference2Ideal := by
  pair_intro
  · run_from Cert.Kernel2Ideal.Gen.run_main m g
  · refine (θ_run Cert.Reference2Ideal.defs _ _).mono (fun r h c => ⟨(h c).1.trans ?_, (h c).2⟩) (Cert.Reference2Ideal.Value.run m' g')
    obtain ⟨e0, e1, e2, e3, e4, e5, e6⟩ := hagree c
    rw [Cert.FfnRef.result_eq, e0, e1, e2, e3, e4, e5, e6]
    exact (Cert.Ffn.final m c).symm

/-- The side conditions of the second finiteness predicate: a scalar spreads over each argument. -/
theorem finite3_facts : Cert.Pre_finite3.Facts where
  bcast_S_S16384x1024 := by decide
  bcast_S_S1024 := by decide
  bcast_S_S1024x2472 := by decide
  bcast_S_S256 := by decide
  bcast_S_S256x768 := by decide
  bcast_S_S128 := by decide
  bcast_S_S128x512 := by decide

/-- The third reference runs, leaves its arguments alone and has no semaphore. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0) :=
  (θ_run Cert.Reference3Ideal.defs _ _).mono (fun r h => ⟨fun c => (h c).2.2.2.2.2.2.2.2.2, Idealize.ShloMosaic.sem_eq_zero_of_no_sems (by decide) r.2⟩)
    (Cert.Reference3Ideal.Value.run m g)

/-- From equal arguments the rows of the third pair of programs are computed from the same numbers. -/
theorem rows3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) :
    Cert.ProjRef.row (StableHlo.launchContents m' c) = Cert.Proj.rowG m c := by
  obtain ⟨e0, e1, e2, e3, e4, e5, e6, e7, e8, e9, e10, e11⟩ := h
  funext n
  show Cert.Proj.given (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) n = _
  rw [e0, e1, e2, e3, e4, e5, e6, e7, e8, e9, e10, e11]
  rfl

set_option maxHeartbeats 1600000 in
/-- The projection kernel computes the nine projections of the rows, where the arguments they rest on are finite. -/
theorem algebraic3 : Cert.algebraic_Kernel3Ideal_Reference3Ideal_pre_finite3 (hPre_finite3 := finite3_facts) := by
  intro m g m' g' hpre hagree
  have R : ∀ c, Cert.Proj.Reals m c := by
    intro c
    obtain ⟨p0, p1, p2, p3, p4, p7, p9⟩ := hpre c
    exact Cert.Proj.reals_of m c (fun y => Cert.Proj.real_of_lt _ (congrFun p0 y)) (fun y => Cert.Proj.real_of_lt _ (congrFun p1 y))
      (fun y => Cert.Proj.real_of_lt _ (congrFun p2 y)) (fun y => Cert.Proj.real_of_lt _ (congrFun p3 y))
      (fun y => Cert.Proj.real_of_lt _ (congrFun p4 y)) (fun y => Cert.Proj.real_of_lt _ (congrFun p7 y))
      (fun y => Cert.Proj.real_of_lt _ (congrFun p9 y))
  have e : ∀ c, Cert.ProjRef.row (StableHlo.launchContents m' c) = Cert.Proj.rowG m c := fun c => rows3 m m' c (hagree c)
  have H := Cert.Proj.run_reference m' g'
  simp only [e] at H
  exact ⟨_, _, _, _, _, _, _, _, _, Cert.Proj.run_kernel m g R, H⟩

/-- The fourth reference runs, leaves its arguments alone and has no semaphore. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0) :=
  (θ_run Cert.Reference4Ideal.defs _ _).mono (fun r h => ⟨fun c => (h c).2.2.2.2.2, Idealize.ShloMosaic.sem_eq_zero_of_no_sems (by decide) r.2⟩)
    (Cert.Reference4Ideal.Value.run m g)

/-- From equal arguments the batch entries of the fourth pair of programs are computed from the same numbers. -/
theorem rows4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) :
    Cert.LstmRef.row (StableHlo.launchContents m' c) = Cert.Lstm.entry m c := by
  obtain ⟨e0, e1, e2, e3, e4, e5, e6, e7, e8, e9, e10, e11, e12⟩ := h
  funext n
  show Cert.Lstm.given (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) n = _
  rw [e0, e1, e2, e3, e4, e5, e6, e7, e8, e9, e10, e11, e12]
  rfl

set_option maxHeartbeats 1600000 in
/-- The recurrent step's kernel computes the hidden rows, the rows kept for the convolution and the new state. -/
theorem algebraic4 : Cert.algebraic_Kernel4Ideal_Reference4Ideal := by
  intro m g m' g' _ hagree
  have e : ∀ c, Cert.LstmRef.row (StableHlo.launchContents m' c) = Cert.Lstm.entry m c := fun c => rows4 m m' c (hagree c)
  have H := Cert.Lstm.run_reference m' g'
  simp only [e] at H
  exact ⟨_, _, _, _, _, Cert.Lstm.run_kernel m g, H⟩

/-- The certificate: the runs, the naming of the mask constant, and the equality of the results of each pair of programs. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    finite_facts, finite3_facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => Cert.Kernel3Ideal.Gen.frame m g,
    fun m g _ => frame_reference3 m g,
    fun m g _ => frame_reference3 m g,
    fun m g _ => Cert.Kernel4.Gen.frame m g,
    fun m g _ => Cert.Kernel4Ideal.Gen.frame m g,
    fun m g _ => frame_reference4 m g,
    IdealRules.named_const.statement Cert.KernelIdeal.κ "mask" .f32 0xF149F2CA#32 ⊥ rfl,
    algebraic,
    trivial,
    algebraic2,
    trivial,
    algebraic3,
    trivial,
    algebraic4⟩

end Cert.Proof

end
